-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_DownBwdRefIdeal (m : (ℓ : Loc Cert.DownBwdRefIdeal.nD Cert.DownBwdRefIdeal.τ Cert.DownBwdRefIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradRefIdeal (m : (ℓ : Loc Cert.DownGradRefIdeal.nD Cert.DownGradRefIdeal.τ Cert.DownGradRefIdeal.sig) → Buf (Elt Ideal) ℓ) : Prop :=
  True

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradRefIdeal (m : (ℓ : Loc Cert.UpGradRefIdeal.nD Cert.UpGradRefIdeal.τ Cert.UpGradRefIdeal.sig) → Buf (Elt Ideal) ℓ) : Prop :=
  True

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpBwdRefIdeal (m : (ℓ : Loc Cert.UpBwdRefIdeal.nD Cert.UpBwdRefIdeal.τ Cert.UpBwdRefIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradRefIdeal (m : (ℓ : Loc Cert.OutGradRefIdeal.nD Cert.OutGradRefIdeal.τ Cert.OutGradRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_InGrad0 (m : (ℓ : Loc Cert.InGrad0.nD Cert.InGrad0.τ Cert.InGrad0.sig) → Buf (Elt Bits) ℓ) : Prop :=
  True

def Pre_InGrad0Ideal (m : (ℓ : Loc Cert.InGrad0Ideal.nD Cert.InGrad0Ideal.τ Cert.InGrad0Ideal.sig) → Buf (Elt Ideal) ℓ) : Prop :=
  True

def Pre_InGrad0RefIdeal (m : (ℓ : Loc Cert.InGrad0RefIdeal.nD Cert.InGrad0RefIdeal.τ Cert.InGrad0RefIdeal.sig) → Buf (Elt Ideal) ℓ) : Prop :=
  True

def Pre_InGrad1 (m : (ℓ : Loc Cert.InGrad1.nD Cert.InGrad1.τ Cert.InGrad1.sig) → Buf (Elt Bits) ℓ) : Prop :=
  True

def Pre_InGrad1Ideal (m : (ℓ : Loc Cert.InGrad1Ideal.nD Cert.InGrad1Ideal.τ Cert.InGrad1Ideal.sig) → Buf (Elt Ideal) ℓ) : Prop :=
  True

def Pre_InGrad1RefIdeal (m : (ℓ : Loc Cert.InGrad1RefIdeal.nD Cert.InGrad1RefIdeal.τ Cert.InGrad1RefIdeal.sig) → Buf (Elt Ideal) ℓ) : Prop :=
  True

def Pre_InBwd0 (m : (ℓ : Loc Cert.InBwd0.nD Cert.InBwd0.τ Cert.InBwd0.sig) → Buf (Elt Bits) ℓ) : Prop :=
  True

def Pre_InBwd0Ideal (m : (ℓ : Loc Cert.InBwd0Ideal.nD Cert.InBwd0Ideal.τ Cert.InBwd0Ideal.sig) → Buf (Elt Ideal) ℓ) : Prop :=
  True

def Pre_InBwd0RefIdeal (m : (ℓ : Loc Cert.InBwd0RefIdeal.nD Cert.InBwd0RefIdeal.τ Cert.InBwd0RefIdeal.sig) → Buf (Elt Ideal) ℓ) : Prop :=
  True

def Pre_InBwd1 (m : (ℓ : Loc Cert.InBwd1.nD Cert.InBwd1.τ Cert.InBwd1.sig) → Buf (Elt Bits) ℓ) : Prop :=
  True

def Pre_InBwd1Ideal (m : (ℓ : Loc Cert.InBwd1Ideal.nD Cert.InBwd1Ideal.τ Cert.InBwd1Ideal.sig) → Buf (Elt Ideal) ℓ) : Prop :=
  True

def Pre_InBwd1RefIdeal (m : (ℓ : Loc Cert.InBwd1RefIdeal.nD Cert.InBwd1RefIdeal.τ Cert.InBwd1RefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_StepUp (m : (ℓ : Loc Cert.StepUp.nD Cert.StepUp.τ Cert.StepUp.sig) → Buf (Elt Bits) ℓ) : Prop :=
  True

def Pre_StepUpIdeal (m : (ℓ : Loc Cert.StepUpIdeal.nD Cert.StepUpIdeal.τ Cert.StepUpIdeal.sig) → Buf (Elt Ideal) ℓ) : Prop :=
  True

def Pre_StepUpRefIdeal (m : (ℓ : Loc Cert.StepUpRefIdeal.nD Cert.StepUpRefIdeal.τ Cert.StepUpRefIdeal.sig) → Buf (Elt Ideal) ℓ) : Prop :=
  True

def Pre_StepIn (m : (ℓ : Loc Cert.StepIn.nD Cert.StepIn.τ Cert.StepIn.sig) → Buf (Elt Bits) ℓ) : Prop :=
  True

def Pre_StepInIdeal (m : (ℓ : Loc Cert.StepInIdeal.nD Cert.StepInIdeal.τ Cert.StepInIdeal.sig) → Buf (Elt Ideal) ℓ) : Prop :=
  True

def Pre_StepInRefIdeal (m : (ℓ : Loc Cert.StepInRefIdeal.nD Cert.StepInRefIdeal.τ Cert.StepInRefIdeal.sig) → Buf (Elt Ideal) ℓ) : Prop :=
  True

def Pre_StepOut (m : (ℓ : Loc Cert.StepOut.nD Cert.StepOut.τ Cert.StepOut.sig) → Buf (Elt Bits) ℓ) : Prop :=
  True

def Pre_StepOutIdeal (m : (ℓ : Loc Cert.StepOutIdeal.nD Cert.StepOutIdeal.τ Cert.StepOutIdeal.sig) → Buf (Elt Ideal) ℓ) : Prop :=
  True

def Pre_StepOutRefIdeal (m : (ℓ : Loc Cert.StepOutRefIdeal.nD Cert.StepOutRefIdeal.τ Cert.StepOutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1)
      ∧ r.2.mem ((c.tc : Thread Cert.DownBwd.nD Cert.DownBwd.τ).loc Cert.DownBwd.main_arg2) = m ((c.tc : Thread Cert.DownBwd.nD Cert.DownBwd.τ).loc Cert.DownBwd.main_arg2))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2))
      ∧ r.2.sem = fun _ => 0)

def quiescent_DownBwdRefIdeal [hDownBwdRefIdeal : Cert.DownBwdRefIdeal.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1)
      ∧ r.2.mem ((c.tc : Thread Cert.DownBwdRefIdeal.nD Cert.DownBwdRefIdeal.τ).loc Cert.DownBwdRefIdeal.main_arg2) = m ((c.tc : Thread Cert.DownBwdRefIdeal.nD Cert.DownBwdRefIdeal.τ).loc Cert.DownBwdRefIdeal.main_arg2))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradRefIdeal [hDownGradRefIdeal : Cert.DownGradRefIdeal.Facts] : Prop :=
  ∀ (m : (ℓ : Loc Cert.DownGradRefIdeal.nD Cert.DownGradRefIdeal.τ Cert.DownGradRefIdeal.sig) → Buf (Elt Ideal) ℓ) (g : Dev Cert.DownGradRefIdeal.nD → PrngReg), Pre_DownGradRefIdeal m →
    θ_run (Cert.DownGradRefIdeal.defs (F := Ideal)) (onTc (τ := Cert.DownGradRefIdeal.τ) (Cert.DownGradRefIdeal.main (F := Ideal))) ⟨m, fun _ => 0, g⟩ (fun r => (∀ c : Dev Cert.DownGradRefIdeal.nD,
      r.2.mem ((c.tc : Thread Cert.DownGradRefIdeal.nD Cert.DownGradRefIdeal.τ).loc Cert.DownGradRefIdeal.main_arg0) = m ((c.tc : Thread Cert.DownGradRefIdeal.nD Cert.DownGradRefIdeal.τ).loc Cert.DownGradRefIdeal.main_arg0)
      ∧ r.2.mem ((c.tc : Thread Cert.DownGradRefIdeal.nD Cert.DownGradRefIdeal.τ).loc Cert.DownGradRefIdeal.main_arg1) = m ((c.tc : Thread Cert.DownGradRefIdeal.nD Cert.DownGradRefIdeal.τ).loc Cert.DownGradRefIdeal.main_arg1))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ r.2.sem = fun _ => 0)

def quiescent_UpGradRefIdeal [hUpGradRefIdeal : Cert.UpGradRefIdeal.Facts] : Prop :=
  ∀ (m : (ℓ : Loc Cert.UpGradRefIdeal.nD Cert.UpGradRefIdeal.τ Cert.UpGradRefIdeal.sig) → Buf (Elt Ideal) ℓ) (g : Dev Cert.UpGradRefIdeal.nD → PrngReg), Pre_UpGradRefIdeal m →
    θ_run (Cert.UpGradRefIdeal.defs (F := Ideal)) (onTc (τ := Cert.UpGradRefIdeal.τ) (Cert.UpGradRefIdeal.main (F := Ideal))) ⟨m, fun _ => 0, g⟩ (fun r => (∀ c : Dev Cert.UpGradRefIdeal.nD,
      r.2.mem ((c.tc : Thread Cert.UpGradRefIdeal.nD Cert.UpGradRefIdeal.τ).loc Cert.UpGradRefIdeal.main_arg0) = m ((c.tc : Thread Cert.UpGradRefIdeal.nD Cert.UpGradRefIdeal.τ).loc Cert.UpGradRefIdeal.main_arg0)
      ∧ r.2.mem ((c.tc : Thread Cert.UpGradRefIdeal.nD Cert.UpGradRefIdeal.τ).loc Cert.UpGradRefIdeal.main_arg1) = m ((c.tc : Thread Cert.UpGradRefIdeal.nD Cert.UpGradRefIdeal.τ).loc Cert.UpGradRefIdeal.main_arg1))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1))
      ∧ r.2.sem = fun _ => 0)

def quiescent_UpBwdRefIdeal [hUpBwdRefIdeal : Cert.UpBwdRefIdeal.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1))
      ∧ r.2.sem = fun _ => 0)

def quiescent_InGrad0 [hInGrad0 : Cert.InGrad0.Facts] : Prop :=
  ∀ (m : (ℓ : Loc Cert.InGrad0.nD Cert.InGrad0.τ Cert.InGrad0.sig) → Buf (Elt Bits) ℓ) (g : Dev Cert.InGrad0.nD → PrngReg), Pre_InGrad0 m →
    θ_run (Cert.InGrad0.defs (F := Bits)) (onTc (τ := Cert.InGrad0.τ) (Cert.InGrad0.main (F := Bits))) ⟨m, fun _ => 0, g⟩ (fun r => (∀ c : Dev Cert.InGrad0.nD,
      r.2.mem ((c.tc : Thread Cert.InGrad0.nD Cert.InGrad0.τ).loc Cert.InGrad0.main_arg0) = m ((c.tc : Thread Cert.InGrad0.nD Cert.InGrad0.τ).loc Cert.InGrad0.main_arg0)
      ∧ r.2.mem ((c.tc : Thread Cert.InGrad0.nD Cert.InGrad0.τ).loc Cert.InGrad0.main_arg1) = m ((c.tc : Thread Cert.InGrad0.nD Cert.InGrad0.τ).loc Cert.InGrad0.main_arg1))
      ∧ r.2.sem = fun _ => 0)

def quiescent_InGrad0Ideal [hInGrad0Ideal : Cert.InGrad0Ideal.Facts] : Prop :=
  ∀ (m : (ℓ : Loc Cert.InGrad0Ideal.nD Cert.InGrad0Ideal.τ Cert.InGrad0Ideal.sig) → Buf (Elt Ideal) ℓ) (g : Dev Cert.InGrad0Ideal.nD → PrngReg), Pre_InGrad0Ideal m →
    θ_run (Cert.InGrad0Ideal.defs (F := Ideal)) (onTc (τ := Cert.InGrad0Ideal.τ) (Cert.InGrad0Ideal.main (F := Ideal))) ⟨m, fun _ => 0, g⟩ (fun r => (∀ c : Dev Cert.InGrad0Ideal.nD,
      r.2.mem ((c.tc : Thread Cert.InGrad0Ideal.nD Cert.InGrad0Ideal.τ).loc Cert.InGrad0Ideal.main_arg0) = m ((c.tc : Thread Cert.InGrad0Ideal.nD Cert.InGrad0Ideal.τ).loc Cert.InGrad0Ideal.main_arg0)
      ∧ r.2.mem ((c.tc : Thread Cert.InGrad0Ideal.nD Cert.InGrad0Ideal.τ).loc Cert.InGrad0Ideal.main_arg1) = m ((c.tc : Thread Cert.InGrad0Ideal.nD Cert.InGrad0Ideal.τ).loc Cert.InGrad0Ideal.main_arg1))
      ∧ r.2.sem = fun _ => 0)

def quiescent_InGrad0RefIdeal [hInGrad0RefIdeal : Cert.InGrad0RefIdeal.Facts] : Prop :=
  ∀ (m : (ℓ : Loc Cert.InGrad0RefIdeal.nD Cert.InGrad0RefIdeal.τ Cert.InGrad0RefIdeal.sig) → Buf (Elt Ideal) ℓ) (g : Dev Cert.InGrad0RefIdeal.nD → PrngReg), Pre_InGrad0RefIdeal m →
    θ_run (Cert.InGrad0RefIdeal.defs (F := Ideal)) (onTc (τ := Cert.InGrad0RefIdeal.τ) (Cert.InGrad0RefIdeal.main (F := Ideal))) ⟨m, fun _ => 0, g⟩ (fun r => (∀ c : Dev Cert.InGrad0RefIdeal.nD,
      r.2.mem ((c.tc : Thread Cert.InGrad0RefIdeal.nD Cert.InGrad0RefIdeal.τ).loc Cert.InGrad0RefIdeal.main_arg0) = m ((c.tc : Thread Cert.InGrad0RefIdeal.nD Cert.InGrad0RefIdeal.τ).loc Cert.InGrad0RefIdeal.main_arg0)
      ∧ r.2.mem ((c.tc : Thread Cert.InGrad0RefIdeal.nD Cert.InGrad0RefIdeal.τ).loc Cert.InGrad0RefIdeal.main_arg1) = m ((c.tc : Thread Cert.InGrad0RefIdeal.nD Cert.InGrad0RefIdeal.τ).loc Cert.InGrad0RefIdeal.main_arg1))
      ∧ r.2.sem = fun _ => 0)

def quiescent_InGrad1 [hInGrad1 : Cert.InGrad1.Facts] : Prop :=
  ∀ (m : (ℓ : Loc Cert.InGrad1.nD Cert.InGrad1.τ Cert.InGrad1.sig) → Buf (Elt Bits) ℓ) (g : Dev Cert.InGrad1.nD → PrngReg), Pre_InGrad1 m →
    θ_run (Cert.InGrad1.defs (F := Bits)) (onTc (τ := Cert.InGrad1.τ) (Cert.InGrad1.main (F := Bits))) ⟨m, fun _ => 0, g⟩ (fun r => (∀ c : Dev Cert.InGrad1.nD,
      r.2.mem ((c.tc : Thread Cert.InGrad1.nD Cert.InGrad1.τ).loc Cert.InGrad1.main_arg0) = m ((c.tc : Thread Cert.InGrad1.nD Cert.InGrad1.τ).loc Cert.InGrad1.main_arg0)
      ∧ r.2.mem ((c.tc : Thread Cert.InGrad1.nD Cert.InGrad1.τ).loc Cert.InGrad1.main_arg1) = m ((c.tc : Thread Cert.InGrad1.nD Cert.InGrad1.τ).loc Cert.InGrad1.main_arg1))
      ∧ r.2.sem = fun _ => 0)

def quiescent_InGrad1Ideal [hInGrad1Ideal : Cert.InGrad1Ideal.Facts] : Prop :=
  ∀ (m : (ℓ : Loc Cert.InGrad1Ideal.nD Cert.InGrad1Ideal.τ Cert.InGrad1Ideal.sig) → Buf (Elt Ideal) ℓ) (g : Dev Cert.InGrad1Ideal.nD → PrngReg), Pre_InGrad1Ideal m →
    θ_run (Cert.InGrad1Ideal.defs (F := Ideal)) (onTc (τ := Cert.InGrad1Ideal.τ) (Cert.InGrad1Ideal.main (F := Ideal))) ⟨m, fun _ => 0, g⟩ (fun r => (∀ c : Dev Cert.InGrad1Ideal.nD,
      r.2.mem ((c.tc : Thread Cert.InGrad1Ideal.nD Cert.InGrad1Ideal.τ).loc Cert.InGrad1Ideal.main_arg0) = m ((c.tc : Thread Cert.InGrad1Ideal.nD Cert.InGrad1Ideal.τ).loc Cert.InGrad1Ideal.main_arg0)
      ∧ r.2.mem ((c.tc : Thread Cert.InGrad1Ideal.nD Cert.InGrad1Ideal.τ).loc Cert.InGrad1Ideal.main_arg1) = m ((c.tc : Thread Cert.InGrad1Ideal.nD Cert.InGrad1Ideal.τ).loc Cert.InGrad1Ideal.main_arg1))
      ∧ r.2.sem = fun _ => 0)

def quiescent_InGrad1RefIdeal [hInGrad1RefIdeal : Cert.InGrad1RefIdeal.Facts] : Prop :=
  ∀ (m : (ℓ : Loc Cert.InGrad1RefIdeal.nD Cert.InGrad1RefIdeal.τ Cert.InGrad1RefIdeal.sig) → Buf (Elt Ideal) ℓ) (g : Dev Cert.InGrad1RefIdeal.nD → PrngReg), Pre_InGrad1RefIdeal m →
    θ_run (Cert.InGrad1RefIdeal.defs (F := Ideal)) (onTc (τ := Cert.InGrad1RefIdeal.τ) (Cert.InGrad1RefIdeal.main (F := Ideal))) ⟨m, fun _ => 0, g⟩ (fun r => (∀ c : Dev Cert.InGrad1RefIdeal.nD,
      r.2.mem ((c.tc : Thread Cert.InGrad1RefIdeal.nD Cert.InGrad1RefIdeal.τ).loc Cert.InGrad1RefIdeal.main_arg0) = m ((c.tc : Thread Cert.InGrad1RefIdeal.nD Cert.InGrad1RefIdeal.τ).loc Cert.InGrad1RefIdeal.main_arg0)
      ∧ r.2.mem ((c.tc : Thread Cert.InGrad1RefIdeal.nD Cert.InGrad1RefIdeal.τ).loc Cert.InGrad1RefIdeal.main_arg1) = m ((c.tc : Thread Cert.InGrad1RefIdeal.nD Cert.InGrad1RefIdeal.τ).loc Cert.InGrad1RefIdeal.main_arg1))
      ∧ r.2.sem = fun _ => 0)

def quiescent_InBwd0 [hInBwd0 : Cert.InBwd0.Facts] : Prop :=
  ∀ (m : (ℓ : Loc Cert.InBwd0.nD Cert.InBwd0.τ Cert.InBwd0.sig) → Buf (Elt Bits) ℓ) (g : Dev Cert.InBwd0.nD → PrngReg), Pre_InBwd0 m →
    θ_run (Cert.InBwd0.defs (F := Bits)) (onTc (τ := Cert.InBwd0.τ) (Cert.InBwd0.main (F := Bits))) ⟨m, fun _ => 0, g⟩ (fun r => (∀ c : Dev Cert.InBwd0.nD,
      r.2.mem ((c.tc : Thread Cert.InBwd0.nD Cert.InBwd0.τ).loc Cert.InBwd0.main_arg0) = m ((c.tc : Thread Cert.InBwd0.nD Cert.InBwd0.τ).loc Cert.InBwd0.main_arg0)
      ∧ r.2.mem ((c.tc : Thread Cert.InBwd0.nD Cert.InBwd0.τ).loc Cert.InBwd0.main_arg1) = m ((c.tc : Thread Cert.InBwd0.nD Cert.InBwd0.τ).loc Cert.InBwd0.main_arg1))
      ∧ r.2.sem = fun _ => 0)

def quiescent_InBwd0Ideal [hInBwd0Ideal : Cert.InBwd0Ideal.Facts] : Prop :=
  ∀ (m : (ℓ : Loc Cert.InBwd0Ideal.nD Cert.InBwd0Ideal.τ Cert.InBwd0Ideal.sig) → Buf (Elt Ideal) ℓ) (g : Dev Cert.InBwd0Ideal.nD → PrngReg), Pre_InBwd0Ideal m →
    θ_run (Cert.InBwd0Ideal.defs (F := Ideal)) (onTc (τ := Cert.InBwd0Ideal.τ) (Cert.InBwd0Ideal.main (F := Ideal))) ⟨m, fun _ => 0, g⟩ (fun r => (∀ c : Dev Cert.InBwd0Ideal.nD,
      r.2.mem ((c.tc : Thread Cert.InBwd0Ideal.nD Cert.InBwd0Ideal.τ).loc Cert.InBwd0Ideal.main_arg0) = m ((c.tc : Thread Cert.InBwd0Ideal.nD Cert.InBwd0Ideal.τ).loc Cert.InBwd0Ideal.main_arg0)
      ∧ r.2.mem ((c.tc : Thread Cert.InBwd0Ideal.nD Cert.InBwd0Ideal.τ).loc Cert.InBwd0Ideal.main_arg1) = m ((c.tc : Thread Cert.InBwd0Ideal.nD Cert.InBwd0Ideal.τ).loc Cert.InBwd0Ideal.main_arg1))
      ∧ r.2.sem = fun _ => 0)

def quiescent_InBwd0RefIdeal [hInBwd0RefIdeal : Cert.InBwd0RefIdeal.Facts] : Prop :=
  ∀ (m : (ℓ : Loc Cert.InBwd0RefIdeal.nD Cert.InBwd0RefIdeal.τ Cert.InBwd0RefIdeal.sig) → Buf (Elt Ideal) ℓ) (g : Dev Cert.InBwd0RefIdeal.nD → PrngReg), Pre_InBwd0RefIdeal m →
    θ_run (Cert.InBwd0RefIdeal.defs (F := Ideal)) (onTc (τ := Cert.InBwd0RefIdeal.τ) (Cert.InBwd0RefIdeal.main (F := Ideal))) ⟨m, fun _ => 0, g⟩ (fun r => (∀ c : Dev Cert.InBwd0RefIdeal.nD,
      r.2.mem ((c.tc : Thread Cert.InBwd0RefIdeal.nD Cert.InBwd0RefIdeal.τ).loc Cert.InBwd0RefIdeal.main_arg0) = m ((c.tc : Thread Cert.InBwd0RefIdeal.nD Cert.InBwd0RefIdeal.τ).loc Cert.InBwd0RefIdeal.main_arg0)
      ∧ r.2.mem ((c.tc : Thread Cert.InBwd0RefIdeal.nD Cert.InBwd0RefIdeal.τ).loc Cert.InBwd0RefIdeal.main_arg1) = m ((c.tc : Thread Cert.InBwd0RefIdeal.nD Cert.InBwd0RefIdeal.τ).loc Cert.InBwd0RefIdeal.main_arg1))
      ∧ r.2.sem = fun _ => 0)

def quiescent_InBwd1 [hInBwd1 : Cert.InBwd1.Facts] : Prop :=
  ∀ (m : (ℓ : Loc Cert.InBwd1.nD Cert.InBwd1.τ Cert.InBwd1.sig) → Buf (Elt Bits) ℓ) (g : Dev Cert.InBwd1.nD → PrngReg), Pre_InBwd1 m →
    θ_run (Cert.InBwd1.defs (F := Bits)) (onTc (τ := Cert.InBwd1.τ) (Cert.InBwd1.main (F := Bits))) ⟨m, fun _ => 0, g⟩ (fun r => (∀ c : Dev Cert.InBwd1.nD,
      r.2.mem ((c.tc : Thread Cert.InBwd1.nD Cert.InBwd1.τ).loc Cert.InBwd1.main_arg0) = m ((c.tc : Thread Cert.InBwd1.nD Cert.InBwd1.τ).loc Cert.InBwd1.main_arg0)
      ∧ r.2.mem ((c.tc : Thread Cert.InBwd1.nD Cert.InBwd1.τ).loc Cert.InBwd1.main_arg1) = m ((c.tc : Thread Cert.InBwd1.nD Cert.InBwd1.τ).loc Cert.InBwd1.main_arg1)
      ∧ r.2.mem ((c.tc : Thread Cert.InBwd1.nD Cert.InBwd1.τ).loc Cert.InBwd1.main_arg2) = m ((c.tc : Thread Cert.InBwd1.nD Cert.InBwd1.τ).loc Cert.InBwd1.main_arg2))
      ∧ r.2.sem = fun _ => 0)

def quiescent_InBwd1Ideal [hInBwd1Ideal : Cert.InBwd1Ideal.Facts] : Prop :=
  ∀ (m : (ℓ : Loc Cert.InBwd1Ideal.nD Cert.InBwd1Ideal.τ Cert.InBwd1Ideal.sig) → Buf (Elt Ideal) ℓ) (g : Dev Cert.InBwd1Ideal.nD → PrngReg), Pre_InBwd1Ideal m →
    θ_run (Cert.InBwd1Ideal.defs (F := Ideal)) (onTc (τ := Cert.InBwd1Ideal.τ) (Cert.InBwd1Ideal.main (F := Ideal))) ⟨m, fun _ => 0, g⟩ (fun r => (∀ c : Dev Cert.InBwd1Ideal.nD,
      r.2.mem ((c.tc : Thread Cert.InBwd1Ideal.nD Cert.InBwd1Ideal.τ).loc Cert.InBwd1Ideal.main_arg0) = m ((c.tc : Thread Cert.InBwd1Ideal.nD Cert.InBwd1Ideal.τ).loc Cert.InBwd1Ideal.main_arg0)
      ∧ r.2.mem ((c.tc : Thread Cert.InBwd1Ideal.nD Cert.InBwd1Ideal.τ).loc Cert.InBwd1Ideal.main_arg1) = m ((c.tc : Thread Cert.InBwd1Ideal.nD Cert.InBwd1Ideal.τ).loc Cert.InBwd1Ideal.main_arg1)
      ∧ r.2.mem ((c.tc : Thread Cert.InBwd1Ideal.nD Cert.InBwd1Ideal.τ).loc Cert.InBwd1Ideal.main_arg2) = m ((c.tc : Thread Cert.InBwd1Ideal.nD Cert.InBwd1Ideal.τ).loc Cert.InBwd1Ideal.main_arg2))
      ∧ r.2.sem = fun _ => 0)

def quiescent_InBwd1RefIdeal [hInBwd1RefIdeal : Cert.InBwd1RefIdeal.Facts] : Prop :=
  ∀ (m : (ℓ : Loc Cert.InBwd1RefIdeal.nD Cert.InBwd1RefIdeal.τ Cert.InBwd1RefIdeal.sig) → Buf (Elt Ideal) ℓ) (g : Dev Cert.InBwd1RefIdeal.nD → PrngReg), Pre_InBwd1RefIdeal m →
    θ_run (Cert.InBwd1RefIdeal.defs (F := Ideal)) (onTc (τ := Cert.InBwd1RefIdeal.τ) (Cert.InBwd1RefIdeal.main (F := Ideal))) ⟨m, fun _ => 0, g⟩ (fun r => (∀ c : Dev Cert.InBwd1RefIdeal.nD,
      r.2.mem ((c.tc : Thread Cert.InBwd1RefIdeal.nD Cert.InBwd1RefIdeal.τ).loc Cert.InBwd1RefIdeal.main_arg0) = m ((c.tc : Thread Cert.InBwd1RefIdeal.nD Cert.InBwd1RefIdeal.τ).loc Cert.InBwd1RefIdeal.main_arg0)
      ∧ r.2.mem ((c.tc : Thread Cert.InBwd1RefIdeal.nD Cert.InBwd1RefIdeal.τ).loc Cert.InBwd1RefIdeal.main_arg1) = m ((c.tc : Thread Cert.InBwd1RefIdeal.nD Cert.InBwd1RefIdeal.τ).loc Cert.InBwd1RefIdeal.main_arg1)
      ∧ r.2.mem ((c.tc : Thread Cert.InBwd1RefIdeal.nD Cert.InBwd1RefIdeal.τ).loc Cert.InBwd1RefIdeal.main_arg2) = m ((c.tc : Thread Cert.InBwd1RefIdeal.nD Cert.InBwd1RefIdeal.τ).loc Cert.InBwd1RefIdeal.main_arg2))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1))
      ∧ r.2.sem = fun _ => 0)

def quiescent_StepUp [hStepUp : Cert.StepUp.Facts] : Prop :=
  ∀ (m : (ℓ : Loc Cert.StepUp.nD Cert.StepUp.τ Cert.StepUp.sig) → Buf (Elt Bits) ℓ) (g : Dev Cert.StepUp.nD → PrngReg), Pre_StepUp m →
    θ_run (Cert.StepUp.defs (F := Bits)) (onTc (τ := Cert.StepUp.τ) (Cert.StepUp.main (F := Bits))) ⟨m, fun _ => 0, g⟩ (fun r => (∀ c : Dev Cert.StepUp.nD,
      r.2.mem ((c.tc : Thread Cert.StepUp.nD Cert.StepUp.τ).loc Cert.StepUp.main_arg0) = m ((c.tc : Thread Cert.StepUp.nD Cert.StepUp.τ).loc Cert.StepUp.main_arg0)
      ∧ r.2.mem ((c.tc : Thread Cert.StepUp.nD Cert.StepUp.τ).loc Cert.StepUp.main_arg1) = m ((c.tc : Thread Cert.StepUp.nD Cert.StepUp.τ).loc Cert.StepUp.main_arg1)
      ∧ r.2.mem ((c.tc : Thread Cert.StepUp.nD Cert.StepUp.τ).loc Cert.StepUp.main_arg2) = m ((c.tc : Thread Cert.StepUp.nD Cert.StepUp.τ).loc Cert.StepUp.main_arg2)
      ∧ r.2.mem ((c.tc : Thread Cert.StepUp.nD Cert.StepUp.τ).loc Cert.StepUp.main_arg3) = m ((c.tc : Thread Cert.StepUp.nD Cert.StepUp.τ).loc Cert.StepUp.main_arg3)
      ∧ r.2.mem ((c.tc : Thread Cert.StepUp.nD Cert.StepUp.τ).loc Cert.StepUp.main_arg4) = m ((c.tc : Thread Cert.StepUp.nD Cert.StepUp.τ).loc Cert.StepUp.main_arg4)
      ∧ r.2.mem ((c.tc : Thread Cert.StepUp.nD Cert.StepUp.τ).loc Cert.StepUp.main_arg5) = m ((c.tc : Thread Cert.StepUp.nD Cert.StepUp.τ).loc Cert.StepUp.main_arg5))
      ∧ r.2.sem = fun _ => 0)

def quiescent_StepUpIdeal [hStepUpIdeal : Cert.StepUpIdeal.Facts] : Prop :=
  ∀ (m : (ℓ : Loc Cert.StepUpIdeal.nD Cert.StepUpIdeal.τ Cert.StepUpIdeal.sig) → Buf (Elt Ideal) ℓ) (g : Dev Cert.StepUpIdeal.nD → PrngReg), Pre_StepUpIdeal m →
    θ_run (Cert.StepUpIdeal.defs (F := Ideal)) (onTc (τ := Cert.StepUpIdeal.τ) (Cert.StepUpIdeal.main (F := Ideal))) ⟨m, fun _ => 0, g⟩ (fun r => (∀ c : Dev Cert.StepUpIdeal.nD,
      r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
      ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
      ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
      ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3)
      ∧ r.2.mem ((c.tc : Thread Cert.StepUpIdeal.nD Cert.StepUpIdeal.τ).loc Cert.StepUpIdeal.main_arg4) = m ((c.tc : Thread Cert.StepUpIdeal.nD Cert.StepUpIdeal.τ).loc Cert.StepUpIdeal.main_arg4)
      ∧ r.2.mem ((c.tc : Thread Cert.StepUpIdeal.nD Cert.StepUpIdeal.τ).loc Cert.StepUpIdeal.main_arg5) = m ((c.tc : Thread Cert.StepUpIdeal.nD Cert.StepUpIdeal.τ).loc Cert.StepUpIdeal.main_arg5))
      ∧ r.2.sem = fun _ => 0)

def quiescent_StepUpRefIdeal [hStepUpRefIdeal : Cert.StepUpRefIdeal.Facts] : Prop :=
  ∀ (m : (ℓ : Loc Cert.StepUpRefIdeal.nD Cert.StepUpRefIdeal.τ Cert.StepUpRefIdeal.sig) → Buf (Elt Ideal) ℓ) (g : Dev Cert.StepUpRefIdeal.nD → PrngReg), Pre_StepUpRefIdeal m →
    θ_run (Cert.StepUpRefIdeal.defs (F := Ideal)) (onTc (τ := Cert.StepUpRefIdeal.τ) (Cert.StepUpRefIdeal.main (F := Ideal))) ⟨m, fun _ => 0, g⟩ (fun r => (∀ c : Dev Cert.StepUpRefIdeal.nD,
      r.2.mem ((c.tc : Thread Cert.StepUpRefIdeal.nD Cert.StepUpRefIdeal.τ).loc Cert.StepUpRefIdeal.main_arg0) = m ((c.tc : Thread Cert.StepUpRefIdeal.nD Cert.StepUpRefIdeal.τ).loc Cert.StepUpRefIdeal.main_arg0)
      ∧ r.2.mem ((c.tc : Thread Cert.StepUpRefIdeal.nD Cert.StepUpRefIdeal.τ).loc Cert.StepUpRefIdeal.main_arg1) = m ((c.tc : Thread Cert.StepUpRefIdeal.nD Cert.StepUpRefIdeal.τ).loc Cert.StepUpRefIdeal.main_arg1)
      ∧ r.2.mem ((c.tc : Thread Cert.StepUpRefIdeal.nD Cert.StepUpRefIdeal.τ).loc Cert.StepUpRefIdeal.main_arg2) = m ((c.tc : Thread Cert.StepUpRefIdeal.nD Cert.StepUpRefIdeal.τ).loc Cert.StepUpRefIdeal.main_arg2)
      ∧ r.2.mem ((c.tc : Thread Cert.StepUpRefIdeal.nD Cert.StepUpRefIdeal.τ).loc Cert.StepUpRefIdeal.main_arg3) = m ((c.tc : Thread Cert.StepUpRefIdeal.nD Cert.StepUpRefIdeal.τ).loc Cert.StepUpRefIdeal.main_arg3)
      ∧ r.2.mem ((c.tc : Thread Cert.StepUpRefIdeal.nD Cert.StepUpRefIdeal.τ).loc Cert.StepUpRefIdeal.main_arg4) = m ((c.tc : Thread Cert.StepUpRefIdeal.nD Cert.StepUpRefIdeal.τ).loc Cert.StepUpRefIdeal.main_arg4)
      ∧ r.2.mem ((c.tc : Thread Cert.StepUpRefIdeal.nD Cert.StepUpRefIdeal.τ).loc Cert.StepUpRefIdeal.main_arg5) = m ((c.tc : Thread Cert.StepUpRefIdeal.nD Cert.StepUpRefIdeal.τ).loc Cert.StepUpRefIdeal.main_arg5))
      ∧ r.2.sem = fun _ => 0)

def quiescent_StepIn [hStepIn : Cert.StepIn.Facts] : Prop :=
  ∀ (m : (ℓ : Loc Cert.StepIn.nD Cert.StepIn.τ Cert.StepIn.sig) → Buf (Elt Bits) ℓ) (g : Dev Cert.StepIn.nD → PrngReg), Pre_StepIn m →
    θ_run (Cert.StepIn.defs (F := Bits)) (onTc (τ := Cert.StepIn.τ) (Cert.StepIn.main (F := Bits))) ⟨m, fun _ => 0, g⟩ (fun r => (∀ c : Dev Cert.StepIn.nD,
      r.2.mem ((c.tc : Thread Cert.StepIn.nD Cert.StepIn.τ).loc Cert.StepIn.main_arg0) = m ((c.tc : Thread Cert.StepIn.nD Cert.StepIn.τ).loc Cert.StepIn.main_arg0)
      ∧ r.2.mem ((c.tc : Thread Cert.StepIn.nD Cert.StepIn.τ).loc Cert.StepIn.main_arg1) = m ((c.tc : Thread Cert.StepIn.nD Cert.StepIn.τ).loc Cert.StepIn.main_arg1)
      ∧ r.2.mem ((c.tc : Thread Cert.StepIn.nD Cert.StepIn.τ).loc Cert.StepIn.main_arg2) = m ((c.tc : Thread Cert.StepIn.nD Cert.StepIn.τ).loc Cert.StepIn.main_arg2)
      ∧ r.2.mem ((c.tc : Thread Cert.StepIn.nD Cert.StepIn.τ).loc Cert.StepIn.main_arg3) = m ((c.tc : Thread Cert.StepIn.nD Cert.StepIn.τ).loc Cert.StepIn.main_arg3)
      ∧ r.2.mem ((c.tc : Thread Cert.StepIn.nD Cert.StepIn.τ).loc Cert.StepIn.main_arg4) = m ((c.tc : Thread Cert.StepIn.nD Cert.StepIn.τ).loc Cert.StepIn.main_arg4)
      ∧ r.2.mem ((c.tc : Thread Cert.StepIn.nD Cert.StepIn.τ).loc Cert.StepIn.main_arg5) = m ((c.tc : Thread Cert.StepIn.nD Cert.StepIn.τ).loc Cert.StepIn.main_arg5))
      ∧ r.2.sem = fun _ => 0)

def quiescent_StepInIdeal [hStepInIdeal : Cert.StepInIdeal.Facts] : Prop :=
  ∀ (m : (ℓ : Loc Cert.StepInIdeal.nD Cert.StepInIdeal.τ Cert.StepInIdeal.sig) → Buf (Elt Ideal) ℓ) (g : Dev Cert.StepInIdeal.nD → PrngReg), Pre_StepInIdeal m →
    θ_run (Cert.StepInIdeal.defs (F := Ideal)) (onTc (τ := Cert.StepInIdeal.τ) (Cert.StepInIdeal.main (F := Ideal))) ⟨m, fun _ => 0, g⟩ (fun r => (∀ c : Dev Cert.StepInIdeal.nD,
      r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
      ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
      ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
      ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3)
      ∧ r.2.mem ((c.tc : Thread Cert.StepInIdeal.nD Cert.StepInIdeal.τ).loc Cert.StepInIdeal.main_arg4) = m ((c.tc : Thread Cert.StepInIdeal.nD Cert.StepInIdeal.τ).loc Cert.StepInIdeal.main_arg4)
      ∧ r.2.mem ((c.tc : Thread Cert.StepInIdeal.nD Cert.StepInIdeal.τ).loc Cert.StepInIdeal.main_arg5) = m ((c.tc : Thread Cert.StepInIdeal.nD Cert.StepInIdeal.τ).loc Cert.StepInIdeal.main_arg5))
      ∧ r.2.sem = fun _ => 0)

def quiescent_StepInRefIdeal [hStepInRefIdeal : Cert.StepInRefIdeal.Facts] : Prop :=
  ∀ (m : (ℓ : Loc Cert.StepInRefIdeal.nD Cert.StepInRefIdeal.τ Cert.StepInRefIdeal.sig) → Buf (Elt Ideal) ℓ) (g : Dev Cert.StepInRefIdeal.nD → PrngReg), Pre_StepInRefIdeal m →
    θ_run (Cert.StepInRefIdeal.defs (F := Ideal)) (onTc (τ := Cert.StepInRefIdeal.τ) (Cert.StepInRefIdeal.main (F := Ideal))) ⟨m, fun _ => 0, g⟩ (fun r => (∀ c : Dev Cert.StepInRefIdeal.nD,
      r.2.mem ((c.tc : Thread Cert.StepInRefIdeal.nD Cert.StepInRefIdeal.τ).loc Cert.StepInRefIdeal.main_arg0) = m ((c.tc : Thread Cert.StepInRefIdeal.nD Cert.StepInRefIdeal.τ).loc Cert.StepInRefIdeal.main_arg0)
      ∧ r.2.mem ((c.tc : Thread Cert.StepInRefIdeal.nD Cert.StepInRefIdeal.τ).loc Cert.StepInRefIdeal.main_arg1) = m ((c.tc : Thread Cert.StepInRefIdeal.nD Cert.StepInRefIdeal.τ).loc Cert.StepInRefIdeal.main_arg1)
      ∧ r.2.mem ((c.tc : Thread Cert.StepInRefIdeal.nD Cert.StepInRefIdeal.τ).loc Cert.StepInRefIdeal.main_arg2) = m ((c.tc : Thread Cert.StepInRefIdeal.nD Cert.StepInRefIdeal.τ).loc Cert.StepInRefIdeal.main_arg2)
      ∧ r.2.mem ((c.tc : Thread Cert.StepInRefIdeal.nD Cert.StepInRefIdeal.τ).loc Cert.StepInRefIdeal.main_arg3) = m ((c.tc : Thread Cert.StepInRefIdeal.nD Cert.StepInRefIdeal.τ).loc Cert.StepInRefIdeal.main_arg3)
      ∧ r.2.mem ((c.tc : Thread Cert.StepInRefIdeal.nD Cert.StepInRefIdeal.τ).loc Cert.StepInRefIdeal.main_arg4) = m ((c.tc : Thread Cert.StepInRefIdeal.nD Cert.StepInRefIdeal.τ).loc Cert.StepInRefIdeal.main_arg4)
      ∧ r.2.mem ((c.tc : Thread Cert.StepInRefIdeal.nD Cert.StepInRefIdeal.τ).loc Cert.StepInRefIdeal.main_arg5) = m ((c.tc : Thread Cert.StepInRefIdeal.nD Cert.StepInRefIdeal.τ).loc Cert.StepInRefIdeal.main_arg5))
      ∧ r.2.sem = fun _ => 0)

def quiescent_StepOut [hStepOut : Cert.StepOut.Facts] : Prop :=
  ∀ (m : (ℓ : Loc Cert.StepOut.nD Cert.StepOut.τ Cert.StepOut.sig) → Buf (Elt Bits) ℓ) (g : Dev Cert.StepOut.nD → PrngReg), Pre_StepOut m →
    θ_run (Cert.StepOut.defs (F := Bits)) (onTc (τ := Cert.StepOut.τ) (Cert.StepOut.main (F := Bits))) ⟨m, fun _ => 0, g⟩ (fun r => (∀ c : Dev Cert.StepOut.nD,
      r.2.mem ((c.tc : Thread Cert.StepOut.nD Cert.StepOut.τ).loc Cert.StepOut.main_arg0) = m ((c.tc : Thread Cert.StepOut.nD Cert.StepOut.τ).loc Cert.StepOut.main_arg0)
      ∧ r.2.mem ((c.tc : Thread Cert.StepOut.nD Cert.StepOut.τ).loc Cert.StepOut.main_arg1) = m ((c.tc : Thread Cert.StepOut.nD Cert.StepOut.τ).loc Cert.StepOut.main_arg1)
      ∧ r.2.mem ((c.tc : Thread Cert.StepOut.nD Cert.StepOut.τ).loc Cert.StepOut.main_arg2) = m ((c.tc : Thread Cert.StepOut.nD Cert.StepOut.τ).loc Cert.StepOut.main_arg2)
      ∧ r.2.mem ((c.tc : Thread Cert.StepOut.nD Cert.StepOut.τ).loc Cert.StepOut.main_arg3) = m ((c.tc : Thread Cert.StepOut.nD Cert.StepOut.τ).loc Cert.StepOut.main_arg3)
      ∧ r.2.mem ((c.tc : Thread Cert.StepOut.nD Cert.StepOut.τ).loc Cert.StepOut.main_arg4) = m ((c.tc : Thread Cert.StepOut.nD Cert.StepOut.τ).loc Cert.StepOut.main_arg4)
      ∧ r.2.mem ((c.tc : Thread Cert.StepOut.nD Cert.StepOut.τ).loc Cert.StepOut.main_arg5) = m ((c.tc : Thread Cert.StepOut.nD Cert.StepOut.τ).loc Cert.StepOut.main_arg5))
      ∧ r.2.sem = fun _ => 0)

def quiescent_StepOutIdeal [hStepOutIdeal : Cert.StepOutIdeal.Facts] : Prop :=
  ∀ (m : (ℓ : Loc Cert.StepOutIdeal.nD Cert.StepOutIdeal.τ Cert.StepOutIdeal.sig) → Buf (Elt Ideal) ℓ) (g : Dev Cert.StepOutIdeal.nD → PrngReg), Pre_StepOutIdeal m →
    θ_run (Cert.StepOutIdeal.defs (F := Ideal)) (onTc (τ := Cert.StepOutIdeal.τ) (Cert.StepOutIdeal.main (F := Ideal))) ⟨m, fun _ => 0, g⟩ (fun r => (∀ c : Dev Cert.StepOutIdeal.nD,
      r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
      ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
      ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
      ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3)
      ∧ r.2.mem ((c.tc : Thread Cert.StepOutIdeal.nD Cert.StepOutIdeal.τ).loc Cert.StepOutIdeal.main_arg4) = m ((c.tc : Thread Cert.StepOutIdeal.nD Cert.StepOutIdeal.τ).loc Cert.StepOutIdeal.main_arg4)
      ∧ r.2.mem ((c.tc : Thread Cert.StepOutIdeal.nD Cert.StepOutIdeal.τ).loc Cert.StepOutIdeal.main_arg5) = m ((c.tc : Thread Cert.StepOutIdeal.nD Cert.StepOutIdeal.τ).loc Cert.StepOutIdeal.main_arg5))
      ∧ r.2.sem = fun _ => 0)

def quiescent_StepOutRefIdeal [hStepOutRefIdeal : Cert.StepOutRefIdeal.Facts] : Prop :=
  ∀ (m : (ℓ : Loc Cert.StepOutRefIdeal.nD Cert.StepOutRefIdeal.τ Cert.StepOutRefIdeal.sig) → Buf (Elt Ideal) ℓ) (g : Dev Cert.StepOutRefIdeal.nD → PrngReg), Pre_StepOutRefIdeal m →
    θ_run (Cert.StepOutRefIdeal.defs (F := Ideal)) (onTc (τ := Cert.StepOutRefIdeal.τ) (Cert.StepOutRefIdeal.main (F := Ideal))) ⟨m, fun _ => 0, g⟩ (fun r => (∀ c : Dev Cert.StepOutRefIdeal.nD,
      r.2.mem ((c.tc : Thread Cert.StepOutRefIdeal.nD Cert.StepOutRefIdeal.τ).loc Cert.StepOutRefIdeal.main_arg0) = m ((c.tc : Thread Cert.StepOutRefIdeal.nD Cert.StepOutRefIdeal.τ).loc Cert.StepOutRefIdeal.main_arg0)
      ∧ r.2.mem ((c.tc : Thread Cert.StepOutRefIdeal.nD Cert.StepOutRefIdeal.τ).loc Cert.StepOutRefIdeal.main_arg1) = m ((c.tc : Thread Cert.StepOutRefIdeal.nD Cert.StepOutRefIdeal.τ).loc Cert.StepOutRefIdeal.main_arg1)
      ∧ r.2.mem ((c.tc : Thread Cert.StepOutRefIdeal.nD Cert.StepOutRefIdeal.τ).loc Cert.StepOutRefIdeal.main_arg2) = m ((c.tc : Thread Cert.StepOutRefIdeal.nD Cert.StepOutRefIdeal.τ).loc Cert.StepOutRefIdeal.main_arg2)
      ∧ r.2.mem ((c.tc : Thread Cert.StepOutRefIdeal.nD Cert.StepOutRefIdeal.τ).loc Cert.StepOutRefIdeal.main_arg3) = m ((c.tc : Thread Cert.StepOutRefIdeal.nD Cert.StepOutRefIdeal.τ).loc Cert.StepOutRefIdeal.main_arg3)
      ∧ r.2.mem ((c.tc : Thread Cert.StepOutRefIdeal.nD Cert.StepOutRefIdeal.τ).loc Cert.StepOutRefIdeal.main_arg4) = m ((c.tc : Thread Cert.StepOutRefIdeal.nD Cert.StepOutRefIdeal.τ).loc Cert.StepOutRefIdeal.main_arg4)
      ∧ r.2.mem ((c.tc : Thread Cert.StepOutRefIdeal.nD Cert.StepOutRefIdeal.τ).loc Cert.StepOutRefIdeal.main_arg5) = m ((c.tc : Thread Cert.StepOutRefIdeal.nD Cert.StepOutRefIdeal.τ).loc Cert.StepOutRefIdeal.main_arg5))
      ∧ r.2.sem = fun _ => 0)

def preserves_Kernel_KernelIdeal : Prop :=
  IdealRules.named_const.Statement Cert.KernelIdeal.κ "slope0" .f32 0x3F3504F3#32 (((Real.sqrt 2)⁻¹ : ℝ) : EReal)
  ∧ IdealRules.named_const.Statement Cert.KernelIdeal.κ "mask" .f32 0xF149F2CA#32 ⊥
  ∧ IdealRules.named_const.Statement Cert.KernelIdeal.κ "slope2" .f32 0x3EB504F3#32 (((Real.sqrt 8)⁻¹ : ℝ) : EReal)
  ∧ IdealRules.named_const.Statement Cert.KernelIdeal.κ "slope4" .f32 0x3E3504F3#32 (((Real.sqrt 32)⁻¹ : ℝ) : EReal)
  ∧ IdealRules.named_const.Statement Cert.KernelIdeal.κ "slope6" .f32 0x3DB504F3#32 (((Real.sqrt 128)⁻¹ : ℝ) : EReal)
  ∧ IdealRules.named_const.Statement Cert.KernelIdeal.κ "slope8" .f32 0x3D3504F3#32 (((Real.sqrt 512)⁻¹ : ℝ) : EReal)
  ∧ IdealRules.named_const.Statement Cert.KernelIdeal.κ "slope10" .f32 0x3CB504F3#32 (((Real.sqrt 2048)⁻¹ : ℝ) : EReal)
  ∧ IdealRules.named_const.Statement Cert.KernelIdeal.κ "slope12" .f32 0x3C3504F3#32 (((Real.sqrt 8192)⁻¹ : ℝ) : EReal)
  ∧ IdealRules.named_const.Statement Cert.KernelIdeal.κ "slope14" .f32 0x3BB504F3#32 (((Real.sqrt 32768)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v88_0)) (v1 : (c : Dev Cert.KernelIdeal.nD) → Buf (Elt Ideal) ((c.tc : Thread Cert.KernelIdeal.nD Cert.KernelIdeal.τ).loc Cert.KernelIdeal.main_v88_1)) (v2 : (c : Dev Cert.KernelIdeal.nD) → Buf (Elt Ideal) ((c.tc : Thread Cert.KernelIdeal.nD Cert.KernelIdeal.τ).loc Cert.KernelIdeal.main_v88_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88_0) = v0 c
          ∧ r.2.mem ((c.tc : Thread Cert.KernelIdeal.nD Cert.KernelIdeal.τ).loc Cert.KernelIdeal.main_v88_1) = v1 c
          ∧ r.2.mem ((c.tc : Thread Cert.KernelIdeal.nD Cert.KernelIdeal.τ).loc Cert.KernelIdeal.main_v88_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_v200) = v1 c
          ∧ r.2.mem ((c.tc : Thread Cert.ReferenceIdeal.nD Cert.ReferenceIdeal.τ).loc Cert.ReferenceIdeal.main_v170) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_DownBwd_DownBwdIdeal : Prop :=
  True

def algebraic_DownBwdIdeal_DownBwdRefIdeal [hDownBwdIdeal : Cert.DownBwdIdeal.Facts] [hDownBwdRefIdeal : Cert.DownBwdRefIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.DownBwdRefIdeal.nD Cert.DownBwdRefIdeal.τ Cert.DownBwdRefIdeal.sig) → Buf (Elt Ideal) ℓ) (g' : Dev Cert.DownBwdRefIdeal.nD → PrngReg), Pre_DownBwdIdeal m →
    (∀ c : Dev Cert.DownBwdIdeal.nD,
      m' ((c.tc : Thread Cert.DownBwdRefIdeal.nD Cert.DownBwdRefIdeal.τ).loc Cert.DownBwdRefIdeal.main_arg0) = m ((c.tc : Thread Cert.DownBwdIdeal.nD Cert.DownBwdIdeal.τ).loc Cert.DownBwdIdeal.main_arg0)
      ∧ m' ((c.tc : Thread Cert.DownBwdRefIdeal.nD Cert.DownBwdRefIdeal.τ).loc Cert.DownBwdRefIdeal.main_arg1) = m ((c.tc : Thread Cert.DownBwdIdeal.nD Cert.DownBwdIdeal.τ).loc Cert.DownBwdIdeal.main_arg1)
      ∧ m' ((c.tc : Thread Cert.DownBwdRefIdeal.nD Cert.DownBwdRefIdeal.τ).loc Cert.DownBwdRefIdeal.main_arg2) = m ((c.tc : Thread Cert.DownBwdIdeal.nD Cert.DownBwdIdeal.τ).loc Cert.DownBwdIdeal.main_arg2)) →
    ∃ (v0 : (c : Dev Cert.DownBwdIdeal.nD) → Buf (Elt Ideal) ((c.tc : Thread Cert.DownBwdIdeal.nD Cert.DownBwdIdeal.τ).loc Cert.DownBwdIdeal.main_v0)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v0) = v0 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
          ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2))
      ∧ θ_run (Cert.DownBwdRefIdeal.defs (F := Ideal)) (onTc (τ := Cert.DownBwdRefIdeal.τ) (Cert.DownBwdRefIdeal.main (F := Ideal))) ⟨m', fun _ => 0, g'⟩ (fun r => ∀ c : Dev Cert.DownBwdRefIdeal.nD,
          r.2.mem ((c.tc : Thread Cert.DownBwdRefIdeal.nD Cert.DownBwdRefIdeal.τ).loc Cert.DownBwdRefIdeal.main_v12) = v0 c
          ∧ r.2.mem ((c.tc : Thread Cert.DownBwdRefIdeal.nD Cert.DownBwdRefIdeal.τ).loc Cert.DownBwdRefIdeal.main_arg0) = m' ((c.tc : Thread Cert.DownBwdRefIdeal.nD Cert.DownBwdRefIdeal.τ).loc Cert.DownBwdRefIdeal.main_arg0)
          ∧ r.2.mem ((c.tc : Thread Cert.DownBwdRefIdeal.nD Cert.DownBwdRefIdeal.τ).loc Cert.DownBwdRefIdeal.main_arg1) = m' ((c.tc : Thread Cert.DownBwdRefIdeal.nD Cert.DownBwdRefIdeal.τ).loc Cert.DownBwdRefIdeal.main_arg1)
          ∧ r.2.mem ((c.tc : Thread Cert.DownBwdRefIdeal.nD Cert.DownBwdRefIdeal.τ).loc Cert.DownBwdRefIdeal.main_arg2) = m' ((c.tc : Thread Cert.DownBwdRefIdeal.nD Cert.DownBwdRefIdeal.τ).loc Cert.DownBwdRefIdeal.main_arg2))

def preserves_DownGrad_DownGradIdeal : Prop :=
  True

def algebraic_DownGradIdeal_DownGradRefIdeal [hDownGradIdeal : Cert.DownGradIdeal.Facts] [hDownGradRefIdeal : Cert.DownGradRefIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradRefIdeal.nD Cert.DownGradRefIdeal.τ Cert.DownGradRefIdeal.sig) → Buf (Elt Ideal) ℓ) (g' : Dev Cert.DownGradRefIdeal.nD → PrngReg), Pre_DownGradIdeal m →
    (∀ c : Dev Cert.DownGradIdeal.nD,
      m' ((c.tc : Thread Cert.DownGradRefIdeal.nD Cert.DownGradRefIdeal.τ).loc Cert.DownGradRefIdeal.main_arg0) = m ((c.tc : Thread Cert.DownGradIdeal.nD Cert.DownGradIdeal.τ).loc Cert.DownGradIdeal.main_arg0)
      ∧ m' ((c.tc : Thread Cert.DownGradRefIdeal.nD Cert.DownGradRefIdeal.τ).loc Cert.DownGradRefIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v0)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v0) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradRefIdeal.defs (F := Ideal)) (onTc (τ := Cert.DownGradRefIdeal.τ) (Cert.DownGradRefIdeal.main (F := Ideal))) ⟨m', fun _ => 0, g'⟩ (fun r => ∀ c : Dev Cert.DownGradRefIdeal.nD,
          r.2.mem ((c.tc : Thread Cert.DownGradRefIdeal.nD Cert.DownGradRefIdeal.τ).loc Cert.DownGradRefIdeal.main_v9) = v0 c
          ∧ r.2.mem ((c.tc : Thread Cert.DownGradRefIdeal.nD Cert.DownGradRefIdeal.τ).loc Cert.DownGradRefIdeal.main_arg0) = m' ((c.tc : Thread Cert.DownGradRefIdeal.nD Cert.DownGradRefIdeal.τ).loc Cert.DownGradRefIdeal.main_arg0)
          ∧ r.2.mem ((c.tc : Thread Cert.DownGradRefIdeal.nD Cert.DownGradRefIdeal.τ).loc Cert.DownGradRefIdeal.main_arg1) = m' ((c.tc : Thread Cert.DownGradRefIdeal.nD Cert.DownGradRefIdeal.τ).loc Cert.DownGradRefIdeal.main_arg1))

def preserves_UpGrad_UpGradIdeal : Prop :=
  True

def algebraic_UpGradIdeal_UpGradRefIdeal [hUpGradIdeal : Cert.UpGradIdeal.Facts] [hUpGradRefIdeal : Cert.UpGradRefIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradRefIdeal.nD Cert.UpGradRefIdeal.τ Cert.UpGradRefIdeal.sig) → Buf (Elt Ideal) ℓ) (g' : Dev Cert.UpGradRefIdeal.nD → PrngReg), Pre_UpGradIdeal m →
    (∀ c : Dev Cert.UpGradIdeal.nD,
      m' ((c.tc : Thread Cert.UpGradRefIdeal.nD Cert.UpGradRefIdeal.τ).loc Cert.UpGradRefIdeal.main_arg0) = m ((c.tc : Thread Cert.UpGradIdeal.nD Cert.UpGradIdeal.τ).loc Cert.UpGradIdeal.main_arg0)
      ∧ m' ((c.tc : Thread Cert.UpGradRefIdeal.nD Cert.UpGradRefIdeal.τ).loc Cert.UpGradRefIdeal.main_arg1) = m ((c.tc : Thread Cert.UpGradIdeal.nD Cert.UpGradIdeal.τ).loc Cert.UpGradIdeal.main_arg1)) →
    ∃ (v0 : (c : Dev Cert.UpGradIdeal.nD) → Buf (Elt Ideal) ((c.tc : Thread Cert.UpGradIdeal.nD Cert.UpGradIdeal.τ).loc Cert.UpGradIdeal.main_v0)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v0) = v0 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ θ_run (Cert.UpGradRefIdeal.defs (F := Ideal)) (onTc (τ := Cert.UpGradRefIdeal.τ) (Cert.UpGradRefIdeal.main (F := Ideal))) ⟨m', fun _ => 0, g'⟩ (fun r => ∀ c : Dev Cert.UpGradRefIdeal.nD,
          r.2.mem ((c.tc : Thread Cert.UpGradRefIdeal.nD Cert.UpGradRefIdeal.τ).loc Cert.UpGradRefIdeal.main_v9) = v0 c
          ∧ r.2.mem ((c.tc : Thread Cert.UpGradRefIdeal.nD Cert.UpGradRefIdeal.τ).loc Cert.UpGradRefIdeal.main_arg0) = m' ((c.tc : Thread Cert.UpGradRefIdeal.nD Cert.UpGradRefIdeal.τ).loc Cert.UpGradRefIdeal.main_arg0)
          ∧ r.2.mem ((c.tc : Thread Cert.UpGradRefIdeal.nD Cert.UpGradRefIdeal.τ).loc Cert.UpGradRefIdeal.main_arg1) = m' ((c.tc : Thread Cert.UpGradRefIdeal.nD Cert.UpGradRefIdeal.τ).loc Cert.UpGradRefIdeal.main_arg1))

def preserves_UpBwd_UpBwdIdeal : Prop :=
  True

def algebraic_UpBwdIdeal_UpBwdRefIdeal [hUpBwdIdeal : Cert.UpBwdIdeal.Facts] [hUpBwdRefIdeal : Cert.UpBwdRefIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpBwdRefIdeal.nD Cert.UpBwdRefIdeal.τ Cert.UpBwdRefIdeal.sig) → Buf (Elt Ideal) ℓ) (g' : Dev Cert.UpBwdRefIdeal.nD → PrngReg), Pre_UpBwdIdeal m →
    (∀ c : Dev Cert.UpBwdIdeal.nD,
      m' ((c.tc : Thread Cert.UpBwdRefIdeal.nD Cert.UpBwdRefIdeal.τ).loc Cert.UpBwdRefIdeal.main_arg0) = m ((c.tc : Thread Cert.UpBwdIdeal.nD Cert.UpBwdIdeal.τ).loc Cert.UpBwdIdeal.main_arg0)
      ∧ m' ((c.tc : Thread Cert.UpBwdRefIdeal.nD Cert.UpBwdRefIdeal.τ).loc Cert.UpBwdRefIdeal.main_arg1) = m ((c.tc : Thread Cert.UpBwdIdeal.nD Cert.UpBwdIdeal.τ).loc Cert.UpBwdIdeal.main_arg1)) →
    ∃ (v0 : (c : Dev Cert.UpBwdIdeal.nD) → Buf (Elt Ideal) ((c.tc : Thread Cert.UpBwdIdeal.nD Cert.UpBwdIdeal.τ).loc Cert.UpBwdIdeal.main_v0)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v0) = v0 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1))
      ∧ θ_run (Cert.UpBwdRefIdeal.defs (F := Ideal)) (onTc (τ := Cert.UpBwdRefIdeal.τ) (Cert.UpBwdRefIdeal.main (F := Ideal))) ⟨m', fun _ => 0, g'⟩ (fun r => ∀ c : Dev Cert.UpBwdRefIdeal.nD,
          r.2.mem ((c.tc : Thread Cert.UpBwdRefIdeal.nD Cert.UpBwdRefIdeal.τ).loc Cert.UpBwdRefIdeal.main_v9) = v0 c
          ∧ r.2.mem ((c.tc : Thread Cert.UpBwdRefIdeal.nD Cert.UpBwdRefIdeal.τ).loc Cert.UpBwdRefIdeal.main_arg0) = m' ((c.tc : Thread Cert.UpBwdRefIdeal.nD Cert.UpBwdRefIdeal.τ).loc Cert.UpBwdRefIdeal.main_arg0)
          ∧ r.2.mem ((c.tc : Thread Cert.UpBwdRefIdeal.nD Cert.UpBwdRefIdeal.τ).loc Cert.UpBwdRefIdeal.main_arg1) = m' ((c.tc : Thread Cert.UpBwdRefIdeal.nD Cert.UpBwdRefIdeal.τ).loc Cert.UpBwdRefIdeal.main_arg1))

def preserves_OutGrad_OutGradIdeal : Prop :=
  True

def algebraic_OutGradIdeal_OutGradRefIdeal [hOutGradIdeal : Cert.OutGradIdeal.Facts] [hOutGradRefIdeal : Cert.OutGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v0)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v8) = v0 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)) →
    ∃ (v0 : (c : Dev Cert.OutBwdIdeal.nD) → Buf (Elt Ideal) ((c.tc : Thread Cert.OutBwdIdeal.nD Cert.OutBwdIdeal.τ).loc Cert.OutBwdIdeal.main_v0)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v0) = v0 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v7) = v0 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1))

def preserves_InGrad0_InGrad0Ideal : Prop :=
  True

def algebraic_InGrad0Ideal_InGrad0RefIdeal [hInGrad0Ideal : Cert.InGrad0Ideal.Facts] [hInGrad0RefIdeal : Cert.InGrad0RefIdeal.Facts] : Prop :=
  ∀ (m : (ℓ : Loc Cert.InGrad0Ideal.nD Cert.InGrad0Ideal.τ Cert.InGrad0Ideal.sig) → Buf (Elt Ideal) ℓ) (g : Dev Cert.InGrad0Ideal.nD → PrngReg)
    (m' : (ℓ : Loc Cert.InGrad0RefIdeal.nD Cert.InGrad0RefIdeal.τ Cert.InGrad0RefIdeal.sig) → Buf (Elt Ideal) ℓ) (g' : Dev Cert.InGrad0RefIdeal.nD → PrngReg), Pre_InGrad0Ideal m →
    (∀ c : Dev Cert.InGrad0Ideal.nD,
      m' ((c.tc : Thread Cert.InGrad0RefIdeal.nD Cert.InGrad0RefIdeal.τ).loc Cert.InGrad0RefIdeal.main_arg0) = m ((c.tc : Thread Cert.InGrad0Ideal.nD Cert.InGrad0Ideal.τ).loc Cert.InGrad0Ideal.main_arg0)
      ∧ m' ((c.tc : Thread Cert.InGrad0RefIdeal.nD Cert.InGrad0RefIdeal.τ).loc Cert.InGrad0RefIdeal.main_arg1) = m ((c.tc : Thread Cert.InGrad0Ideal.nD Cert.InGrad0Ideal.τ).loc Cert.InGrad0Ideal.main_arg1)) →
    ∃ (v0 : (c : Dev Cert.InGrad0Ideal.nD) → Buf (Elt Ideal) ((c.tc : Thread Cert.InGrad0Ideal.nD Cert.InGrad0Ideal.τ).loc Cert.InGrad0Ideal.main_v0)),
      θ_run (Cert.InGrad0Ideal.defs (F := Ideal)) (onTc (τ := Cert.InGrad0Ideal.τ) (Cert.InGrad0Ideal.main (F := Ideal))) ⟨m, fun _ => 0, g⟩ (fun r => ∀ c : Dev Cert.InGrad0Ideal.nD,
          r.2.mem ((c.tc : Thread Cert.InGrad0Ideal.nD Cert.InGrad0Ideal.τ).loc Cert.InGrad0Ideal.main_v0) = v0 c
          ∧ r.2.mem ((c.tc : Thread Cert.InGrad0Ideal.nD Cert.InGrad0Ideal.τ).loc Cert.InGrad0Ideal.main_arg0) = m ((c.tc : Thread Cert.InGrad0Ideal.nD Cert.InGrad0Ideal.τ).loc Cert.InGrad0Ideal.main_arg0)
          ∧ r.2.mem ((c.tc : Thread Cert.InGrad0Ideal.nD Cert.InGrad0Ideal.τ).loc Cert.InGrad0Ideal.main_arg1) = m ((c.tc : Thread Cert.InGrad0Ideal.nD Cert.InGrad0Ideal.τ).loc Cert.InGrad0Ideal.main_arg1))
      ∧ θ_run (Cert.InGrad0RefIdeal.defs (F := Ideal)) (onTc (τ := Cert.InGrad0RefIdeal.τ) (Cert.InGrad0RefIdeal.main (F := Ideal))) ⟨m', fun _ => 0, g'⟩ (fun r => ∀ c : Dev Cert.InGrad0RefIdeal.nD,
          r.2.mem ((c.tc : Thread Cert.InGrad0RefIdeal.nD Cert.InGrad0RefIdeal.τ).loc Cert.InGrad0RefIdeal.main_v12) = v0 c
          ∧ r.2.mem ((c.tc : Thread Cert.InGrad0RefIdeal.nD Cert.InGrad0RefIdeal.τ).loc Cert.InGrad0RefIdeal.main_arg0) = m' ((c.tc : Thread Cert.InGrad0RefIdeal.nD Cert.InGrad0RefIdeal.τ).loc Cert.InGrad0RefIdeal.main_arg0)
          ∧ r.2.mem ((c.tc : Thread Cert.InGrad0RefIdeal.nD Cert.InGrad0RefIdeal.τ).loc Cert.InGrad0RefIdeal.main_arg1) = m' ((c.tc : Thread Cert.InGrad0RefIdeal.nD Cert.InGrad0RefIdeal.τ).loc Cert.InGrad0RefIdeal.main_arg1))

def preserves_InGrad1_InGrad1Ideal : Prop :=
  True

def algebraic_InGrad1Ideal_InGrad1RefIdeal [hInGrad1Ideal : Cert.InGrad1Ideal.Facts] [hInGrad1RefIdeal : Cert.InGrad1RefIdeal.Facts] : Prop :=
  ∀ (m : (ℓ : Loc Cert.InGrad1Ideal.nD Cert.InGrad1Ideal.τ Cert.InGrad1Ideal.sig) → Buf (Elt Ideal) ℓ) (g : Dev Cert.InGrad1Ideal.nD → PrngReg)
    (m' : (ℓ : Loc Cert.InGrad1RefIdeal.nD Cert.InGrad1RefIdeal.τ Cert.InGrad1RefIdeal.sig) → Buf (Elt Ideal) ℓ) (g' : Dev Cert.InGrad1RefIdeal.nD → PrngReg), Pre_InGrad1Ideal m →
    (∀ c : Dev Cert.InGrad1Ideal.nD,
      m' ((c.tc : Thread Cert.InGrad1RefIdeal.nD Cert.InGrad1RefIdeal.τ).loc Cert.InGrad1RefIdeal.main_arg0) = m ((c.tc : Thread Cert.InGrad1Ideal.nD Cert.InGrad1Ideal.τ).loc Cert.InGrad1Ideal.main_arg0)
      ∧ m' ((c.tc : Thread Cert.InGrad1RefIdeal.nD Cert.InGrad1RefIdeal.τ).loc Cert.InGrad1RefIdeal.main_arg1) = m ((c.tc : Thread Cert.InGrad1Ideal.nD Cert.InGrad1Ideal.τ).loc Cert.InGrad1Ideal.main_arg1)) →
    ∃ (v0 : (c : Dev Cert.InGrad1Ideal.nD) → Buf (Elt Ideal) ((c.tc : Thread Cert.InGrad1Ideal.nD Cert.InGrad1Ideal.τ).loc Cert.InGrad1Ideal.main_v0)),
      θ_run (Cert.InGrad1Ideal.defs (F := Ideal)) (onTc (τ := Cert.InGrad1Ideal.τ) (Cert.InGrad1Ideal.main (F := Ideal))) ⟨m, fun _ => 0, g⟩ (fun r => ∀ c : Dev Cert.InGrad1Ideal.nD,
          r.2.mem ((c.tc : Thread Cert.InGrad1Ideal.nD Cert.InGrad1Ideal.τ).loc Cert.InGrad1Ideal.main_v0) = v0 c
          ∧ r.2.mem ((c.tc : Thread Cert.InGrad1Ideal.nD Cert.InGrad1Ideal.τ).loc Cert.InGrad1Ideal.main_arg0) = m ((c.tc : Thread Cert.InGrad1Ideal.nD Cert.InGrad1Ideal.τ).loc Cert.InGrad1Ideal.main_arg0)
          ∧ r.2.mem ((c.tc : Thread Cert.InGrad1Ideal.nD Cert.InGrad1Ideal.τ).loc Cert.InGrad1Ideal.main_arg1) = m ((c.tc : Thread Cert.InGrad1Ideal.nD Cert.InGrad1Ideal.τ).loc Cert.InGrad1Ideal.main_arg1))
      ∧ θ_run (Cert.InGrad1RefIdeal.defs (F := Ideal)) (onTc (τ := Cert.InGrad1RefIdeal.τ) (Cert.InGrad1RefIdeal.main (F := Ideal))) ⟨m', fun _ => 0, g'⟩ (fun r => ∀ c : Dev Cert.InGrad1RefIdeal.nD,
          r.2.mem ((c.tc : Thread Cert.InGrad1RefIdeal.nD Cert.InGrad1RefIdeal.τ).loc Cert.InGrad1RefIdeal.main_v12) = v0 c
          ∧ r.2.mem ((c.tc : Thread Cert.InGrad1RefIdeal.nD Cert.InGrad1RefIdeal.τ).loc Cert.InGrad1RefIdeal.main_arg0) = m' ((c.tc : Thread Cert.InGrad1RefIdeal.nD Cert.InGrad1RefIdeal.τ).loc Cert.InGrad1RefIdeal.main_arg0)
          ∧ r.2.mem ((c.tc : Thread Cert.InGrad1RefIdeal.nD Cert.InGrad1RefIdeal.τ).loc Cert.InGrad1RefIdeal.main_arg1) = m' ((c.tc : Thread Cert.InGrad1RefIdeal.nD Cert.InGrad1RefIdeal.τ).loc Cert.InGrad1RefIdeal.main_arg1))

def preserves_InBwd0_InBwd0Ideal : Prop :=
  True

def algebraic_InBwd0Ideal_InBwd0RefIdeal [hInBwd0Ideal : Cert.InBwd0Ideal.Facts] [hInBwd0RefIdeal : Cert.InBwd0RefIdeal.Facts] : Prop :=
  ∀ (m : (ℓ : Loc Cert.InBwd0Ideal.nD Cert.InBwd0Ideal.τ Cert.InBwd0Ideal.sig) → Buf (Elt Ideal) ℓ) (g : Dev Cert.InBwd0Ideal.nD → PrngReg)
    (m' : (ℓ : Loc Cert.InBwd0RefIdeal.nD Cert.InBwd0RefIdeal.τ Cert.InBwd0RefIdeal.sig) → Buf (Elt Ideal) ℓ) (g' : Dev Cert.InBwd0RefIdeal.nD → PrngReg), Pre_InBwd0Ideal m →
    (∀ c : Dev Cert.InBwd0Ideal.nD,
      m' ((c.tc : Thread Cert.InBwd0RefIdeal.nD Cert.InBwd0RefIdeal.τ).loc Cert.InBwd0RefIdeal.main_arg0) = m ((c.tc : Thread Cert.InBwd0Ideal.nD Cert.InBwd0Ideal.τ).loc Cert.InBwd0Ideal.main_arg0)
      ∧ m' ((c.tc : Thread Cert.InBwd0RefIdeal.nD Cert.InBwd0RefIdeal.τ).loc Cert.InBwd0RefIdeal.main_arg1) = m ((c.tc : Thread Cert.InBwd0Ideal.nD Cert.InBwd0Ideal.τ).loc Cert.InBwd0Ideal.main_arg1)) →
    ∃ (v0 : (c : Dev Cert.InBwd0Ideal.nD) → Buf (Elt Ideal) ((c.tc : Thread Cert.InBwd0Ideal.nD Cert.InBwd0Ideal.τ).loc Cert.InBwd0Ideal.main_v1)),
      θ_run (Cert.InBwd0Ideal.defs (F := Ideal)) (onTc (τ := Cert.InBwd0Ideal.τ) (Cert.InBwd0Ideal.main (F := Ideal))) ⟨m, fun _ => 0, g⟩ (fun r => ∀ c : Dev Cert.InBwd0Ideal.nD,
          r.2.mem ((c.tc : Thread Cert.InBwd0Ideal.nD Cert.InBwd0Ideal.τ).loc Cert.InBwd0Ideal.main_v1) = v0 c
          ∧ r.2.mem ((c.tc : Thread Cert.InBwd0Ideal.nD Cert.InBwd0Ideal.τ).loc Cert.InBwd0Ideal.main_arg0) = m ((c.tc : Thread Cert.InBwd0Ideal.nD Cert.InBwd0Ideal.τ).loc Cert.InBwd0Ideal.main_arg0)
          ∧ r.2.mem ((c.tc : Thread Cert.InBwd0Ideal.nD Cert.InBwd0Ideal.τ).loc Cert.InBwd0Ideal.main_arg1) = m ((c.tc : Thread Cert.InBwd0Ideal.nD Cert.InBwd0Ideal.τ).loc Cert.InBwd0Ideal.main_arg1))
      ∧ θ_run (Cert.InBwd0RefIdeal.defs (F := Ideal)) (onTc (τ := Cert.InBwd0RefIdeal.τ) (Cert.InBwd0RefIdeal.main (F := Ideal))) ⟨m', fun _ => 0, g'⟩ (fun r => ∀ c : Dev Cert.InBwd0RefIdeal.nD,
          r.2.mem ((c.tc : Thread Cert.InBwd0RefIdeal.nD Cert.InBwd0RefIdeal.τ).loc Cert.InBwd0RefIdeal.main_v9) = v0 c
          ∧ r.2.mem ((c.tc : Thread Cert.InBwd0RefIdeal.nD Cert.InBwd0RefIdeal.τ).loc Cert.InBwd0RefIdeal.main_arg0) = m' ((c.tc : Thread Cert.InBwd0RefIdeal.nD Cert.InBwd0RefIdeal.τ).loc Cert.InBwd0RefIdeal.main_arg0)
          ∧ r.2.mem ((c.tc : Thread Cert.InBwd0RefIdeal.nD Cert.InBwd0RefIdeal.τ).loc Cert.InBwd0RefIdeal.main_arg1) = m' ((c.tc : Thread Cert.InBwd0RefIdeal.nD Cert.InBwd0RefIdeal.τ).loc Cert.InBwd0RefIdeal.main_arg1))

def preserves_InBwd1_InBwd1Ideal : Prop :=
  True

def algebraic_InBwd1Ideal_InBwd1RefIdeal [hInBwd1Ideal : Cert.InBwd1Ideal.Facts] [hInBwd1RefIdeal : Cert.InBwd1RefIdeal.Facts] : Prop :=
  ∀ (m : (ℓ : Loc Cert.InBwd1Ideal.nD Cert.InBwd1Ideal.τ Cert.InBwd1Ideal.sig) → Buf (Elt Ideal) ℓ) (g : Dev Cert.InBwd1Ideal.nD → PrngReg)
    (m' : (ℓ : Loc Cert.InBwd1RefIdeal.nD Cert.InBwd1RefIdeal.τ Cert.InBwd1RefIdeal.sig) → Buf (Elt Ideal) ℓ) (g' : Dev Cert.InBwd1RefIdeal.nD → PrngReg), Pre_InBwd1Ideal m →
    (∀ c : Dev Cert.InBwd1Ideal.nD,
      m' ((c.tc : Thread Cert.InBwd1RefIdeal.nD Cert.InBwd1RefIdeal.τ).loc Cert.InBwd1RefIdeal.main_arg0) = m ((c.tc : Thread Cert.InBwd1Ideal.nD Cert.InBwd1Ideal.τ).loc Cert.InBwd1Ideal.main_arg0)
      ∧ m' ((c.tc : Thread Cert.InBwd1RefIdeal.nD Cert.InBwd1RefIdeal.τ).loc Cert.InBwd1RefIdeal.main_arg1) = m ((c.tc : Thread Cert.InBwd1Ideal.nD Cert.InBwd1Ideal.τ).loc Cert.InBwd1Ideal.main_arg1)
      ∧ m' ((c.tc : Thread Cert.InBwd1RefIdeal.nD Cert.InBwd1RefIdeal.τ).loc Cert.InBwd1RefIdeal.main_arg2) = m ((c.tc : Thread Cert.InBwd1Ideal.nD Cert.InBwd1Ideal.τ).loc Cert.InBwd1Ideal.main_arg2)) →
    ∃ (v0 : (c : Dev Cert.InBwd1Ideal.nD) → Buf (Elt Ideal) ((c.tc : Thread Cert.InBwd1Ideal.nD Cert.InBwd1Ideal.τ).loc Cert.InBwd1Ideal.main_v0)),
      θ_run (Cert.InBwd1Ideal.defs (F := Ideal)) (onTc (τ := Cert.InBwd1Ideal.τ) (Cert.InBwd1Ideal.main (F := Ideal))) ⟨m, fun _ => 0, g⟩ (fun r => ∀ c : Dev Cert.InBwd1Ideal.nD,
          r.2.mem ((c.tc : Thread Cert.InBwd1Ideal.nD Cert.InBwd1Ideal.τ).loc Cert.InBwd1Ideal.main_v0) = v0 c
          ∧ r.2.mem ((c.tc : Thread Cert.InBwd1Ideal.nD Cert.InBwd1Ideal.τ).loc Cert.InBwd1Ideal.main_arg0) = m ((c.tc : Thread Cert.InBwd1Ideal.nD Cert.InBwd1Ideal.τ).loc Cert.InBwd1Ideal.main_arg0)
          ∧ r.2.mem ((c.tc : Thread Cert.InBwd1Ideal.nD Cert.InBwd1Ideal.τ).loc Cert.InBwd1Ideal.main_arg1) = m ((c.tc : Thread Cert.InBwd1Ideal.nD Cert.InBwd1Ideal.τ).loc Cert.InBwd1Ideal.main_arg1)
          ∧ r.2.mem ((c.tc : Thread Cert.InBwd1Ideal.nD Cert.InBwd1Ideal.τ).loc Cert.InBwd1Ideal.main_arg2) = m ((c.tc : Thread Cert.InBwd1Ideal.nD Cert.InBwd1Ideal.τ).loc Cert.InBwd1Ideal.main_arg2))
      ∧ θ_run (Cert.InBwd1RefIdeal.defs (F := Ideal)) (onTc (τ := Cert.InBwd1RefIdeal.τ) (Cert.InBwd1RefIdeal.main (F := Ideal))) ⟨m', fun _ => 0, g'⟩ (fun r => ∀ c : Dev Cert.InBwd1RefIdeal.nD,
          r.2.mem ((c.tc : Thread Cert.InBwd1RefIdeal.nD Cert.InBwd1RefIdeal.τ).loc Cert.InBwd1RefIdeal.main_v11) = v0 c
          ∧ r.2.mem ((c.tc : Thread Cert.InBwd1RefIdeal.nD Cert.InBwd1RefIdeal.τ).loc Cert.InBwd1RefIdeal.main_arg0) = m' ((c.tc : Thread Cert.InBwd1RefIdeal.nD Cert.InBwd1RefIdeal.τ).loc Cert.InBwd1RefIdeal.main_arg0)
          ∧ r.2.mem ((c.tc : Thread Cert.InBwd1RefIdeal.nD Cert.InBwd1RefIdeal.τ).loc Cert.InBwd1RefIdeal.main_arg1) = m' ((c.tc : Thread Cert.InBwd1RefIdeal.nD Cert.InBwd1RefIdeal.τ).loc Cert.InBwd1RefIdeal.main_arg1)
          ∧ r.2.mem ((c.tc : Thread Cert.InBwd1RefIdeal.nD Cert.InBwd1RefIdeal.τ).loc Cert.InBwd1RefIdeal.main_arg2) = m' ((c.tc : Thread Cert.InBwd1RefIdeal.nD Cert.InBwd1RefIdeal.τ).loc Cert.InBwd1RefIdeal.main_arg2))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v5) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v5) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v0)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v8) = v0 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v6) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1))

def preserves_StepUp_StepUpIdeal : Prop :=
  True

def algebraic_StepUpIdeal_StepUpRefIdeal [hStepUpIdeal : Cert.StepUpIdeal.Facts] [hStepUpRefIdeal : Cert.StepUpRefIdeal.Facts] : Prop :=
  ∀ (m : (ℓ : Loc Cert.StepUpIdeal.nD Cert.StepUpIdeal.τ Cert.StepUpIdeal.sig) → Buf (Elt Ideal) ℓ) (g : Dev Cert.StepUpIdeal.nD → PrngReg)
    (m' : (ℓ : Loc Cert.StepUpRefIdeal.nD Cert.StepUpRefIdeal.τ Cert.StepUpRefIdeal.sig) → Buf (Elt Ideal) ℓ) (g' : Dev Cert.StepUpRefIdeal.nD → PrngReg), Pre_StepUpIdeal m →
    (∀ c : Dev Cert.StepUpIdeal.nD,
      m' ((c.tc : Thread Cert.StepUpRefIdeal.nD Cert.StepUpRefIdeal.τ).loc Cert.StepUpRefIdeal.main_arg0) = m ((c.tc : Thread Cert.StepUpIdeal.nD Cert.StepUpIdeal.τ).loc Cert.StepUpIdeal.main_arg0)
      ∧ m' ((c.tc : Thread Cert.StepUpRefIdeal.nD Cert.StepUpRefIdeal.τ).loc Cert.StepUpRefIdeal.main_arg1) = m ((c.tc : Thread Cert.StepUpIdeal.nD Cert.StepUpIdeal.τ).loc Cert.StepUpIdeal.main_arg1)
      ∧ m' ((c.tc : Thread Cert.StepUpRefIdeal.nD Cert.StepUpRefIdeal.τ).loc Cert.StepUpRefIdeal.main_arg2) = m ((c.tc : Thread Cert.StepUpIdeal.nD Cert.StepUpIdeal.τ).loc Cert.StepUpIdeal.main_arg2)
      ∧ m' ((c.tc : Thread Cert.StepUpRefIdeal.nD Cert.StepUpRefIdeal.τ).loc Cert.StepUpRefIdeal.main_arg3) = m ((c.tc : Thread Cert.StepUpIdeal.nD Cert.StepUpIdeal.τ).loc Cert.StepUpIdeal.main_arg3)
      ∧ m' ((c.tc : Thread Cert.StepUpRefIdeal.nD Cert.StepUpRefIdeal.τ).loc Cert.StepUpRefIdeal.main_arg4) = m ((c.tc : Thread Cert.StepUpIdeal.nD Cert.StepUpIdeal.τ).loc Cert.StepUpIdeal.main_arg4)
      ∧ m' ((c.tc : Thread Cert.StepUpRefIdeal.nD Cert.StepUpRefIdeal.τ).loc Cert.StepUpRefIdeal.main_arg5) = m ((c.tc : Thread Cert.StepUpIdeal.nD Cert.StepUpIdeal.τ).loc Cert.StepUpIdeal.main_arg5)) →
    ∃ (v0 : (c : Dev Cert.StepUpIdeal.nD) → Buf (Elt Ideal) ((c.tc : Thread Cert.StepUpIdeal.nD Cert.StepUpIdeal.τ).loc Cert.StepUpIdeal.main_v0_0)) (v1 : (c : Dev Cert.StepUpIdeal.nD) → Buf (Elt Ideal) ((c.tc : Thread Cert.StepUpIdeal.nD Cert.StepUpIdeal.τ).loc Cert.StepUpIdeal.main_v0_1)) (v2 : (c : Dev Cert.StepUpIdeal.nD) → Buf (Elt Ideal) ((c.tc : Thread Cert.StepUpIdeal.nD Cert.StepUpIdeal.τ).loc Cert.StepUpIdeal.main_v0_2)) (v3 : (c : Dev Cert.StepUpIdeal.nD) → Buf (Elt Ideal) ((c.tc : Thread Cert.StepUpIdeal.nD Cert.StepUpIdeal.τ).loc Cert.StepUpIdeal.main_v0_3)),
      θ_run (Cert.StepUpIdeal.defs (F := Ideal)) (onTc (τ := Cert.StepUpIdeal.τ) (Cert.StepUpIdeal.main (F := Ideal))) ⟨m, fun _ => 0, g⟩ (fun r => ∀ c : Dev Cert.StepUpIdeal.nD,
          r.2.mem ((c.tc : Thread Cert.StepUpIdeal.nD Cert.StepUpIdeal.τ).loc Cert.StepUpIdeal.main_v0_0) = v0 c
          ∧ r.2.mem ((c.tc : Thread Cert.StepUpIdeal.nD Cert.StepUpIdeal.τ).loc Cert.StepUpIdeal.main_v0_1) = v1 c
          ∧ r.2.mem ((c.tc : Thread Cert.StepUpIdeal.nD Cert.StepUpIdeal.τ).loc Cert.StepUpIdeal.main_v0_2) = v2 c
          ∧ r.2.mem ((c.tc : Thread Cert.StepUpIdeal.nD Cert.StepUpIdeal.τ).loc Cert.StepUpIdeal.main_v0_3) = v3 c
          ∧ r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
          ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
          ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
          ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3)
          ∧ r.2.mem ((c.tc : Thread Cert.StepUpIdeal.nD Cert.StepUpIdeal.τ).loc Cert.StepUpIdeal.main_arg4) = m ((c.tc : Thread Cert.StepUpIdeal.nD Cert.StepUpIdeal.τ).loc Cert.StepUpIdeal.main_arg4)
          ∧ r.2.mem ((c.tc : Thread Cert.StepUpIdeal.nD Cert.StepUpIdeal.τ).loc Cert.StepUpIdeal.main_arg5) = m ((c.tc : Thread Cert.StepUpIdeal.nD Cert.StepUpIdeal.τ).loc Cert.StepUpIdeal.main_arg5))
      ∧ θ_run (Cert.StepUpRefIdeal.defs (F := Ideal)) (onTc (τ := Cert.StepUpRefIdeal.τ) (Cert.StepUpRefIdeal.main (F := Ideal))) ⟨m', fun _ => 0, g'⟩ (fun r => ∀ c : Dev Cert.StepUpRefIdeal.nD,
          r.2.mem ((c.tc : Thread Cert.StepUpRefIdeal.nD Cert.StepUpRefIdeal.τ).loc Cert.StepUpRefIdeal.main_v9) = v0 c
          ∧ r.2.mem ((c.tc : Thread Cert.StepUpRefIdeal.nD Cert.StepUpRefIdeal.τ).loc Cert.StepUpRefIdeal.main_v33) = v1 c
          ∧ r.2.mem ((c.tc : Thread Cert.StepUpRefIdeal.nD Cert.StepUpRefIdeal.τ).loc Cert.StepUpRefIdeal.main_v14) = v2 c
          ∧ r.2.mem ((c.tc : Thread Cert.StepUpRefIdeal.nD Cert.StepUpRefIdeal.τ).loc Cert.StepUpRefIdeal.main_v20) = v3 c
          ∧ r.2.mem ((c.tc : Thread Cert.StepUpRefIdeal.nD Cert.StepUpRefIdeal.τ).loc Cert.StepUpRefIdeal.main_arg0) = m' ((c.tc : Thread Cert.StepUpRefIdeal.nD Cert.StepUpRefIdeal.τ).loc Cert.StepUpRefIdeal.main_arg0)
          ∧ r.2.mem ((c.tc : Thread Cert.StepUpRefIdeal.nD Cert.StepUpRefIdeal.τ).loc Cert.StepUpRefIdeal.main_arg1) = m' ((c.tc : Thread Cert.StepUpRefIdeal.nD Cert.StepUpRefIdeal.τ).loc Cert.StepUpRefIdeal.main_arg1)
          ∧ r.2.mem ((c.tc : Thread Cert.StepUpRefIdeal.nD Cert.StepUpRefIdeal.τ).loc Cert.StepUpRefIdeal.main_arg2) = m' ((c.tc : Thread Cert.StepUpRefIdeal.nD Cert.StepUpRefIdeal.τ).loc Cert.StepUpRefIdeal.main_arg2)
          ∧ r.2.mem ((c.tc : Thread Cert.StepUpRefIdeal.nD Cert.StepUpRefIdeal.τ).loc Cert.StepUpRefIdeal.main_arg3) = m' ((c.tc : Thread Cert.StepUpRefIdeal.nD Cert.StepUpRefIdeal.τ).loc Cert.StepUpRefIdeal.main_arg3)
          ∧ r.2.mem ((c.tc : Thread Cert.StepUpRefIdeal.nD Cert.StepUpRefIdeal.τ).loc Cert.StepUpRefIdeal.main_arg4) = m' ((c.tc : Thread Cert.StepUpRefIdeal.nD Cert.StepUpRefIdeal.τ).loc Cert.StepUpRefIdeal.main_arg4)
          ∧ r.2.mem ((c.tc : Thread Cert.StepUpRefIdeal.nD Cert.StepUpRefIdeal.τ).loc Cert.StepUpRefIdeal.main_arg5) = m' ((c.tc : Thread Cert.StepUpRefIdeal.nD Cert.StepUpRefIdeal.τ).loc Cert.StepUpRefIdeal.main_arg5))

def preserves_StepIn_StepInIdeal : Prop :=
  True

def algebraic_StepInIdeal_StepInRefIdeal [hStepInIdeal : Cert.StepInIdeal.Facts] [hStepInRefIdeal : Cert.StepInRefIdeal.Facts] : Prop :=
  ∀ (m : (ℓ : Loc Cert.StepInIdeal.nD Cert.StepInIdeal.τ Cert.StepInIdeal.sig) → Buf (Elt Ideal) ℓ) (g : Dev Cert.StepInIdeal.nD → PrngReg)
    (m' : (ℓ : Loc Cert.StepInRefIdeal.nD Cert.StepInRefIdeal.τ Cert.StepInRefIdeal.sig) → Buf (Elt Ideal) ℓ) (g' : Dev Cert.StepInRefIdeal.nD → PrngReg), Pre_StepInIdeal m →
    (∀ c : Dev Cert.StepInIdeal.nD,
      m' ((c.tc : Thread Cert.StepInRefIdeal.nD Cert.StepInRefIdeal.τ).loc Cert.StepInRefIdeal.main_arg0) = m ((c.tc : Thread Cert.StepInIdeal.nD Cert.StepInIdeal.τ).loc Cert.StepInIdeal.main_arg0)
      ∧ m' ((c.tc : Thread Cert.StepInRefIdeal.nD Cert.StepInRefIdeal.τ).loc Cert.StepInRefIdeal.main_arg1) = m ((c.tc : Thread Cert.StepInIdeal.nD Cert.StepInIdeal.τ).loc Cert.StepInIdeal.main_arg1)
      ∧ m' ((c.tc : Thread Cert.StepInRefIdeal.nD Cert.StepInRefIdeal.τ).loc Cert.StepInRefIdeal.main_arg2) = m ((c.tc : Thread Cert.StepInIdeal.nD Cert.StepInIdeal.τ).loc Cert.StepInIdeal.main_arg2)
      ∧ m' ((c.tc : Thread Cert.StepInRefIdeal.nD Cert.StepInRefIdeal.τ).loc Cert.StepInRefIdeal.main_arg3) = m ((c.tc : Thread Cert.StepInIdeal.nD Cert.StepInIdeal.τ).loc Cert.StepInIdeal.main_arg3)
      ∧ m' ((c.tc : Thread Cert.StepInRefIdeal.nD Cert.StepInRefIdeal.τ).loc Cert.StepInRefIdeal.main_arg4) = m ((c.tc : Thread Cert.StepInIdeal.nD Cert.StepInIdeal.τ).loc Cert.StepInIdeal.main_arg4)
      ∧ m' ((c.tc : Thread Cert.StepInRefIdeal.nD Cert.StepInRefIdeal.τ).loc Cert.StepInRefIdeal.main_arg5) = m ((c.tc : Thread Cert.StepInIdeal.nD Cert.StepInIdeal.τ).loc Cert.StepInIdeal.main_arg5)) →
    ∃ (v0 : (c : Dev Cert.StepInIdeal.nD) → Buf (Elt Ideal) ((c.tc : Thread Cert.StepInIdeal.nD Cert.StepInIdeal.τ).loc Cert.StepInIdeal.main_v0_0)) (v1 : (c : Dev Cert.StepInIdeal.nD) → Buf (Elt Ideal) ((c.tc : Thread Cert.StepInIdeal.nD Cert.StepInIdeal.τ).loc Cert.StepInIdeal.main_v0_1)) (v2 : (c : Dev Cert.StepInIdeal.nD) → Buf (Elt Ideal) ((c.tc : Thread Cert.StepInIdeal.nD Cert.StepInIdeal.τ).loc Cert.StepInIdeal.main_v0_2)) (v3 : (c : Dev Cert.StepInIdeal.nD) → Buf (Elt Ideal) ((c.tc : Thread Cert.StepInIdeal.nD Cert.StepInIdeal.τ).loc Cert.StepInIdeal.main_v0_3)),
      θ_run (Cert.StepInIdeal.defs (F := Ideal)) (onTc (τ := Cert.StepInIdeal.τ) (Cert.StepInIdeal.main (F := Ideal))) ⟨m, fun _ => 0, g⟩ (fun r => ∀ c : Dev Cert.StepInIdeal.nD,
          r.2.mem ((c.tc : Thread Cert.StepInIdeal.nD Cert.StepInIdeal.τ).loc Cert.StepInIdeal.main_v0_0) = v0 c
          ∧ r.2.mem ((c.tc : Thread Cert.StepInIdeal.nD Cert.StepInIdeal.τ).loc Cert.StepInIdeal.main_v0_1) = v1 c
          ∧ r.2.mem ((c.tc : Thread Cert.StepInIdeal.nD Cert.StepInIdeal.τ).loc Cert.StepInIdeal.main_v0_2) = v2 c
          ∧ r.2.mem ((c.tc : Thread Cert.StepInIdeal.nD Cert.StepInIdeal.τ).loc Cert.StepInIdeal.main_v0_3) = v3 c
          ∧ r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
          ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
          ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
          ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3)
          ∧ r.2.mem ((c.tc : Thread Cert.StepInIdeal.nD Cert.StepInIdeal.τ).loc Cert.StepInIdeal.main_arg4) = m ((c.tc : Thread Cert.StepInIdeal.nD Cert.StepInIdeal.τ).loc Cert.StepInIdeal.main_arg4)
          ∧ r.2.mem ((c.tc : Thread Cert.StepInIdeal.nD Cert.StepInIdeal.τ).loc Cert.StepInIdeal.main_arg5) = m ((c.tc : Thread Cert.StepInIdeal.nD Cert.StepInIdeal.τ).loc Cert.StepInIdeal.main_arg5))
      ∧ θ_run (Cert.StepInRefIdeal.defs (F := Ideal)) (onTc (τ := Cert.StepInRefIdeal.τ) (Cert.StepInRefIdeal.main (F := Ideal))) ⟨m', fun _ => 0, g'⟩ (fun r => ∀ c : Dev Cert.StepInRefIdeal.nD,
          r.2.mem ((c.tc : Thread Cert.StepInRefIdeal.nD Cert.StepInRefIdeal.τ).loc Cert.StepInRefIdeal.main_v9) = v0 c
          ∧ r.2.mem ((c.tc : Thread Cert.StepInRefIdeal.nD Cert.StepInRefIdeal.τ).loc Cert.StepInRefIdeal.main_v33) = v1 c
          ∧ r.2.mem ((c.tc : Thread Cert.StepInRefIdeal.nD Cert.StepInRefIdeal.τ).loc Cert.StepInRefIdeal.main_v14) = v2 c
          ∧ r.2.mem ((c.tc : Thread Cert.StepInRefIdeal.nD Cert.StepInRefIdeal.τ).loc Cert.StepInRefIdeal.main_v20) = v3 c
          ∧ r.2.mem ((c.tc : Thread Cert.StepInRefIdeal.nD Cert.StepInRefIdeal.τ).loc Cert.StepInRefIdeal.main_arg0) = m' ((c.tc : Thread Cert.StepInRefIdeal.nD Cert.StepInRefIdeal.τ).loc Cert.StepInRefIdeal.main_arg0)
          ∧ r.2.mem ((c.tc : Thread Cert.StepInRefIdeal.nD Cert.StepInRefIdeal.τ).loc Cert.StepInRefIdeal.main_arg1) = m' ((c.tc : Thread Cert.StepInRefIdeal.nD Cert.StepInRefIdeal.τ).loc Cert.StepInRefIdeal.main_arg1)
          ∧ r.2.mem ((c.tc : Thread Cert.StepInRefIdeal.nD Cert.StepInRefIdeal.τ).loc Cert.StepInRefIdeal.main_arg2) = m' ((c.tc : Thread Cert.StepInRefIdeal.nD Cert.StepInRefIdeal.τ).loc Cert.StepInRefIdeal.main_arg2)
          ∧ r.2.mem ((c.tc : Thread Cert.StepInRefIdeal.nD Cert.StepInRefIdeal.τ).loc Cert.StepInRefIdeal.main_arg3) = m' ((c.tc : Thread Cert.StepInRefIdeal.nD Cert.StepInRefIdeal.τ).loc Cert.StepInRefIdeal.main_arg3)
          ∧ r.2.mem ((c.tc : Thread Cert.StepInRefIdeal.nD Cert.StepInRefIdeal.τ).loc Cert.StepInRefIdeal.main_arg4) = m' ((c.tc : Thread Cert.StepInRefIdeal.nD Cert.StepInRefIdeal.τ).loc Cert.StepInRefIdeal.main_arg4)
          ∧ r.2.mem ((c.tc : Thread Cert.StepInRefIdeal.nD Cert.StepInRefIdeal.τ).loc Cert.StepInRefIdeal.main_arg5) = m' ((c.tc : Thread Cert.StepInRefIdeal.nD Cert.StepInRefIdeal.τ).loc Cert.StepInRefIdeal.main_arg5))

def preserves_StepOut_StepOutIdeal : Prop :=
  True

def algebraic_StepOutIdeal_StepOutRefIdeal [hStepOutIdeal : Cert.StepOutIdeal.Facts] [hStepOutRefIdeal : Cert.StepOutRefIdeal.Facts] : Prop :=
  ∀ (m : (ℓ : Loc Cert.StepOutIdeal.nD Cert.StepOutIdeal.τ Cert.StepOutIdeal.sig) → Buf (Elt Ideal) ℓ) (g : Dev Cert.StepOutIdeal.nD → PrngReg)
    (m' : (ℓ : Loc Cert.StepOutRefIdeal.nD Cert.StepOutRefIdeal.τ Cert.StepOutRefIdeal.sig) → Buf (Elt Ideal) ℓ) (g' : Dev Cert.StepOutRefIdeal.nD → PrngReg), Pre_StepOutIdeal m →
    (∀ c : Dev Cert.StepOutIdeal.nD,
      m' ((c.tc : Thread Cert.StepOutRefIdeal.nD Cert.StepOutRefIdeal.τ).loc Cert.StepOutRefIdeal.main_arg0) = m ((c.tc : Thread Cert.StepOutIdeal.nD Cert.StepOutIdeal.τ).loc Cert.StepOutIdeal.main_arg0)
      ∧ m' ((c.tc : Thread Cert.StepOutRefIdeal.nD Cert.StepOutRefIdeal.τ).loc Cert.StepOutRefIdeal.main_arg1) = m ((c.tc : Thread Cert.StepOutIdeal.nD Cert.StepOutIdeal.τ).loc Cert.StepOutIdeal.main_arg1)
      ∧ m' ((c.tc : Thread Cert.StepOutRefIdeal.nD Cert.StepOutRefIdeal.τ).loc Cert.StepOutRefIdeal.main_arg2) = m ((c.tc : Thread Cert.StepOutIdeal.nD Cert.StepOutIdeal.τ).loc Cert.StepOutIdeal.main_arg2)
      ∧ m' ((c.tc : Thread Cert.StepOutRefIdeal.nD Cert.StepOutRefIdeal.τ).loc Cert.StepOutRefIdeal.main_arg3) = m ((c.tc : Thread Cert.StepOutIdeal.nD Cert.StepOutIdeal.τ).loc Cert.StepOutIdeal.main_arg3)
      ∧ m' ((c.tc : Thread Cert.StepOutRefIdeal.nD Cert.StepOutRefIdeal.τ).loc Cert.StepOutRefIdeal.main_arg4) = m ((c.tc : Thread Cert.StepOutIdeal.nD Cert.StepOutIdeal.τ).loc Cert.StepOutIdeal.main_arg4)
      ∧ m' ((c.tc : Thread Cert.StepOutRefIdeal.nD Cert.StepOutRefIdeal.τ).loc Cert.StepOutRefIdeal.main_arg5) = m ((c.tc : Thread Cert.StepOutIdeal.nD Cert.StepOutIdeal.τ).loc Cert.StepOutIdeal.main_arg5)) →
    ∃ (v0 : (c : Dev Cert.StepOutIdeal.nD) → Buf (Elt Ideal) ((c.tc : Thread Cert.StepOutIdeal.nD Cert.StepOutIdeal.τ).loc Cert.StepOutIdeal.main_v0_0)) (v1 : (c : Dev Cert.StepOutIdeal.nD) → Buf (Elt Ideal) ((c.tc : Thread Cert.StepOutIdeal.nD Cert.StepOutIdeal.τ).loc Cert.StepOutIdeal.main_v0_1)) (v2 : (c : Dev Cert.StepOutIdeal.nD) → Buf (Elt Ideal) ((c.tc : Thread Cert.StepOutIdeal.nD Cert.StepOutIdeal.τ).loc Cert.StepOutIdeal.main_v0_2)) (v3 : (c : Dev Cert.StepOutIdeal.nD) → Buf (Elt Ideal) ((c.tc : Thread Cert.StepOutIdeal.nD Cert.StepOutIdeal.τ).loc Cert.StepOutIdeal.main_v0_3)),
      θ_run (Cert.StepOutIdeal.defs (F := Ideal)) (onTc (τ := Cert.StepOutIdeal.τ) (Cert.StepOutIdeal.main (F := Ideal))) ⟨m, fun _ => 0, g⟩ (fun r => ∀ c : Dev Cert.StepOutIdeal.nD,
          r.2.mem ((c.tc : Thread Cert.StepOutIdeal.nD Cert.StepOutIdeal.τ).loc Cert.StepOutIdeal.main_v0_0) = v0 c
          ∧ r.2.mem ((c.tc : Thread Cert.StepOutIdeal.nD Cert.StepOutIdeal.τ).loc Cert.StepOutIdeal.main_v0_1) = v1 c
          ∧ r.2.mem ((c.tc : Thread Cert.StepOutIdeal.nD Cert.StepOutIdeal.τ).loc Cert.StepOutIdeal.main_v0_2) = v2 c
          ∧ r.2.mem ((c.tc : Thread Cert.StepOutIdeal.nD Cert.StepOutIdeal.τ).loc Cert.StepOutIdeal.main_v0_3) = v3 c
          ∧ r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
          ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
          ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
          ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3)
          ∧ r.2.mem ((c.tc : Thread Cert.StepOutIdeal.nD Cert.StepOutIdeal.τ).loc Cert.StepOutIdeal.main_arg4) = m ((c.tc : Thread Cert.StepOutIdeal.nD Cert.StepOutIdeal.τ).loc Cert.StepOutIdeal.main_arg4)
          ∧ r.2.mem ((c.tc : Thread Cert.StepOutIdeal.nD Cert.StepOutIdeal.τ).loc Cert.StepOutIdeal.main_arg5) = m ((c.tc : Thread Cert.StepOutIdeal.nD Cert.StepOutIdeal.τ).loc Cert.StepOutIdeal.main_arg5))
      ∧ θ_run (Cert.StepOutRefIdeal.defs (F := Ideal)) (onTc (τ := Cert.StepOutRefIdeal.τ) (Cert.StepOutRefIdeal.main (F := Ideal))) ⟨m', fun _ => 0, g'⟩ (fun r => ∀ c : Dev Cert.StepOutRefIdeal.nD,
          r.2.mem ((c.tc : Thread Cert.StepOutRefIdeal.nD Cert.StepOutRefIdeal.τ).loc Cert.StepOutRefIdeal.main_v9) = v0 c
          ∧ r.2.mem ((c.tc : Thread Cert.StepOutRefIdeal.nD Cert.StepOutRefIdeal.τ).loc Cert.StepOutRefIdeal.main_v33) = v1 c
          ∧ r.2.mem ((c.tc : Thread Cert.StepOutRefIdeal.nD Cert.StepOutRefIdeal.τ).loc Cert.StepOutRefIdeal.main_v14) = v2 c
          ∧ r.2.mem ((c.tc : Thread Cert.StepOutRefIdeal.nD Cert.StepOutRefIdeal.τ).loc Cert.StepOutRefIdeal.main_v20) = v3 c
          ∧ r.2.mem ((c.tc : Thread Cert.StepOutRefIdeal.nD Cert.StepOutRefIdeal.τ).loc Cert.StepOutRefIdeal.main_arg0) = m' ((c.tc : Thread Cert.StepOutRefIdeal.nD Cert.StepOutRefIdeal.τ).loc Cert.StepOutRefIdeal.main_arg0)
          ∧ r.2.mem ((c.tc : Thread Cert.StepOutRefIdeal.nD Cert.StepOutRefIdeal.τ).loc Cert.StepOutRefIdeal.main_arg1) = m' ((c.tc : Thread Cert.StepOutRefIdeal.nD Cert.StepOutRefIdeal.τ).loc Cert.StepOutRefIdeal.main_arg1)
          ∧ r.2.mem ((c.tc : Thread Cert.StepOutRefIdeal.nD Cert.StepOutRefIdeal.τ).loc Cert.StepOutRefIdeal.main_arg2) = m' ((c.tc : Thread Cert.StepOutRefIdeal.nD Cert.StepOutRefIdeal.τ).loc Cert.StepOutRefIdeal.main_arg2)
          ∧ r.2.mem ((c.tc : Thread Cert.StepOutRefIdeal.nD Cert.StepOutRefIdeal.τ).loc Cert.StepOutRefIdeal.main_arg3) = m' ((c.tc : Thread Cert.StepOutRefIdeal.nD Cert.StepOutRefIdeal.τ).loc Cert.StepOutRefIdeal.main_arg3)
          ∧ r.2.mem ((c.tc : Thread Cert.StepOutRefIdeal.nD Cert.StepOutRefIdeal.τ).loc Cert.StepOutRefIdeal.main_arg4) = m' ((c.tc : Thread Cert.StepOutRefIdeal.nD Cert.StepOutRefIdeal.τ).loc Cert.StepOutRefIdeal.main_arg4)
          ∧ r.2.mem ((c.tc : Thread Cert.StepOutRefIdeal.nD Cert.StepOutRefIdeal.τ).loc Cert.StepOutRefIdeal.main_arg5) = m' ((c.tc : Thread Cert.StepOutRefIdeal.nD Cert.StepOutRefIdeal.τ).loc Cert.StepOutRefIdeal.main_arg5))

def Claim : Prop :=
  ∃ (hKernel : Cert.Kernel.Facts) (hKernelIdeal : Cert.KernelIdeal.Facts) (hReferenceIdeal : Cert.ReferenceIdeal.Facts) (hDownBwd : Cert.DownBwd.Facts) (hDownBwdIdeal : Cert.DownBwdIdeal.Facts) (hDownBwdRefIdeal : Cert.DownBwdRefIdeal.Facts) (hDownGrad : Cert.DownGrad.Facts) (hDownGradIdeal : Cert.DownGradIdeal.Facts) (hDownGradRefIdeal : Cert.DownGradRefIdeal.Facts) (hUpGrad : Cert.UpGrad.Facts) (hUpGradIdeal : Cert.UpGradIdeal.Facts) (hUpGradRefIdeal : Cert.UpGradRefIdeal.Facts) (hUpBwd : Cert.UpBwd.Facts) (hUpBwdIdeal : Cert.UpBwdIdeal.Facts) (hUpBwdRefIdeal : Cert.UpBwdRefIdeal.Facts) (hOutGrad : Cert.OutGrad.Facts) (hOutGradIdeal : Cert.OutGradIdeal.Facts) (hOutGradRefIdeal : Cert.OutGradRefIdeal.Facts) (hOutBwd : Cert.OutBwd.Facts) (hOutBwdIdeal : Cert.OutBwdIdeal.Facts) (hOutBwdRefIdeal : Cert.OutBwdRefIdeal.Facts) (hInGrad0 : Cert.InGrad0.Facts) (hInGrad0Ideal : Cert.InGrad0Ideal.Facts) (hInGrad0RefIdeal : Cert.InGrad0RefIdeal.Facts) (hInGrad1 : Cert.InGrad1.Facts) (hInGrad1Ideal : Cert.InGrad1Ideal.Facts) (hInGrad1RefIdeal : Cert.InGrad1RefIdeal.Facts) (hInBwd0 : Cert.InBwd0.Facts) (hInBwd0Ideal : Cert.InBwd0Ideal.Facts) (hInBwd0RefIdeal : Cert.InBwd0RefIdeal.Facts) (hInBwd1 : Cert.InBwd1.Facts) (hInBwd1Ideal : Cert.InBwd1Ideal.Facts) (hInBwd1RefIdeal : Cert.InBwd1RefIdeal.Facts) (hInFwd : Cert.InFwd.Facts) (hInFwdIdeal : Cert.InFwdIdeal.Facts) (hInFwdRefIdeal : Cert.InFwdRefIdeal.Facts) (hOutFwd : Cert.OutFwd.Facts) (hOutFwdIdeal : Cert.OutFwdIdeal.Facts) (hOutFwdRefIdeal : Cert.OutFwdRefIdeal.Facts) (hUpFwd : Cert.UpFwd.Facts) (hUpFwdIdeal : Cert.UpFwdIdeal.Facts) (hUpFwdRefIdeal : Cert.UpFwdRefIdeal.Facts) (hDownFwd : Cert.DownFwd.Facts) (hDownFwdIdeal : Cert.DownFwdIdeal.Facts) (hDownFwdRefIdeal : Cert.DownFwdRefIdeal.Facts) (hStepUp : Cert.StepUp.Facts) (hStepUpIdeal : Cert.StepUpIdeal.Facts) (hStepUpRefIdeal : Cert.StepUpRefIdeal.Facts) (hStepIn : Cert.StepIn.Facts) (hStepInIdeal : Cert.StepInIdeal.Facts) (hStepInRefIdeal : Cert.StepInRefIdeal.Facts) (hStepOut : Cert.StepOut.Facts) (hStepOutIdeal : Cert.StepOutIdeal.Facts) (hStepOutRefIdeal : Cert.StepOutRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownBwd (hDownBwd := hDownBwd)
    ∧ quiescent_DownBwdIdeal (hDownBwdIdeal := hDownBwdIdeal)
    ∧ quiescent_DownBwdRefIdeal (hDownBwdRefIdeal := hDownBwdRefIdeal)
    ∧ quiescent_DownGrad (hDownGrad := hDownGrad)
    ∧ quiescent_DownGradIdeal (hDownGradIdeal := hDownGradIdeal)
    ∧ quiescent_DownGradRefIdeal (hDownGradRefIdeal := hDownGradRefIdeal)
    ∧ quiescent_UpGrad (hUpGrad := hUpGrad)
    ∧ quiescent_UpGradIdeal (hUpGradIdeal := hUpGradIdeal)
    ∧ quiescent_UpGradRefIdeal (hUpGradRefIdeal := hUpGradRefIdeal)
    ∧ quiescent_UpBwd (hUpBwd := hUpBwd)
    ∧ quiescent_UpBwdIdeal (hUpBwdIdeal := hUpBwdIdeal)
    ∧ quiescent_UpBwdRefIdeal (hUpBwdRefIdeal := hUpBwdRefIdeal)
    ∧ quiescent_OutGrad (hOutGrad := hOutGrad)
    ∧ quiescent_OutGradIdeal (hOutGradIdeal := hOutGradIdeal)
    ∧ quiescent_OutGradRefIdeal (hOutGradRefIdeal := hOutGradRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_InGrad0 (hInGrad0 := hInGrad0)
    ∧ quiescent_InGrad0Ideal (hInGrad0Ideal := hInGrad0Ideal)
    ∧ quiescent_InGrad0RefIdeal (hInGrad0RefIdeal := hInGrad0RefIdeal)
    ∧ quiescent_InGrad1 (hInGrad1 := hInGrad1)
    ∧ quiescent_InGrad1Ideal (hInGrad1Ideal := hInGrad1Ideal)
    ∧ quiescent_InGrad1RefIdeal (hInGrad1RefIdeal := hInGrad1RefIdeal)
    ∧ quiescent_InBwd0 (hInBwd0 := hInBwd0)
    ∧ quiescent_InBwd0Ideal (hInBwd0Ideal := hInBwd0Ideal)
    ∧ quiescent_InBwd0RefIdeal (hInBwd0RefIdeal := hInBwd0RefIdeal)
    ∧ quiescent_InBwd1 (hInBwd1 := hInBwd1)
    ∧ quiescent_InBwd1Ideal (hInBwd1Ideal := hInBwd1Ideal)
    ∧ quiescent_InBwd1RefIdeal (hInBwd1RefIdeal := hInBwd1RefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_StepUp (hStepUp := hStepUp)
    ∧ quiescent_StepUpIdeal (hStepUpIdeal := hStepUpIdeal)
    ∧ quiescent_StepUpRefIdeal (hStepUpRefIdeal := hStepUpRefIdeal)
    ∧ quiescent_StepIn (hStepIn := hStepIn)
    ∧ quiescent_StepInIdeal (hStepInIdeal := hStepInIdeal)
    ∧ quiescent_StepInRefIdeal (hStepInRefIdeal := hStepInRefIdeal)
    ∧ quiescent_StepOut (hStepOut := hStepOut)
    ∧ quiescent_StepOutIdeal (hStepOutIdeal := hStepOutIdeal)
    ∧ quiescent_StepOutRefIdeal (hStepOutRefIdeal := hStepOutRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownBwd_DownBwdIdeal
    ∧ algebraic_DownBwdIdeal_DownBwdRefIdeal (hDownBwdIdeal := hDownBwdIdeal) (hDownBwdRefIdeal := hDownBwdRefIdeal)
    ∧ preserves_DownGrad_DownGradIdeal
    ∧ algebraic_DownGradIdeal_DownGradRefIdeal (hDownGradIdeal := hDownGradIdeal) (hDownGradRefIdeal := hDownGradRefIdeal)
    ∧ preserves_UpGrad_UpGradIdeal
    ∧ algebraic_UpGradIdeal_UpGradRefIdeal (hUpGradIdeal := hUpGradIdeal) (hUpGradRefIdeal := hUpGradRefIdeal)
    ∧ preserves_UpBwd_UpBwdIdeal
    ∧ algebraic_UpBwdIdeal_UpBwdRefIdeal (hUpBwdIdeal := hUpBwdIdeal) (hUpBwdRefIdeal := hUpBwdRefIdeal)
    ∧ preserves_OutGrad_OutGradIdeal
    ∧ algebraic_OutGradIdeal_OutGradRefIdeal (hOutGradIdeal := hOutGradIdeal) (hOutGradRefIdeal := hOutGradRefIdeal)
    ∧ preserves_OutBwd_OutBwdIdeal
    ∧ algebraic_OutBwdIdeal_OutBwdRefIdeal (hOutBwdIdeal := hOutBwdIdeal) (hOutBwdRefIdeal := hOutBwdRefIdeal)
    ∧ preserves_InGrad0_InGrad0Ideal
    ∧ algebraic_InGrad0Ideal_InGrad0RefIdeal (hInGrad0Ideal := hInGrad0Ideal) (hInGrad0RefIdeal := hInGrad0RefIdeal)
    ∧ preserves_InGrad1_InGrad1Ideal
    ∧ algebraic_InGrad1Ideal_InGrad1RefIdeal (hInGrad1Ideal := hInGrad1Ideal) (hInGrad1RefIdeal := hInGrad1RefIdeal)
    ∧ preserves_InBwd0_InBwd0Ideal
    ∧ algebraic_InBwd0Ideal_InBwd0RefIdeal (hInBwd0Ideal := hInBwd0Ideal) (hInBwd0RefIdeal := hInBwd0RefIdeal)
    ∧ preserves_InBwd1_InBwd1Ideal
    ∧ algebraic_InBwd1Ideal_InBwd1RefIdeal (hInBwd1Ideal := hInBwd1Ideal) (hInBwd1RefIdeal := hInBwd1RefIdeal)
    ∧ preserves_InFwd_InFwdIdeal
    ∧ algebraic_InFwdIdeal_InFwdRefIdeal (hInFwdIdeal := hInFwdIdeal) (hInFwdRefIdeal := hInFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_UpFwd_UpFwdIdeal
    ∧ algebraic_UpFwdIdeal_UpFwdRefIdeal (hUpFwdIdeal := hUpFwdIdeal) (hUpFwdRefIdeal := hUpFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_StepUp_StepUpIdeal
    ∧ algebraic_StepUpIdeal_StepUpRefIdeal (hStepUpIdeal := hStepUpIdeal) (hStepUpRefIdeal := hStepUpRefIdeal)
    ∧ preserves_StepIn_StepInIdeal
    ∧ algebraic_StepInIdeal_StepInRefIdeal (hStepInIdeal := hStepInIdeal) (hStepInRefIdeal := hStepInRefIdeal)
    ∧ preserves_StepOut_StepOutIdeal
    ∧ algebraic_StepOutIdeal_StepOutRefIdeal (hStepOutIdeal := hStepOutIdeal) (hStepOutRefIdeal := hStepOutRefIdeal)
-- ==== Pre_finite.lean ====
abbrev S4096x5376 : Shape := ⟨2, ![4096, 5376]⟩
abbrev S1x16 : Shape := ⟨2, ![1, 16]⟩
abbrev S4096x1024 : Shape := ⟨2, ![4096, 1024]⟩
abbrev S4096x1280 : Shape := ⟨2, ![4096, 1280]⟩
abbrev S_ : Shape := ⟨0, ![]⟩

class Facts : Prop where
  slices_S4096x5376_S4096x1280_0_0 : S4096x5376.Slices ![0, 0] S4096x1280
  bcast_S_S4096x1280 : S_.BroadcastsInDim S4096x1280 (![] : Fin 0 → Fin S4096x1280.rank)
  bcast_S_S1x16 : S_.BroadcastsInDim S1x16 (![] : Fin 0 → Fin S1x16.rank)
  bitsLt_bf16_f32 : FTy.bits .bf16 < FTy.bits .f32
  bcast_S_S4096x1024 : S_.BroadcastsInDim S4096x1024 (![] : Fin 0 → Fin S4096x1024.rank)

variable [Facts]

def fn {F : FTy → Type} [FloatOps F] (main_arg0 : FVec F S4096x5376 .f32) (main_arg1 : FVec F S1x16 .f32) (main_arg2 : FVec F S4096x1024 .bf16) : IVec S4096x1280 1 × IVec S1x16 1 × IVec S4096x1024 1 :=
  let main_v0 : FVec F S4096x1280 .f32 := (extractStridedSlice S4096x1280 ![0, 0] · slices_S4096x5376_S4096x1280_0_0) main_arg0
  let main_v1 : FVec F S4096x1280 .f32 := Host.absf main_v0
  let main_cst : FVec F S_ .f32 := constant S_ .f32 0x7F800000#32
  let main_v2 : FVec F S4096x1280 .f32 := broadcastInDim S4096x1280 ![] bcast_S_S4096x1280 main_cst
  let main_v3 : IVec S4096x1280 1 := cmpf .olt main_v1 main_v2
  let main_v4 : FVec F S1x16 .f32 := Host.absf main_arg1
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_v7 : FVec F S4096x1024 .f32 := (extf .f32 · bitsLt_bf16_f32) main_arg2
  let main_v8 : FVec F S4096x1024 .f32 := Host.absf main_v7
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  (main_v3, main_v6, main_v10)
-- ==== Kernel.lean ====
abbrev S4096x5376 : Shape := ⟨2, ![4096, 5376]⟩
abbrev S1x16 : Shape := ⟨2, ![1, 16]⟩
abbrev S4096x1024 : Shape := ⟨2, ![4096, 1024]⟩
abbrev S1x4096x1024 : Shape := ⟨3, ![1, 4096, 1024]⟩
abbrev S4096x128 : Shape := ⟨2, ![4096, 128]⟩
abbrev S1x4096x128 : Shape := ⟨3, ![1, 4096, 128]⟩
abbrev S1x32x128x2x8x64 : Shape := ⟨6, ![1, 32, 128, 2, 8, 64]⟩
abbrev S1x128x128 : Shape := ⟨3, ![1, 128, 128]⟩
abbrev S_ : Shape := ⟨0, ![]⟩
abbrev S1x3968x128 : Shape := ⟨3, ![1, 3968, 128]⟩
abbrev S1x32x128x2x64 : Shape := ⟨5, ![1, 32, 128, 2, 64]⟩
abbrev S1x32x256x2x64 : Shape := ⟨5, ![1, 32, 256, 2, 64]⟩
abbrev S1x32x2x256x128x8 : Shape := ⟨6, ![1, 32, 2, 256, 128, 8]⟩
abbrev S1x32x2x8x128x256 : Shape := ⟨6, ![1, 32, 2, 8, 128, 256]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S16 : Shape := ⟨1, ![16]⟩
abbrev S2x8x1x1 : Shape := ⟨4, ![2, 8, 1, 1]⟩
abbrev S1x1x128x256 : Shape := ⟨4, ![1, 1, 128, 256]⟩
abbrev S2x8x128x256 : Shape := ⟨4, ![2, 8, 128, 256]⟩
abbrev S1x1x2x8x128x256 : Shape := ⟨6, ![1, 1, 2, 8, 128, 256]⟩
abbrev S1x32x1x1x128x256 : Shape := ⟨6, ![1, 32, 1, 1, 128, 256]⟩
abbrev S1x32x2x8x128 : Shape := ⟨5, ![1, 32, 2, 8, 128]⟩
abbrev S1x32x2x8x128x1 : Shape := ⟨6, ![1, 32, 2, 8, 128, 1]⟩
abbrev S1x1x2x8x1x1 : Shape := ⟨6, ![1, 1, 2, 8, 1, 1]⟩
abbrev S32x16x128 : Shape := ⟨3, ![32, 16, 128]⟩
abbrev S4096x256 : Shape := ⟨2, ![4096, 256]⟩
abbrev S16x128 : Shape := ⟨2, ![16, 128]⟩
abbrev S128x1024 : Shape := ⟨2, ![128, 1024]⟩
abbrev S1x16x128 : Shape := ⟨3, ![1, 16, 128]⟩
abbrev S256x128 : Shape := ⟨2, ![256, 128]⟩
abbrev S128x64 : Shape := ⟨2, ![128, 64]⟩
abbrev S256x64 : Shape := ⟨2, ![256, 64]⟩
abbrev S512x128 : Shape := ⟨2, ![512, 128]⟩
abbrev S128x128 : Shape := ⟨2, ![128, 128]⟩
abbrev S1x1x128 : Shape := ⟨3, ![1, 1, 128]⟩
abbrev S1x128 : Shape := ⟨2, ![1, 128]⟩
abbrev S1x1 : Shape := ⟨2, ![1, 1]⟩

abbrev nBuf : Space → Nat
  | .hbm => 112
  | .vmem => 16
  | .smem => 1
  | _ => 0

abbrev bufTy : (tb : Table) → Fin (tcTables nBuf tb) → BufTy
  | .hbm, ⟨0, _⟩ => ⟨S4096x5376, .f32⟩
  | .hbm, ⟨1, _⟩ => ⟨S1x16, .f32⟩
  | .hbm, ⟨2, _⟩ => ⟨S4096x1024, .bf16⟩
  | .hbm, ⟨3, _⟩ => ⟨S4096x1024, .f32⟩
  | .hbm, ⟨4, _⟩ => ⟨S1x4096x1024, .f32⟩
  | .hbm, ⟨5, _⟩ => ⟨S4096x128, .f32⟩
  | .hbm, ⟨6, _⟩ => ⟨S1x4096x128, .f32⟩
  | .hbm, ⟨7, _⟩ => ⟨S4096x128, .f32⟩
  | .hbm, ⟨8, _⟩ => ⟨S1x4096x128, .f32⟩
  | .hbm, ⟨9, _⟩ => ⟨S1x32x128x2x8x64, .f32⟩
  | .hbm, ⟨10, _⟩ => ⟨S1x128x128, .f32⟩
  | .hbm, ⟨11, _⟩ => ⟨S_, .f32⟩
  | .hbm, ⟨12, _⟩ => ⟨S1x128x128, .f32⟩
  | .hbm, ⟨13, _⟩ => ⟨S1x3968x128, .f32⟩
  | .hbm, ⟨14, _⟩ => ⟨S1x4096x128, .f32⟩
  | .hbm, ⟨15, _⟩ => ⟨S1x32x128x2x64, .f32⟩
  | .hbm, ⟨16, _⟩ => ⟨S1x32x128x2x64, .f32⟩
  | .hbm, ⟨17, _⟩ => ⟨S1x32x256x2x64, .f32⟩
  | .hbm, ⟨18, _⟩ => ⟨S1x32x2x256x128x8, .f32⟩
  | .hbm, ⟨19, _⟩ => ⟨S1x32x2x8x128x256, .f32⟩
  | .hbm, ⟨20, _⟩ => ⟨S_, .f32⟩
  | .hbm, ⟨21, _⟩ => ⟨S1x32x2x8x128x256, .f32⟩
  | .hbm, ⟨22, _⟩ => ⟨S1x32x2x8x128x256, .f32⟩
  | .hbm, ⟨23, _⟩ => ⟨S128, .i32⟩
  | .hbm, ⟨24, _⟩ => ⟨S_, .i32⟩
  | .hbm, ⟨25, _⟩ => ⟨S128, .i32⟩
  | .hbm, ⟨26, _⟩ => ⟨S128, .i32⟩
  | .hbm, ⟨27, _⟩ => ⟨S256, .i32⟩
  | .hbm, ⟨28, _⟩ => ⟨S128x1, .i32⟩
  | .hbm, ⟨29, _⟩ => ⟨S1x256, .i32⟩
  | .hbm, ⟨30, _⟩ => ⟨S128x256, .i32⟩
  | .hbm, ⟨31, _⟩ => ⟨S128x256, .i32⟩
  | .hbm, ⟨32, _⟩ => ⟨S128x256, .i32⟩
  | .hbm, ⟨33, _⟩ => ⟨S128x256, .f32⟩
  | .hbm, ⟨34, _⟩ => ⟨S_, .f32⟩
  | .hbm, ⟨35, _⟩ => ⟨S128x256, .f32⟩
  | .hbm, ⟨36, _⟩ => ⟨S128x256, .i1⟩
  | .hbm, ⟨37, _⟩ => ⟨S_, .f32⟩
  | .hbm, ⟨38, _⟩ => ⟨S128x256, .f32⟩
  | .hbm, ⟨39, _⟩ => ⟨S128x256, .i1⟩
  | .hbm, ⟨40, _⟩ => ⟨S128x256, .i1⟩
  | .hbm, ⟨41, _⟩ => ⟨S32, .i32⟩
  | .hbm, ⟨42, _⟩ => ⟨S32x1, .i32⟩
  | .hbm, ⟨43, _⟩ => ⟨S_, .i32⟩
  | .hbm, ⟨44, _⟩ => ⟨S32x1, .i32⟩
  | .hbm, ⟨45, _⟩ => ⟨S32x1, .i32⟩
  | .hbm, ⟨46, _⟩ => ⟨S_, .i32⟩
  | .hbm, ⟨47, _⟩ => ⟨S32x1, .i32⟩
  | .hbm, ⟨48, _⟩ => ⟨S32x1, .i32⟩
  | .hbm, ⟨49, _⟩ => ⟨S1x256, .i32⟩
  | .hbm, ⟨50, _⟩ => ⟨S32x256, .i32⟩
  | .hbm, ⟨51, _⟩ => ⟨S32x256, .i32⟩
  | .hbm, ⟨52, _⟩ => ⟨S32x256, .i32⟩
  | .hbm, ⟨53, _⟩ => ⟨S1x128x256, .i1⟩
  | .hbm, ⟨54, _⟩ => ⟨S_, .i32⟩
  | .hbm, ⟨55, _⟩ => ⟨S32x256, .i32⟩
  | .hbm, ⟨56, _⟩ => ⟨S32x256, .i1⟩
  | .hbm, ⟨57, _⟩ => ⟨S32x1x256, .i1⟩
  | .hbm, ⟨58, _⟩ => ⟨S32x128x256, .i1⟩
  | .hbm, ⟨59, _⟩ => ⟨S32x128x256, .i1⟩
  | .hbm, ⟨60, _⟩ => ⟨S32x128x256, .i1⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S_, .f32⟩
  | .hbm, ⟨72, _⟩ => ⟨S16, .f32⟩
  | .hbm, ⟨73, _⟩ => ⟨S16, .f32⟩
  | .hbm, ⟨74, _⟩ => ⟨S2x8x1x1, .f32⟩
  | .hbm, ⟨75, _⟩ => ⟨S1x1x128x256, .f32⟩
  | .hbm, ⟨76, _⟩ => ⟨S2x8x128x256, .f32⟩
  | .hbm, ⟨77, _⟩ => ⟨S2x8x128x256, .f32⟩
  | .hbm, ⟨78, _⟩ => ⟨S2x8x128x256, .f32⟩
  | .hbm, ⟨79, _⟩ => ⟨S1x1x2x8x128x256, .f32⟩
  | .hbm, ⟨80, _⟩ => ⟨S1x32x2x8x128x256, .f32⟩
  | .hbm, ⟨81, _⟩ => ⟨S1x32x2x8x128x256, .f32⟩
  | .hbm, ⟨82, _⟩ => ⟨S1x32x1x1x128x256, .i1⟩
  | .hbm, ⟨83, _⟩ => ⟨S_, .f32⟩
  | .hbm, ⟨84, _⟩ => ⟨S_, .f32⟩
  | .hbm, ⟨85, _⟩ => ⟨S1x32x2x8x128x256, .i1⟩
  | .hbm, ⟨86, _⟩ => ⟨S1x32x2x8x128x256, .f32⟩
  | .hbm, ⟨87, _⟩ => ⟨S1x32x2x8x128x256, .f32⟩
  | .hbm, ⟨88, _⟩ => ⟨S2x8x1x1, .f32⟩
  | .hbm, ⟨89, _⟩ => ⟨S_, .f32⟩
  | .hbm, ⟨90, _⟩ => ⟨S1x32x2x8x128, .f32⟩
  | .hbm, ⟨91, _⟩ => ⟨S1x32x2x8x128x1, .f32⟩
  | .hbm, ⟨92, _⟩ => ⟨S1x1x2x8x1x1, .f32⟩
  | .hbm, ⟨93, _⟩ => ⟨S1x32x2x8x128x1, .f32⟩
  | .hbm, ⟨94, _⟩ => ⟨S1x32x2x8x128x1, .f32⟩
  | .hbm, ⟨95, _⟩ => ⟨S1x32x2x8x128x256, .f32⟩
  | .hbm, ⟨96, _⟩ => ⟨S1x32x2x8x128x256, .f32⟩
  | .hbm, ⟨97, _⟩ => ⟨S1x32x2x8x128x256, .f32⟩
  | .hbm, ⟨98, _⟩ => ⟨S_, .f32⟩
  | .hbm, ⟨99, _⟩ => ⟨S1x32x2x8x128, .f32⟩
  | .hbm, ⟨100, _⟩ => ⟨S1x32x2x8x128x1, .f32⟩
  | .hbm, ⟨101, _⟩ => ⟨S1x1x2x8x1x1, .f32⟩
  | .hbm, ⟨102, _⟩ => ⟨S1x32x2x8x128x1, .f32⟩
  | .hbm, ⟨103, _⟩ => ⟨S1x32x2x8x128x1, .f32⟩
  | .hbm, ⟨104, _⟩ => ⟨S1x32x2x8x128x1, .f32⟩
  | .hbm, ⟨105, _⟩ => ⟨S1x32x2x8x128x1, .f32⟩
  | .hbm, ⟨106, _⟩ => ⟨S1x32x2x8x128x1, .f32⟩
  | .hbm, ⟨107, _⟩ => ⟨S1x32x2x8x128x1, .f32⟩
  | .hbm, ⟨108, _⟩ => ⟨S32x16x128, .f32⟩
  | .hbm, ⟨109, _⟩ => ⟨S4096x1024, .bf16⟩
  | .hbm, ⟨110, _⟩ => ⟨S4096x256, .bf16⟩
  | .hbm, ⟨111, _⟩ => ⟨S16x128, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x1024, .bf16⟩
  | .local _ .vmem, ⟨7, _⟩ => ⟨S128x1024, .bf16⟩
  | .local _ .vmem, ⟨8, _⟩ => ⟨S1x16x128, .f32⟩
  | .local _ .vmem, ⟨9, _⟩ => ⟨S1x16x128, .f32⟩
  | .local _ .vmem, ⟨10, _⟩ => ⟨S128x1024, .bf16⟩
  | .local _ .vmem, ⟨11, _⟩ => ⟨S128x1024, .bf16⟩
  | .local _ .vmem, ⟨12, _⟩ => ⟨S128x256, .bf16⟩
  | .local _ .vmem, ⟨13, _⟩ => ⟨S128x256, .bf16⟩
  | .local _ .vmem, ⟨14, _⟩ => ⟨S16x128, .f32⟩
  | .local _ .vmem, ⟨15, _⟩ => ⟨S128x256, .f32⟩
  | .local _ .smem, ⟨0, _⟩ => ⟨S1x16, .f32⟩
  | _, _ => ⟨S4096x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_3 : Ref sig .tc := ⟨.hbm, 43, rfl⟩
abbrev main_v35 : Ref sig .tc := ⟨.hbm, 44, rfl⟩
abbrev main_v36 : Ref sig .tc := ⟨.hbm, 45, rfl⟩
abbrev main_c_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_cst_7 : Ref sig .tc := ⟨.hbm, 65, rfl⟩
abbrev main_v53 : Ref sig .tc := ⟨.hbm, 66, rfl⟩
abbrev main_v54 : Ref sig .tc := ⟨.hbm, 67, rfl⟩
abbrev main_cst_8 : Ref sig .tc := ⟨.hbm, 68, rfl⟩
abbrev main_v55 : Ref sig .tc := ⟨.hbm, 69, rfl⟩
abbrev main_v56 : Ref sig .tc := ⟨.hbm, 70, rfl⟩
abbrev main_cst_9 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_10 : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_v68 : Ref sig .tc := ⟨.hbm, 87, rfl⟩
abbrev main_v69 : Ref sig .tc := ⟨.hbm, 88, rfl⟩
abbrev main_cst_11 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_12 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88_0 : Ref sig .tc := ⟨.hbm, 109, rfl⟩
abbrev main_v88_1 : Ref sig .tc := ⟨.hbm, 110, rfl⟩
abbrev main_v88_2 : Ref sig .tc := ⟨.hbm, 111, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "mask" => some ⊥
  | "slope0" => some (((Real.sqrt 2)⁻¹ : ℝ) : EReal)
  | "slope10" => some (((Real.sqrt 2048)⁻¹ : ℝ) : EReal)
  | "slope12" => some (((Real.sqrt 8192)⁻¹ : ℝ) : EReal)
  | "slope14" => some (((Real.sqrt 32768)⁻¹ : ℝ) : EReal)
  | "slope2" => some (((Real.sqrt 8)⁻¹ : ℝ) : EReal)
  | "slope4" => some (((Real.sqrt 32)⁻¹ : ℝ) : EReal)
  | "slope6" => some (((Real.sqrt 128)⁻¹ : ℝ) : EReal)
  | "slope8" => some (((Real.sqrt 512)⁻¹ : ℝ) : EReal)
  | _ => none
-- ==== ReferenceIdeal.lean ====
abbrev S4096x5376 : Shape := ⟨2, ![4096, 5376]⟩
abbrev S1x16 : Shape := ⟨2, ![1, 16]⟩
abbrev S4096x1024 : Shape := ⟨2, ![4096, 1024]⟩
abbrev S1x4096x1024 : Shape := ⟨3, ![1, 4096, 1024]⟩
abbrev S4096x128 : Shape := ⟨2, ![4096, 128]⟩
abbrev S1x4096x128 : Shape := ⟨3, ![1, 4096, 128]⟩
abbrev S16x1 : Shape := ⟨2, ![16, 1]⟩
abbrev S16x128 : Shape := ⟨2, ![16, 128]⟩
abbrev S1x32x128x2x8x64 : Shape := ⟨6, ![1, 32, 128, 2, 8, 64]⟩
abbrev S1x128x128 : Shape := ⟨3, ![1, 128, 128]⟩
abbrev S_ : Shape := ⟨0, ![]⟩
abbrev S1x3968x128 : Shape := ⟨3, ![1, 3968, 128]⟩
abbrev S1x32x128x2x64 : Shape := ⟨5, ![1, 32, 128, 2, 64]⟩
abbrev S1x32x256x2x64 : Shape := ⟨5, ![1, 32, 256, 2, 64]⟩
abbrev S1x32x2x256x128x8 : Shape := ⟨6, ![1, 32, 2, 256, 128, 8]⟩
abbrev S1x32x2x8x128x256 : Shape := ⟨6, ![1, 32, 2, 8, 128, 256]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S16 : Shape := ⟨1, ![16]⟩
abbrev S2x8x1x1 : Shape := ⟨4, ![2, 8, 1, 1]⟩
abbrev S1x1x128x256 : Shape := ⟨4, ![1, 1, 128, 256]⟩
abbrev S2x8x128x256 : Shape := ⟨4, ![2, 8, 128, 256]⟩
abbrev S1x1x2x8x128x256 : Shape := ⟨6, ![1, 1, 2, 8, 128, 256]⟩
abbrev S1x32x1x1x128x256 : Shape := ⟨6, ![1, 32, 1, 1, 128, 256]⟩
abbrev S2x8x128x1 : Shape := ⟨4, ![2, 8, 128, 1]⟩
abbrev S1x32x2x8x128 : Shape := ⟨5, ![1, 32, 2, 8, 128]⟩
abbrev S1x32x2x8x128x1 : Shape := ⟨6, ![1, 32, 2, 8, 128, 1]⟩
abbrev S1x1x2x8x128x1 : Shape := ⟨6, ![1, 1, 2, 8, 128, 1]⟩
abbrev S1x32x2x64x8x128 : Shape := ⟨6, ![1, 32, 2, 64, 8, 128]⟩
abbrev S1x32x2x64x256 : Shape := ⟨5, ![1, 32, 2, 64, 256]⟩
abbrev S1x2x8x128x1 : Shape := ⟨5, ![1, 2, 8, 128, 1]⟩
abbrev S2x8x128 : Shape := ⟨3, ![2, 8, 128]⟩
abbrev S32x2x8x128 : Shape := ⟨4, ![32, 2, 8, 128]⟩
abbrev S1x32x2x128x8x64 : Shape := ⟨6, ![1, 32, 2, 128, 8, 64]⟩
abbrev S1x32x2x256x64 : Shape := ⟨5, ![1, 32, 2, 256, 64]⟩
abbrev S1x4096x256 : Shape := ⟨3, ![1, 4096, 256]⟩
abbrev S4096x256 : Shape := ⟨2, ![4096, 256]⟩

abbrev nBuf : Space → Nat
  | .hbm => 248
  | .vmem => 0
  | .smem => 0
  | _ => 0

abbrev hbmTy0_0 (i : Nat) : BufTy := match i % 128 with
  | 0 => ⟨S4096x5376, .f32⟩
  | 1 => ⟨S1x16, .f32⟩
  | 2 => ⟨S4096x1024, .bf16⟩
  | 3 => ⟨S4096x1024, .f32⟩
  | 4 => ⟨S1x4096x1024, .f32⟩
  | 5 => ⟨S4096x128, .f32⟩
  | 6 => ⟨S1x4096x128, .f32⟩
  | 7 => ⟨S4096x128, .f32⟩
  | 8 => ⟨S1x4096x128, .f32⟩
  | 9 => ⟨S16x1, .f32⟩
  | 10 => ⟨S16x128, .f32⟩
  | 11 => ⟨S1x32x128x2x8x64, .f32⟩
  | 12 => ⟨S1x128x128, .f32⟩
  | 13 => ⟨S_, .f32⟩
  | 14 => ⟨S1x128x128, .f32⟩
  | 15 => ⟨S1x3968x128, .f32⟩
  | 16 => ⟨S1x4096x128, .f32⟩
  | 17 => ⟨S_, .f32⟩
  | 18 => ⟨S1x128x128, .f32⟩
  | 19 => ⟨S1x32x128x2x64, .f32⟩
  | 20 => ⟨S1x32x128x2x64, .f32⟩
  | 21 => ⟨S1x32x256x2x64, .f32⟩
  | 22 => ⟨S1x32x2x256x128x8, .f32⟩
  | 23 => ⟨S1x32x2x8x128x256, .f32⟩
  | 24 => ⟨S_, .f32⟩
  | 25 => ⟨S1x32x2x8x128x256, .f32⟩
  | 26 => ⟨S1x32x2x8x128x256, .f32⟩
  | 27 => ⟨S128, .i32⟩
  | 28 => ⟨S_, .i32⟩
  | 29 => ⟨S128, .i32⟩
  | 30 => ⟨S128, .i32⟩
  | 31 => ⟨S256, .i32⟩
  | 32 => ⟨S128x1, .i32⟩
  | 33 => ⟨S1x256, .i32⟩
  | 34 => ⟨S128x256, .i32⟩
  | 35 => ⟨S128x256, .i32⟩
  | 36 => ⟨S128x256, .i32⟩
  | 37 => ⟨S128x256, .f32⟩
  | 38 => ⟨S_, .f32⟩
  | 39 => ⟨S128x256, .f32⟩
  | 40 => ⟨S128x256, .i1⟩
  | 41 => ⟨S_, .f32⟩
  | 42 => ⟨S128x256, .f32⟩
  | 43 => ⟨S128x256, .i1⟩
  | 44 => ⟨S128x256, .i1⟩
  | 45 => ⟨S32, .i32⟩
  | 46 => ⟨S32x1, .i32⟩
  | 47 => ⟨S_, .i32⟩
  | 48 => ⟨S32x1, .i32⟩
  | 49 => ⟨S32x1, .i32⟩
  | 50 => ⟨S_, .i32⟩
  | 51 => ⟨S32x1, .i32⟩
  | 52 => ⟨S32x1, .i32⟩
  | 53 => ⟨S1x256, .i32⟩
  | 54 => ⟨S32x256, .i32⟩
  | 55 => ⟨S32x256, .i32⟩
  | 56 => ⟨S32x256, .i32⟩
  | 57 => ⟨S1x128x256, .i1⟩
  | 58 => ⟨S_, .i32⟩
  | 59 => ⟨S32x256, .i32⟩
  | 60 => ⟨S32x256, .i1⟩
  | 61 => ⟨S32x1x256, .i1⟩
  | 62 => ⟨S32x128x256, .i1⟩
  | 63 => ⟨S32x128x256, .i1⟩
  | 64 => ⟨S32x128x256, .i1⟩
  | 65 => ⟨S16, .f32⟩
  | 66 => ⟨S_, .f32⟩
  | 67 => ⟨S16, .f32⟩
  | 68 => ⟨S16, .f32⟩
  | 69 => ⟨S_, .f32⟩
  | 70 => ⟨S16, .f32⟩
  | 71 => ⟨S16, .f32⟩
  | 72 => ⟨S_, .f32⟩
  | 73 => ⟨S16, .f32⟩
  | 74 => ⟨S16, .f32⟩
  | 75 => ⟨S_, .f32⟩
  | 76 => ⟨S16, .f32⟩
  | 77 => ⟨S16, .f32⟩
  | 78 => ⟨S2x8x1x1, .f32⟩
  | 79 => ⟨S1x1x128x256, .f32⟩
  | 80 => ⟨S2x8x128x256, .f32⟩
  | 81 => ⟨S2x8x128x256, .f32⟩
  | 82 => ⟨S2x8x128x256, .f32⟩
  | 83 => ⟨S1x1x2x8x128x256, .f32⟩
  | 84 => ⟨S1x32x2x8x128x256, .f32⟩
  | 85 => ⟨S1x32x2x8x128x256, .f32⟩
  | 86 => ⟨S1x32x1x1x128x256, .i1⟩
  | 87 => ⟨S_, .f32⟩
  | 88 => ⟨S_, .f32⟩
  | 89 => ⟨S1x32x2x8x128x256, .i1⟩
  | 90 => ⟨S1x32x2x8x128x256, .f32⟩
  | 91 => ⟨S1x32x2x8x128x256, .f32⟩
  | 92 => ⟨S_, .f32⟩
  | 93 => ⟨S1x32x2x8x128x256, .f32⟩
  | 94 => ⟨S1x128x128, .f32⟩
  | 95 => ⟨S_, .f32⟩
  | 96 => ⟨S1x128x128, .f32⟩
  | 97 => ⟨S1x3968x128, .f32⟩
  | 98 => ⟨S1x4096x128, .f32⟩
  | 99 => ⟨S_, .f32⟩
  | 100 => ⟨S1x128x128, .f32⟩
  | 101 => ⟨S1x32x128x2x64, .f32⟩
  | 102 => ⟨S1x32x128x2x64, .f32⟩
  | 103 => ⟨S1x32x256x2x64, .f32⟩
  | 104 => ⟨S2x8x128x1, .f32⟩
  | 105 => ⟨S_, .f32⟩
  | 106 => ⟨S1x32x2x8x128, .f32⟩
  | 107 => ⟨S1x32x2x8x128x1, .f32⟩
  | 108 => ⟨S1x32x2x8x128x256, .f32⟩
  | 109 => ⟨S1x32x2x8x128x256, .i1⟩
  | 110 => ⟨S1x32x2x8x128x256, .f32⟩
  | 111 => ⟨S_, .f32⟩
  | 112 => ⟨S1x32x2x8x128, .f32⟩
  | 113 => ⟨S1x32x2x8x128x1, .f32⟩
  | 114 => ⟨S1x1x2x8x128x1, .f32⟩
  | 115 => ⟨S1x32x2x8x128x1, .f32⟩
  | 116 => ⟨S1x32x2x8x128x1, .f32⟩
  | 117 => ⟨S1x32x2x8x128x1, .f32⟩
  | 118 => ⟨S1x32x2x8x128x1, .i1⟩
  | 119 => ⟨S1x32x2x8x128x1, .f32⟩
  | 120 => ⟨S1x32x2x8x128x1, .i1⟩
  | 121 => ⟨S_, .f32⟩
  | 122 => ⟨S1x32x2x8x128x1, .f32⟩
  | 123 => ⟨S_, .f32⟩
  | 124 => ⟨S1x32x2x8x128x1, .f32⟩
  | 125 => ⟨S_, .f32⟩
  | 126 => ⟨S1x32x2x8x128x1, .f32⟩
  | 127 => ⟨S1x32x2x8x128x1, .f32⟩
  | _ => ⟨S4096x5376, .f32⟩

abbrev hbmTy0_1 (i : Nat) : BufTy := match i % 128 with
  | 0 => ⟨S1x32x2x8x128x1, .f32⟩
  | 1 => ⟨S1x32x2x8x128x1, .f32⟩
  | 2 => ⟨S1x32x2x8x128x1, .i1⟩
  | 3 => ⟨S1x32x2x8x128x1, .f32⟩
  | 4 => ⟨S1x32x2x8x128x1, .i1⟩
  | 5 => ⟨S_, .f32⟩
  | 6 => ⟨S1x32x2x8x128x1, .f32⟩
  | 7 => ⟨S_, .f32⟩
  | 8 => ⟨S1x32x2x8x128x1, .f32⟩
  | 9 => ⟨S_, .f32⟩
  | 10 => ⟨S1x32x2x8x128x1, .f32⟩
  | 11 => ⟨S1x32x2x8x128x1, .f32⟩
  | 12 => ⟨S1x32x2x8x128x1, .f32⟩
  | 13 => ⟨S1x32x2x8x128x256, .f32⟩
  | 14 => ⟨S1x32x2x8x128x256, .f32⟩
  | 15 => ⟨S1x32x2x8x128x256, .f32⟩
  | 16 => ⟨S_, .f32⟩
  | 17 => ⟨S1x32x2x8x128, .f32⟩
  | 18 => ⟨S1x32x2x8x128x1, .f32⟩
  | 19 => ⟨S1x1x2x8x128x1, .f32⟩
  | 20 => ⟨S1x32x2x8x128x1, .f32⟩
  | 21 => ⟨S1x32x2x8x128x1, .f32⟩
  | 22 => ⟨S1x32x2x8x128x1, .f32⟩
  | 23 => ⟨S1x32x2x8x128x1, .f32⟩
  | 24 => ⟨S1x32x2x8x128x256, .f32⟩
  | 25 => ⟨S1x32x2x8x128x256, .f32⟩
  | 26 => ⟨S1x32x2x8x128x1, .f32⟩
  | 27 => ⟨S_, .f32⟩
  | 28 => ⟨S1x32x2x8x128x1, .f32⟩
  | 29 => ⟨S1x32x2x8x128x1, .f32⟩
  | 30 => ⟨S1x32x2x64x8x128, .f32⟩
  | 31 => ⟨S1x32x128x2x8x64, .f32⟩
  | 32 => ⟨S1x4096x1024, .f32⟩
  | 33 => ⟨S4096x1024, .f32⟩
  | 34 => ⟨S1x4096x1024, .f32⟩
  | 35 => ⟨S1x32x128x2x8x64, .f32⟩
  | 36 => ⟨S1x32x2x64x8x128, .f32⟩
  | 37 => ⟨S1x32x2x8x128x256, .f32⟩
  | 38 => ⟨S1x32x2x64x256, .f32⟩
  | 39 => ⟨S1x32x256x2x64, .f32⟩
  | 40 => ⟨S1x32x2x8x128x256, .f32⟩
  | 41 => ⟨S1x32x2x8x128x256, .f32⟩
  | 42 => ⟨S1x32x2x8x128x256, .f32⟩
  | 43 => ⟨S_, .f32⟩
  | 44 => ⟨S1x32x2x8x128, .f32⟩
  | 45 => ⟨S1x32x2x8x128x1, .f32⟩
  | 46 => ⟨S1x32x2x8x128x1, .f32⟩
  | 47 => ⟨S1x32x2x8x128x256, .f32⟩
  | 48 => ⟨S1x32x2x8x128x256, .f32⟩
  | 49 => ⟨S1x32x2x8x128x1, .f32⟩
  | 50 => ⟨S_, .f32⟩
  | 51 => ⟨S1x2x8x128x1, .f32⟩
  | 52 => ⟨S1x1x2x8x128x1, .f32⟩
  | 53 => ⟨S1x32x2x8x128x1, .f32⟩
  | 54 => ⟨S_, .f32⟩
  | 55 => ⟨S2x8x128, .f32⟩
  | 56 => ⟨S2x8x128x1, .f32⟩
  | 57 => ⟨S_, .f32⟩
  | 58 => ⟨S32x2x8x128, .f32⟩
  | 59 => ⟨S1x32x2x8x128, .f32⟩
  | 60 => ⟨S1x32x2x8x128x256, .f32⟩
  | 61 => ⟨S1x32x2x8x128x256, .f32⟩
  | 62 => ⟨S1x32x2x8x128x256, .f32⟩
  | 63 => ⟨S1x32x2x8x128x256, .f32⟩
  | 64 => ⟨S_, .f32⟩
  | 65 => ⟨S1x32x2x8x128, .f32⟩
  | 66 => ⟨S1x32x2x8x128x1, .f32⟩
  | 67 => ⟨S1x32x2x8x128x1, .f32⟩
  | 68 => ⟨S1x32x2x8x128x1, .f32⟩
  | 69 => ⟨S_, .f32⟩
  | 70 => ⟨S1x2x8x128x1, .f32⟩
  | 71 => ⟨S1x1x2x8x128x1, .f32⟩
  | 72 => ⟨S1x32x2x8x128x1, .f32⟩
  | 73 => ⟨S_, .f32⟩
  | 74 => ⟨S2x8x128, .f32⟩
  | 75 => ⟨S2x8x128x1, .f32⟩
  | 76 => ⟨S2x8x128x1, .f32⟩
  | 77 => ⟨S_, .f32⟩
  | 78 => ⟨S32x2x8x128, .f32⟩
  | 79 => ⟨S1x32x2x8x128, .f32⟩
  | 80 => ⟨S1x32x2x8x128, .f32⟩
  | 81 => ⟨S1x32x2x8x128x256, .f32⟩
  | 82 => ⟨S1x32x2x8x128x256, .f32⟩
  | 83 => ⟨S1x32x2x8x128x256, .f32⟩
  | 84 => ⟨S16x128, .f32⟩
  | 85 => ⟨S1x32x128x2x64, .f32⟩
  | 86 => ⟨S1x32x128x2x64, .f32⟩
  | 87 => ⟨S1x4096x128, .f32⟩
  | 88 => ⟨S1x4096x128, .f32⟩
  | 89 => ⟨S1x128x128, .f32⟩
  | 90 => ⟨S1x3968x128, .f32⟩
  | 91 => ⟨S_, .f32⟩
  | 92 => ⟨S1x4096x128, .f32⟩
  | 93 => ⟨S1x4096x128, .f32⟩
  | 94 => ⟨S_, .f32⟩
  | 95 => ⟨S1x32x2x8x128x256, .f32⟩
  | 96 => ⟨S1x32x2x8x128x256, .f32⟩
  | 97 => ⟨S_, .f32⟩
  | 98 => ⟨S1x32x2x8x128x256, .f32⟩
  | 99 => ⟨S1x32x2x8x128x256, .f32⟩
  | 100 => ⟨S1x32x2x256x128x8, .f32⟩
  | 101 => ⟨S1x32x2x128x8x64, .f32⟩
  | 102 => ⟨S1x32x128x2x8x64, .f32⟩
  | 103 => ⟨S1x32x2x256x64, .f32⟩
  | 104 => ⟨S1x32x256x2x64, .f32⟩
  | 105 => ⟨S1x32x128x2x64, .f32⟩
  | 106 => ⟨S1x32x128x2x64, .f32⟩
  | 107 => ⟨S1x4096x128, .f32⟩
  | 108 => ⟨S1x4096x128, .f32⟩
  | 109 => ⟨S1x128x128, .f32⟩
  | 110 => ⟨S1x3968x128, .f32⟩
  | 111 => ⟨S_, .f32⟩
  | 112 => ⟨S1x4096x128, .f32⟩
  | 113 => ⟨S1x4096x128, .f32⟩
  | 114 => ⟨S1x4096x1024, .f32⟩
  | 115 => ⟨S4096x1024, .f32⟩
  | 116 => ⟨S4096x1024, .bf16⟩
  | 117 => ⟨S1x4096x256, .f32⟩
  | 118 => ⟨S4096x256, .f32⟩
  | 119 => ⟨S4096x256, .bf16⟩
  | _ => ⟨S4096x5376, .f32⟩

abbrev hbmTy (i : Nat) : BufTy := match i / 128 with
  | 0 => hbmTy0_0 i
  | 1 => hbmTy0_1 i
  | _ => ⟨S4096x5376, .f32⟩

abbrev bufTy : (tb : Table) → Fin (tcTables nBuf tb) → BufTy
  | .hbm, ⟨i, _⟩ => hbmTy i
  | _, _ => ⟨S4096x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_4 : Ref sig .tc := ⟨.hbm, 47, rfl⟩
abbrev main_v38 : Ref sig .tc := ⟨.hbm, 48, rfl⟩
abbrev main_v39 : Ref sig .tc := ⟨.hbm, 49, rfl⟩
abbrev main_c_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_c_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_7 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_v57 : Ref sig .tc := ⟨.hbm, 71, rfl⟩
abbrev main_cst_9 : Ref sig .tc := ⟨.hbm, 72, rfl⟩
abbrev main_v58 : Ref sig .tc := ⟨.hbm, 73, rfl⟩
abbrev main_v59 : Ref sig .tc := ⟨.hbm, 74, rfl⟩
abbrev main_cst_10 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_11 : Ref sig .tc := ⟨.hbm, 87, rfl⟩
abbrev main_call0_v0 : Ref sig .tc := ⟨.hbm, 88, rfl⟩
abbrev main_v71_1 : Ref sig .tc := ⟨.hbm, 89, rfl⟩
abbrev main_call0_v2 : Ref sig .tc := ⟨.hbm, 90, rfl⟩
abbrev main_v71_0 : Ref sig .tc := ⟨.hbm, 91, rfl⟩
abbrev main_call0_cst : Ref sig .tc := ⟨.hbm, 92, rfl⟩
abbrev main_v71_2 : Ref sig .tc := ⟨.hbm, 93, rfl⟩
abbrev main_v72 : Ref sig .tc := ⟨.hbm, 94, rfl⟩
abbrev main_cst_12 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_13 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_14 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_15 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_16 : Ref sig .tc := ⟨.hbm, 121, rfl⟩
abbrev main_v95 : Ref sig .tc := ⟨.hbm, 122, rfl⟩
abbrev main_cst_17 : Ref sig .tc := ⟨.hbm, 123, rfl⟩
abbrev main_v96 : Ref sig .tc := ⟨.hbm, 124, rfl⟩
abbrev main_cst_18 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_19 : Ref sig .tc := ⟨.hbm, 133, rfl⟩
abbrev main_v104 : Ref sig .tc := ⟨.hbm, 134, rfl⟩
abbrev main_cst_20 : Ref sig .tc := ⟨.hbm, 135, rfl⟩
abbrev main_v105 : Ref sig .tc := ⟨.hbm, 136, rfl⟩
abbrev main_cst_21 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_22 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_23 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_cst_24 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_cst_25 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_cst_26 : Ref sig .tc := ⟨.hbm, 182, rfl⟩
abbrev main_v146 : Ref sig .tc := ⟨.hbm, 183, rfl⟩
abbrev main_v147 : Ref sig .tc := ⟨.hbm, 184, rfl⟩
abbrev main_cst_27 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_cst_28 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_cst_29 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_cst_30 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_cst_31 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_cst_32 : Ref sig .tc := ⟨.hbm, 219, rfl⟩
abbrev main_v177 : Ref sig .tc := ⟨.hbm, 220, rfl⟩
abbrev main_v178 : Ref sig .tc := ⟨.hbm, 221, rfl⟩
abbrev main_call1_cst : Ref sig .tc := ⟨.hbm, 222, rfl⟩
abbrev main_call1_v0 : Ref sig .tc := ⟨.hbm, 223, rfl⟩
abbrev main_v179 : Ref sig .tc := ⟨.hbm, 224, rfl⟩
abbrev main_cst_33 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_cst_34 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩

abbrev nD : Nat := 1
abbrev τ : Topo := Topo.v7x

variable {F : FTy → Type} [FloatOps F]
-- ==== DownBwd.lean ====
abbrev S4096x2048 : Shape := ⟨2, ![4096, 2048]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownBwdRefIdeal.lean ====
abbrev S4096x2048 : Shape := ⟨2, ![4096, 2048]⟩
abbrev S8192x2048 : Shape := ⟨2, ![8192, 2048]⟩
abbrev S4096x8192 : Shape := ⟨2, ![4096, 8192]⟩
abbrev S1x4096x8192 : Shape := ⟨3, ![1, 4096, 8192]⟩
abbrev S1x4096x2048 : Shape := ⟨3, ![1, 4096, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S8192x2048, .f32⟩
  | .hbm, ⟨4, _⟩ => ⟨S4096x8192, .f32⟩
  | .hbm, ⟨5, _⟩ => ⟨S1x4096x8192, .f32⟩
  | .hbm, ⟨6, _⟩ => ⟨S1x4096x8192, .f32⟩
  | .hbm, ⟨7, _⟩ => ⟨S1x4096x2048, .f32⟩
  | .hbm, ⟨8, _⟩ => ⟨S4096x2048, .f32⟩
  | .hbm, ⟨9, _⟩ => ⟨S1x4096x2048, .f32⟩
  | .hbm, ⟨10, _⟩ => ⟨S1x4096x8192, .f32⟩
  | .hbm, ⟨11, _⟩ => ⟨S1x4096x8192, .f32⟩
  | .hbm, ⟨12, _⟩ => ⟨S1x4096x8192, .f32⟩
  | .hbm, ⟨13, _⟩ => ⟨S1x4096x8192, .f32⟩
  | .hbm, ⟨14, _⟩ => ⟨S4096x8192, .f32⟩
  | .hbm, ⟨15, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== DownGrad.lean ====
abbrev S4096x8192 : Shape := ⟨2, ![4096, 8192]⟩
abbrev S4096x2048 : Shape := ⟨2, ![4096, 2048]⟩
abbrev S1x8192x2048 : Shape := ⟨3, ![1, 8192, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S1x8192x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .sgt arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradRefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S1x4096x8192 : Shape := ⟨3, ![1, 4096, 8192]⟩
abbrev S1x4096x2048 : Shape := ⟨3, ![1, 4096, 2048]⟩
abbrev S2048x8192 : Shape := ⟨2, ![2048, 8192]⟩
abbrev S1x8192x2048 : Shape := ⟨3, ![1, 8192, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S1x4096x8192, .f32⟩
  | .hbm, ⟨6, _⟩ => ⟨S1x4096x8192, .f32⟩
  | .hbm, ⟨7, _⟩ => ⟨S1x4096x2048, .f32⟩
  | .hbm, ⟨8, _⟩ => ⟨S4096x2048, .f32⟩
  | .hbm, ⟨9, _⟩ => ⟨S1x4096x2048, .f32⟩
  | .hbm, ⟨10, _⟩ => ⟨S2048x8192, .f32⟩
  | .hbm, ⟨11, _⟩ => ⟨S8192x2048, .f32⟩
  | .hbm, ⟨12, _⟩ => ⟨S1x8192x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== UpGrad.lean ====
abbrev S4096x2048 : Shape := ⟨2, ![4096, 2048]⟩
abbrev S4096x8192 : Shape := ⟨2, ![4096, 8192]⟩
abbrev S4x2048x2048 : Shape := ⟨3, ![4, 2048, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x2048x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGradRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S1x4096x2048 : Shape := ⟨3, ![1, 4096, 2048]⟩
abbrev S1x4096x8192 : Shape := ⟨3, ![1, 4096, 8192]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S1x4096x2048, .f32⟩
  | .hbm, ⟨6, _⟩ => ⟨S1x4096x8192, .f32⟩
  | .hbm, ⟨7, _⟩ => ⟨S4096x8192, .f32⟩
  | .hbm, ⟨8, _⟩ => ⟨S1x4096x8192, .f32⟩
  | .hbm, ⟨9, _⟩ => ⟨S8192x2048, .f32⟩
  | .hbm, ⟨10, _⟩ => ⟨S2048x8192, .f32⟩
  | .hbm, ⟨11, _⟩ => ⟨S2048x4x2048, .f32⟩
  | .hbm, ⟨12, _⟩ => ⟨S4x2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== UpBwd.lean ====
abbrev S4096x8192 : Shape := ⟨2, ![4096, 8192]⟩
abbrev S4x2048x2048 : Shape := ⟨3, ![4, 2048, 2048]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpBwdRefIdeal.lean ====
abbrev S4096x8192 : Shape := ⟨2, ![4096, 8192]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S_ : Shape := ⟨0, ![]⟩
abbrev S1x4096x2048 : Shape := ⟨3, ![1, 4096, 2048]⟩
abbrev S1x4096x8192 : Shape := ⟨3, ![1, 4096, 8192]⟩
abbrev S4096x2048 : Shape := ⟨2, ![4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4x2048x2048, .f32⟩
  | .hbm, ⟨3, _⟩ => ⟨S2048x4x2048, .f32⟩
  | .hbm, ⟨4, _⟩ => ⟨S2048x8192, .f32⟩
  | .hbm, ⟨5, _⟩ => ⟨S_, .f32⟩
  | .hbm, ⟨6, _⟩ => ⟨S1x4096x2048, .f32⟩
  | .hbm, ⟨7, _⟩ => ⟨S1x4096x8192, .f32⟩
  | .hbm, ⟨8, _⟩ => ⟨S4096x8192, .f32⟩
  | .hbm, ⟨9, _⟩ => ⟨S1x4096x8192, .f32⟩
  | .hbm, ⟨10, _⟩ => ⟨S1x4096x2048, .f32⟩
  | .hbm, ⟨11, _⟩ => ⟨S4096x2048, .f32⟩
  | .hbm, ⟨12, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== OutGrad.lean ====
abbrev S4096x2048 : Shape := ⟨2, ![4096, 2048]⟩
abbrev S1x2048x2048 : Shape := ⟨3, ![1, 2048, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S1x2048x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutGradRefIdeal.lean ====
abbrev S4096x2048 : Shape := ⟨2, ![4096, 2048]⟩
abbrev S_ : Shape := ⟨0, ![]⟩
abbrev S2048x2048 : Shape := ⟨2, ![2048, 2048]⟩
abbrev S1x4096x2048 : Shape := ⟨3, ![1, 4096, 2048]⟩
abbrev S1x2048x2048 : Shape := ⟨3, ![1, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S1x4096x2048, .f32⟩
  | .hbm, ⟨6, _⟩ => ⟨S1x4096x2048, .f32⟩
  | .hbm, ⟨7, _⟩ => ⟨S4096x2048, .f32⟩
  | .hbm, ⟨8, _⟩ => ⟨S1x4096x2048, .f32⟩
  | .hbm, ⟨9, _⟩ => ⟨S2048x2048, .f32⟩
  | .hbm, ⟨10, _⟩ => ⟨S2048x2048, .f32⟩
  | .hbm, ⟨11, _⟩ => ⟨S1x2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutBwd.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutBwdRefIdeal.lean ====
abbrev S4096x2048 : Shape := ⟨2, ![4096, 2048]⟩
abbrev S2048x2048 : Shape := ⟨2, ![2048, 2048]⟩
abbrev S_ : Shape := ⟨0, ![]⟩
abbrev S1x4096x2048 : Shape := ⟨3, ![1, 4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S1x4096x2048, .f32⟩
  | .hbm, ⟨5, _⟩ => ⟨S1x4096x2048, .f32⟩
  | .hbm, ⟨6, _⟩ => ⟨S4096x2048, .f32⟩
  | .hbm, ⟨7, _⟩ => ⟨S1x4096x2048, .f32⟩
  | .hbm, ⟨8, _⟩ => ⟨S1x4096x2048, .f32⟩
  | .hbm, ⟨9, _⟩ => ⟨S4096x2048, .f32⟩
  | .hbm, ⟨10, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InGrad0.lean ====
abbrev S4096x5376 : Shape := ⟨2, ![4096, 5376]⟩
abbrev S4096x2048 : Shape := ⟨2, ![4096, 2048]⟩
abbrev S1x5376x1024 : Shape := ⟨3, ![1, 5376, 1024]⟩
abbrev S4096x896 : Shape := ⟨2, ![4096, 896]⟩
abbrev S4096x512 : Shape := ⟨2, ![4096, 512]⟩
abbrev S1x896x1024 : Shape := ⟨3, ![1, 896, 1024]⟩
abbrev S4096x1024 : Shape := ⟨2, ![4096, 1024]⟩
abbrev S896x1024 : Shape := ⟨2, ![896, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5376, .bf16⟩
  | .hbm, ⟨1, _⟩ => ⟨S4096x2048, .bf16⟩
  | .hbm, ⟨2, _⟩ => ⟨S1x5376x1024, .f32⟩
  | .local _ .vmem, ⟨0, _⟩ => ⟨S4096x896, .bf16⟩
  | .local _ .vmem, ⟨1, _⟩ => ⟨S4096x896, .bf16⟩
  | .local _ .vmem, ⟨2, _⟩ => ⟨S4096x512, .bf16⟩
  | .local _ .vmem, ⟨3, _⟩ => ⟨S4096x512, .bf16⟩
  | .local _ .vmem, ⟨4, _⟩ => ⟨S1x896x1024, .f32⟩
  | .local _ .vmem, ⟨5, _⟩ => ⟨S1x896x1024, .f32⟩
  | _, _ => ⟨S4096x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![6, 1, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .sgt arg2 c0_i32_6
  let v9 : BitVec 32 := Scalar.extui v8
  let c0_i32_7 : BitVec 32 := 0#32
  let v10 : BitVec 1 := Scalar.cmpi .ne v9 c0_i32_7
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg2.toNat, c2_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S1x896x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InGrad0RefIdeal.lean ====
abbrev S4096x5376 : Shape := ⟨2, ![4096, 5376]⟩
abbrev S4096x2048 : Shape := ⟨2, ![4096, 2048]⟩
abbrev S_ : Shape := ⟨0, ![]⟩
abbrev S2048x5376 : Shape := ⟨2, ![2048, 5376]⟩
abbrev S1x4096x2048 : Shape := ⟨3, ![1, 4096, 2048]⟩
abbrev S1x4096x5376 : Shape := ⟨3, ![1, 4096, 5376]⟩
abbrev S5376x2048 : Shape := ⟨2, ![5376, 2048]⟩
abbrev S5376x512 : Shape := ⟨2, ![5376, 512]⟩
abbrev S5376x1024 : Shape := ⟨2, ![5376, 1024]⟩
abbrev S1x5376x1024 : Shape := ⟨3, ![1, 5376, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x5376, .bf16⟩
  | .hbm, ⟨1, _⟩ => ⟨S4096x2048, .bf16⟩
  | .hbm, ⟨2, _⟩ => ⟨S_, .f32⟩
  | .hbm, ⟨3, _⟩ => ⟨S2048x5376, .f32⟩
  | .hbm, ⟨4, _⟩ => ⟨S4096x2048, .f32⟩
  | .hbm, ⟨5, _⟩ => ⟨S1x4096x2048, .f32⟩
  | .hbm, ⟨6, _⟩ => ⟨S1x4096x5376, .f32⟩
  | .hbm, ⟨7, _⟩ => ⟨S4096x5376, .f32⟩
  | .hbm, ⟨8, _⟩ => ⟨S1x4096x5376, .f32⟩
  | .hbm, ⟨9, _⟩ => ⟨S5376x2048, .f32⟩
  | .hbm, ⟨10, _⟩ => ⟨S2048x5376, .f32⟩
  | .hbm, ⟨11, _⟩ => ⟨S5376x2048, .f32⟩
  | .hbm, ⟨12, _⟩ => ⟨S5376x512, .f32⟩
  | .hbm, ⟨13, _⟩ => ⟨S5376x512, .f32⟩
  | .hbm, ⟨14, _⟩ => ⟨S5376x1024, .f32⟩
  | .hbm, ⟨15, _⟩ => ⟨S1x5376x1024, .f32⟩
  | _, _ => ⟨S4096x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== InGrad1.lean ====
abbrev S4096x5376 : Shape := ⟨2, ![4096, 5376]⟩
abbrev S4096x2048 : Shape := ⟨2, ![4096, 2048]⟩
abbrev S1x5376x1024 : Shape := ⟨3, ![1, 5376, 1024]⟩
abbrev S4096x896 : Shape := ⟨2, ![4096, 896]⟩
abbrev S4096x512 : Shape := ⟨2, ![4096, 512]⟩
abbrev S1x896x1024 : Shape := ⟨3, ![1, 896, 1024]⟩
abbrev S4096x1024 : Shape := ⟨2, ![4096, 1024]⟩
abbrev S896x1024 : Shape := ⟨2, ![896, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5376, .bf16⟩
  | .hbm, ⟨1, _⟩ => ⟨S4096x2048, .bf16⟩
  | .hbm, ⟨2, _⟩ => ⟨S1x5376x1024, .f32⟩
  | .local _ .vmem, ⟨0, _⟩ => ⟨S4096x896, .bf16⟩
  | .local _ .vmem, ⟨1, _⟩ => ⟨S4096x896, .bf16⟩
  | .local _ .vmem, ⟨2, _⟩ => ⟨S4096x512, .bf16⟩
  | .local _ .vmem, ⟨3, _⟩ => ⟨S4096x512, .bf16⟩
  | .local _ .vmem, ⟨4, _⟩ => ⟨S1x896x1024, .f32⟩
  | .local _ .vmem, ⟨5, _⟩ => ⟨S1x896x1024, .f32⟩
  | _, _ => ⟨S4096x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![6, 1, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .sgt arg2 c0_i32_6
  let v9 : BitVec 32 := Scalar.extui v8
  let c0_i32_7 : BitVec 32 := 0#32
  let v10 : BitVec 1 := Scalar.cmpi .ne v9 c0_i32_7
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg2.toNat, c1_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg2.toNat, c3_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S1x896x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InGrad1RefIdeal.lean ====
abbrev S4096x5376 : Shape := ⟨2, ![4096, 5376]⟩
abbrev S4096x2048 : Shape := ⟨2, ![4096, 2048]⟩
abbrev S_ : Shape := ⟨0, ![]⟩
abbrev S2048x5376 : Shape := ⟨2, ![2048, 5376]⟩
abbrev S1x4096x2048 : Shape := ⟨3, ![1, 4096, 2048]⟩
abbrev S1x4096x5376 : Shape := ⟨3, ![1, 4096, 5376]⟩
abbrev S5376x2048 : Shape := ⟨2, ![5376, 2048]⟩
abbrev S5376x512 : Shape := ⟨2, ![5376, 512]⟩
abbrev S5376x1024 : Shape := ⟨2, ![5376, 1024]⟩
abbrev S1x5376x1024 : Shape := ⟨3, ![1, 5376, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x5376, .bf16⟩
  | .hbm, ⟨1, _⟩ => ⟨S4096x2048, .bf16⟩
  | .hbm, ⟨2, _⟩ => ⟨S_, .f32⟩
  | .hbm, ⟨3, _⟩ => ⟨S2048x5376, .f32⟩
  | .hbm, ⟨4, _⟩ => ⟨S4096x2048, .f32⟩
  | .hbm, ⟨5, _⟩ => ⟨S1x4096x2048, .f32⟩
  | .hbm, ⟨6, _⟩ => ⟨S1x4096x5376, .f32⟩
  | .hbm, ⟨7, _⟩ => ⟨S4096x5376, .f32⟩
  | .hbm, ⟨8, _⟩ => ⟨S1x4096x5376, .f32⟩
  | .hbm, ⟨9, _⟩ => ⟨S5376x2048, .f32⟩
  | .hbm, ⟨10, _⟩ => ⟨S2048x5376, .f32⟩
  | .hbm, ⟨11, _⟩ => ⟨S5376x2048, .f32⟩
  | .hbm, ⟨12, _⟩ => ⟨S5376x512, .f32⟩
  | .hbm, ⟨13, _⟩ => ⟨S5376x512, .f32⟩
  | .hbm, ⟨14, _⟩ => ⟨S5376x1024, .f32⟩
  | .hbm, ⟨15, _⟩ => ⟨S1x5376x1024, .f32⟩
  | _, _ => ⟨S4096x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== InBwd0.lean ====
abbrev S4096x5376 : Shape := ⟨2, ![4096, 5376]⟩
abbrev S5376x2048 : Shape := ⟨2, ![5376, 2048]⟩
abbrev S4096x2048 : Shape := ⟨2, ![4096, 2048]⟩
abbrev S1024x2688 : Shape := ⟨2, ![1024, 2688]⟩
abbrev S2688x1024 : Shape := ⟨2, ![2688, 1024]⟩
abbrev S1024x1024 : Shape := ⟨2, ![1024, 1024]⟩
abbrev S2048x2048 : Shape := ⟨2, ![2048, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x5376, .bf16⟩
  | .hbm, ⟨1, _⟩ => ⟨S5376x2048, .bf16⟩
  | .hbm, ⟨2, _⟩ => ⟨S4096x2048, .bf16⟩
  | .hbm, ⟨3, _⟩ => ⟨S2048x2048, .bf16⟩
  | .local _ .vmem, ⟨0, _⟩ => ⟨S1024x2688, .bf16⟩
  | .local _ .vmem, ⟨1, _⟩ => ⟨S1024x2688, .bf16⟩
  | .local _ .vmem, ⟨2, _⟩ => ⟨S2688x1024, .bf16⟩
  | .local _ .vmem, ⟨3, _⟩ => ⟨S2688x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBwd0RefIdeal.lean ====
abbrev S4096x5376 : Shape := ⟨2, ![4096, 5376]⟩
abbrev S5376x2048 : Shape := ⟨2, ![5376, 2048]⟩
abbrev S2048x5376 : Shape := ⟨2, ![2048, 5376]⟩
abbrev S_ : Shape := ⟨0, ![]⟩
abbrev S1x4096x2048 : Shape := ⟨3, ![1, 4096, 2048]⟩
abbrev S1x4096x5376 : Shape := ⟨3, ![1, 4096, 5376]⟩
abbrev S4096x2048 : Shape := ⟨2, ![4096, 2048]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x5376, .bf16⟩
  | .hbm, ⟨1, _⟩ => ⟨S5376x2048, .bf16⟩
  | .hbm, ⟨2, _⟩ => ⟨S5376x2048, .f32⟩
  | .hbm, ⟨3, _⟩ => ⟨S2048x5376, .f32⟩
  | .hbm, ⟨4, _⟩ => ⟨S_, .f32⟩
  | .hbm, ⟨5, _⟩ => ⟨S1x4096x2048, .f32⟩
  | .hbm, ⟨6, _⟩ => ⟨S1x4096x5376, .f32⟩
  | .hbm, ⟨7, _⟩ => ⟨S4096x5376, .f32⟩
  | .hbm, ⟨8, _⟩ => ⟨S1x4096x5376, .f32⟩
  | .hbm, ⟨9, _⟩ => ⟨S1x4096x2048, .f32⟩
  | .hbm, ⟨10, _⟩ => ⟨S4096x2048, .f32⟩
  | .hbm, ⟨11, _⟩ => ⟨S4096x2048, .bf16⟩
  | .hbm, ⟨12, _⟩ => ⟨S2048x2048, .bf16⟩
  | _, _ => ⟨S4096x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== InBwd1.lean ====
abbrev S4096x5376 : Shape := ⟨2, ![4096, 5376]⟩
abbrev S5376x2048 : Shape := ⟨2, ![5376, 2048]⟩
abbrev S4096x2048 : Shape := ⟨2, ![4096, 2048]⟩
abbrev S1024x2688 : Shape := ⟨2, ![1024, 2688]⟩
abbrev S2688x1024 : Shape := ⟨2, ![2688, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x5376, .bf16⟩
  | .hbm, ⟨1, _⟩ => ⟨S5376x2048, .bf16⟩
  | .hbm, ⟨2, _⟩ => ⟨S4096x2048, .bf16⟩
  | .hbm, ⟨3, _⟩ => ⟨S4096x2048, .bf16⟩
  | .local _ .vmem, ⟨0, _⟩ => ⟨S1024x2688, .bf16⟩
  | .local _ .vmem, ⟨1, _⟩ => ⟨S1024x2688, .bf16⟩
  | .local _ .vmem, ⟨2, _⟩ => ⟨S2688x1024, .bf16⟩
  | .local _ .vmem, ⟨3, _⟩ => ⟨S2688x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg1.toNat]

abbrev stage0_0 : Fin 2 → Memref sig .tc .vmem S1024x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBwd1RefIdeal.lean ====
abbrev S4096x5376 : Shape := ⟨2, ![4096, 5376]⟩
abbrev S5376x2048 : Shape := ⟨2, ![5376, 2048]⟩
abbrev S4096x2048 : Shape := ⟨2, ![4096, 2048]⟩
abbrev S2048x2048 : Shape := ⟨2, ![2048, 2048]⟩
abbrev S2048x5376 : Shape := ⟨2, ![2048, 5376]⟩
abbrev S_ : Shape := ⟨0, ![]⟩
abbrev S1x4096x2048 : Shape := ⟨3, ![1, 4096, 2048]⟩
abbrev S1x4096x5376 : Shape := ⟨3, ![1, 4096, 5376]⟩

abbrev nBuf : Space → Nat
  | .hbm => 16
  | .vmem => 0
  | .smem => 0
  | _ => 0

abbrev bufTy : (tb : Table) → Fin (tcTables nBuf tb) → BufTy
  | .hbm, ⟨0, _⟩ => ⟨S4096x5376, .bf16⟩
  | .hbm, ⟨1, _⟩ => ⟨S5376x2048, .bf16⟩
  | .hbm, ⟨2, _⟩ => ⟨S4096x2048, .bf16⟩
  | .hbm, ⟨3, _⟩ => ⟨S2048x2048, .bf16⟩
  | .hbm, ⟨4, _⟩ => ⟨S5376x2048, .f32⟩
  | .hbm, ⟨5, _⟩ => ⟨S2048x5376, .f32⟩
  | .hbm, ⟨6, _⟩ => ⟨S_, .f32⟩
  | .hbm, ⟨7, _⟩ => ⟨S1x4096x2048, .f32⟩
  | .hbm, ⟨8, _⟩ => ⟨S1x4096x5376, .f32⟩
  | .hbm, ⟨9, _⟩ => ⟨S4096x5376, .f32⟩
  | .hbm, ⟨10, _⟩ => ⟨S1x4096x5376, .f32⟩
  | .hbm, ⟨11, _⟩ => ⟨S1x4096x2048, .f32⟩
  | .hbm, ⟨12, _⟩ => ⟨S4096x2048, .f32⟩
  | .hbm, ⟨13, _⟩ => ⟨S4096x2048, .bf16⟩
  | .hbm, ⟨14, _⟩ => ⟨S2048x2048, .bf16⟩
  | .hbm, ⟨15, _⟩ => ⟨S4096x2048, .bf16⟩
  | _, _ => ⟨S4096x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== InFwd.lean ====
abbrev S4096x2048 : Shape := ⟨2, ![4096, 2048]⟩
abbrev S5376x2048 : Shape := ⟨2, ![5376, 2048]⟩
abbrev S4096x5376 : Shape := ⟨2, ![4096, 5376]⟩
abbrev S1024x2048 : Shape := ⟨2, ![1024, 2048]⟩
abbrev S768x2048 : Shape := ⟨2, ![768, 2048]⟩
abbrev S1024x768 : Shape := ⟨2, ![1024, 768]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S5376x2048, .bf16⟩
  | .hbm, ⟨2, _⟩ => ⟨S4096x5376, .f32⟩
  | .local _ .vmem, ⟨0, _⟩ => ⟨S1024x2048, .bf16⟩
  | .local _ .vmem, ⟨1, _⟩ => ⟨S1024x2048, .bf16⟩
  | .local _ .vmem, ⟨2, _⟩ => ⟨S768x2048, .bf16⟩
  | .local _ .vmem, ⟨3, _⟩ => ⟨S768x2048, .bf16⟩
  | .local _ .vmem, ⟨4, _⟩ => ⟨S1024x768, .f32⟩
  | .local _ .vmem, ⟨5, _⟩ => ⟨S1024x768, .f32⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdRefIdeal.lean ====
abbrev S4096x2048 : Shape := ⟨2, ![4096, 2048]⟩
abbrev S5376x2048 : Shape := ⟨2, ![5376, 2048]⟩
abbrev S1x4096x2048 : Shape := ⟨3, ![1, 4096, 2048]⟩
abbrev S2048x5376 : Shape := ⟨2, ![2048, 5376]⟩
abbrev S1x4096x5376 : Shape := ⟨3, ![1, 4096, 5376]⟩
abbrev S4096x5376 : Shape := ⟨2, ![4096, 5376]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5376x2048, .bf16⟩
  | .hbm, ⟨2, _⟩ => ⟨S4096x2048, .f32⟩
  | .hbm, ⟨3, _⟩ => ⟨S1x4096x2048, .f32⟩
  | .hbm, ⟨4, _⟩ => ⟨S5376x2048, .f32⟩
  | .hbm, ⟨5, _⟩ => ⟨S2048x5376, .f32⟩
  | .hbm, ⟨6, _⟩ => ⟨S1x4096x5376, .f32⟩
  | .hbm, ⟨7, _⟩ => ⟨S4096x5376, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== OutFwd.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutFwdRefIdeal.lean ====
abbrev S4096x2048 : Shape := ⟨2, ![4096, 2048]⟩
abbrev S2048x2048 : Shape := ⟨2, ![2048, 2048]⟩
abbrev S1x4096x2048 : Shape := ⟨3, ![1, 4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x4096x2048, .f32⟩
  | .hbm, ⟨4, _⟩ => ⟨S2048x2048, .f32⟩
  | .hbm, ⟨5, _⟩ => ⟨S1x4096x2048, .f32⟩
  | .hbm, ⟨6, _⟩ => ⟨S4096x2048, .f32⟩
  | .hbm, ⟨7, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== UpFwd.lean ====
abbrev S4096x2048 : Shape := ⟨2, ![4096, 2048]⟩
abbrev S4x2048x2048 : Shape := ⟨3, ![4, 2048, 2048]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S8x128 : Shape := ⟨2, ![8, 128]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwdRefIdeal.lean ====
abbrev S4096x2048 : Shape := ⟨2, ![4096, 2048]⟩
abbrev S4x2048x2048 : Shape := ⟨3, ![4, 2048, 2048]⟩
abbrev S1x4096x2048 : Shape := ⟨3, ![1, 4096, 2048]⟩
abbrev S2048x4x2048 : Shape := ⟨3, ![2048, 4, 2048]⟩
abbrev S2048x8192 : Shape := ⟨2, ![2048, 8192]⟩
abbrev S1x4096x8192 : Shape := ⟨3, ![1, 4096, 8192]⟩
abbrev S_ : Shape := ⟨0, ![]⟩
abbrev S4096x8192 : Shape := ⟨2, ![4096, 8192]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x2048, .f32⟩
  | .hbm, ⟨3, _⟩ => ⟨S1x4096x2048, .f32⟩
  | .hbm, ⟨4, _⟩ => ⟨S4x2048x2048, .f32⟩
  | .hbm, ⟨5, _⟩ => ⟨S2048x4x2048, .f32⟩
  | .hbm, ⟨6, _⟩ => ⟨S2048x8192, .f32⟩
  | .hbm, ⟨7, _⟩ => ⟨S1x4096x8192, .f32⟩
  | .hbm, ⟨8, _⟩ => ⟨S_, .f32⟩
  | .hbm, ⟨9, _⟩ => ⟨S1x4096x8192, .f32⟩
  | .hbm, ⟨10, _⟩ => ⟨S1x4096x8192, .f32⟩
  | .hbm, ⟨11, _⟩ => ⟨S4096x8192, .f32⟩
  | .hbm, ⟨12, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_cst : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== DownFwd.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFwdRefIdeal.lean ====
abbrev S4096x8192 : Shape := ⟨2, ![4096, 8192]⟩
abbrev S8192x2048 : Shape := ⟨2, ![8192, 2048]⟩
abbrev S1x4096x8192 : Shape := ⟨3, ![1, 4096, 8192]⟩
abbrev S1x4096x2048 : Shape := ⟨3, ![1, 4096, 2048]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x8192, .f32⟩
  | .hbm, ⟨3, _⟩ => ⟨S1x4096x8192, .f32⟩
  | .hbm, ⟨4, _⟩ => ⟨S8192x2048, .f32⟩
  | .hbm, ⟨5, _⟩ => ⟨S1x4096x8192, .f32⟩
  | .hbm, ⟨6, _⟩ => ⟨S1x4096x2048, .f32⟩
  | .hbm, ⟨7, _⟩ => ⟨S4096x2048, .f32⟩
  | .hbm, ⟨8, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== StepUp.lean ====
abbrev S1x2048x2048 : Shape := ⟨3, ![1, 2048, 2048]⟩
abbrev S1024x2048 : Shape := ⟨2, ![1024, 2048]⟩
abbrev S2 : Shape := ⟨1, ![2]⟩
abbrev S1x256x2048 : Shape := ⟨3, ![1, 256, 2048]⟩
abbrev S256x2048 : Shape := ⟨2, ![256, 2048]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S1x2048x2048, .f32⟩
  | .hbm, ⟨1, _⟩ => ⟨S1024x2048, .f32⟩
  | .hbm, ⟨2, _⟩ => ⟨S1024x2048, .f32⟩
  | .hbm, ⟨3, _⟩ => ⟨S1x2048x2048, .f32⟩
  | .hbm, ⟨4, _⟩ => ⟨S1x2048x2048, .f32⟩
  | .hbm, ⟨5, _⟩ => ⟨S1x2048x2048, .f32⟩
  | .hbm, ⟨6, _⟩ => ⟨S1x2048x2048, .f32⟩
  | .hbm, ⟨7, _⟩ => ⟨S1x2048x2048, .f32⟩
  | .hbm, ⟨8, _⟩ => ⟨S1x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .smem, ⟨0, _⟩ => ⟨S2, .i32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1 : Index := 1#32
  let v17 : BitVec 32 := pf.at 0 (Rect.unit (s := S2) ![1] S1.size inb_S2_S1_1) numel1_S1
  let v18 : BitVec 1 := Scalar.cmpi .eq v16 v17
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 v28 c0_i32_10
  let c0_i32_11 : BitVec 32 := 0#32
  let c0_i32_12 : BitVec 32 := 0#32
  ![v29.toNat, c0_i32_11.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1 : Index := 1#32
  let v17 : BitVec 32 := pf.at 0 (Rect.unit (s := S2) ![1] S1.size inb_S2_S1_1) numel1_S1
  let v18 : BitVec 1 := Scalar.cmpi .eq v16 v17
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 c0_i32_10 v28
  let c0_i32_11 : BitVec 32 := 0#32
  let c0_i32_12 : BitVec 32 := 0#32
  ![v29.toNat, c0_i32_11.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== StepUpRefIdeal.lean ====
abbrev S1x2048x2048 : Shape := ⟨3, ![1, 2048, 2048]⟩
abbrev S1024x2048 : Shape := ⟨2, ![1024, 2048]⟩
abbrev S2 : Shape := ⟨1, ![2]⟩
abbrev S1 : Shape := ⟨1, ![1]⟩
abbrev S_ : Shape := ⟨0, ![]⟩
abbrev S2048x2048 : Shape := ⟨2, ![2048, 2048]⟩

abbrev nBuf : Space → Nat
  | .hbm => 51
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1024x2048, .f32⟩
  | .hbm, ⟨2, _⟩ => ⟨S1024x2048, .f32⟩
  | .hbm, ⟨3, _⟩ => ⟨S1x2048x2048, .f32⟩
  | .hbm, ⟨4, _⟩ => ⟨S1x2048x2048, .f32⟩
  | .hbm, ⟨5, _⟩ => ⟨S2, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1024x2048, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S1024x2048, .f32⟩
  | .hbm, ⟨16, _⟩ => ⟨S2048x2048, .f32⟩
  | .hbm, ⟨17, _⟩ => ⟨S1x2048x2048, .f32⟩
  | .hbm, ⟨18, _⟩ => ⟨S_, .f32⟩
  | .hbm, ⟨19, _⟩ => ⟨S1x2048x2048, .f32⟩
  | .hbm, ⟨20, _⟩ => ⟨S1x2048x2048, .f32⟩
  | .hbm, ⟨21, _⟩ => ⟨S_, .f32⟩
  | .hbm, ⟨22, _⟩ => ⟨S1x2048x2048, .f32⟩
  | .hbm, ⟨23, _⟩ => ⟨S1x2048x2048, .f32⟩
  | .hbm, ⟨24, _⟩ => ⟨S1x2048x2048, .f32⟩
  | .hbm, ⟨25, _⟩ => ⟨S_, .f32⟩
  | .hbm, ⟨26, _⟩ => ⟨S1x2048x2048, .f32⟩
  | .hbm, ⟨27, _⟩ => ⟨S1x2048x2048, .f32⟩
  | .hbm, ⟨28, _⟩ => ⟨S1x2048x2048, .f32⟩
  | .hbm, ⟨29, _⟩ => ⟨S_, .f32⟩
  | .hbm, ⟨30, _⟩ => ⟨S1x2048x2048, .f32⟩
  | .hbm, ⟨31, _⟩ => ⟨S1x2048x2048, .f32⟩
  | .hbm, ⟨32, _⟩ => ⟨S1x2048x2048, .f32⟩
  | .hbm, ⟨33, _⟩ => ⟨S_, .f32⟩
  | .hbm, ⟨34, _⟩ => ⟨S1x2048x2048, .f32⟩
  | .hbm, ⟨35, _⟩ => ⟨S1x2048x2048, .f32⟩
  | .hbm, ⟨36, _⟩ => ⟨S_, .f32⟩
  | .hbm, ⟨37, _⟩ => ⟨S1x2048x2048, .f32⟩
  | .hbm, ⟨38, _⟩ => ⟨S1x2048x2048, .f32⟩
  | .hbm, ⟨39, _⟩ => ⟨S1x2048x2048, .f32⟩
  | .hbm, ⟨40, _⟩ => ⟨S_, .f32⟩
  | .hbm, ⟨41, _⟩ => ⟨S1x2048x2048, .f32⟩
  | .hbm, ⟨42, _⟩ => ⟨S1x2048x2048, .f32⟩
  | .hbm, ⟨43, _⟩ => ⟨S1x2048x2048, .f32⟩
  | .hbm, ⟨44, _⟩ => ⟨S_, .f32⟩
  | .hbm, ⟨45, _⟩ => ⟨S1x2048x2048, .f32⟩
  | .hbm, ⟨46, _⟩ => ⟨S1x2048x2048, .f32⟩
  | .hbm, ⟨47, _⟩ => ⟨S1x2048x2048, .f32⟩
  | .hbm, ⟨48, _⟩ => ⟨S_, .f32⟩
  | .hbm, ⟨49, _⟩ => ⟨S1x2048x2048, .f32⟩
  | .hbm, ⟨50, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== StepIn.lean ====
abbrev S1x1344x2048 : Shape := ⟨3, ![1, 1344, 2048]⟩
abbrev S1344x1024 : Shape := ⟨2, ![1344, 1024]⟩
abbrev S2 : Shape := ⟨1, ![2]⟩
abbrev S1x336x1024 : Shape := ⟨3, ![1, 336, 1024]⟩
abbrev S336x1024 : Shape := ⟨2, ![336, 1024]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S1x1344x2048, .f32⟩
  | .hbm, ⟨1, _⟩ => ⟨S1344x1024, .f32⟩
  | .hbm, ⟨2, _⟩ => ⟨S1344x1024, .f32⟩
  | .hbm, ⟨3, _⟩ => ⟨S1x1344x2048, .f32⟩
  | .hbm, ⟨4, _⟩ => ⟨S1x1344x2048, .f32⟩
  | .hbm, ⟨5, _⟩ => ⟨S1x1344x2048, .f32⟩
  | .hbm, ⟨6, _⟩ => ⟨S1x1344x2048, .f32⟩
  | .hbm, ⟨7, _⟩ => ⟨S1x1344x2048, .f32⟩
  | .hbm, ⟨8, _⟩ => ⟨S1x1344x2048, .f32⟩
  | .local _ .vmem, ⟨0, _⟩ => ⟨S1x336x1024, .f32⟩
  | .local _ .vmem, ⟨1, _⟩ => ⟨S1x336x1024, .f32⟩
  | .local _ .vmem, ⟨2, _⟩ => ⟨S336x1024, .f32⟩
  | .local _ .vmem, ⟨3, _⟩ => ⟨S336x1024, .f32⟩
  | .local _ .vmem, ⟨4, _⟩ => ⟨S336x1024, .f32⟩
  | .local _ .vmem, ⟨5, _⟩ => ⟨S336x1024, .f32⟩
  | .local _ .vmem, ⟨6, _⟩ => ⟨S1x336x1024, .f32⟩
  | .local _ .vmem, ⟨7, _⟩ => ⟨S1x336x1024, .f32⟩
  | .local _ .vmem, ⟨8, _⟩ => ⟨S1x336x1024, .f32⟩
  | .local _ .vmem, ⟨9, _⟩ => ⟨S1x336x1024, .f32⟩
  | .local _ .vmem, ⟨10, _⟩ => ⟨S1x336x1024, .f32⟩
  | .local _ .vmem, ⟨11, _⟩ => ⟨S1x336x1024, .f32⟩
  | .local _ .vmem, ⟨12, _⟩ => ⟨S1x336x1024, .f32⟩
  | .local _ .vmem, ⟨13, _⟩ => ⟨S1x336x1024, .f32⟩
  | .local _ .vmem, ⟨14, _⟩ => ⟨S1x336x1024, .f32⟩
  | .local _ .vmem, ⟨15, _⟩ => ⟨S1x336x1024, .f32⟩
  | .local _ .vmem, ⟨16, _⟩ => ⟨S1x336x1024, .f32⟩
  | .local _ .vmem, ⟨17, _⟩ => ⟨S1x336x1024, .f32⟩
  | .local _ .smem, ⟨0, _⟩ => ⟨S2, .i32⟩
  | _, _ => ⟨S1x1344x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x336x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S336x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S336x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x336x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x336x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x336x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x336x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x336x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x336x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepInRefIdeal.lean ====
abbrev S1x1344x2048 : Shape := ⟨3, ![1, 1344, 2048]⟩
abbrev S1344x1024 : Shape := ⟨2, ![1344, 1024]⟩
abbrev S2 : Shape := ⟨1, ![2]⟩
abbrev S1 : Shape := ⟨1, ![1]⟩
abbrev S_ : Shape := ⟨0, ![]⟩
abbrev S1344x2048 : Shape := ⟨2, ![1344, 2048]⟩

abbrev nBuf : Space → Nat
  | .hbm => 51
  | .vmem => 0
  | .smem => 0
  | _ => 0

abbrev bufTy : (tb : Table) → Fin (tcTables nBuf tb) → BufTy
  | .hbm, ⟨0, _⟩ => ⟨S1x1344x2048, .f32⟩
  | .hbm, ⟨1, _⟩ => ⟨S1344x1024, .f32⟩
  | .hbm, ⟨2, _⟩ => ⟨S1344x1024, .f32⟩
  | .hbm, ⟨3, _⟩ => ⟨S1x1344x2048, .f32⟩
  | .hbm, ⟨4, _⟩ => ⟨S1x1344x2048, .f32⟩
  | .hbm, ⟨5, _⟩ => ⟨S2, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1344x1024, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S1344x1024, .f32⟩
  | .hbm, ⟨16, _⟩ => ⟨S1344x2048, .f32⟩
  | .hbm, ⟨17, _⟩ => ⟨S1x1344x2048, .f32⟩
  | .hbm, ⟨18, _⟩ => ⟨S_, .f32⟩
  | .hbm, ⟨19, _⟩ => ⟨S1x1344x2048, .f32⟩
  | .hbm, ⟨20, _⟩ => ⟨S1x1344x2048, .f32⟩
  | .hbm, ⟨21, _⟩ => ⟨S_, .f32⟩
  | .hbm, ⟨22, _⟩ => ⟨S1x1344x2048, .f32⟩
  | .hbm, ⟨23, _⟩ => ⟨S1x1344x2048, .f32⟩
  | .hbm, ⟨24, _⟩ => ⟨S1x1344x2048, .f32⟩
  | .hbm, ⟨25, _⟩ => ⟨S_, .f32⟩
  | .hbm, ⟨26, _⟩ => ⟨S1x1344x2048, .f32⟩
  | .hbm, ⟨27, _⟩ => ⟨S1x1344x2048, .f32⟩
  | .hbm, ⟨28, _⟩ => ⟨S1x1344x2048, .f32⟩
  | .hbm, ⟨29, _⟩ => ⟨S_, .f32⟩
  | .hbm, ⟨30, _⟩ => ⟨S1x1344x2048, .f32⟩
  | .hbm, ⟨31, _⟩ => ⟨S1x1344x2048, .f32⟩
  | .hbm, ⟨32, _⟩ => ⟨S1x1344x2048, .f32⟩
  | .hbm, ⟨33, _⟩ => ⟨S_, .f32⟩
  | .hbm, ⟨34, _⟩ => ⟨S1x1344x2048, .f32⟩
  | .hbm, ⟨35, _⟩ => ⟨S1x1344x2048, .f32⟩
  | .hbm, ⟨36, _⟩ => ⟨S_, .f32⟩
  | .hbm, ⟨37, _⟩ => ⟨S1x1344x2048, .f32⟩
  | .hbm, ⟨38, _⟩ => ⟨S1x1344x2048, .f32⟩
  | .hbm, ⟨39, _⟩ => ⟨S1x1344x2048, .f32⟩
  | .hbm, ⟨40, _⟩ => ⟨S_, .f32⟩
  | .hbm, ⟨41, _⟩ => ⟨S1x1344x2048, .f32⟩
  | .hbm, ⟨42, _⟩ => ⟨S1x1344x2048, .f32⟩
  | .hbm, ⟨43, _⟩ => ⟨S1x1344x2048, .f32⟩
  | .hbm, ⟨44, _⟩ => ⟨S_, .f32⟩
  | .hbm, ⟨45, _⟩ => ⟨S1x1344x2048, .f32⟩
  | .hbm, ⟨46, _⟩ => ⟨S1x1344x2048, .f32⟩
  | .hbm, ⟨47, _⟩ => ⟨S1x1344x2048, .f32⟩
  | .hbm, ⟨48, _⟩ => ⟨S_, .f32⟩
  | .hbm, ⟨49, _⟩ => ⟨S1x1344x2048, .f32⟩
  | .hbm, ⟨50, _⟩ => ⟨S1x1344x2048, .f32⟩
  | _, _ => ⟨S1x1344x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== StepOut.lean ====
abbrev S1x512x2048 : Shape := ⟨3, ![1, 512, 2048]⟩
abbrev S256x2048 : Shape := ⟨2, ![256, 2048]⟩
abbrev S2 : Shape := ⟨1, ![2]⟩
abbrev S1x256x2048 : Shape := ⟨3, ![1, 256, 2048]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S1x512x2048, .f32⟩
  | .hbm, ⟨1, _⟩ => ⟨S256x2048, .f32⟩
  | .hbm, ⟨2, _⟩ => ⟨S256x2048, .f32⟩
  | .hbm, ⟨3, _⟩ => ⟨S1x512x2048, .f32⟩
  | .hbm, ⟨4, _⟩ => ⟨S1x512x2048, .f32⟩
  | .hbm, ⟨5, _⟩ => ⟨S1x512x2048, .f32⟩
  | .hbm, ⟨6, _⟩ => ⟨S1x512x2048, .f32⟩
  | .hbm, ⟨7, _⟩ => ⟨S1x512x2048, .f32⟩
  | .hbm, ⟨8, _⟩ => ⟨S1x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .f32⟩
  | .local _ .vmem, ⟨3, _⟩ => ⟨S256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .smem, ⟨0, _⟩ => ⟨S2, .i32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== StepOutRefIdeal.lean ====
abbrev S1x512x2048 : Shape := ⟨3, ![1, 512, 2048]⟩
abbrev S256x2048 : Shape := ⟨2, ![256, 2048]⟩
abbrev S2 : Shape := ⟨1, ![2]⟩
abbrev S1 : Shape := ⟨1, ![1]⟩
abbrev S_ : Shape := ⟨0, ![]⟩
abbrev S512x2048 : Shape := ⟨2, ![512, 2048]⟩

abbrev nBuf : Space → Nat
  | .hbm => 51
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S256x2048, .f32⟩
  | .hbm, ⟨2, _⟩ => ⟨S256x2048, .f32⟩
  | .hbm, ⟨3, _⟩ => ⟨S1x512x2048, .f32⟩
  | .hbm, ⟨4, _⟩ => ⟨S1x512x2048, .f32⟩
  | .hbm, ⟨5, _⟩ => ⟨S2, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S256x2048, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S256x2048, .f32⟩
  | .hbm, ⟨16, _⟩ => ⟨S512x2048, .f32⟩
  | .hbm, ⟨17, _⟩ => ⟨S1x512x2048, .f32⟩
  | .hbm, ⟨18, _⟩ => ⟨S_, .f32⟩
  | .hbm, ⟨19, _⟩ => ⟨S1x512x2048, .f32⟩
  | .hbm, ⟨20, _⟩ => ⟨S1x512x2048, .f32⟩
  | .hbm, ⟨21, _⟩ => ⟨S_, .f32⟩
  | .hbm, ⟨22, _⟩ => ⟨S1x512x2048, .f32⟩
  | .hbm, ⟨23, _⟩ => ⟨S1x512x2048, .f32⟩
  | .hbm, ⟨24, _⟩ => ⟨S1x512x2048, .f32⟩
  | .hbm, ⟨25, _⟩ => ⟨S_, .f32⟩
  | .hbm, ⟨26, _⟩ => ⟨S1x512x2048, .f32⟩
  | .hbm, ⟨27, _⟩ => ⟨S1x512x2048, .f32⟩
  | .hbm, ⟨28, _⟩ => ⟨S1x512x2048, .f32⟩
  | .hbm, ⟨29, _⟩ => ⟨S_, .f32⟩
  | .hbm, ⟨30, _⟩ => ⟨S1x512x2048, .f32⟩
  | .hbm, ⟨31, _⟩ => ⟨S1x512x2048, .f32⟩
  | .hbm, ⟨32, _⟩ => ⟨S1x512x2048, .f32⟩
  | .hbm, ⟨33, _⟩ => ⟨S_, .f32⟩
  | .hbm, ⟨34, _⟩ => ⟨S1x512x2048, .f32⟩
  | .hbm, ⟨35, _⟩ => ⟨S1x512x2048, .f32⟩
  | .hbm, ⟨36, _⟩ => ⟨S_, .f32⟩
  | .hbm, ⟨37, _⟩ => ⟨S1x512x2048, .f32⟩
  | .hbm, ⟨38, _⟩ => ⟨S1x512x2048, .f32⟩
  | .hbm, ⟨39, _⟩ => ⟨S1x512x2048, .f32⟩
  | .hbm, ⟨40, _⟩ => ⟨S_, .f32⟩
  | .hbm, ⟨41, _⟩ => ⟨S1x512x2048, .f32⟩
  | .hbm, ⟨42, _⟩ => ⟨S1x512x2048, .f32⟩
  | .hbm, ⟨43, _⟩ => ⟨S1x512x2048, .f32⟩
  | .hbm, ⟨44, _⟩ => ⟨S_, .f32⟩
  | .hbm, ⟨45, _⟩ => ⟨S1x512x2048, .f32⟩
  | .hbm, ⟨46, _⟩ => ⟨S1x512x2048, .f32⟩
  | .hbm, ⟨47, _⟩ => ⟨S1x512x2048, .f32⟩
  | .hbm, ⟨48, _⟩ => ⟨S_, .f32⟩
  | .hbm, ⟨49, _⟩ => ⟨S1x512x2048, .f32⟩
  | .hbm, ⟨50, _⟩ => ⟨S1x512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== Proof.Points.lean ====
/- The grid of the attention's backward call: 33 points, of which the first 32 treat one block of 128 queries
   each and the last one only empties the scratch that carries the second half of a block's key and value
   gradients. Which of the body's three branches a point takes, which windows a point leaves alone, and the
   staging buffers a point works on. -/
module

public import proofs.«01_k».proof.Proof.Gen.KernelIdeal.Frame
public import proofs.«01_k».proof.Proof.Gen.KernelIdeal.Skeleton
public import Idealize.ShloMosaic.Lib.Exec
public import Idealize.ShloMosaic.Lib.Pipeline.TableIdle

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## The three branches -/

/-- The branch that clears the accumulators. -/
abbrev Opens (i : grid0.Coords) : Prop := k0_cond1 i = 1#1
/-- The branch that treats a block of queries. -/
abbrev Treats (i : grid0.Coords) : Prop := k0_cond2 i = 1#1
/-- The branch that empties the carry. -/
abbrev Closes (i : grid0.Coords) : Prop := k0_cond3 i = 1#1

theorem points (t : Fin cfg0.N) : t.val < 33 := Nat.lt_of_lt_of_eq t.isLt N_0

theorem opens_iff : ∀ t : Fin cfg0.N, Opens (grid0.coords t) ↔ t.val = 0 :=
  (by decide +kernel : ∀ t : Fin grid0.N, Opens (grid0.coords t) ↔ t.val = 0)
theorem treats_iff : ∀ t : Fin cfg0.N, Treats (grid0.coords t) ↔ t.val < 32 :=
  (by decide +kernel : ∀ t : Fin grid0.N, Treats (grid0.coords t) ↔ t.val < 32)
theorem closes_iff : ∀ t : Fin cfg0.N, Closes (grid0.coords t) ↔ t.val = 32 :=
  (by decide +kernel : ∀ t : Fin grid0.N, Closes (grid0.coords t) ↔ t.val = 32)

/-- The grid coordinate of a point is its number. -/
theorem coords_val (t : Fin cfg0.N) : (grid0.coords t 0).val = t.val := by
  have h : (grid0.coords t 0).val = t.val / 1 % 33 := Pipeline.Grid.coords_val t 0 (by decide) rfl
  have := points t
  omega

/-! ## The windows a point leaves alone

The query gradients' window and the sinks' are stored into at the 32 points that treat a block and left as
they were at the last one; the key and value gradients' window is stored into at every point. -/

theorem live6 : ∀ t : Fin cfg0.N, t.val < 32 → cfg0.idle 6 (grid0.coords t) = false := by decide +kernel
theorem live7 : ∀ t : Fin cfg0.N, cfg0.idle 7 (grid0.coords t) = false := by decide +kernel
theorem live8 : ∀ t : Fin cfg0.N, t.val < 32 → cfg0.idle 8 (grid0.coords t) = false := by decide +kernel
theorem idle6 : ∀ t : Fin cfg0.N, t.val = 32 → cfg0.idle 6 (grid0.coords t) = true := by decide +kernel
theorem idle8 : ∀ t : Fin cfg0.N, t.val = 32 → cfg0.idle 8 (grid0.coords t) = true := by decide +kernel

/-- The query gradients' block is written back after every point but the last but one. -/
theorem flush6 : ∀ t : Fin cfg0.N, (cfg0.win 6).flush t = true ↔ t.val ≠ 31 :=
  (by decide +kernel : ∀ t : Fin grid0.N, win0_6.flush t = true ↔ t.val ≠ 31)
/-- The key and value gradients' block is written back after every point but the first. -/
theorem flush7 : ∀ t : Fin cfg0.N, (cfg0.win 7).flush t = true ↔ t.val ≠ 0 :=
  (by decide +kernel : ∀ t : Fin grid0.N, win0_7.flush t = true ↔ t.val ≠ 0)
theorem flush8 (t : Fin cfg0.N) : (cfg0.win 8).flush t = true ↔ t.val = 32 := by
  rw [flush0_8 t]; have := points t; omega

/-! ## The buffers of a point -/

abbrev mSink (t : Fin cfg0.N) : Memref sig .tc .smem S1x16 .f32 := win0_0.stage (cfg0.slots t 0)
abbrev mQ (t : Fin cfg0.N) : Memref sig .tc .vmem S128x1024 .f32 := win0_1.stage (cfg0.slots t 1)
abbrev mKv (t : Fin cfg0.N) : Memref sig .tc .vmem S128x256 .f32 := win0_2.stage (cfg0.slots t 2)
abbrev mKvPrev (t : Fin cfg0.N) : Memref sig .tc .vmem S128x256 .f32 := win0_3.stage (cfg0.slots t 3)
abbrev mDo (t : Fin cfg0.N) : Memref sig .tc .vmem S128x1024 .bf16 := win0_4.stage (cfg0.slots t 4)
abbrev mLse (t : Fin cfg0.N) : Memref sig .tc .vmem S1x16x128 .f32 := win0_5.stage (cfg0.slots t 5)
abbrev mDq (t : Fin cfg0.N) : Memref sig .tc .vmem S128x1024 .bf16 := win0_6.stage (cfg0.slots t 6)
abbrev mDkv (t : Fin cfg0.N) : Memref sig .tc .vmem S128x256 .bf16 := win0_7.stage (cfg0.slots t 7)
abbrev mDsink (t : Fin cfg0.N) : Memref sig .tc .vmem S16x128 .f32 := win0_8.stage (cfg0.slots t 8)
/-- The scratch that carries key and value gradients from one block to the next. -/
abbrev mCarry : Memref sig .tc .vmem S128x256 .f32 := Memref.whole cc0_scratch0

/-- What a point's body may use beside the windows: the scratch, at some contents, and the generator's
    register. -/
theorem scratch_eq (c : Dev nD) : (Pipeline.ΦA spec0 c : sProp 𝕄)
    = iprop(iprop((∃ d, owns (c : Thread nD τ) mCarry fullShare d)) ∗ (∃ r, prngReg c r)) := by
  unfold Pipeline.ΦA; rw [scopedRest0_eq]; simp only [mCarry, owns_whole]; try rfl

end Cert.KernelIdeal.Swa

end
-- ==== Proof.RunMiddle.lean ====
/- The body at a point that treats a block of queries and is not the first. -/
module

public import proofs.«01_k».proof.Proof.Points

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (arg1 : Memref sig .tc .smem S1x16 .f32) (harg1 : arg1.IsWhole)
  (arg2 : Memref sig .tc .vmem S128x1024 .f32) (harg2 : arg2.IsWhole)
  (arg3 : Memref sig .tc .vmem S128x256 .f32) (harg3 : arg3.IsWhole)
  (arg4 : Memref sig .tc .vmem S128x256 .f32) (harg4 : arg4.IsWhole)
  (arg5 : Memref sig .tc .vmem S128x1024 .bf16) (harg5 : arg5.IsWhole)
  (arg6 : Memref sig .tc .vmem S1x16x128 .f32) (harg6 : arg6.IsWhole)
  (arg7 : Memref sig .tc .vmem S128x1024 .bf16) (harg7 : arg7.IsWhole)
  (arg8 : Memref sig .tc .vmem S128x256 .bf16) (harg8 : arg8.IsWhole)
  (arg9 : Memref sig .tc .vmem S16x128 .f32) (harg9 : arg9.IsWhole)
  (arg10 : Memref sig .tc .vmem S128x256 .f32) (harg10 : arg10.IsWhole)

/-- The six operands a point only reads, at the contents it reads there. -/
def operands (x0 : Vec F S1x16 .f32) (x1 : Vec F S128x1024 .f32) (x2 x3 : Vec F S128x256 .f32)
    (x4 : Vec F S128x1024 .bf16) (x5 : Vec F S1x16x128 .f32) : sProp 𝕄 :=
  iprop(owns (c : Thread nD τ) arg1 fullShare x0 ∗ owns (c : Thread nD τ) arg2 fullShare x1
    ∗ owns (c : Thread nD τ) arg3 fullShare x2 ∗ owns (c : Thread nD τ) arg4 fullShare x3
    ∗ owns (c : Thread nD τ) arg5 fullShare x4 ∗ owns (c : Thread nD τ) arg6 fullShare x5)

set_option maxHeartbeats 1000000 in
/-- The body at a point that treats a block, over the accumulators the point before left: the pieces it leaves in
    each output and in the carry, found by running it. -/
noncomputable def middleRun (h1 : ¬Opens i) (h2 : Treats i) (h3 : ¬Closes i)
    (x0 : Vec F S1x16 .f32) (x1 : Vec F S128x1024 .f32) (x2 x3 : Vec F S128x256 .f32)
    (x4 : Vec F S128x1024 .bf16) (x5 : Vec F S1x16x128 .f32)
    (xo8 : Vec F S16x128 .f32) (xs0 : Vec F S128x256 .f32) :
    Σ' (L6 : List (View.Piece (Elt F) S128x1024 .bf16)), Σ' (L7 : List (View.Piece (Elt F) S128x256 .bf16)),
    Σ' (L8 : List (View.Piece (Elt F) S16x128 .f32)), { LS : List (View.Piece (Elt F) S128x256 .f32) //
      ∀ (E : Set ℕ) (K : PUnit → sProp 𝕄),
        iprop(operands c arg1 arg2 arg3 arg4 arg5 arg6 x0 x1 x2 x3 x4 x5
            ∗ (∃ d, owns (c : Thread nD τ) arg7 fullShare d) ∗ (∃ d, owns (c : Thread nD τ) arg8 fullShare d)
            ∗ owns (c : Thread nD τ) arg9 fullShare xo8 ∗ owns (c : Thread nD τ) arg10 fullShare xs0
            ∗ (iprop(operands c arg1 arg2 arg3 arg4 arg5 arg6 x0 x1 x2 x3 x4 x5
              ∗ (∃ f, arg7.view.loc (c : Thread nD τ) ↦[arg7.view.set]{fullShare} arg7.view.writes (Elt F) f L6)
              ∗ (∃ f, arg8.view.loc (c : Thread nD τ) ↦[arg8.view.set]{fullShare} arg8.view.writes (Elt F) f L7)
              ∗ (∃ f, arg9.view.loc (c : Thread nD τ) ↦[arg9.view.set]{fullShare} arg9.view.writes (Elt F) f L8)
              ∗ (∃ f, arg10.view.loc (c : Thread nD τ) ↦[arg10.view.set]{fullShare} arg10.view.writes (Elt F) f LS)) -∗ K ⟨⟩))
          ⊢ wp frame (wpE (defs₀ (F := F)) Variants.none c none) E (cc0_swa_bwd i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_swa_bwd_eq_skeleton]; unfold cc0_swa_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold operands owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, ⟨%f8, %hf8, H8⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg9.eq_unread hf8; obtain rfl := harg10.eq_unread hfs0
    sl_exec (disch := first | sl_exact h1 | sl_exact h2 | sl_exact h3)
    sl_step
    iapply Hk
    isplitl [H0 H1 H2 H3 H4 H5]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      iexists _; isplitr; · ipureintro; exact harg6.read_unread _
      iexact H5
    isplitl [H6]; · iexists _; iexact H6
    isplitl [H7]; · iexists _; iexact H7
    isplitl [H8]; · iexists _; iexact H8
    iexists _; iexact HS0

end Cert.KernelIdeal.Swa

end
-- ==== Proof.RunEnds.lean ====
/- The body at the first point and at the last one. -/
module

public import proofs.«01_k».proof.Proof.RunMiddle

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (arg1 : Memref sig .tc .smem S1x16 .f32) (harg1 : arg1.IsWhole)
  (arg2 : Memref sig .tc .vmem S128x1024 .f32) (harg2 : arg2.IsWhole)
  (arg3 : Memref sig .tc .vmem S128x256 .f32) (harg3 : arg3.IsWhole)
  (arg4 : Memref sig .tc .vmem S128x256 .f32) (harg4 : arg4.IsWhole)
  (arg5 : Memref sig .tc .vmem S128x1024 .bf16) (harg5 : arg5.IsWhole)
  (arg6 : Memref sig .tc .vmem S1x16x128 .f32) (harg6 : arg6.IsWhole)
  (arg7 : Memref sig .tc .vmem S128x1024 .bf16) (harg7 : arg7.IsWhole)
  (arg8 : Memref sig .tc .vmem S128x256 .bf16) (harg8 : arg8.IsWhole)
  (arg9 : Memref sig .tc .vmem S16x128 .f32) (harg9 : arg9.IsWhole)
  (arg10 : Memref sig .tc .vmem S128x256 .f32) (harg10 : arg10.IsWhole)

set_option maxHeartbeats 1000000 in
/-- The body at the first point, which clears the accumulators before it treats its block. -/
noncomputable def openingRun (h1 : Opens i) (h2 : Treats i) (h3 : ¬Closes i)
    (x0 : Vec F S1x16 .f32) (x1 : Vec F S128x1024 .f32) (x2 x3 : Vec F S128x256 .f32)
    (x4 : Vec F S128x1024 .bf16) (x5 : Vec F S1x16x128 .f32) :
    Σ' (L6 : List (View.Piece (Elt F) S128x1024 .bf16)), Σ' (L7 : List (View.Piece (Elt F) S128x256 .bf16)),
    Σ' (L8 : List (View.Piece (Elt F) S16x128 .f32)), { LS : List (View.Piece (Elt F) S128x256 .f32) //
      ∀ (E : Set ℕ) (K : PUnit → sProp 𝕄),
        iprop(operands c arg1 arg2 arg3 arg4 arg5 arg6 x0 x1 x2 x3 x4 x5
            ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (iprop(operands c arg1 arg2 arg3 arg4 arg5 arg6 x0 x1 x2 x3 x4 x5
              ∗ (∃ f, arg7.view.loc (c : Thread nD τ) ↦[arg7.view.set]{fullShare} arg7.view.writes (Elt F) f L6)
              ∗ (∃ f, arg8.view.loc (c : Thread nD τ) ↦[arg8.view.set]{fullShare} arg8.view.writes (Elt F) f L7)
              ∗ (∃ f, arg9.view.loc (c : Thread nD τ) ↦[arg9.view.set]{fullShare} arg9.view.writes (Elt F) f L8)
              ∗ (∃ f, arg10.view.loc (c : Thread nD τ) ↦[arg10.view.set]{fullShare} arg10.view.writes (Elt F) f LS)) -∗ K ⟨⟩))
          ⊢ wp frame (wpE (defs₀ (F := F)) Variants.none c none) E (cc0_swa_bwd i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_swa_bwd_eq_skeleton]; unfold cc0_swa_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold operands owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, ⟨%d8, %f8, -, H8⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | sl_exact h1 | sl_exact h2 | sl_exact h3)
    sl_step
    iapply Hk
    isplitl [H0 H1 H2 H3 H4 H5]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      iexists _; isplitr; · ipureintro; exact harg6.read_unread _
      iexact H5
    isplitl [H6]; · iexists _; iexact H6
    isplitl [H7]; · iexists _; iexact H7
    isplitl [H8]; · iexists _; iexact H8
    iexists _; iexact HS0

set_option maxHeartbeats 1000000 in
/-- The last point: the carry goes into the key and value gradients' block, and everything else stays as it
    was. -/
noncomputable def closingRun (h1 : ¬Opens i) (h2 : ¬Treats i) (h3 : Closes i)
    (x0 : Vec F S1x16 .f32) (x1 : Vec F S128x1024 .f32) (x2 x3 : Vec F S128x256 .f32)
    (x4 : Vec F S128x1024 .bf16) (x5 : Vec F S1x16x128 .f32) (xo6 : Vec F S128x1024 .bf16)
    (xo8 : Vec F S16x128 .f32) (xs0 : Vec F S128x256 .f32) :
    { L7 : List (View.Piece (Elt F) S128x256 .bf16) //
      ∀ (E : Set ℕ) (K : PUnit → sProp 𝕄),
        iprop(operands c arg1 arg2 arg3 arg4 arg5 arg6 x0 x1 x2 x3 x4 x5
            ∗ owns (c : Thread nD τ) arg7 fullShare xo6 ∗ (∃ d, owns (c : Thread nD τ) arg8 fullShare d)
            ∗ owns (c : Thread nD τ) arg9 fullShare xo8 ∗ owns (c : Thread nD τ) arg10 fullShare xs0
            ∗ (iprop(operands c arg1 arg2 arg3 arg4 arg5 arg6 x0 x1 x2 x3 x4 x5
              ∗ owns (c : Thread nD τ) arg7 fullShare xo6
              ∗ (∃ f, arg8.view.loc (c : Thread nD τ) ↦[arg8.view.set]{fullShare} arg8.view.writes (Elt F) f L7)
              ∗ owns (c : Thread nD τ) arg9 fullShare xo8 ∗ owns (c : Thread nD τ) arg10 fullShare xs0) -∗ K ⟨⟩))
          ⊢ wp frame (wpE (defs₀ (F := F)) Variants.none c none) E (cc0_swa_bwd i arg1 harg1 arg2 harg2 arg3 harg3 arg4 harg4 arg5 harg5 arg6 harg6 arg7 harg7 arg8 harg8 arg9 harg9 arg10 harg10) K } := by
  refine ⟨?_, fun E K => ?run⟩
  case run =>
    simp only [cc0_swa_bwd_eq_skeleton]; unfold cc0_swa_bwd_skel
    unfold operands owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, ⟨%d7, %f7, -, H7⟩, ⟨%f8, %hf8, H8⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg9.eq_unread hf8; obtain rfl := harg10.eq_unread hfs0
    sl_exec (disch := first | sl_exact h1 | sl_exact h2 | sl_exact h3)
    sl_step
    iapply Hk
    isplitl [H0 H1 H2 H3 H4 H5]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    iexists _; isplitr; · ipureintro; exact harg10.read_unread _
    iexact HS0

end Cert.KernelIdeal.Swa

end
-- ==== Proof.Contents.lean ====
/- What every point of the attention's backward call leaves in its outputs and in the carry, and what each staging
   buffer holds when a point begins. -/
module

public import proofs.«01_k».proof.Proof.RunEnds

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! ## The body at a point, on the point's own buffers -/

/-- The body at the first point. -/
abbrev openingAt (c : Dev nD) (t : Fin cfg0.N) (h : t.val = 0) :=
  openingRun c (grid0.coords t) (mSink t) (hstage0_0 ((cfg0.slots t 0).cast nbuf0_0)) (mQ t) (hstage0_1 ((cfg0.slots t 1).cast nbuf0_1)) (mKv t) (hstage0_2 ((cfg0.slots t 2).cast nbuf0_2)) (mKvPrev t) (hstage0_3 ((cfg0.slots t 3).cast nbuf0_3)) (mDo t) (hstage0_4 ((cfg0.slots t 4).cast nbuf0_4)) (mLse t) (hstage0_5 ((cfg0.slots t 5).cast nbuf0_5)) (mDq t) (hstage0_6 ((cfg0.slots t 6).cast nbuf0_6)) (mDkv t) (hstage0_7 ((cfg0.slots t 7).cast nbuf0_7)) (mDsink t) (hstage0_8 ((cfg0.slots t 8).cast nbuf0_8)) mCarry (Memref.isWhole_whole _)
    ((opens_iff t).mpr h) ((treats_iff t).mpr (by omega)) (mt (closes_iff t).mp (by omega))
    (iblk m c 0 t) (X0_1 m c t) (iblk m c 2 t) (iblk m c 3 t) (iblk m c 4 t) (iblk m c 5 t)

/-- The body at a point that treats a block and is not the first, over the sinks' sums and the carry it finds. -/
abbrev middleAt (c : Dev nD) (t : Fin cfg0.N) (h0 : t.val ≠ 0) (h1 : t.val < 32)
    (sums : Vec F S16x128 .f32) (carry : Vec F S128x256 .f32) :=
  middleRun c (grid0.coords t) (mSink t) (hstage0_0 ((cfg0.slots t 0).cast nbuf0_0)) (mQ t) (hstage0_1 ((cfg0.slots t 1).cast nbuf0_1)) (mKv t) (hstage0_2 ((cfg0.slots t 2).cast nbuf0_2)) (mKvPrev t) (hstage0_3 ((cfg0.slots t 3).cast nbuf0_3)) (mDo t) (hstage0_4 ((cfg0.slots t 4).cast nbuf0_4)) (mLse t) (hstage0_5 ((cfg0.slots t 5).cast nbuf0_5)) (mDq t) (hstage0_6 ((cfg0.slots t 6).cast nbuf0_6)) (mDkv t) (hstage0_7 ((cfg0.slots t 7).cast nbuf0_7)) (mDsink t) (hstage0_8 ((cfg0.slots t 8).cast nbuf0_8)) mCarry (Memref.isWhole_whole _)
    (mt (opens_iff t).mp h0) ((treats_iff t).mpr h1) (mt (closes_iff t).mp (by omega))
    (iblk m c 0 t) (X0_1 m c t) (iblk m c 2 t) (iblk m c 3 t) (iblk m c 4 t) (iblk m c 5 t) sums carry

/-- The body at the last point. -/
abbrev closingAt (c : Dev nD) (t : Fin cfg0.N) (h : t.val = 32) (dq : Vec F S128x1024 .bf16)
    (sums : Vec F S16x128 .f32) (carry : Vec F S128x256 .f32) :=
  closingRun c (grid0.coords t) (mSink t) (hstage0_0 ((cfg0.slots t 0).cast nbuf0_0)) (mQ t) (hstage0_1 ((cfg0.slots t 1).cast nbuf0_1)) (mKv t) (hstage0_2 ((cfg0.slots t 2).cast nbuf0_2)) (mKvPrev t) (hstage0_3 ((cfg0.slots t 3).cast nbuf0_3)) (mDo t) (hstage0_4 ((cfg0.slots t 4).cast nbuf0_4)) (mLse t) (hstage0_5 ((cfg0.slots t 5).cast nbuf0_5)) (mDq t) (hstage0_6 ((cfg0.slots t 6).cast nbuf0_6)) (mDkv t) (hstage0_7 ((cfg0.slots t 7).cast nbuf0_7)) (mDsink t) (hstage0_8 ((cfg0.slots t 8).cast nbuf0_8)) mCarry (Memref.isWhole_whole _)
    (mt (opens_iff t).mp (by omega)) (mt (treats_iff t).mp (by omega)) ((closes_iff t).mpr h)
    (iblk m c 0 t) (X0_1 m c t) (iblk m c 2 t) (iblk m c 3 t) (iblk m c 4 t) (iblk m c 5 t) dq sums carry

/-! ## Each list of pieces covers its buffer -/

section Covers

variable (c : Dev nD) (t : Fin cfg0.N)

theorem opening_dq (h : t.val = 0) (y : S128x1024.Idx) : ∃ pc ∈ (openingAt m c t h).1, y ∈ pc.1.set :=
  View.cover_of_tiledL (openingAt m c t h).1 S128x128.size (by sl_kernel_rfl) y
theorem opening_dkv (h : t.val = 0) (y : S128x256.Idx) : ∃ pc ∈ (openingAt m c t h).2.1, y ∈ pc.1.set :=
  View.cover_of_tiledL (openingAt m c t h).2.1 S128x64.size (by sl_kernel_rfl) y
theorem opening_sums (h : t.val = 0) (y : S16x128.Idx) : ∃ pc ∈ (openingAt m c t h).2.2.1, y ∈ pc.1.set :=
  View.cover_of_tiledBy (openingAt m c t h).2.2.1 ![1, 128] (by sl_kernel_rfl) y
theorem opening_carry (h : t.val = 0) (y : S128x256.Idx) : ∃ pc ∈ (openingAt m c t h).2.2.2.1, y ∈ pc.1.set :=
  View.cover_of_wholeMem (openingAt m c t h).2.2.2.1 (by sl_whole_mem) y

variable (h0 : t.val ≠ 0) (h1 : t.val < 32) (sums : Vec F S16x128 .f32) (carry : Vec F S128x256 .f32)

theorem middle_dq (y : S128x1024.Idx) : ∃ pc ∈ (middleAt m c t h0 h1 sums carry).1, y ∈ pc.1.set :=
  View.cover_of_tiledL (middleAt m c t h0 h1 sums carry).1 S128x128.size (by sl_kernel_rfl) y
theorem middle_dkv (y : S128x256.Idx) : ∃ pc ∈ (middleAt m c t h0 h1 sums carry).2.1, y ∈ pc.1.set :=
  View.cover_of_tiledL (middleAt m c t h0 h1 sums carry).2.1 S128x64.size (by sl_kernel_rfl) y
theorem middle_sums (y : S16x128.Idx) : ∃ pc ∈ (middleAt m c t h0 h1 sums carry).2.2.1, y ∈ pc.1.set :=
  View.cover_of_tiledL (middleAt m c t h0 h1 sums carry).2.2.1 S1x128.size (by sl_kernel_rfl) y
theorem middle_carry (y : S128x256.Idx) : ∃ pc ∈ (middleAt m c t h0 h1 sums carry).2.2.2.1, y ∈ pc.1.set :=
  View.cover_of_tiledL (middleAt m c t h0 h1 sums carry).2.2.2.1 S128x64.size (by sl_kernel_rfl) y

theorem closing_dkv (h : t.val = 32) (dq : Vec F S128x1024 .bf16) (y : S128x256.Idx) :
    ∃ pc ∈ (closingAt m c t h dq sums carry).1, y ∈ pc.1.set :=
  View.cover_of_tiledL (closingAt m c t h dq sums carry).1 S128x256.size (by sl_kernel_rfl) y

end Covers

/-! ## What each point leaves -/

/-- The contents of the three output buffers and of the carry after a point. -/
structure Left (F : FTy → Type) where
  dq : Vec F S128x1024 .bf16
  dkv : Vec F S128x256 .bf16
  sums : Vec F S16x128 .f32
  carry : Vec F S128x256 .f32

/-- After the first point. -/
def leftFirst (c : Dev nD) (t : Fin cfg0.N) (h : t.val = 0) : Left F where
  dq := View.canon (openingAt m c t h).1
  dkv := View.canon (openingAt m c t h).2.1
  sums := View.canon (openingAt m c t h).2.2.1
  carry := View.canon (openingAt m c t h).2.2.2.1

/-- After a point that treats a block and is not the first. -/
def leftMiddle (c : Dev nD) (t : Fin cfg0.N) (h0 : t.val ≠ 0) (h1 : t.val < 32) (prev : Left F) : Left F where
  dq := View.canon (middleAt m c t h0 h1 prev.sums prev.carry).1
  dkv := View.canon (middleAt m c t h0 h1 prev.sums prev.carry).2.1
  sums := View.canon (middleAt m c t h0 h1 prev.sums prev.carry).2.2.1
  carry := View.canon (middleAt m c t h0 h1 prev.sums prev.carry).2.2.2.1

/-- After the last point: only the key and value gradients' block is new. -/
def leftLast (c : Dev nD) (t : Fin cfg0.N) (h : t.val = 32) (prev : Left F) : Left F :=
  { prev with dkv := View.canon (closingAt m c t h prev.dq prev.sums prev.carry).1 }

/-- What point `n` leaves, over what the point before left. -/
def left (c : Dev nD) : (n : ℕ) → n < cfg0.N → Left F
  | 0, hn => leftFirst m c ⟨0, hn⟩ rfl
  | n + 1, hn =>
    if h1 : n + 1 < 32 then leftMiddle m c ⟨n + 1, hn⟩ (Nat.succ_ne_zero n) h1 (left c n (Nat.lt_of_succ_lt hn))
    else leftLast m c ⟨n + 1, hn⟩ (by have := points ⟨n + 1, hn⟩; dsimp only at this ⊢; omega) (left c n (Nat.lt_of_succ_lt hn))

/-- What the point before `t` left. -/
abbrev before (c : Dev nD) (t : Fin cfg0.N) : Left F := left m c (t.val - 1) (Nat.lt_of_le_of_lt (Nat.sub_le _ _) t.isLt)

theorem left_first (c : Dev nD) (t : Fin cfg0.N) (h : t.val = 0) : left m c t.val t.isLt = leftFirst m c t h := by
  obtain ⟨n, hn⟩ := t
  cases n with
  | zero => rfl
  | succ n => exact absurd h (Nat.succ_ne_zero n)
theorem left_middle (c : Dev nD) (t : Fin cfg0.N) (h0 : t.val ≠ 0) (h1 : t.val < 32) :
    left m c t.val t.isLt = leftMiddle m c t h0 h1 (before m c t) := by
  obtain ⟨n, hn⟩ := t
  cases n with
  | zero => exact absurd rfl h0
  | succ n => exact dif_pos h1
theorem left_last (c : Dev nD) (t : Fin cfg0.N) (h : t.val = 32) :
    left m c t.val t.isLt = leftLast m c t h (before m c t) := by
  obtain ⟨n, hn⟩ := t
  cases n with
  | zero => dsimp only at h; omega
  | succ n => exact dif_neg (by dsimp only at h; omega)

/-! ## The proof data -/

/-- The invariant between points: before the first the scratch is at anything, and after point `n` the carry is at
    what that point left. -/
def Inv (c : Dev nD) : (n : ℕ) → n ≤ cfg0.N → sProp 𝕄
  | 0, _ => Pipeline.ΦA spec0 c
  | n + 1, hn => iprop(iprop(owns (c : Thread nD τ) mCarry fullShare (left m c n hn).carry) ∗ (∃ r, prngReg c r))

theorem Inv_zero (c : Dev nD) (n : ℕ) (h : n ≤ cfg0.N) (hz : n = 0) : Inv m c n h = Pipeline.ΦA spec0 c := by
  subst hz; rfl
theorem Inv_succ (c : Dev nD) (n : ℕ) (hn : n < cfg0.N) :
    Inv m c (n + 1) hn = iprop(iprop(owns (c : Thread nD τ) mCarry fullShare (left m c n hn).carry) ∗ (∃ r, prngReg c r)) := rfl
theorem Inv_pos (c : Dev nD) (n : ℕ) (h : n ≤ cfg0.N) (hz : n ≠ 0) :
    Inv m c n h = iprop(iprop(owns (c : Thread nD τ) mCarry fullShare (left m c (n - 1) (by omega)).carry) ∗ (∃ r, prngReg c r)) := by
  cases n with
  | zero => exact absurd rfl hz
  | succ n => rfl

/-- Every array at what the region finds in it, and every staging buffer after a point at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => (left m c t.val t.isLt).dq
    | ⟨7, _⟩ => (left m c t.val t.isLt).dkv
    | ⟨8, _⟩ => (left m c t.val t.isLt).sums
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem Inv_castSucc (c : Dev nD) (t : Fin cfg0.N) :
    (dats m 0 c).Φ t.castSucc = Inv m c t.val (Nat.le_of_lt t.isLt) := by
  dsimp only [dats]; exact Pipeline.Dat.Φ_castSucc (Inv m c) t

section Buffers

variable (c : Dev nD) (t : Fin cfg0.N)

theorem after0 : (dats m 0 c).after 0 t = iblk m c 0 t := by dsimp only [dats]
theorem after1 : (dats m 0 c).after 1 t = X0_1 m c t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = (left m c t.val t.isLt).dq := by dsimp only [dats]
theorem after7 : (dats m 0 c).after 7 t = (left m c t.val t.isLt).dkv := by dsimp only [dats]
theorem after8 : (dats m 0 c).after 8 t = (left m c t.val t.isLt).sums := by dsimp only [dats]

theorem before0 (d) : (dats m 0 c).before 0 t d = iblk m c 0 t := before0_0_of m (dats m 0 c) (A_eq m c 0) (after0 m c) t d
theorem before1 (d) : (dats m 0 c).before 1 t d = X0_1 m c t := before0_1_of m (dats m 0 c) (A_eq m c 1) (after1 m c) t d
theorem before2 (d) : (dats m 0 c).before 2 t d = iblk m c 2 t := before0_2_of m (dats m 0 c) (A_eq m c 2) (after2 m c) t d
theorem before3 (d) : (dats m 0 c).before 3 t d = iblk m c 3 t := before0_3_of m (dats m 0 c) (A_eq m c 3) (after3 m c) t d
theorem before4 (d) : (dats m 0 c).before 4 t d = iblk m c 4 t := before0_4_of m (dats m 0 c) (A_eq m c 4) (after4 m c) t d
theorem before5 (d) : (dats m 0 c).before 5 t d = iblk m c 5 t := before0_5_of m (dats m 0 c) (A_eq m c 5) (after5 m c) t d

end Buffers

/-- A point that leaves the query gradients' buffer alone is the last, which leaves it as it was. -/
theorem carried6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t h0 hi _
  have h : t.val = 32 := by
    by_contra hne
    rw [live6 t (by have := points t; omega)] at hi
    exact Bool.false_ne_true hi
  rw [after6, after6, left_last m c t h]; rfl
theorem carried8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t h0 hi _
  have h : t.val = 32 := by
    by_contra hne
    rw [live8 t (by have := points t; omega)] at hi
    exact Bool.false_ne_true hi
  rw [after8, after8, left_last m c t h]; rfl

theorem notFresh6 : ∀ t : Fin cfg0.N, t.val = 32 → ¬ cfg0.fresh 6 t.val = true := by
  intro t h
  obtain ⟨n, hn⟩ := t; dsimp only at h; subst h
  rw [Cfg.fresh_succ cfg0 6 31 (by have := N_0; omega), Bool.or_eq_true, not_or]
  refine ⟨mt (flush6 _).mp (by dsimp only; omega), ?_⟩
  rw [live6 _ (by dsimp only; omega), Bool.false_and]; exact Bool.false_ne_true
theorem notFresh8 : ∀ t : Fin cfg0.N, t.val ≠ 0 → ¬ cfg0.fresh 8 t.val = true := by
  intro t h
  have hN := points t
  obtain ⟨n, hn⟩ := t
  cases n with
  | zero => exact absurd rfl h
  | succ n =>
    dsimp only at hN
    have hn' : n < cfg0.N := Nat.lt_of_succ_lt hn
    rw [Cfg.fresh_succ cfg0 8 n hn', Bool.or_eq_true, not_or]
    refine ⟨mt (flush8 ⟨n, hn'⟩).mp (by dsimp only; omega), ?_⟩
    rw [live8 ⟨n, hn'⟩ (by dsimp only; omega), Bool.false_and]; exact Bool.false_ne_true

section Buffers

variable (c : Dev nD) (t : Fin cfg0.N)

/-- At the last point the query gradients' buffer still holds the block before: it was not written back yet. -/
theorem before6 (h : t.val = 32) (d) : (dats m 0 c).before 6 t d = (before m c t).dq := by
  rw [Dat.before_out_traj (dats m 0 c) 6 rfl (fun _ _ => rfl) (carried6 m c) t.val t rfl d, if_neg (notFresh6 t h)]
  dsimp only [dats]
/-- At every point but the first the sinks' buffer holds the sums so far. -/
theorem before8 (h : t.val ≠ 0) (d) : (dats m 0 c).before 8 t d = (before m c t).sums := by
  rw [Dat.before_out_traj (dats m 0 c) 8 rfl (fun _ _ => rfl) (carried8 m c) t.val t rfl d, if_neg (notFresh8 t h)]
  dsimp only [dats]

end Buffers

end Cert.KernelIdeal.Swa

end
-- ==== Proof.Frame.lean ====
/- The frame of the attention's backward call: its body is sound at every point, so every run ends, with the
   arguments unchanged and every semaphore back at zero. -/
module

public import proofs.«01_k».proof.Proof.Contents
public import Idealize.ShloMosaic.Lib.Claim

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

section Triples

variable (c : Dev nD) (t : Fin cfg0.N)

/-- A buffer whose pieces cover it holds what the pieces say. -/
theorem owns_canon {sp : Space} {s : Shape} {e : EltTy} (w : Memref sig .tc sp s e) (L : List (View.Piece (Elt F) s e))
    (h : ∀ y, ∃ pc ∈ L, y ∈ pc.1.set) :
    iprop(∃ f, w.view.loc (c : Thread nD τ) ↦[w.view.set]{fullShare} w.view.writes (Elt F) f L)
      ⊢ (owns (c : Thread nD τ) w fullShare (View.canon L) : sProp 𝕄) := by
  iintro ⟨%f, H⟩
  unfold owns; iexists _; isplitr
  swap; · iexact H
  ipureintro; exact View.read_writes_eq_canon _ _ _ h

/-- The point's six operands, at its blocks. -/
abbrev reads : sProp 𝕄 := operands c (mSink t) (mQ t) (mKv t) (mKvPrev t) (mDo t) (mLse t) (iblk m c 0 t) (X0_1 m c t) (iblk m c 2 t) (iblk m c 3 t) (iblk m c 4 t) (iblk m c 5 t)
/-- The outputs and the carry, at what a point leaves. -/
def outputs (x : Left F) : sProp 𝕄 :=
  iprop(owns (c : Thread nD τ) (mDq t) fullShare x.dq ∗ owns (c : Thread nD τ) (mDkv t) fullShare x.dkv
    ∗ owns (c : Thread nD τ) (mDsink t) fullShare x.sums ∗ owns (c : Thread nD τ) mCarry fullShare x.carry)

/-- The first point, from outputs and carry at anything. -/
theorem opening_triple (K : PUnit → sProp 𝕄) (h : t.val = 0) :
    iprop(reads m c t ∗ (∃ d, owns (c : Thread nD τ) (mDq t) fullShare d) ∗ (∃ d, owns (c : Thread nD τ) (mDkv t) fullShare d)
        ∗ (∃ d, owns (c : Thread nD τ) (mDsink t) fullShare d) ∗ (∃ d, owns (c : Thread nD τ) mCarry fullShare d)
        ∗ (iprop(reads m c t ∗ outputs c t (left m c t.val t.isLt)) -∗ K ⟨⟩))
      ⊢ wp frame (wpE (defs₀ (F := F)) Variants.none c none) Set.univ (bodyAt0 t) K := by
  rw [left_first m c t h]
  unfold bodyAt0 outputs leftFirst; dsimp only
  iintro ⟨HR, H6, H7, H8, HS, Hk⟩
  iapply ((openingAt m c t h).2.2.2.2 Set.univ K)
  isplitl [HR]; · iexact HR
  isplitl [H6]; · iexact H6
  isplitl [H7]; · iexact H7
  isplitl [H8]; · iexact H8
  isplitl [HS]; · iexact HS
  iintro ⟨HR, H6, H7, H8, HS⟩
  iapply Hk
  isplitl [HR]; · iexact HR
  isplitl [H6]; · iapply (owns_canon c _ _ (opening_dq m c t h)); iexact H6
  isplitl [H7]; · iapply (owns_canon c _ _ (opening_dkv m c t h)); iexact H7
  isplitl [H8]; · iapply (owns_canon c _ _ (opening_sums m c t h)); iexact H8
  iapply (owns_canon c _ _ (opening_carry m c t h)); iexact HS

/-- A point in the middle, over the sums and the carry of the point before. -/
theorem middle_triple (K : PUnit → sProp 𝕄) (h0 : t.val ≠ 0) (h1 : t.val < 32) :
    iprop(reads m c t ∗ (∃ d, owns (c : Thread nD τ) (mDq t) fullShare d) ∗ (∃ d, owns (c : Thread nD τ) (mDkv t) fullShare d)
        ∗ owns (c : Thread nD τ) (mDsink t) fullShare (before m c t).sums ∗ owns (c : Thread nD τ) mCarry fullShare (before m c t).carry
        ∗ (iprop(reads m c t ∗ outputs c t (left m c t.val t.isLt)) -∗ K ⟨⟩))
      ⊢ wp frame (wpE (defs₀ (F := F)) Variants.none c none) Set.univ (bodyAt0 t) K := by
  rw [left_middle m c t h0 h1]
  unfold bodyAt0 outputs leftMiddle; dsimp only
  iintro ⟨HR, H6, H7, H8, HS, Hk⟩
  iapply ((middleAt m c t h0 h1 (before m c t).sums (before m c t).carry).2.2.2.2 Set.univ K)
  isplitl [HR]; · iexact HR
  isplitl [H6]; · iexact H6
  isplitl [H7]; · iexact H7
  isplitl [H8]; · iexact H8
  isplitl [HS]; · iexact HS
  iintro ⟨HR, H6, H7, H8, HS⟩
  iapply Hk
  isplitl [HR]; · iexact HR
  isplitl [H6]; · iapply (owns_canon c _ _ (middle_dq m c t h0 h1 _ _)); iexact H6
  isplitl [H7]; · iapply (owns_canon c _ _ (middle_dkv m c t h0 h1 _ _)); iexact H7
  isplitl [H8]; · iapply (owns_canon c _ _ (middle_sums m c t h0 h1 _ _)); iexact H8
  iapply (owns_canon c _ _ (middle_carry m c t h0 h1 _ _)); iexact HS

/-- The last point. -/
theorem closing_triple (K : PUnit → sProp 𝕄) (h : t.val = 32) :
    iprop(reads m c t ∗ owns (c : Thread nD τ) (mDq t) fullShare (before m c t).dq ∗ (∃ d, owns (c : Thread nD τ) (mDkv t) fullShare d)
        ∗ owns (c : Thread nD τ) (mDsink t) fullShare (before m c t).sums ∗ owns (c : Thread nD τ) mCarry fullShare (before m c t).carry
        ∗ (iprop(reads m c t ∗ outputs c t (left m c t.val t.isLt)) -∗ K ⟨⟩))
      ⊢ wp frame (wpE (defs₀ (F := F)) Variants.none c none) Set.univ (bodyAt0 t) K := by
  rw [left_last m c t h]
  unfold bodyAt0 outputs leftLast; dsimp only
  iintro ⟨HR, H6, H7, H8, HS, Hk⟩
  iapply ((closingAt m c t h (before m c t).dq (before m c t).sums (before m c t).carry).2 Set.univ K)
  isplitl [HR]; · iexact HR
  isplitl [H6]; · iexact H6
  isplitl [H7]; · iexact H7
  isplitl [H8]; · iexact H8
  isplitl [HS]; · iexact HS
  iintro ⟨HR, H6, H7, H8, HS⟩
  iapply Hk
  isplitl [HR]; · iexact HR
  isplitl [H6]; · iexact H6
  isplitl [H7]; · iapply (owns_canon c _ _ (closing_dkv m c t _ _ h _)); iexact H7
  isplitl [H8]; · iexact H8
  iexact HS

end Triples

/-! ## The body obligation -/

section Obligation

variable (c : Dev nD) (t : Fin cfg0.N)

/-- The windows' buffers when the point begins, window by window. -/
def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- And when it ends. -/
def bodyPost : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t)

/-- The six operands' buffers end as they began. -/
theorem leaves_reads : reads m c t ⊢ iprop((dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t) := by
  have e0 : (dats m 0 c).leavesExact 0 t = owns (c : Thread nD τ) (mSink t) fullShare (iblk m c 0 t) := by
    unfold Dat.leavesExact; rw [show cfg0.idle 0 (grid0.coords t) = false from rfl, after0]
  have e1 : (dats m 0 c).leavesExact 1 t = owns (c : Thread nD τ) (mQ t) fullShare (X0_1 m c t) := by
    unfold Dat.leavesExact; rw [show cfg0.idle 1 (grid0.coords t) = false from rfl, after1]
  have e2 : (dats m 0 c).leavesExact 2 t = owns (c : Thread nD τ) (mKv t) fullShare (iblk m c 2 t) := by
    unfold Dat.leavesExact; rw [show cfg0.idle 2 (grid0.coords t) = false from rfl, after2]
  have e3 : (dats m 0 c).leavesExact 3 t = owns (c : Thread nD τ) (mKvPrev t) fullShare (iblk m c 3 t) := by
    unfold Dat.leavesExact; rw [show cfg0.idle 3 (grid0.coords t) = false from rfl, after3]
  have e4 : (dats m 0 c).leavesExact 4 t = owns (c : Thread nD τ) (mDo t) fullShare (iblk m c 4 t) := by
    unfold Dat.leavesExact; rw [show cfg0.idle 4 (grid0.coords t) = false from rfl, after4]
  have e5 : (dats m 0 c).leavesExact 5 t = owns (c : Thread nD τ) (mLse t) fullShare (iblk m c 5 t) := by
    unfold Dat.leavesExact; rw [show cfg0.idle 5 (grid0.coords t) = false from rfl, after5]
  unfold reads operands
  rw [e0, e1, e2, e3, e4, e5]

/-- A window that has its new contents leaves them; one the point stores nothing into may keep what it had when
    that is what the proof data say. -/
theorem leaves6 : (owns (c : Thread nD τ) (mDq t) fullShare (left m c t.val t.isLt).dq : sProp 𝕄) ⊢ (dats m 0 c).leavesExact 6 t := by
  unfold Dat.leavesExact
  by_cases h : t.val < 32
  · rw [live6 t h, after6]
  · have h' : t.val = 32 := by have := points t; omega
    rw [idle6 t h', (flush6 t).mpr (by omega), after6]
theorem leaves7 : (owns (c : Thread nD τ) (mDkv t) fullShare (left m c t.val t.isLt).dkv : sProp 𝕄) ⊢ (dats m 0 c).leavesExact 7 t := by
  unfold Dat.leavesExact
  rw [live7 t, after7]
theorem leaves8 : (owns (c : Thread nD τ) (mDsink t) fullShare (left m c t.val t.isLt).sums : sProp 𝕄) ⊢ (dats m 0 c).leavesExact 8 t := by
  unfold Dat.leavesExact
  by_cases h : t.val < 32
  · rw [live8 t h, after8]
  · have h' : t.val = 32 := by have := points t; omega
    rw [idle8 t h', (flush8 t).mpr h', after8]

/-- What a point leaves, read as the pipeline's postcondition. -/
theorem post_of_outputs :
    iprop((∃ r, prngReg c r) ∗ (dats m 0 c).owesAt () t.castSucc ∗ reads m c t ∗ outputs c t (left m c t.val t.isLt))
      ⊢ bodyPost m c t := by
  unfold bodyPost outputs
  rw [show (dats m 0 c).owesAt () t.succ = (dats m 0 c).owesAt () t.castSucc from rfl,
    show (dats m 0 c).Φ t.succ = Inv m c (t.val + 1) t.isLt from rfl, Inv_succ]
  iintro ⟨Hg, Ho, HR, H6, H7, H8, HS⟩
  ihave ⟨H0, H1, H2, H3, H4, H5⟩ := (leaves_reads m c t) $$ HR
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves6 m c t); iexact H6
  isplitl [H7]; · iapply (leaves7 m c t); iexact H7
  iapply (leaves8 m c t); iexact H8

/-- The body at any point. -/
theorem sound_body :
    bodyPre m c t ⊢ wp frame (wpE (defs₀ (F := F)) Variants.none c none) Set.univ (bodyAt0 t) (fun _ => bodyPost m c t) := by
  unfold bodyPre
  simp only [before0, before1, before2, before3, before4, before5]
  rw [Inv_castSucc m c t]
  by_cases h0 : t.val = 0
  · rw [Inv_zero m c _ _ h0, scratch_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (opening_triple (m := m) (c := c) (t := t) (K := _) (h := h0))
    isplitl [H0 H1 H2 H3 H4 H5]
    · unfold reads operands
      isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [H8]; · iexists _; iexact H8
    isplitl [HS]; · iexact HS
    iintro ⟨HR, HO⟩
    iapply (post_of_outputs m c t)
    isplitl [Hg]; · iexact Hg
    isplitl [Ho]; · iexact Ho
    isplitl [HR]; · iexact HR
    iexact HO
  · rw [Inv_pos m c _ _ h0]
    simp only [before8 m c t h0]
    by_cases h1 : t.val < 32
    · iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (middle_triple (m := m) (c := c) (t := t) (K := _) (h0 := h0) (h1 := h1))
      isplitl [H0 H1 H2 H3 H4 H5]
      · unfold reads operands
        isplitl [H0]; · iexact H0
        isplitl [H1]; · iexact H1
        isplitl [H2]; · iexact H2
        isplitl [H3]; · iexact H3
        isplitl [H4]; · iexact H4
        iexact H5
      isplitl [H6]; · iexists _; iexact H6
      isplitl [H7]; · iexists _; iexact H7
      isplitl [H8]; · iexact H8
      isplitl [HS]; · iexact HS
      iintro ⟨HR, HO⟩
      iapply (post_of_outputs m c t)
      isplitl [Hg]; · iexact Hg
      isplitl [Ho]; · iexact Ho
      isplitl [HR]; · iexact HR
      iexact HO
    · have h : t.val = 32 := by have := points t; omega
      simp only [before6 m c t h]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (closing_triple (m := m) (c := c) (t := t) (K := _) (h := h))
      isplitl [H0 H1 H2 H3 H4 H5]
      · unfold reads operands
        isplitl [H0]; · iexact H0
        isplitl [H1]; · iexact H1
        isplitl [H2]; · iexact H2
        isplitl [H3]; · iexact H3
        isplitl [H4]; · iexact H4
        iexact H5
      isplitl [H6]; · iexact H6
      isplitl [H7]; · iexists _; iexact H7
      isplitl [H8]; · iexact H8
      isplitl [HS]; · iexact HS
      iintro ⟨HR, HO⟩
      iapply (post_of_outputs m c t)
      isplitl [Hg]; · iexact Hg
      isplitl [Ho]; · iexact Ho
      isplitl [HR]; · iexact HR
      iexact HO

end Obligation

/-- The body table's row is the body. -/
theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

theorem hin (c : Dev nD) : Pipeline.ΦA spec0 c ⊢ (dats m 0 c).Φ 0 := by
  rw [show (dats m 0 c).Φ 0 = Inv m c 0 (Nat.zero_le _) from rfl, Inv_zero m c 0 _ rfl]

theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last]; have := N_0; show grid0.N ≠ 0; omega), scratch_eq]
  iintro ⟨HS, Hg⟩
  isplitl [HS]
  · iexists _; iexact HS
  iexact Hg

/-! ## The run and the frame -/

variable (ρ : Dev nD → PrngReg)

-- the library theorem's implicit arguments are found by unfolding plain definitions in the types of its variables
set_option backward.isDefEq.respectTransparency.types false in
/-- Every run ends with each array at what the proof data say and every semaphore at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame of the kernel, for any values of its floats. -/
theorem swa_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Idealize.ShloMosaic.θ_run_and (frame_of m ρ (dats m) (A_eq m) (run_main m ρ)) ((θ_run defs _ _).mono (fun _ h => h.2) (run_main_quiescent m ρ))

/-- What the run leaves in the three output arrays and in the arguments. -/
theorem run_arrays : θ_run defs (onTc (τ := τ) (main (F := F))) ⟨m, fun _ => 0, ρ⟩ (fun r => ∀ c : Dev nD,
      r.2.mem ((c.tc : Thread nD τ).loc main_v88_0) = (dats m 0 c).arrAt 6 cfg0.N
      ∧ r.2.mem ((c.tc : Thread nD τ).loc main_v88_1) = (dats m 0 c).arrAt 7 cfg0.N
      ∧ r.2.mem ((c.tc : Thread nD τ).loc main_v88_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 6, (h c).1 7, (h c).1 8,
    ((h c).1 3).trans (((dats m 0 c).arrAt_in 3 rfl _).trans ((A_eq m c 3).trans (V_main_arg0 m c))),
    ((h c).1 0).trans (((dats m 0 c).arrAt_in 0 rfl _).trans ((A_eq m c 0).trans (V_main_arg1 m c))),
    ((h c).1 4).trans (((dats m 0 c).arrAt_in 4 rfl _).trans ((A_eq m c 4).trans (V_main_arg2 m c)))⟩) (run_main m ρ)

end Cert.KernelIdeal.Swa

end
-- ==== Proof.Finite.lean ====
/- The precondition: the entries that the attention reads are real numbers. -/
module

public import proofs.«01_k».proof.Pre_finite
public import Idealize.ShloMosaic.Lib.Pointwise
public import Idealize.ShloMosaic.Lib.IdealHost

@[expose] public section

noncomputable section

namespace Cert.Pre_finite

open Idealize.ShloMosaic

/-- The precondition's side conditions. -/
instance facts : Cert.Pre_finite.Facts where
  slices_S4096x5376_S4096x1280_0_0 := by decide
  bcast_S_S4096x1280 := by decide
  bcast_S_S1x16 := by decide
  bitsLt_bf16_f32 := by decide
  bcast_S_S4096x1024 := by decide

theorem ofBits_top : Ideal.ofBits .f32 2139095040#32 = ⊤ := by
  simp [Ideal.ofBits, Ideal.ieee]

/-- An extended real below `∞` in absolute value is real. -/
theorem real_of_abs {x : EReal} (h : BitVec.ofBool (decide (max x (-x) < ⊤)) = 1#1) : x = ((x.toReal : ℝ) : EReal) := by
  have h' : max x (-x) < ⊤ := by
    by_contra hn
    rw [decide_eq_false hn] at h
    exact absurd h (by decide)
  refine (EReal.coe_toReal (fun e => ?_) (fun e => ?_)).symm
  · rw [e] at h'; exact absurd h' (by simp)
  · rw [e] at h'; exact absurd h' (by simp)

variable (x0 : FVec Ideal S4096x5376 .f32) (x1 : FVec Ideal S1x16 .f32) (x2 : FVec Ideal S4096x1024 .bf16)

theorem proj_real (h : (fn (F := Ideal) x0 x1 x2).1 = fun _ => 1#1) (r : Fin 4096) (j : Fin 5376) (hj : (j : ℕ) < 1280) :
    x0 (ix2 r j) = (((x0 (ix2 r j) : EReal).toReal : ℝ) : EReal) := by
  have e := congrFun h (ix2 r (⟨j, hj⟩ : Fin 1280))
  refine real_of_abs (Eq.trans ?_ e)
  symm
  pointwise [fn]
  rw [ofBits_top]
  rfl
theorem sink_real (h : (fn (F := Ideal) x0 x1 x2).2.1 = fun _ => 1#1) (k : Fin 16) :
    x1 (ix2 0 k) = (((x1 (ix2 0 k) : EReal).toReal : ℝ) : EReal) := by
  have e := congrFun h (ix2 0 k)
  refine real_of_abs (Eq.trans ?_ e)
  symm
  pointwise [fn]
  rw [ofBits_top]
  rfl
theorem dout_real (h : (fn (F := Ideal) x0 x1 x2).2.2 = fun _ => 1#1) (r : Fin 4096) (k : Fin 1024) :
    x2 (ix2 r k) = (((x2 (ix2 r k) : EReal).toReal : ℝ) : EReal) := by
  have e := congrFun h (ix2 r k)
  refine real_of_abs (Eq.trans ?_ e)
  symm
  pointwise [fn]
  rw [ofBits_top]
  rfl

end Cert.Pre_finite

end
-- ==== Proof.Model.lean ====
/- The arithmetic of the attention's backward call for one block of queries, written once for any pair of heads: what a
   point computes for a pair from the two blocks' keys and values, and what it sums over a group's four pairs. -/
module

public import proofs.«01_k».proof.Proof.Points

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- What the call takes off a score per row of distance, by head. -/
def slopes : ℕ → F .f32
  | 0 => Named.named κ "slope0" 0x3F3504F3#32
  | 1 => Scalar.ofBits .f32 0x3F000000#32
  | 2 => Named.named κ "slope2" 0x3EB504F3#32
  | 3 => Scalar.ofBits .f32 0x3E800000#32
  | 4 => Named.named κ "slope4" 0x3E3504F3#32
  | 5 => Scalar.ofBits .f32 0x3E000000#32
  | 6 => Named.named κ "slope6" 0x3DB504F3#32
  | 7 => Scalar.ofBits .f32 0x3D800000#32
  | 8 => Named.named κ "slope8" 0x3D3504F3#32
  | 9 => Scalar.ofBits .f32 0x3D000000#32
  | 10 => Named.named κ "slope10" 0x3CB504F3#32
  | 11 => Scalar.ofBits .f32 0x3C800000#32
  | 12 => Named.named κ "slope12" 0x3C3504F3#32
  | 13 => Scalar.ofBits .f32 0x3C000000#32
  | 14 => Named.named κ "slope14" 0x3BB504F3#32
  | _ => Scalar.ofBits .f32 0x3B800000#32

/-- Two blocks' keys (or values) of a group, once in the upper left and once in the lower right. -/
def twice (before own : Vec F S128x64 .f32) : FVec F S512x128 .bf16 :=
  let x : FVec F S256x64 .bf16 := truncf .bf16 (concatenate S256x64 0 [⟨S128x64, before⟩, ⟨S128x64, own⟩] concatenates_S128x64_S128x64_S256x64_d0 : FVec F S256x64 .f32) bitsLt_bf16_f32
  let z : FVec F S256x64 .bf16 := broadcast S256x64 (Scalar.ofBits .bf16 0x0000#16)
  concatenate S512x128 0 [⟨S256x128, concatenate S256x128 1 [⟨S256x64, x⟩, ⟨S256x64, z⟩] concatenates_S256x64_S256x64_S256x128_d1⟩,
    ⟨S256x128, concatenate S256x128 1 [⟨S256x64, z⟩, ⟨S256x64, x⟩] concatenates_S256x64_S256x64_S256x128_d1⟩] concatenates_S256x128_S256x128_S512x128_d0

/-- The products of a pair's keys and queries, or of its values and the output's gradients. -/
def prods (K : FVec F S512x128 .bf16) (q : FVec F S128x128 .bf16) : FVec F S512x128 .f32 :=
  matmul dot_S512x128_S128x128_S512x128_1_1_0_0_n_n none K q (constant S512x128 .f32 0x00000000#32)
/-- The first head's half. -/
def upper (s : FVec F S512x128 .f32) : FVec F S256x128 .f32 := extractStridedSlice S256x128 ![0, 0] s slices_S512x128_o0_0_S256x128
/-- The second head's half. -/
def lower (s : FVec F S512x128 .f32) : FVec F S256x128 .f32 := extractStridedSlice S256x128 ![256, 0] s slices_S512x128_o256_0_S256x128

/-- A head's shares, from its products, its slope and the logarithms of its rows' totals. -/
def shares (mask : IVec S256x128 1) (s : FVec F S256x128 .f32) (slope : F .f32) (l : Vec F S1x1x128 .f32) : FVec F S256x128 .f32 :=
  exp (subf (select mask (subf (mulf s (broadcast S256x128 (Scalar.ofBits .f32 0x3E000000#32))) (mulf (broadcast S256x128 slope) k0_pay9))
      (broadcast S256x128 (Named.named κ "mask" 0xF149F2CA#32)))
    (broadcastTo S256x128 (shapeCast S1x128 l shapeCasts_S1x1x128_S1x128 : FVec F S1x128 .f32) broadcasts_S1x128_S256x128))
/-- The mean of the gradients by the shares. -/
def means (p dp : FVec F S256x128 .f32) : FVec F S1x128 .f32 :=
  shapeCast S1x128 (multiReduction .add [0] S128 (mulf p dp) 0x00000000#32 reduces_S256x128_S128 (.inl rfl) rfl : FVec F S128 .f32) shapeCasts_S128_S1x128
/-- The gradients of the scores. -/
def dscores (p dp : FVec F S256x128 .f32) : FVec F S256x128 .bf16 :=
  truncf .bf16 (mulf p (subf dp (broadcastTo S256x128 (means p dp) broadcasts_S1x128_S256x128))) bitsLt_bf16_f32
/-- A head's row of the sinks' sums, with the block's own added. -/
def sinkRow (old : Vec F S1x128 .f32) (sink : F .f32) (l : Vec F S1x1x128 .f32) (p dp : FVec F S256x128 .f32) : FVec F S1x128 .f32 :=
  addf (shapeCast S1x128 old shapeCasts_S1x128_S1x128)
    (mulf (subf (broadcast S1x128 (Scalar.ofBits .f32 0x00000000#32))
      (exp (subf (broadcast S1x128 sink) (shapeCast S1x128 l shapeCasts_S1x1x128_S1x128)))) (means p dp))

/-- Two heads' arrays, one above the other. -/
def stack (a b : FVec F S256x128 .bf16) : FVec F S512x128 .bf16 :=
  concatenate S512x128 0 [⟨S256x128, a⟩, ⟨S256x128, b⟩] concatenates_S256x128_S256x128_S512x128_d0

/-- What a pair of heads reads: its queries, its output gradients, and the logarithms of its rows' totals. -/
structure Pair (F : FTy → Type) where
  q : Vec F S128x128 .f32
  dout : Vec F S128x128 .bf16
  l0 : Vec F S1x1x128 .f32
  l1 : Vec F S1x1x128 .f32

section Pairs

variable (mask : IVec S256x128 1) (K U : FVec F S512x128 .bf16) (h : ℕ) (P : Pair F)

/-- The queries, rounded for the products. -/
def Pair.qb : FVec F S128x128 .bf16 := truncf .bf16 P.q bitsLt_bf16_f32
/-- The first head's shares (`h` is its number). -/
def Pair.p0 : FVec F S256x128 .f32 := shares mask (upper (prods K P.qb)) (slopes h) P.l0
/-- The second head's shares. -/
def Pair.p1 : FVec F S256x128 .f32 := shares mask (lower (prods K P.qb)) (slopes (h + 1)) P.l1
/-- The gradients of the first head's shares. -/
def Pair.dp0 : FVec F S256x128 .f32 := upper (prods U P.dout)
/-- The gradients of the second head's shares. -/
def Pair.dp1 : FVec F S256x128 .f32 := lower (prods U P.dout)
/-- The gradients of both heads' scores. -/
def Pair.ds : FVec F S512x128 .bf16 :=
  stack (dscores (P.p0 mask K h) (P.dp0 U)) (dscores (P.p1 mask K h) (P.dp1 U))
/-- Both heads' shares. -/
def Pair.ps : FVec F S512x128 .bf16 :=
  stack (truncf .bf16 (P.p0 mask K h) bitsLt_bf16_f32) (truncf .bf16 (P.p1 mask K h) bitsLt_bf16_f32)
/-- The gradients of the pair's queries. -/
def Pair.dq : FVec F S128x128 .bf16 :=
  truncf .bf16 (mulf (matmul dot_S512x128_S512x128_S128x128_0_0_1_1_n_n none (P.ds mask K U h) K (constant S128x128 .f32 0x00000000#32))
    (broadcast S128x128 (Scalar.ofBits .f32 0x3E000000#32))) bitsLt_bf16_f32
/-- What the pair sends back to its keys. -/
def Pair.dk : FVec F S512x128 .f32 :=
  matmul dot_S512x128_S128x128_S512x128_1_0_0_1_n_n none (P.ds mask K U h) P.qb (constant S512x128 .f32 0x00000000#32)
/-- What the pair sends back to its values. -/
def Pair.dv : FVec F S512x128 .f32 :=
  matmul dot_S512x128_S128x128_S512x128_1_0_0_1_n_n none (P.ps mask K h) P.dout (constant S512x128 .f32 0x00000000#32)

end Pairs

/-- A sum of four, from zero. -/
def four (a b c d : FVec F S512x128 .f32) : FVec F S512x128 .f32 :=
  addf (addf (addf (addf (broadcast S512x128 (Scalar.ofBits .f32 0x00000000#32)) a) b) c) d
/-- The two heads' parts, added. -/
def folded (x : FVec F S512x128 .f32) : FVec F S256x64 .f32 :=
  addf (extractStridedSlice S256x64 ![0, 0] x slices_S512x128_o0_0_S256x64) (extractStridedSlice S256x64 ![256, 64] x slices_S512x128_o256_64_S256x64)

section Groups

variable (mask : IVec S256x128 1) (K U : FVec F S512x128 .bf16) (h : ℕ) (P0 P1 P2 P3 : Pair F)

/-- What a group's four pairs send back to its keys (`h` is the number of its first head). -/
def dkeys : FVec F S256x64 .f32 :=
  mulf (folded (four (P0.dk mask K U h) (P1.dk mask K U (h + 2)) (P2.dk mask K U (h + 4)) (P3.dk mask K U (h + 6))))
    (broadcast S256x64 (Scalar.ofBits .f32 0x3E000000#32))
/-- What they send back to its values. -/
def dvals : FVec F S256x64 .f32 :=
  folded (four (P0.dv mask K h) (P1.dv mask K (h + 2)) (P2.dv mask K (h + 4)) (P3.dv mask K (h + 6)))

end Groups

/-- The first block's rows of what is sent back, added to the carry. -/
def closed (carry : Vec F S128x64 .f32) (x : FVec F S256x64 .f32) : FVec F S128x64 .bf16 :=
  truncf .bf16 (addf carry (extractStridedSlice S128x64 ![0, 0] x slices_S256x64_o0_0_S128x64)) bitsLt_bf16_f32
/-- The second block's rows, which are carried. -/
def opened (x : FVec F S256x64 .f32) : FVec F S128x64 .f32 :=
  shapeCast S128x64 (extractStridedSlice S128x64 ![128, 0] x slices_S256x64_o128_0_S128x64) shapeCasts_S128x64_S128x64

end Cert.KernelIdeal.Swa

end
-- ==== Proof.Attn.lean ====
/- The gradient of sliding-window attention over the reals, written plainly: `A r j` is row `r`, column `j` of the
   projections, `S h` the sink of head `h`, and `D r j` the gradient that reaches the attention's output. Blocks have
   128 rows; a query of block `n` sees the 128 rows of its own block and the 128 rows of the block before, and key
   `j < 256` of block `n` is row `128 n + j - 128`. Head `h` has the query columns `64 h …`, and shares the key
   columns `1024 + 64 (h / 8) …` and the value columns `1152 + 64 (h / 8) …` with seven others. -/
module

public import Mathlib.Analysis.SpecialFunctions.Log.Basic
public import Mathlib.Analysis.SpecialFunctions.Pow.Real
public import Mathlib.Algebra.BigOperators.Field
public import Mathlib.Data.EReal.Operations

@[expose] public section

noncomputable section

namespace Cert.Attn

variable (A : ℕ → ℕ → ℝ) (S : ℕ → ℝ) (D : ℕ → ℕ → ℝ)

/-- Query `i` of block `n` sees key `j`: at most 127 rows back, and no row before the first. -/
def Sees (n i j : ℕ) : Prop := j ≤ i + 128 ∧ i < j ∧ (128 ≤ j ∨ 0 < n)

instance (n i j : ℕ) : Decidable (Sees n i j) := by unfold Sees; infer_instance

/-- What a head takes off a score per row of distance. -/
def slope (h : ℕ) : ℝ := Real.rpow 2 (-8 * (1 + h) / 16)

/-- Key `j` of block `n`, coordinate `d`, for the heads of group `g`. -/
def key (n g j d : ℕ) : ℝ := A (128 * n + j - 128) (1024 + (64 * g + d))
/-- Value `j` of block `n`, coordinate `d`, for the heads of group `g`. -/
def val (n g j d : ℕ) : ℝ := A (128 * n + j - 128) (1152 + (64 * g + d))
/-- Coordinate `d` of head `h` of row `i` of block `n`, of the queries and of the output's gradient. -/
def head (X : ℕ → ℕ → ℝ) (n h i d : ℕ) : ℝ := X (128 * n + i) (64 * h + d)

/-- The score of key `j` for query `i`. -/
def score (n h i j : ℕ) : ℝ :=
  (∑ d : Fin 64, key A n (h / 8) j d * head A n h i d) * (1 / 8) - slope h * ((i : ℝ) + 128 - j)
/-- Its exponential, nothing for a key that is not seen. -/
def weight (n h i j : ℕ) : ℝ := if Sees n i j then Real.exp (score A n h i j) else 0
/-- The denominator of a query's weights: the weights and the sink's. -/
def total (n h i : ℕ) : ℝ := (∑ j : Fin 256, weight A n h i j) + Real.exp (S h)
/-- The share of key `j` for query `i`. -/
def share (n h i j : ℕ) : ℝ := weight A n h i j / total A S n h i
/-- The gradient that reaches that share. -/
def gain (n h i j : ℕ) : ℝ := ∑ d : Fin 64, val A n (h / 8) j d * head D n h i d
/-- The mean of the gradients, by the shares. -/
def mean (n h i : ℕ) : ℝ := ∑ j : Fin 256, share A S n h i j * gain A D n h i j
/-- The gradient that reaches the score. -/
def dscore (n h i j : ℕ) : ℝ := share A S n h i j * (gain A D n h i j - mean A S D n h i)

/-- The gradient of coordinate `d` of head `h` of query `i` of block `n`. -/
def dquery (n h i d : ℕ) : ℝ := (∑ j : Fin 256, dscore A S D n h i j * key A n (h / 8) j d) * (1 / 8)
/-- What block `n`'s queries send back to coordinate `d` of its key `j`, the eight heads of group `g` together. -/
def dkeyFrom (n g j d : ℕ) : ℝ :=
  (∑ e : Fin 8, ∑ i : Fin 128, dscore A S D n (8 * g + e) i j * head A n (8 * g + e) i d) * (1 / 8)
/-- What block `n`'s queries send back to coordinate `d` of its value `j`. -/
def dvalFrom (n g j d : ℕ) : ℝ :=
  ∑ e : Fin 8, ∑ i : Fin 128, share A S n (8 * g + e) i j * head D n (8 * g + e) i d
/-- A row hears from its own block, where it is key `128 + i`, and from the block after, where it is key `i`. -/
def both (X : ℕ → ℕ → ℝ) (n i : ℕ) : ℝ := X n (128 + i) + if n < 31 then X (n + 1) i else 0
/-- The gradient of coordinate `d` of key row `i` of block `n`. -/
def dkey (n g i d : ℕ) : ℝ := both (fun n j => dkeyFrom A S D n g j d) n i
/-- The gradient of coordinate `d` of value row `i` of block `n`. -/
def dval (n g i d : ℕ) : ℝ := both (fun n j => dvalFrom A S D n g j d) n i
/-- What block `n` sends back to head `h`'s sink at place `i`. -/
def dsinkFrom (n h i : ℕ) : ℝ := -(Real.exp (S h) / total A S n h i * mean A S D n h i)
/-- The gradient of head `h`'s sink at place `i` of a block, the 32 blocks together. -/
def dsink (h i : ℕ) : ℝ := ∑ n : Fin 32, dsinkFrom A S D n h i

theorem weight_nonneg (n h i j : ℕ) : 0 ≤ weight A n h i j := by
  unfold weight; split <;> [exact (Real.exp_pos _).le; exact le_rfl]
theorem total_pos (n h i : ℕ) : 0 < total A S n h i :=
  add_pos_of_nonneg_of_pos (Finset.sum_nonneg fun _ _ => weight_nonneg A _ _ _ _) (Real.exp_pos _)

/-- A share by the logarithm of the total, as the backward call takes it. -/
theorem share_eq_exp (n h i j : ℕ) :
    share A S n h i j = if Sees n i j then Real.exp (score A n h i j - Real.log (total A S n h i)) else 0 := by
  unfold share weight
  split
  · rw [Real.exp_sub, Real.exp_log (total_pos A S n h i)]
  · exact zero_div _
theorem sink_eq_exp (n h i : ℕ) :
    Real.exp (S h) / total A S n h i = Real.exp (S h - Real.log (total A S n h i)) := by
  rw [Real.exp_sub, Real.exp_log (total_pos A S n h i)]

theorem share_of_not_sees {n h i j : ℕ} (hs : ¬Sees n i j) : share A S n h i j = 0 := by
  unfold share weight; rw [if_neg hs]; exact zero_div _
theorem dscore_of_not_sees {n h i j : ℕ} (hs : ¬Sees n i j) : dscore A S D n h i j = 0 := by
  unfold dscore; rw [share_of_not_sees A S hs]; exact zero_mul _

/-! ## The gradient by way of a row's maximum

The reference divides every weight and the sink's exponential by `exp M` for the row's maximum `M` (here `E = exp (-M)`),
and reads keys and values before the first row as zeros. -/

/-- The gradient that reaches a share, values before the first row being zero. -/
def gainPadded (n h i j : ℕ) : ℝ :=
  ∑ d : Fin 64, head D n h i d * (if 128 ≤ j ∨ 0 < n then val A n (h / 8) j d else 0)

theorem gainPadded_mul_weight (n h i j : ℕ) : gainPadded A D n h i j * weight A n h i j = gain A D n h i j * weight A n h i j := by
  by_cases hs : Sees n i j
  · congr 1
    unfold gainPadded gain
    refine Finset.sum_congr rfl fun d _ => ?_
    rw [if_pos hs.2.2, mul_comm]
  · rw [show weight A n h i j = 0 from if_neg hs, mul_zero, mul_zero]

theorem total_mul (E : ℝ) (n h i : ℕ) :
    (∑ j : Fin 256, weight A n h i j * E) + Real.exp (S h) * E = total A S n h i * E := by
  rw [← Finset.sum_mul, ← add_mul]; rfl

variable {E : ℝ} (hE : 0 < E)
include hE

theorem share_mul (n h i j : ℕ) : weight A n h i j * E / (total A S n h i * E) = share A S n h i j :=
  mul_div_mul_right _ _ hE.ne'

theorem back_mean (n h i : ℕ) :
    (∑ j : Fin 256, gainPadded A D n h i j * (1 / (total A S n h i * E * (total A S n h i * E))) * (weight A n h i j * E))
      = mean A S D n h i / (total A S n h i * E) := by
  have hT := (total_pos A S n h i).ne'
  unfold mean
  rw [Finset.sum_div]
  refine Finset.sum_congr rfl fun j _ => ?_
  rw [show gainPadded A D n h i j * (1 / (total A S n h i * E * (total A S n h i * E))) * (weight A n h i j * E)
      = gainPadded A D n h i j * weight A n h i j * (E / (total A S n h i * E * (total A S n h i * E))) from by ring,
    gainPadded_mul_weight]
  unfold share
  field_simp
theorem back_score (n h i j : ℕ) :
    (gainPadded A D n h i j / (total A S n h i * E) + -(mean A S D n h i / (total A S n h i * E))) * (weight A n h i j * E)
      = dscore A S D n h i j := by
  have hT := (total_pos A S n h i).ne'
  rw [show (gainPadded A D n h i j / (total A S n h i * E) + -(mean A S D n h i / (total A S n h i * E))) * (weight A n h i j * E)
      = (gainPadded A D n h i j * weight A n h i j - mean A S D n h i * weight A n h i j) * (E / (total A S n h i * E)) from by ring,
    gainPadded_mul_weight]
  unfold dscore share
  field_simp
theorem back_sink (n h i : ℕ) :
    -(mean A S D n h i / (total A S n h i * E)) * (Real.exp (S h) * E) = dsinkFrom A S D n h i := by
  have hT := (total_pos A S n h i).ne'
  unfold dsinkFrom
  field_simp
omit hE in
/-- Nothing of the gradient is left for the row's maximum. -/
theorem back_max (n h i : ℕ) : -dsinkFrom A S D n h i + ∑ j : Fin 256, -dscore A S D n h i j = 0 := by
  have hT := (total_pos A S n h i).ne'
  have h1 : ∑ j : Fin 256, share A S n h i j = (total A S n h i - Real.exp (S h)) / total A S n h i := by
    unfold share
    rw [← Finset.sum_div]
    congr 1
    unfold total
    ring
  have h2 : ∑ j : Fin 256, dscore A S D n h i j
      = mean A S D n h i - (∑ j : Fin 256, share A S n h i j) * mean A S D n h i := by
    unfold dscore
    rw [Finset.sum_mul, show mean A S D n h i = ∑ j : Fin 256, share A S n h i j * gain A D n h i j from rfl, ← Finset.sum_sub_distrib]
    refine Finset.sum_congr rfl fun j _ => ?_
    ring
  rw [Finset.sum_neg_distrib, h2, h1]
  unfold dsinkFrom
  field_simp
  ring

omit hE in
/-- A sum of reals, as a sum of extended reals. -/
theorem coe_sum {ι : Type*} (s : Finset ι) (f : ι → ℝ) : ((∑ i ∈ s, f i : ℝ) : EReal) = ∑ i ∈ s, ((f i : ℝ) : EReal) := by
  classical
  induction s using Finset.induction_on with
  | empty => rfl
  | insert a s ha ih => rw [Finset.sum_insert ha, Finset.sum_insert ha, EReal.coe_add, ih]

end Cert.Attn

end
-- ==== Proof.HeadValue.lean ====
/- The backward call's arithmetic for one head, over the reals: the mask, the distances, the slopes, the shares, their
   gradients' mean, the scores' gradients and the sink's row. -/
module

public import proofs.«01_k».proof.Proof.Model
public import proofs.«01_k».proof.Proof.Attn
public import Idealize.ShloMosaic.Lib.Pointwise
public import Idealize.ShloMosaic.Lib.IdealHost

@[expose] public section

set_option maxRecDepth 16384

noncomputable section

namespace Cert.KernelIdeal.Swa

open Idealize.ShloMosaic Idealize.ShloMosaic.TcCoe Idealize.ShloMosaic.Tactic
open Cert.KernelIdeal.Gen
open Cert.Attn (Sees)

/-- A point's mask: the keys that a query sees. -/
theorem mask_at (n : ℕ) (hn : n < 32) (j : Fin 256) (i : Fin 128) :
    k0_pay8 (BitVec.ofNat 32 n) (ix2 j i) = if Sees n i j then 1#1 else 0#1 := by
  have hj := j.isLt
  have hi := i.isLt
  pointwise [k0_pay8, k0_pay7]
  have h1 : (IntOp.subi (IntOp.addi (BitVec.ofNat 32 ↑i) 128#32) (BitVec.ofNat 32 ↑j)).toInt = (i : ℤ) + 128 - j := by
    simp only [IntOp.subi, IntOp.addi, BitVec.toInt_eq_toNat_bmod, BitVec.toNat_sub, BitVec.toNat_add, BitVec.toNat_ofNat, Int.bmod_def]
    omega
  have h2 : (BitVec.ofNat 32 ↑j).toInt = (j : ℤ) := by
    simp only [BitVec.toInt_eq_toNat_bmod, BitVec.toNat_ofNat, Int.bmod_def]; omega
  have h3 : (BitVec.ofNat 32 n).toInt = (n : ℤ) := by
    simp only [BitVec.toInt_eq_toNat_bmod, BitVec.toNat_ofNat, Int.bmod_def]; omega
  have h4 : (128#32).toInt = 128 := by decide
  have h5 : (0#32).toInt = 0 := by decide
  have key : ∀ p q r s : Bool, IntOp.andi (IntOp.andi (BitVec.ofBool p) (BitVec.ofBool q)) (IntOp.ori (BitVec.ofBool r) (BitVec.ofBool s))
      = if (p = true ∧ q = true ∧ (r = true ∨ s = true)) then 1#1 else 0#1 := by decide
  refine (key _ _ _ _).trans (if_congr ?_ rfl rfl)
  simp only [BitVec.sle, BitVec.slt, decide_eq_true_eq, h1, h2, h3, h4, h5]
  unfold Sees
  omega

/-- The distance of a query from a key. -/
theorem dist_at (j : Fin 256) (i : Fin 128) :
    (k0_pay9 : FVec Ideal S256x128 .f32) (ix2 j i) = (((i : ℝ) + 128 - j : ℝ) : EReal) := by
  have hj := j.isLt
  have hi := i.isLt
  pointwise [k0_pay9, k0_pay7]
  have h1 : (IntOp.subi (IntOp.addi (BitVec.ofNat 32 ↑i) 128#32) (BitVec.ofNat 32 ↑j)).toInt = (i : ℤ) + 128 - j := by
    simp only [IntOp.subi, IntOp.addi, BitVec.toInt_eq_toNat_bmod, BitVec.toNat_sub, BitVec.toNat_add, BitVec.toNat_ofNat, Int.bmod_def]
    omega
  refine (congrArg (fun z : ℤ => ((z : ℝ) : EReal)) h1).trans ?_
  push_cast
  rfl

/-! ## The slopes -/

theorem slope_eq (h : ℕ) : Cert.Attn.slope h = (Real.sqrt (2 ^ (h + 1)))⁻¹ := by
  unfold Cert.Attn.slope
  rw [Real.sqrt_eq_rpow, ← Real.rpow_natCast, ← Real.rpow_mul (by norm_num), ← Real.rpow_neg (by norm_num)]
  refine congrArg (Real.rpow 2) ?_
  push_cast
  ring
theorem slope_odd (m : ℕ) : Cert.Attn.slope (2 * m + 1) = (2 ^ (m + 1))⁻¹ := by
  rw [slope_eq, show 2 * m + 1 + 1 = (m + 1) * 2 by ring, pow_mul, Real.sqrt_sq (by positivity)]

/-- The slope of each head as the call has it. -/
theorem slopes_at : ∀ h : ℕ, h < 16 → (slopes h : Ideal .f32) = ((Cert.Attn.slope h : ℝ) : EReal)
  | 0, _ => by rw [slope_eq]; norm_num; rfl
  | 1, _ => by rw [slope_odd 0]; simp [slopes, Scalar.ofBits, FloatOps.ofBits, Ideal.ofBits, Ideal.ieee, -EReal.coe_mul]; norm_num
  | 2, _ => by rw [slope_eq]; norm_num; rfl
  | 3, _ => by rw [slope_odd 1]; simp [slopes, Scalar.ofBits, FloatOps.ofBits, Ideal.ofBits, Ideal.ieee, -EReal.coe_mul]; norm_num
  | 4, _ => by rw [slope_eq]; norm_num; rfl
  | 5, _ => by rw [slope_odd 2]; simp [slopes, Scalar.ofBits, FloatOps.ofBits, Ideal.ofBits, Ideal.ieee, -EReal.coe_mul]; norm_num
  | 6, _ => by rw [slope_eq]; norm_num; rfl
  | 7, _ => by rw [slope_odd 3]; simp [slopes, Scalar.ofBits, FloatOps.ofBits, Ideal.ofBits, Ideal.ieee, -EReal.coe_mul]; norm_num
  | 8, _ => by rw [slope_eq]; norm_num; rfl
  | 9, _ => by rw [slope_odd 4]; simp [slopes, Scalar.ofBits, FloatOps.ofBits, Ideal.ofBits, Ideal.ieee, -EReal.coe_mul]; norm_num
  | 10, _ => by rw [slope_eq]; norm_num; rfl
  | 11, _ => by rw [slope_odd 5]; simp [slopes, Scalar.ofBits, FloatOps.ofBits, Ideal.ofBits, Ideal.ieee, -EReal.coe_mul]; norm_num
  | 12, _ => by rw [slope_eq]; norm_num; rfl
  | 13, _ => by rw [slope_odd 6]; simp [slopes, Scalar.ofBits, FloatOps.ofBits, Ideal.ofBits, Ideal.ieee, -EReal.coe_mul]; norm_num
  | 14, _ => by rw [slope_eq]; norm_num; rfl
  | 15, _ => by rw [slope_odd 7]; simp [slopes, Scalar.ofBits, FloatOps.ofBits, Ideal.ofBits, Ideal.ieee, -EReal.coe_mul]; norm_num
  | h + 16, hh => absurd hh (by omega)

theorem eighth : Ideal.ofBits .f32 1040187392#32 = ((1 / 8 : ℝ) : EReal) := by
  simp [Ideal.ofBits, Ideal.ieee, -EReal.coe_mul]; norm_num

/-! ## One head -/

section Head

variable {A : ℕ → ℕ → ℝ} {S : ℕ → ℝ} {D : ℕ → ℕ → ℝ} {n h : ℕ}
  {mask : IVec S256x128 1} {s p dp : FVec Ideal S256x128 .f32} {sl : Ideal .f32} {l : Vec Ideal S1x1x128 .f32}

/-- The shares. Products with keys that are not seen count for nothing. -/
theorem shares_at (hm : ∀ (j : Fin 256) (i : Fin 128), mask (ix2 j i) = if Sees n i j then 1#1 else 0#1)
    (hs : ∀ (j : Fin 256) (i : Fin 128), ∃ x : ℝ, (s (ix2 j i) : EReal) = x ∧
      (Sees n i j → x = ∑ d : Fin 64, Cert.Attn.key A n (h / 8) j d * Cert.Attn.head A n h i d))
    (hsl : sl = ((Cert.Attn.slope h : ℝ) : EReal))
    (hl : ∀ i : Fin 128, (l (ix3 0 0 i) : EReal) = ((Real.log (Cert.Attn.total A S n h i) : ℝ) : EReal))
    (j : Fin 256) (i : Fin 128) :
    (shares mask s sl l (ix2 j i) : EReal) = ((Cert.Attn.share A S n h i j : ℝ) : EReal) := by
  obtain ⟨x, hx, hxs⟩ := hs j i
  pointwise [shares]
  rw [hm, hx, hsl, hl, dist_at, eighth, Cert.Attn.share_eq_exp]
  by_cases hc : Sees n i j
  · rw [if_pos hc, if_pos hc]
    refine (congrArg (fun z : EReal => Ideal.exp (z - ((Real.log (Cert.Attn.total A S n h i) : ℝ) : EReal))) (if_pos rfl)).trans ?_
    simp only [← EReal.coe_mul, ← EReal.coe_sub, Ideal.exp_coe]
    rw [hxs hc]
    rfl
  · rw [if_neg hc, if_neg hc]
    refine (congrArg (fun z : EReal => Ideal.exp (z - ((Real.log (Cert.Attn.total A S n h i) : ℝ) : EReal))) (if_neg (by decide))).trans ?_
    rw [show ((Named.named κ "mask" 4048155338#32 : Ideal .f32) : EReal) = ⊥ from rfl, EReal.bot_sub, Ideal.exp_bot]
    rfl

variable (hp : ∀ (j : Fin 256) (i : Fin 128), (p (ix2 j i) : EReal) = ((Cert.Attn.share A S n h i j : ℝ) : EReal))
  (hd : ∀ (j : Fin 256) (i : Fin 128), ∃ x : ℝ, (dp (ix2 j i) : EReal) = x ∧ (Sees n i j → x = Cert.Attn.gain A D n h i j))
include hp hd

/-- A gradient counts only where its share is not nothing. -/
theorem share_gain (j : Fin 256) (i : Fin 128) :
    (p (ix2 j i) * dp (ix2 j i) : EReal) = ((Cert.Attn.share A S n h i j * Cert.Attn.gain A D n h i j : ℝ) : EReal) := by
  obtain ⟨x, hx, hxs⟩ := hd j i
  rw [hp, hx, ← EReal.coe_mul]
  by_cases hc : Sees n i j
  · rw [hxs hc]
  · rw [Cert.Attn.share_of_not_sees A S hc, zero_mul, zero_mul]

/-- The mean of the gradients. -/
theorem means_at (i : Fin 128) : (means p dp (ix2 0 i) : EReal) = ((Cert.Attn.mean A S D n h i : ℝ) : EReal) := by
  pointwise [means]
  refine (Finset.sum_congr rfl fun j _ => share_gain hp hd j i).trans ?_
  rw [← Cert.Attn.coe_sum]
  rfl

/-- The scores' gradients. -/
theorem dscores_at (j : Fin 256) (i : Fin 128) :
    (dscores p dp (ix2 j i) : EReal) = ((Cert.Attn.dscore A S D n h i j : ℝ) : EReal) := by
  obtain ⟨x, hx, hxs⟩ := hd j i
  pointwise [dscores]
  rw [means_at hp hd, hp, hx, ← EReal.coe_sub, ← EReal.coe_mul]
  unfold Cert.Attn.dscore
  by_cases hc : Sees n i j
  · rw [hxs hc]
  · rw [Cert.Attn.share_of_not_sees A S hc, zero_mul, zero_mul]

/-- The sink's row: what it held, and the block's own. -/
theorem sinkRow_at {old : Vec Ideal S1x128 .f32} {sink : Ideal .f32} (hk : sink = ((S h : ℝ) : EReal))
    (hl : ∀ i : Fin 128, (l (ix3 0 0 i) : EReal) = ((Real.log (Cert.Attn.total A S n h i) : ℝ) : EReal)) (i : Fin 128) :
    (sinkRow old sink l p dp (ix2 0 i) : EReal) = old (ix2 0 i) + ((Cert.Attn.dsinkFrom A S D n h i : ℝ) : EReal) := by
  pointwise [sinkRow]
  rw [means_at hp hd, hl, hk, ← EReal.coe_sub, Ideal.exp_coe, ← EReal.coe_zero, ← EReal.coe_sub, ← EReal.coe_mul]
  unfold Cert.Attn.dsinkFrom
  rw [Cert.Attn.sink_eq_exp, zero_sub, neg_mul]

end Head

end Cert.KernelIdeal.Swa

end
-- ==== Proof.PairValue.lean ====
/- The backward call's arithmetic for a pair of heads and for a group of four pairs, over the reals. -/
module

public import proofs.«01_k».proof.Proof.HeadValue

@[expose] public section

set_option maxRecDepth 16384

noncomputable section

namespace Cert.KernelIdeal.Swa

open Idealize.ShloMosaic Idealize.ShloMosaic.TcCoe Idealize.ShloMosaic.Tactic
open Cert.KernelIdeal.Gen
open Cert.Attn (Sees)

/-! ## Sums of which half the terms are zero -/

theorem sum_left {f : Fin 128 → EReal} {g : Fin 64 → ℝ} (hl : ∀ d : Fin 64, f ⟨d, by omega⟩ = ((g d : ℝ) : EReal))
    (hr : ∀ d : Fin 64, f ⟨64 + d, by omega⟩ = 0) : ∑ c, f c = ((∑ d, g d : ℝ) : EReal) := by
  rw [Cert.Attn.coe_sum]
  refine (Fin.sum_univ_add (a := 64) (b := 64) f).trans ?_
  exact (congrArg₂ (fun a b : EReal => a + b) (Finset.sum_congr rfl fun d _ => hl d) (Finset.sum_eq_zero fun d _ => hr d)).trans (add_zero _)
theorem sum_right {f : Fin 128 → EReal} {g : Fin 64 → ℝ} (hl : ∀ d : Fin 64, f ⟨d, by omega⟩ = 0)
    (hr : ∀ d : Fin 64, f ⟨64 + d, by omega⟩ = ((g d : ℝ) : EReal)) : ∑ c, f c = ((∑ d, g d : ℝ) : EReal) := by
  rw [Cert.Attn.coe_sum]
  refine (Fin.sum_univ_add (a := 64) (b := 64) f).trans ?_
  exact (congrArg₂ (fun a b : EReal => a + b) (Finset.sum_eq_zero fun d _ => hl d) (Finset.sum_congr rfl fun d _ => hr d)).trans (zero_add _)
theorem sum_upper {f : Fin 512 → EReal} {g : Fin 256 → ℝ} (hl : ∀ d : Fin 256, f ⟨d, by omega⟩ = ((g d : ℝ) : EReal))
    (hr : ∀ d : Fin 256, f ⟨256 + d, by omega⟩ = 0) : ∑ c, f c = ((∑ d, g d : ℝ) : EReal) := by
  rw [Cert.Attn.coe_sum]
  refine (Fin.sum_univ_add (a := 256) (b := 256) f).trans ?_
  exact (congrArg₂ (fun a b : EReal => a + b) (Finset.sum_congr rfl fun d _ => hl d) (Finset.sum_eq_zero fun d _ => hr d)).trans (add_zero _)
theorem sum_lower {f : Fin 512 → EReal} {g : Fin 256 → ℝ} (hl : ∀ d : Fin 256, f ⟨d, by omega⟩ = 0)
    (hr : ∀ d : Fin 256, f ⟨256 + d, by omega⟩ = ((g d : ℝ) : EReal)) : ∑ c, f c = ((∑ d, g d : ℝ) : EReal) := by
  rw [Cert.Attn.coe_sum]
  refine (Fin.sum_univ_add (a := 256) (b := 256) f).trans ?_
  exact (congrArg₂ (fun a b : EReal => a + b) (Finset.sum_eq_zero fun d _ => hl d) (Finset.sum_congr rfl fun d _ => hr d)).trans (zero_add _)

/-! ## Keys and values, twice -/

/-- An array that holds `X` in its upper left and lower right quarters and zeros elsewhere. -/
structure Doubled (K : FVec Ideal S512x128 .bf16) (X : ℕ → ℕ → ℝ) : Prop where
  ul : ∀ (j : Fin 256) (d : Fin 64), (K (ix2 ⟨j, by omega⟩ ⟨d, by omega⟩) : EReal) = ((X j d : ℝ) : EReal)
  ur : ∀ (j : Fin 256) (d : Fin 64), (K (ix2 ⟨j, by omega⟩ ⟨64 + d, by omega⟩) : EReal) = 0
  ll : ∀ (j : Fin 256) (d : Fin 64), (K (ix2 ⟨256 + j, by omega⟩ ⟨d, by omega⟩) : EReal) = 0
  lr : ∀ (j : Fin 256) (d : Fin 64), (K (ix2 ⟨256 + j, by omega⟩ ⟨64 + d, by omega⟩) : EReal) = ((X j d : ℝ) : EReal)

theorem doubled {b o : Vec Ideal S128x64 .f32} {B O : ℕ → ℕ → ℝ}
    (hb : ∀ (j : Fin 128) (d : Fin 64), (b (ix2 j d) : EReal) = ((B j d : ℝ) : EReal))
    (ho : ∀ (j : Fin 128) (d : Fin 64), (o (ix2 j d) : EReal) = ((O j d : ℝ) : EReal)) :
    Doubled (twice b o) (fun j d => if j < 128 then B j d else O (j - 128) d) := by
  constructor <;> intro j d <;> have hj := j.isLt <;> have hd := d.isLt <;> pointwise [twice]
  all_goals
    by_cases h : (j : ℕ) < 128
    · rw [if_pos h]; exact (dif_pos h).trans (hb ⟨j, h⟩ d)
    · rw [if_neg h]; exact (dif_neg h).trans (ho ⟨j - 128, by omega⟩ d)

/-! ## A pair of heads -/

/-- Heads `h` and `h + 1` of block `n`, as a pair reads them. -/
structure PairReads (A : ℕ → ℕ → ℝ) (S : ℕ → ℝ) (D : ℕ → ℕ → ℝ) (n h : ℕ) (P : Pair Ideal) : Prop where
  q0 : ∀ (i : Fin 128) (d : Fin 64), (P.q (ix2 i ⟨d, by omega⟩) : EReal) = ((Cert.Attn.head A n h i d : ℝ) : EReal)
  q1 : ∀ (i : Fin 128) (d : Fin 64), (P.q (ix2 i ⟨64 + d, by omega⟩) : EReal) = ((Cert.Attn.head A n (h + 1) i d : ℝ) : EReal)
  d0 : ∀ (i : Fin 128) (d : Fin 64), (P.dout (ix2 i ⟨d, by omega⟩) : EReal) = ((Cert.Attn.head D n h i d : ℝ) : EReal)
  d1 : ∀ (i : Fin 128) (d : Fin 64), (P.dout (ix2 i ⟨64 + d, by omega⟩) : EReal) = ((Cert.Attn.head D n (h + 1) i d : ℝ) : EReal)
  l0 : ∀ i : Fin 128, (P.l0 (ix3 0 0 i) : EReal) = ((Real.log (Cert.Attn.total A S n h i) : ℝ) : EReal)
  l1 : ∀ i : Fin 128, (P.l1 (ix3 0 0 i) : EReal) = ((Real.log (Cert.Attn.total A S n (h + 1) i) : ℝ) : EReal)

/-- A point's mask, and its keys and values of group `g`. -/
structure GroupReads (A : ℕ → ℕ → ℝ) (n g : ℕ) (mask : IVec S256x128 1) (K U : FVec Ideal S512x128 .bf16) (X Y : ℕ → ℕ → ℝ) : Prop where
  mask : ∀ (j : Fin 256) (i : Fin 128), mask (ix2 j i) = if Sees n i j then 1#1 else 0#1
  keys : Doubled K X
  key : ∀ j d : ℕ, 128 ≤ j ∨ 0 < n → X j d = Cert.Attn.key A n g j d
  vals : Doubled U Y
  val : ∀ j d : ℕ, 128 ≤ j ∨ 0 < n → Y j d = Cert.Attn.val A n g j d

theorem prods_upper {K : FVec Ideal S512x128 .bf16} {q : FVec Ideal S128x128 .bf16} {X Q : ℕ → ℕ → ℝ} (hK : Doubled K X)
    (hq : ∀ (i : Fin 128) (d : Fin 64), (q (ix2 i ⟨d, by omega⟩) : EReal) = ((Q i d : ℝ) : EReal)) (j : Fin 256) (i : Fin 128) :
    (upper (prods K q) (ix2 j i) : EReal) = ((∑ d : Fin 64, X j d * Q i d : ℝ) : EReal) := by
  pointwise [upper, prods]
  refine sum_left (fun d => ?_) (fun d => ?_)
  · exact (congrArg₂ (fun a b : EReal => a * b) (hK.ul j d) (hq i d)).trans (EReal.coe_mul _ _).symm
  · exact (congrArg (fun a : EReal => a * _) (hK.ur j d)).trans (zero_mul _)
theorem prods_lower {K : FVec Ideal S512x128 .bf16} {q : FVec Ideal S128x128 .bf16} {X Q : ℕ → ℕ → ℝ} (hK : Doubled K X)
    (hq : ∀ (i : Fin 128) (d : Fin 64), (q (ix2 i ⟨64 + d, by omega⟩) : EReal) = ((Q i d : ℝ) : EReal)) (j : Fin 256) (i : Fin 128) :
    (lower (prods K q) (ix2 j i) : EReal) = ((∑ d : Fin 64, X j d * Q i d : ℝ) : EReal) := by
  pointwise [lower, prods]
  refine sum_right (fun d => ?_) (fun d => ?_)
  · exact (congrArg (fun a : EReal => a * _) (hK.ll j d)).trans (zero_mul _)
  · exact (congrArg₂ (fun a b : EReal => a * b) (hK.lr j d) (hq i d)).trans (EReal.coe_mul _ _).symm

section Pairs

variable {A : ℕ → ℕ → ℝ} {S : ℕ → ℝ} {D : ℕ → ℕ → ℝ} {n g h : ℕ} {mask : IVec S256x128 1} {K U : FVec Ideal S512x128 .bf16} {X Y : ℕ → ℕ → ℝ}
  {P : Pair Ideal} (G : GroupReads A n g mask K U X Y) (R : PairReads A S D n h P) (h0 : h / 8 = g) (h1 : (h + 1) / 8 = g) (hh : h + 1 < 16)
include G R h0 h1 hh

theorem p0_at (j : Fin 256) (i : Fin 128) : (P.p0 mask K h (ix2 j i) : EReal) = ((Cert.Attn.share A S n h i j : ℝ) : EReal) :=
  shares_at G.mask (fun j i => ⟨_, prods_upper (q := P.qb) G.keys R.q0 j i, fun hs => by simp only [G.key _ _ hs.2.2, h0]⟩)
    (slopes_at h (by omega)) R.l0 j i
theorem p1_at (j : Fin 256) (i : Fin 128) : (P.p1 mask K h (ix2 j i) : EReal) = ((Cert.Attn.share A S n (h + 1) i j : ℝ) : EReal) :=
  shares_at G.mask (fun j i => ⟨_, prods_lower (q := P.qb) G.keys R.q1 j i, fun hs => by simp only [G.key _ _ hs.2.2, h1]⟩)
    (slopes_at (h + 1) hh) R.l1 j i
theorem dp0_at (j : Fin 256) (i : Fin 128) : ∃ x : ℝ, (P.dp0 U (ix2 j i) : EReal) = x ∧ (Sees n i j → x = Cert.Attn.gain A D n h i j) :=
  ⟨_, prods_upper G.vals R.d0 j i, fun hs => by unfold Cert.Attn.gain; simp only [G.val _ _ hs.2.2, h0]⟩
theorem dp1_at (j : Fin 256) (i : Fin 128) : ∃ x : ℝ, (P.dp1 U (ix2 j i) : EReal) = x ∧ (Sees n i j → x = Cert.Attn.gain A D n (h + 1) i j) :=
  ⟨_, prods_lower G.vals R.d1 j i, fun hs => by unfold Cert.Attn.gain; simp only [G.val _ _ hs.2.2, h1]⟩

theorem ds0_at (j : Fin 256) (i : Fin 128) : (P.ds mask K U h (ix2 ⟨j, by omega⟩ i) : EReal) = ((Cert.Attn.dscore A S D n h i j : ℝ) : EReal) := by
  have hj := j.isLt
  pointwise [Pair.ds, stack]
  exact dscores_at (p0_at G R h0 h1 hh) (dp0_at G R h0 h1 hh) j i
theorem ds1_at (j : Fin 256) (i : Fin 128) :
    (P.ds mask K U h (ix2 ⟨256 + j, by omega⟩ i) : EReal) = ((Cert.Attn.dscore A S D n (h + 1) i j : ℝ) : EReal) := by
  pointwise [Pair.ds, stack]
  exact dscores_at (p1_at G R h0 h1 hh) (dp1_at G R h0 h1 hh) j i
theorem ps0_at (j : Fin 256) (i : Fin 128) : (P.ps mask K h (ix2 ⟨j, by omega⟩ i) : EReal) = ((Cert.Attn.share A S n h i j : ℝ) : EReal) := by
  have hj := j.isLt
  pointwise [Pair.ps, stack]
  exact p0_at G R h0 h1 hh j i
theorem ps1_at (j : Fin 256) (i : Fin 128) :
    (P.ps mask K h (ix2 ⟨256 + j, by omega⟩ i) : EReal) = ((Cert.Attn.share A S n (h + 1) i j : ℝ) : EReal) := by
  pointwise [Pair.ps, stack]
  exact p1_at G R h0 h1 hh j i

/-- A score's gradient and a key count only where the key is seen. -/
theorem dscore_key {h' : ℕ} (hg : h' / 8 = g) (j : Fin 256) (i : Fin 128) (d : ℕ) :
    Cert.Attn.dscore A S D n h' i j * X j d = Cert.Attn.dscore A S D n h' i j * Cert.Attn.key A n (h' / 8) j d := by
  by_cases hs : Sees n i j
  · rw [G.key _ _ hs.2.2, hg]
  · rw [Cert.Attn.dscore_of_not_sees A S D hs, zero_mul, zero_mul]

/-- The first head's query gradients. -/
theorem dq0_at (i : Fin 128) (d : Fin 64) :
    (P.dq mask K U h (ix2 i ⟨d, by omega⟩) : EReal) = ((Cert.Attn.dquery A S D n h i d : ℝ) : EReal) := by
  pointwise [Pair.dq]
  rw [eighth]
  refine (congrArg (fun z : EReal => z * ((1 / 8 : ℝ) : EReal)) (sum_upper (g := fun j : Fin 256 => Cert.Attn.dscore A S D n h i j * X j d)
    (fun j => ?_) (fun j => ?_))).trans ?_
  · exact (congrArg₂ (fun a b : EReal => a * b) (ds0_at G R h0 h1 hh j i) (G.keys.ul j d)).trans (EReal.coe_mul _ _).symm
  · exact (congrArg (fun a : EReal => _ * a) (G.keys.ll j d)).trans (mul_zero _)
  · rw [← EReal.coe_mul, Finset.sum_congr rfl fun j _ => dscore_key G R h0 h1 hh h0 j i d]; rfl
/-- The second head's. -/
theorem dq1_at (i : Fin 128) (d : Fin 64) :
    (P.dq mask K U h (ix2 i ⟨64 + d, by omega⟩) : EReal) = ((Cert.Attn.dquery A S D n (h + 1) i d : ℝ) : EReal) := by
  pointwise [Pair.dq]
  rw [eighth]
  refine (congrArg (fun z : EReal => z * ((1 / 8 : ℝ) : EReal)) (sum_lower (g := fun j : Fin 256 => Cert.Attn.dscore A S D n (h + 1) i j * X j d)
    (fun j => ?_) (fun j => ?_))).trans ?_
  · exact (congrArg (fun a : EReal => _ * a) (G.keys.ur j d)).trans (mul_zero _)
  · exact (congrArg₂ (fun a b : EReal => a * b) (ds1_at G R h0 h1 hh j i) (G.keys.lr j d)).trans (EReal.coe_mul _ _).symm
  · rw [← EReal.coe_mul, Finset.sum_congr rfl fun j _ => dscore_key G R h0 h1 hh h1 j i d]; rfl

/-- What the first head sends back to a key. -/
theorem dk0_at (j : Fin 256) (d : Fin 64) : (P.dk mask K U h (ix2 ⟨j, by omega⟩ ⟨d, by omega⟩) : EReal)
    = ((∑ i : Fin 128, Cert.Attn.dscore A S D n h i j * Cert.Attn.head A n h i d : ℝ) : EReal) := by
  pointwise [Pair.dk, Pair.qb]
  rw [Cert.Attn.coe_sum]
  exact Finset.sum_congr rfl fun i _ => (congrArg₂ (fun a b : EReal => a * b) (ds0_at G R h0 h1 hh j i) (R.q0 i d)).trans (EReal.coe_mul _ _).symm
theorem dk1_at (j : Fin 256) (d : Fin 64) : (P.dk mask K U h (ix2 ⟨256 + j, by omega⟩ ⟨64 + d, by omega⟩) : EReal)
    = ((∑ i : Fin 128, Cert.Attn.dscore A S D n (h + 1) i j * Cert.Attn.head A n (h + 1) i d : ℝ) : EReal) := by
  pointwise [Pair.dk, Pair.qb]
  rw [Cert.Attn.coe_sum]
  exact Finset.sum_congr rfl fun i _ => (congrArg₂ (fun a b : EReal => a * b) (ds1_at G R h0 h1 hh j i) (R.q1 i d)).trans (EReal.coe_mul _ _).symm
/-- What the first head sends back to a value. -/
theorem dv0_at (j : Fin 256) (d : Fin 64) : (P.dv mask K h (ix2 ⟨j, by omega⟩ ⟨d, by omega⟩) : EReal)
    = ((∑ i : Fin 128, Cert.Attn.share A S n h i j * Cert.Attn.head D n h i d : ℝ) : EReal) := by
  pointwise [Pair.dv]
  rw [Cert.Attn.coe_sum]
  exact Finset.sum_congr rfl fun i _ => (congrArg₂ (fun a b : EReal => a * b) (ps0_at G R h0 h1 hh j i) (R.d0 i d)).trans (EReal.coe_mul _ _).symm
theorem dv1_at (j : Fin 256) (d : Fin 64) : (P.dv mask K h (ix2 ⟨256 + j, by omega⟩ ⟨64 + d, by omega⟩) : EReal)
    = ((∑ i : Fin 128, Cert.Attn.share A S n (h + 1) i j * Cert.Attn.head D n (h + 1) i d : ℝ) : EReal) := by
  pointwise [Pair.dv]
  rw [Cert.Attn.coe_sum]
  exact Finset.sum_congr rfl fun i _ => (congrArg₂ (fun a b : EReal => a * b) (ps1_at G R h0 h1 hh j i) (R.d1 i d)).trans (EReal.coe_mul _ _).symm

end Pairs

/-! ## A group of eight heads -/

/-- Eight heads' parts, from four pairs'. -/
theorem folded_at {x0 x1 x2 x3 : FVec Ideal S512x128 .f32} {Z : ℕ → ℝ} {g : ℕ} {j : Fin 256} {d : Fin 64}
    (u0 : (x0 (ix2 ⟨j, by omega⟩ ⟨d, by omega⟩) : EReal) = ((Z (8 * g) : ℝ) : EReal))
    (u1 : (x1 (ix2 ⟨j, by omega⟩ ⟨d, by omega⟩) : EReal) = ((Z (8 * g + 2) : ℝ) : EReal))
    (u2 : (x2 (ix2 ⟨j, by omega⟩ ⟨d, by omega⟩) : EReal) = ((Z (8 * g + 4) : ℝ) : EReal))
    (u3 : (x3 (ix2 ⟨j, by omega⟩ ⟨d, by omega⟩) : EReal) = ((Z (8 * g + 6) : ℝ) : EReal))
    (l0 : (x0 (ix2 ⟨256 + j, by omega⟩ ⟨64 + d, by omega⟩) : EReal) = ((Z (8 * g + 1) : ℝ) : EReal))
    (l1 : (x1 (ix2 ⟨256 + j, by omega⟩ ⟨64 + d, by omega⟩) : EReal) = ((Z (8 * g + 2 + 1) : ℝ) : EReal))
    (l2 : (x2 (ix2 ⟨256 + j, by omega⟩ ⟨64 + d, by omega⟩) : EReal) = ((Z (8 * g + 4 + 1) : ℝ) : EReal))
    (l3 : (x3 (ix2 ⟨256 + j, by omega⟩ ⟨64 + d, by omega⟩) : EReal) = ((Z (8 * g + 6 + 1) : ℝ) : EReal)) :
    (folded (four x0 x1 x2 x3) (ix2 j d) : EReal) = ((∑ e : Fin 8, Z (8 * g + e) : ℝ) : EReal) := by
  pointwise [folded, four]
  refine (congrArg₂ (fun a b : EReal => a + b)
    (congrArg₂ (fun a b : EReal => a + b) (congrArg₂ (fun a b : EReal => a + b) (congrArg₂ (fun a b : EReal => a + b) u0 u1) u2) u3)
    (congrArg₂ (fun a b : EReal => a + b) (congrArg₂ (fun a b : EReal => a + b) (congrArg₂ (fun a b : EReal => a + b) l0 l1) l2) l3)).trans ?_
  simp only [← EReal.coe_add]
  refine congrArg Real.toEReal ?_
  rw [Fin.sum_univ_eight]
  change _ = Z (8 * g + 0) + Z (8 * g + 1) + Z (8 * g + 2) + Z (8 * g + 3) + Z (8 * g + 4) + Z (8 * g + 5) + Z (8 * g + 6) + Z (8 * g + 7)
  rw [Nat.add_zero]
  change Z (8 * g) + Z (8 * g + 2) + Z (8 * g + 4) + Z (8 * g + 6) + (Z (8 * g + 1) + Z (8 * g + 3) + Z (8 * g + 5) + Z (8 * g + 7)) = _
  ring_nf

section Groups

variable {A : ℕ → ℕ → ℝ} {S : ℕ → ℝ} {D : ℕ → ℕ → ℝ} {n g : ℕ} {mask : IVec S256x128 1} {K U : FVec Ideal S512x128 .bf16} {X Y : ℕ → ℕ → ℝ}
  {P0 P1 P2 P3 : Pair Ideal} (G : GroupReads A n g mask K U X Y) (hg : g < 2) (R0 : PairReads A S D n (8 * g) P0)
  (R1 : PairReads A S D n (8 * g + 2) P1) (R2 : PairReads A S D n (8 * g + 4) P2) (R3 : PairReads A S D n (8 * g + 6) P3)
include G hg R0 R1 R2 R3

/-- What the group sends back to its keys. -/
theorem dkeys_at (j : Fin 256) (d : Fin 64) :
    (dkeys mask K U (8 * g) P0 P1 P2 P3 (ix2 j d) : EReal) = ((Cert.Attn.dkeyFrom A S D n g j d : ℝ) : EReal) := by
  have e := folded_at (g := g) (Z := fun h => ∑ i : Fin 128, Cert.Attn.dscore A S D n h i j * Cert.Attn.head A n h i d)
    (dk0_at G R0 (by omega) (by omega) (by omega) j d) (dk0_at G R1 (by omega) (by omega) (by omega) j d)
    (dk0_at G R2 (by omega) (by omega) (by omega) j d) (dk0_at G R3 (by omega) (by omega) (by omega) j d)
    (dk1_at G R0 (by omega) (by omega) (by omega) j d) (dk1_at G R1 (by omega) (by omega) (by omega) j d)
    (dk1_at G R2 (by omega) (by omega) (by omega) j d) (dk1_at G R3 (by omega) (by omega) (by omega) j d)
  refine (congrArg₂ (fun a b : EReal => a * b) e eighth).trans ?_
  rw [← EReal.coe_mul]
  rfl
/-- What it sends back to its values. -/
theorem dvals_at (j : Fin 256) (d : Fin 64) :
    (dvals mask K (8 * g) P0 P1 P2 P3 (ix2 j d) : EReal) = ((Cert.Attn.dvalFrom A S D n g j d : ℝ) : EReal) :=
  folded_at (g := g) (Z := fun h => ∑ i : Fin 128, Cert.Attn.share A S n h i j * Cert.Attn.head D n h i d)
    (dv0_at G R0 (by omega) (by omega) (by omega) j d) (dv0_at G R1 (by omega) (by omega) (by omega) j d)
    (dv0_at G R2 (by omega) (by omega) (by omega) j d) (dv0_at G R3 (by omega) (by omega) (by omega) j d)
    (dv1_at G R0 (by omega) (by omega) (by omega) j d) (dv1_at G R1 (by omega) (by omega) (by omega) j d)
    (dv1_at G R2 (by omega) (by omega) (by omega) j d) (dv1_at G R3 (by omega) (by omega) (by omega) j d)

end Groups

end Cert.KernelIdeal.Swa

end
-- ==== Proof.Parts.lean ====
/- What the body reads of its blocks and makes of them, in the words of the call's arithmetic. -/
module

public import proofs.«01_k».proof.Proof.Model

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (a1 : Memref sig .tc .smem S1x16 .f32) (h1 : a1.IsWhole)
  (a2 : Memref sig .tc .vmem S128x1024 .f32) (h2 : a2.IsWhole)
  (a3 : Memref sig .tc .vmem S128x256 .f32) (h3 : a3.IsWhole)
  (a4 : Memref sig .tc .vmem S128x256 .f32) (h4 : a4.IsWhole)
  (a5 : Memref sig .tc .vmem S128x1024 .bf16) (h5 : a5.IsWhole)
  (a6 : Memref sig .tc .vmem S1x16x128 .f32) (h6 : a6.IsWhole)
  (a7 : Memref sig .tc .vmem S128x1024 .bf16) (h7 : a7.IsWhole)
  (a8 : Memref sig .tc .vmem S128x256 .bf16) (h8 : a8.IsWhole)
  (a9 : Memref sig .tc .vmem S16x128 .f32) (h9 : a9.IsWhole)
  (a10 : Memref sig .tc .vmem S128x256 .f32) (h10 : a10.IsWhole)
  (x0 : Vec F S1x16 .f32) (x1 : Vec F S128x1024 .f32) (x2 x3 : Vec F S128x256 .f32)
  (x4 : Vec F S128x1024 .bf16) (x5 : Vec F S1x16x128 .f32)
  (xo8 : Vec F S16x128 .f32) (xs0 : Vec F S128x256 .f32)

/-- 128 columns of a block of rows, from column `o`. -/
def cols {e : EltTy} (a : Memref sig .tc .vmem S128x1024 e) (h : a.IsWhole) (x : Vec F S128x1024 e) (o : ℕ) (ho : o ≤ 896) : Vec F S128x128 e :=
  View.readAt (Elt F) a.view (Rect.unit (s := S128x1024) ![0, o] ![128, 128] (by intro j; match j with | 0 => exact Nat.le_refl _ | 1 => exact Nat.add_le_add_right ho 128)).toLoadRect (h.unread x)
/-- 64 columns of a block of keys and values, from column `o`. -/
def half (a : Memref sig .tc .vmem S128x256 .f32) (h : a.IsWhole) (x : Vec F S128x256 .f32) (o : ℕ) (ho : o ≤ 192) : Vec F S128x64 .f32 :=
  View.readAt (Elt F) a.view (Rect.unit (s := S128x256) ![0, o] ![128, 64] (by intro j; match j with | 0 => exact Nat.le_refl _ | 1 => exact Nat.add_le_add_right ho 64)).toLoadRect (h.unread x)
/-- Row `o` of the totals' logarithms. -/
def logRow (o : ℕ) (ho : o ≤ 15) : Vec F S1x1x128 .f32 :=
  View.readAt (Elt F) a6.view (Rect.unit (s := S1x16x128) ![0, o, 0] ![1, 1, 128] (by intro j; match j with | 0 => exact Nat.le_refl _ | 1 => exact Nat.add_le_add_right ho 1 | 2 => exact Nat.le_refl _)).toLoadRect (h6.unread x5)
/-- What pair `p` of heads reads. -/
def pairOf (p : ℕ) (hp : p < 8) : Pair F where
  q := cols a2 h2 x1 (128 * p) (by omega)
  dout := cols a5 h5 x4 (128 * p) (by omega)
  l0 := logRow a6 h6 x5 (2 * p) (by omega)
  l1 := logRow a6 h6 x5 (2 * p + 1) (by omega)
/-- The keys of group `g`, of the block before and of the block itself. -/
def keysOf (g : ℕ) (hg : g < 2) : FVec F S512x128 .bf16 := twice (half a4 h4 x3 (64 * g) (by omega)) (half a3 h3 x2 (64 * g) (by omega))
/-- Its values. -/
def valsOf (g : ℕ) (hg : g < 2) : FVec F S512x128 .bf16 := twice (half a4 h4 x3 (128 + 64 * g) (by omega)) (half a3 h3 x2 (128 + 64 * g) (by omega))

/-- The gradients of pair `p`'s queries. -/
def dqOf (p : ℕ) (hp : p < 8) : FVec F S128x128 .bf16 :=
  (pairOf a2 h2 a5 h5 a6 h6 x1 x4 x5 p hp).dq (k0_pay8 (i 0)) (keysOf a3 h3 a4 h4 x2 x3 (p / 4) (by omega)) (valsOf a3 h3 a4 h4 x2 x3 (p / 4) (by omega)) (2 * p)

/-- What group `g` sends back to its keys. -/
def dkeysOf (g : ℕ) (hg : g < 2) : FVec F S256x64 .f32 :=
  dkeys (k0_pay8 (i 0)) (keysOf a3 h3 a4 h4 x2 x3 g hg) (valsOf a3 h3 a4 h4 x2 x3 g hg) (8 * g)
    (pairOf a2 h2 a5 h5 a6 h6 x1 x4 x5 (4 * g + 0) (by omega)) (pairOf a2 h2 a5 h5 a6 h6 x1 x4 x5 (4 * g + 1) (by omega)) (pairOf a2 h2 a5 h5 a6 h6 x1 x4 x5 (4 * g + 2) (by omega)) (pairOf a2 h2 a5 h5 a6 h6 x1 x4 x5 (4 * g + 3) (by omega))
/-- What it sends back to its values. -/
def dvalsOf (g : ℕ) (hg : g < 2) : FVec F S256x64 .f32 :=
  dvals (k0_pay8 (i 0)) (keysOf a3 h3 a4 h4 x2 x3 g hg) (8 * g)
    (pairOf a2 h2 a5 h5 a6 h6 x1 x4 x5 (4 * g + 0) (by omega)) (pairOf a2 h2 a5 h5 a6 h6 x1 x4 x5 (4 * g + 1) (by omega)) (pairOf a2 h2 a5 h5 a6 h6 x1 x4 x5 (4 * g + 2) (by omega)) (pairOf a2 h2 a5 h5 a6 h6 x1 x4 x5 (4 * g + 3) (by omega))
/-- The one or the other. -/
def sentOf (v : Bool) (g : ℕ) (hg : g < 2) : FVec F S256x64 .f32 :=
  match v with
  | false => dkeysOf i a2 h2 a3 h3 a4 h4 a5 h5 a6 h6 x1 x2 x3 x4 x5 g hg
  | true => dvalsOf i a2 h2 a3 h3 a4 h4 a5 h5 a6 h6 x1 x2 x3 x4 x5 g hg
/-- The column where group `g`'s keys or values begin. -/
abbrev colOf (v : Bool) (g : ℕ) : ℕ := cond v 128 0 + 64 * g
theorem colOf_le (v : Bool) {g : ℕ} (hg : g < 2) : colOf v g ≤ 192 := by cases v <;> dsimp only [colOf, cond] <;> omega
/-- The rectangle of group `g`'s keys or values. -/
abbrev colRect (v : Bool) (g : ℕ) (hg : g < 2) : Rect S128x256 :=
  Rect.unit (s := S128x256) ![0, colOf v g] ![128, 64] (by intro j; match j with | 0 => exact Nat.le_refl _ | 1 => exact Nat.add_le_add_right (colOf_le v hg) 64)
/-- The rectangle of one head's row of the sinks' sums. -/
abbrev rowRect (k : ℕ) (hk : k < 16) : Rect S16x128 :=
  Rect.unit (s := S16x128) ![k, 0] ![1, 128] (by intro j; match j with | 0 => exact hk | 1 => exact Nat.le_refl _)
/-- The rectangle of one pair's queries. -/
abbrev pairRect (k : ℕ) (hk : k < 8) : Rect S128x1024 :=
  Rect.unit (s := S128x1024) ![0, 128 * k] ![128, 128] (by intro j; match j with | 0 => exact Nat.le_refl _ | 1 => exact (by omega : 128 * k + 128 ≤ 1024))
/-- Head `k`'s sink. -/
def sinkOf (k : ℕ) (hk : k < 16) : F .f32 :=
  View.readAt (Elt F) a1.view (Rect.unit (s := S1x16) ![0, k] S1x1.size (by intro j; match j with | 0 => exact Nat.le_refl _ | 1 => exact hk)).toLoadRect (h1.unread x0) (Shape.Idx.first (numel1_S1x1.symm ▸ Nat.one_pos))
/-- Head `n`'s row of the sinks' sums, from what the row held. -/
def rowOf (n : ℕ) (hn : n < 16) (old : Vec F S1x128 .f32) : FVec F S1x128 .f32 :=
  let P := pairOf a2 h2 a5 h5 a6 h6 x1 x4 x5 (n / 2) (by omega)
  let K := keysOf a3 h3 a4 h4 x2 x3 (n / 8) (by omega)
  let U := valsOf a3 h3 a4 h4 x2 x3 (n / 8) (by omega)
  match n % 2 == 1 with
  | false => sinkRow old (sinkOf a1 h1 x0 n hn) P.l0 (P.p0 (k0_pay8 (i 0)) K (2 * (n / 2))) (P.dp0 U)
  | true => sinkRow old (sinkOf a1 h1 x0 n hn) P.l1 (P.p1 (k0_pay8 (i 0)) K (2 * (n / 2))) (P.dp1 U)

end Cert.KernelIdeal.Swa

end
-- ==== Proof.BlockValue.lean ====
/- What the body makes of a block of rows that holds real numbers: the rows' reads at an index, and every piece it
   stores as a gradient over the reals. -/
module

public import Idealize.ShloMosaic.Lib.WholeRead
public import proofs.«01_k».proof.Proof.PairValue
public import proofs.«01_k».proof.Proof.Parts

@[expose] public section

set_option maxRecDepth 16384

noncomputable section

namespace Cert.KernelIdeal.Swa

open Idealize.ShloMosaic Idealize.ShloMosaic.TcCoe Idealize.ShloMosaic.Tactic
open Cert.KernelIdeal.Gen
open Cert.Attn (Sees)

/-- The contents of a point's input blocks, for block `n` of the rows. -/
structure BlockReads (A : ℕ → ℕ → ℝ) (S : ℕ → ℝ) (D : ℕ → ℕ → ℝ) (n : ℕ) (i : grid0.Coords) (x0 : Vec Ideal S1x16 .f32)
    (x1 : Vec Ideal S128x1024 .f32) (x2 x3 : Vec Ideal S128x256 .f32) (x4 : Vec Ideal S128x1024 .bf16) (x5 : Vec Ideal S1x16x128 .f32) : Prop where
  lt : n < 32
  at_point : (i 0).val = n
  sink : ∀ h : Fin 16, (x0 (ix2 0 h) : EReal) = ((S h : ℝ) : EReal)
  query : ∀ (r : Fin 128) (k : Fin 1024), (x1 (ix2 r k) : EReal) = ((A (128 * n + r) k : ℝ) : EReal)
  own : ∀ (r : Fin 128) (k : Fin 256), (x2 (ix2 r k) : EReal) = ((A (128 * n + r) (1024 + k) : ℝ) : EReal)
  prev : ∀ (r : Fin 128) (k : Fin 256), (x3 (ix2 r k) : EReal) = ((A (128 * (n - 1) + r) (1024 + k) : ℝ) : EReal)
  dout : ∀ (r : Fin 128) (k : Fin 1024), (x4 (ix2 r k) : EReal) = ((D (128 * n + r) k : ℝ) : EReal)
  log : ∀ (h : Fin 16) (r : Fin 128), (x5 (ix3 0 h r) : EReal) = ((Real.log (Cert.Attn.total A S n h r) : ℝ) : EReal)

section

variable {A : ℕ → ℕ → ℝ} {S : ℕ → ℝ} {D : ℕ → ℕ → ℝ} {n : ℕ} {i : grid0.Coords}
  {a1 : Memref sig .tc .smem S1x16 .f32} {h1 : a1.IsWhole}
  {a2 : Memref sig .tc .vmem S128x1024 .f32} {h2 : a2.IsWhole}
  {a3 : Memref sig .tc .vmem S128x256 .f32} {h3 : a3.IsWhole}
  {a4 : Memref sig .tc .vmem S128x256 .f32} {h4 : a4.IsWhole}
  {a5 : Memref sig .tc .vmem S128x1024 .bf16} {h5 : a5.IsWhole}
  {a6 : Memref sig .tc .vmem S1x16x128 .f32} {h6 : a6.IsWhole}
  {x0 : Vec Ideal S1x16 .f32} {x1 : Vec Ideal S128x1024 .f32} {x2 x3 : Vec Ideal S128x256 .f32}
  {x4 : Vec Ideal S128x1024 .bf16} {x5 : Vec Ideal S1x16x128 .f32}

theorem cols_at {e : EltTy} (a : Memref sig .tc .vmem S128x1024 e) (h : a.IsWhole) (x : Vec Ideal S128x1024 e) (o : ℕ) (ho : o ≤ 896)
    (r k : Fin 128) : cols a h x o ho (ix2 r k) = x (ix2 r ⟨o + k, by omega⟩) := by
  unfold cols
  rw [Memref.IsWhole.readAt_unread h]
  refine congrArg x (funext fun b => Fin.ext ?_)
  match b with
  | 0 => exact (congrArg (0 + ·) (one_mul _)).trans (zero_add _)
  | 1 => exact congrArg (o + ·) (one_mul _)
theorem half_at (a : Memref sig .tc .vmem S128x256 .f32) (h : a.IsWhole) (x : Vec Ideal S128x256 .f32) (o : ℕ) (ho : o ≤ 192)
    (r : Fin 128) (k : Fin 64) : half a h x o ho (ix2 r k) = x (ix2 r ⟨o + k, by omega⟩) := by
  unfold half
  rw [Memref.IsWhole.readAt_unread h]
  refine congrArg x (funext fun b => Fin.ext ?_)
  match b with
  | 0 => exact (congrArg (0 + ·) (one_mul _)).trans (zero_add _)
  | 1 => exact congrArg (o + ·) (one_mul _)
theorem logRow_at (o : ℕ) (ho : o ≤ 15) (r : Fin 128) : logRow a6 h6 x5 o ho (ix3 0 0 r) = x5 (ix3 0 ⟨o, by omega⟩ r) := by
  unfold logRow
  rw [Memref.IsWhole.readAt_unread h6]
  refine congrArg x5 (funext fun b => Fin.ext ?_)
  match b with
  | 0 => rfl
  | 1 => rfl
  | 2 => exact (congrArg (0 + ·) (one_mul _)).trans (zero_add _)
theorem sinkOf_at (k : ℕ) (hk : k < 16) : sinkOf a1 h1 x0 k hk = x0 (ix2 0 ⟨k, hk⟩) := by
  unfold sinkOf
  rw [Memref.IsWhole.readAt_unread h1]
  refine congrArg x0 (funext fun b => Fin.ext ?_)
  match b with
  | 0 => rfl
  | 1 => rfl

variable (B : BlockReads A S D n i x0 x1 x2 x3 x4 x5)
include B

theorem BlockReads.pair (p : ℕ) (hp : p < 8) {h : ℕ} (hh : h = 2 * p) : PairReads A S D n h (pairOf a2 h2 a5 h5 a6 h6 x1 x4 x5 p hp) := by
  subst hh
  constructor <;> intro r
  · intro d
    refine (cols_at a2 h2 x1 _ (by omega) r ⟨d, by omega⟩).trans ((B.query _ _).trans ?_)
    exact congrArg (fun k => ((A (128 * n + r) k : ℝ) : EReal)) (by dsimp only; omega)
  · intro d
    refine (cols_at a2 h2 x1 _ (by omega) r ⟨64 + d, by omega⟩).trans ((B.query _ _).trans ?_)
    exact congrArg (fun k => ((A (128 * n + r) k : ℝ) : EReal)) (by dsimp only; omega)
  · intro d
    refine (cols_at a5 h5 x4 _ (by omega) r ⟨d, by omega⟩).trans ((B.dout _ _).trans ?_)
    exact congrArg (fun k => ((D (128 * n + r) k : ℝ) : EReal)) (by dsimp only; omega)
  · intro d
    refine (cols_at a5 h5 x4 _ (by omega) r ⟨64 + d, by omega⟩).trans ((B.dout _ _).trans ?_)
    exact congrArg (fun k => ((D (128 * n + r) k : ℝ) : EReal)) (by dsimp only; omega)
  · exact (logRow_at _ (by omega) r).trans (B.log _ _)
  · exact (logRow_at _ (by omega) r).trans (B.log _ _)

/-- What the two halves of a group's keys or values hold. -/
def spans (A : ℕ → ℕ → ℝ) (n o : ℕ) : ℕ → ℕ → ℝ := fun j d =>
  if j < 128 then A (128 * (n - 1) + j) (1024 + (o + d)) else A (128 * n + (j - 128)) (1024 + (o + d))

theorem BlockReads.twice_at (o : ℕ) (ho : o ≤ 192) : Doubled (twice (half a4 h4 x3 o ho) (half a3 h3 x2 o ho)) (spans A n o) :=
  doubled (B := fun j d => A (128 * (n - 1) + j) (1024 + (o + d))) (O := fun j d => A (128 * n + j) (1024 + (o + d)))
    (fun r d => (half_at a4 h4 x3 o ho r d).trans (B.prev _ _)) (fun r d => (half_at a3 h3 x2 o ho r d).trans (B.own _ _))

omit B in
theorem spans_eq (n o j d : ℕ) (hs : 128 ≤ j ∨ 0 < n) : spans A n o j d = A (128 * n + j - 128) (1024 + (o + d)) := by
  unfold spans
  split
  · congr 1; omega
  · congr 1; omega

theorem BlockReads.mask (j : Fin 256) (r : Fin 128) : k0_pay8 (i 0) (ix2 j r) = if Sees n r j then 1#1 else 0#1 := by
  have e := mask_at n B.lt j r
  rw [← B.at_point] at e ⊢
  exact e

theorem BlockReads.group (g : ℕ) (hg : g < 2) :
    GroupReads A n g (k0_pay8 (i 0)) (keysOf a3 h3 a4 h4 x2 x3 g hg) (valsOf a3 h3 a4 h4 x2 x3 g hg)
      (spans A n (64 * g)) (spans A n (128 + 64 * g)) where
  mask := B.mask
  keys := B.twice_at _ _
  key j d hs := spans_eq n _ j d hs
  vals := B.twice_at _ _
  val j d hs := (spans_eq n _ j d hs).trans (congrArg (A (128 * n + j - 128)) (by omega))

/-- The gradients of a pair's queries. -/
theorem BlockReads.dq_at (p : ℕ) (hp : p < 8) (r k : Fin 128) :
    (dqOf i a2 h2 a3 h3 a4 h4 a5 h5 a6 h6 x1 x2 x3 x4 x5 p hp (ix2 r k) : EReal)
      = ((Cert.Attn.dquery A S D n ((128 * p + k) / 64) r ((128 * p + k) % 64) : ℝ) : EReal) := by
  have hk := k.isLt
  have G := B.group (a3 := a3) (h3 := h3) (a4 := a4) (h4 := h4) (p / 4) (by omega)
  have R := B.pair (a2 := a2) (h2 := h2) (a5 := a5) (h5 := h5) (a6 := a6) (h6 := h6) p hp rfl
  by_cases h : (k : ℕ) < 64
  · have e := dq0_at G R (by omega) (by omega) (by omega) r ⟨k, h⟩
    rw [show (128 * p + (k : ℕ)) / 64 = 2 * p by omega, show (128 * p + (k : ℕ)) % 64 = k by omega]
    exact e
  · have e := dq1_at G R (by omega) (by omega) (by omega) r ⟨k - 64, by omega⟩
    have ek : (⟨64 + ((k : ℕ) - 64), by omega⟩ : Fin 128) = k := Fin.ext (by dsimp only; omega)
    rw [show (128 * p + (k : ℕ)) / 64 = 2 * p + 1 by omega, show (128 * p + (k : ℕ)) % 64 = k - 64 by omega]
    exact (congrArg (fun z : Fin 128 => dqOf i a2 h2 a3 h3 a4 h4 a5 h5 a6 h6 x1 x2 x3 x4 x5 p hp (ix2 r z)) ek.symm).trans e

/-- What a group sends back to its keys or values. -/
theorem BlockReads.sent_at (v : Bool) (g : ℕ) (hg : g < 2) (j : Fin 256) (d : Fin 64) :
    (sentOf i a2 h2 a3 h3 a4 h4 a5 h5 a6 h6 x1 x2 x3 x4 x5 v g hg (ix2 j d) : EReal)
      = ((cond v (Cert.Attn.dvalFrom A S D n g j d) (Cert.Attn.dkeyFrom A S D n g j d) : ℝ) : EReal) := by
  have G := B.group (a3 := a3) (h3 := h3) (a4 := a4) (h4 := h4) g hg
  have R0 := B.pair (a2 := a2) (h2 := h2) (a5 := a5) (h5 := h5) (a6 := a6) (h6 := h6) (4 * g + 0) (by omega) (h := 8 * g) (by omega)
  have R1 := B.pair (a2 := a2) (h2 := h2) (a5 := a5) (h5 := h5) (a6 := a6) (h6 := h6) (4 * g + 1) (by omega) (h := 8 * g + 2) (by omega)
  have R2 := B.pair (a2 := a2) (h2 := h2) (a5 := a5) (h5 := h5) (a6 := a6) (h6 := h6) (4 * g + 2) (by omega) (h := 8 * g + 4) (by omega)
  have R3 := B.pair (a2 := a2) (h2 := h2) (a5 := a5) (h5 := h5) (a6 := a6) (h6 := h6) (4 * g + 3) (by omega) (h := 8 * g + 6) (by omega)
  cases v with
  | false => exact dkeys_at G hg R0 R1 R2 R3 j d
  | true => exact dvals_at G hg R0 R1 R2 R3 j d

/-- A head's row of the sinks' sums. -/
theorem BlockReads.row_at (k : ℕ) (hk : k < 16) (old : Vec Ideal S1x128 .f32) (r : Fin 128) :
    (rowOf i a1 h1 a2 h2 a3 h3 a4 h4 a5 h5 a6 h6 x0 x1 x2 x3 x4 x5 k hk old (ix2 0 r) : EReal)
      = old (ix2 0 r) + ((Cert.Attn.dsinkFrom A S D n k r : ℝ) : EReal) := by
  have G := B.group (a3 := a3) (h3 := h3) (a4 := a4) (h4 := h4) (k / 8) (by omega)
  have R := B.pair (a2 := a2) (h2 := h2) (a5 := a5) (h5 := h5) (a6 := a6) (h6 := h6) (k / 2) (by omega) rfl
  have hs : sinkOf a1 h1 x0 k hk = ((S k : ℝ) : EReal) := (sinkOf_at k hk).trans (B.sink ⟨k, hk⟩)
  rcases Nat.mod_two_eq_zero_or_one k with e | e
  · have hp := p0_at G R (by omega) (by omega) (by omega)
    have hd := dp0_at G R (by omega) (by omega) (by omega)
    have hl := R.l0
    rw [show 2 * (k / 2) = k by omega] at hp hd hl
    unfold rowOf
    rw [e]
    simp only [show 2 * (k / 2) = k by omega]
    exact sinkRow_at hp hd hs hl r
  · have hp := p1_at G R (by omega) (by omega) (by omega)
    have hd := dp1_at G R (by omega) (by omega) (by omega)
    have hl := R.l1
    simp only [show 2 * (k / 2) + 1 = k by omega] at hp hd hl
    unfold rowOf
    rw [e]
    exact sinkRow_at hp hd hs hl r

end

end Cert.KernelIdeal.Swa

end
-- ==== Proof.BlockArrays.lean ====
/- Where the blocks of the backward call's input windows lie in their arrays. -/
module

public import proofs.«01_k».proof.Proof.BlockValue
public import proofs.«01_k».proof.Proof.Points
public import Idealize.ShloMosaic.Lib.Pipeline.ValueKit

@[expose] public section

set_option maxRecDepth 16384

noncomputable section

namespace Cert.KernelIdeal.Swa

open Idealize.ShloMosaic Idealize.ShloMosaic.TcCoe Idealize.ShloMosaic.Tactic
open Cert.KernelIdeal.Gen
open Cert.Attn (Sees)

variable (m : (ℓ : Loc nD τ sig) → Buf (Elt Ideal) ℓ)

/-- The arrays the call reads hold real numbers. -/
structure ArrayReads (A : ℕ → ℕ → ℝ) (S : ℕ → ℝ) (D : ℕ → ℕ → ℝ) (c : Dev nD) : Prop where
  proj : ∀ (r : Fin 4096) (k : Fin 1280), ((V m c main_arg0 : FVec Ideal S4096x5376 .f32) (ix2 r ⟨k, by omega⟩) : EReal) = ((A r k : ℝ) : EReal)
  sink : ∀ h : Fin 16, ((V m c main_arg1 : FVec Ideal S1x16 .f32) (ix2 0 h) : EReal) = ((S h : ℝ) : EReal)
  dout : ∀ (r : Fin 4096) (k : Fin 1024), ((V m c main_arg2 : FVec Ideal S4096x1024 .bf16) (ix2 r k) : EReal) = ((D r k : ℝ) : EReal)
  log : ∀ (n : Fin 32) (h : Fin 16) (r : Fin 128), ((V m c main_v87 : FVec Ideal S32x16x128 .f32) (ix3 n h r) : EReal)
    = ((Real.log (Cert.Attn.total A S n h r) : ℝ) : EReal)

theorem index0 : ∀ t : Fin cfg0.N, win0_0.index t = ![0, 0] := by decide +kernel
theorem index1 : ∀ t : Fin cfg0.N, t.val < 32 → win0_1.index t = ![t.val, 0] := by decide +kernel
theorem index2 : ∀ t : Fin cfg0.N, t.val < 32 → win0_2.index t = ![t.val, 4] := by decide +kernel
theorem index3 : ∀ t : Fin cfg0.N, t.val < 32 → win0_3.index t = ![t.val - 1, 4] := by decide +kernel
theorem index4 : ∀ t : Fin cfg0.N, t.val < 32 → win0_4.index t = ![t.val, 0] := by decide +kernel
theorem index5 : ∀ t : Fin cfg0.N, t.val < 32 → win0_5.index t = ![t.val, 0, 0] := by decide +kernel

variable (c : Dev nD) (t : Fin cfg0.N)

theorem block0 (h : Fin 16) : (iblk m c 0 t : Vec Ideal S1x16 .f32) (ix2 0 h) = (V m c main_arg1 : FVec Ideal S1x16 .f32) (ix2 0 h) := by
  blk_ext [iblk, index0 t]

variable (ht : t.val < 32)
include ht

theorem block1 (r : Fin 128) (k : Fin 1024) :
    (X0_1 m c t : Vec Ideal S128x1024 .f32) (ix2 r k) = (V m c main_arg0 : FVec Ideal S4096x5376 .f32) (ix2 ⟨128 * t + r, by omega⟩ ⟨k, by omega⟩) := by
  unfold X0_1 Pipeline.Window.fill
  rw [dif_pos (moved0_1 t _)]
  blk_ext [iblk, index1 t ht]
theorem block2 (r : Fin 128) (k : Fin 256) :
    (iblk m c 2 t : Vec Ideal S128x256 .f32) (ix2 r k) = (V m c main_arg0 : FVec Ideal S4096x5376 .f32) (ix2 ⟨128 * t + r, by omega⟩ ⟨1024 + k, by omega⟩) := by
  blk_ext [iblk, index2 t ht]
theorem block3 (r : Fin 128) (k : Fin 256) :
    (iblk m c 3 t : Vec Ideal S128x256 .f32) (ix2 r k) = (V m c main_arg0 : FVec Ideal S4096x5376 .f32) (ix2 ⟨128 * (t - 1) + r, by omega⟩ ⟨1024 + k, by omega⟩) := by
  blk_ext [iblk, index3 t ht]
theorem block4 (r : Fin 128) (k : Fin 1024) :
    (iblk m c 4 t : Vec Ideal S128x1024 .bf16) (ix2 r k) = (V m c main_arg2 : FVec Ideal S4096x1024 .bf16) (ix2 ⟨128 * t + r, by omega⟩ k) := by
  blk_ext [iblk, index4 t ht]
/-- The logarithms' block, of any array of them. -/
theorem block5_of (X : FVec Ideal S32x16x128 .f32) (h : Fin 16) (r : Fin 128) :
    (((cfg0.win 5).blk t).view.read (Elt Ideal) X : Vec Ideal S1x16x128 .f32) (ix3 0 h r) = X (ix3 ⟨t, ht⟩ h r) := by
  blk_ext [index5 t ht]
theorem block5 (h : Fin 16) (r : Fin 128) :
    (iblk m c 5 t : Vec Ideal S1x16x128 .f32) (ix3 0 h r) = (V m c main_v87 : FVec Ideal S32x16x128 .f32) (ix3 ⟨t, ht⟩ h r) := by
  unfold iblk
  exact block5_of t ht (V m c main_v87) h r

variable {m} in
theorem ArrayReads.block {A : ℕ → ℕ → ℝ} {S : ℕ → ℝ} {D : ℕ → ℕ → ℝ} {c : Dev nD} (R : ArrayReads m A S D c) :
    BlockReads A S D t.val (grid0.coords t) (iblk m c 0 t) (X0_1 m c t) (iblk m c 2 t) (iblk m c 3 t) (iblk m c 4 t) (iblk m c 5 t) where
  lt := ht
  at_point := coords_val t
  sink h := (block0 m c t h).trans (R.sink h)
  query r k := (block1 m c t ht r k).trans (R.proj ⟨128 * t + r, by omega⟩ ⟨k, by omega⟩)
  own r k := (block2 m c t ht r k).trans (R.proj ⟨128 * t + r, by omega⟩ ⟨1024 + k, by omega⟩)
  prev r k := (block3 m c t ht r k).trans (R.proj ⟨128 * (t - 1) + r, by omega⟩ ⟨1024 + k, by omega⟩)
  dout r k := (block4 m c t ht r k).trans (R.dout ⟨128 * t + r, by omega⟩ k)
  log h r := (block5 m c t ht h r).trans (R.log ⟨t, ht⟩ h r)

end Cert.KernelIdeal.Swa

end
-- ==== Proof.RefRows.lean ====
/- The reference's queries, keys, values, distances and mask, read at an index over the reals. -/
module

public import proofs.«01_k».proof.Proof.Gen.ReferenceIdeal.Run
public import proofs.«01_k».proof.Proof.Attn
public import Idealize.ShloMosaic.Lib.Pointwise
public import Idealize.ShloMosaic.Lib.IdealHost

@[expose] public section

set_option maxRecDepth 16384

noncomputable section

namespace Cert.ReferenceIdeal.Attn

open Cert.ReferenceIdeal Cert.ReferenceIdeal.Gen Cert.ReferenceIdeal.Value Idealize.ShloMosaic Idealize.ShloMosaic.StableHlo
open Cert.Attn (Sees)

variable (V0 : Valuation τ sig (Elt Ideal)) (A : ℕ → ℕ → ℝ) (S : ℕ → ℝ) (D : ℕ → ℕ → ℝ)

/-- The arguments are the reals `A`, `S` and `D` (of `A` only the columns that the attention reads). -/
structure Reads : Prop where
  proj : ∀ (r : Fin 4096) (j : Fin 5376), (j : ℕ) < 1280 →
    (V0 (Proc.devRef .tc main_arg0) : FVec Ideal S4096x5376 .f32) (ix2 r j) = ((A r j : ℝ) : EReal)
  sink : ∀ h : Fin 16, (V0 (Proc.devRef .tc main_arg1) : FVec Ideal S1x16 .f32) (ix2 0 h) = ((S h : ℝ) : EReal)
  dout : ∀ (r : Fin 4096) (j : Fin 1024),
    (V0 (Proc.devRef .tc main_arg2) : FVec Ideal S4096x1024 .bf16) (ix2 r j) = ((D r j : ℝ) : EReal)

variable {V0 A S D} (H : Reads V0 A S D)
include H

theorem k_row (r : Fin 4096) (j : Fin 128) :
    (res_main_v3 V0 : FVec Ideal S1x4096x128 .f32) (ix3 0 r j) = ((A r (1024 + j) : ℝ) : EReal) := by
  pointwise [res_main_v3]
  exact H.proj r _ (by dsimp only; omega)
theorem v_row (r : Fin 4096) (j : Fin 128) :
    (res_main_v5 V0 : FVec Ideal S1x4096x128 .f32) (ix3 0 r j) = ((A r (1152 + j) : ℝ) : EReal) := by
  pointwise [res_main_v5]
  exact H.proj r _ (by dsimp only; omega)
theorem query (n : Fin 32) (i : Fin 128) (g : Fin 2) (e : Fin 8) (d : Fin 64) :
    (res_main_v8 V0 : FVec Ideal S1x32x128x2x8x64 .f32) (ix6 0 n i g e d) = ((Cert.Attn.head A n (8 * g + e) i d : ℝ) : EReal) := by
  pointwise [res_main_v8]
  rw [H.proj _ _ (by dsimp only; omega)]
  unfold Cert.Attn.head
  congr 2 <;> dsimp only <;> omega
theorem keys (n : Fin 32) (j : Fin 256) (g : Fin 2) (d : Fin 64) :
    (res_main_v16 V0 : FVec Ideal S1x32x256x2x64 .f32) (ix5 0 n j g d)
      = ((if 128 ≤ (j : ℕ) ∨ 0 < (n : ℕ) then Cert.Attn.key A n g j d else 0 : ℝ) : EReal) := by
  pointwise [res_main_v16]
  unfold Cert.Attn.key
  split
  · split
    · rw [if_neg (by omega)]; rfl
    · refine (k_row H _ _).trans (congrArg Real.toEReal (Eq.trans ?_ (if_pos (by omega)).symm))
      congr 1 <;> dsimp only <;> omega
  · refine (k_row H _ _).trans (congrArg Real.toEReal (Eq.trans ?_ (if_pos (by omega)).symm))
    congr 1 <;> dsimp only <;> omega
theorem values (n : Fin 32) (j : Fin 256) (g : Fin 2) (d : Fin 64) :
    (res_main_v79 V0 : FVec Ideal S1x32x256x2x64 .f32) (ix5 0 n j g d)
      = ((if 128 ≤ (j : ℕ) ∨ 0 < (n : ℕ) then Cert.Attn.val A n g j d else 0 : ℝ) : EReal) := by
  pointwise [res_main_v79]
  unfold Cert.Attn.val
  split
  · split
    · rw [if_neg (by omega)]; rfl
    · refine (v_row H _ _).trans (congrArg Real.toEReal (Eq.trans ?_ (if_pos (by omega)).symm))
      congr 1 <;> dsimp only <;> omega
  · refine (v_row H _ _).trans (congrArg Real.toEReal (Eq.trans ?_ (if_pos (by omega)).symm))
    congr 1 <;> dsimp only <;> omega
theorem dout (n : Fin 32) (g : Fin 2) (d : Fin 64) (e : Fin 8) (i : Fin 128) :
    (res_main_v130 V0 : FVec Ideal S1x32x2x64x8x128 .f32) (ix6 0 n g d e i) = ((Cert.Attn.head D n (8 * g + e) i d : ℝ) : EReal) := by
  pointwise [res_main_v130]
  rw [H.dout _ _]
  unfold Cert.Attn.head
  congr 2 <;> dsimp only <;> omega
theorem sinks (g : Fin 2) (e : Fin 8) (i : Fin 128) :
    (res_main_v80 V0 : FVec Ideal S2x8x128x1 .f32) (ix4 g e i 0) = ((S (8 * g + e) : ℝ) : EReal) := by
  pointwise [res_main_v80]
  rw [show ∀ h : Fin 16, _ from H.sink]
  congr 2 <;> dsimp only <;> omega

omit H in
theorem word_dist (i : Fin 128) (j : Fin 256) :
    (BitVec.ofNat 32 i + 128#32 - BitVec.ofNat 32 j).toInt = (i : ℤ) + 128 - j := by
  have hi := i.isLt; have hj := j.isLt
  simp only [BitVec.toInt_eq_toNat_bmod, BitVec.toNat_sub, BitVec.toNat_add, BitVec.toNat_ofNat, Int.bmod_def]
  omega
omit H in
theorem dist (i : Fin 128) (j : Fin 256) :
    (res_main_v30 V0 : FVec Ideal S128x256 .f32) (ix2 i j) = (((i : ℝ) + 128 - j : ℝ) : EReal) := by
  pointwise [res_main_v30, res_main_v24]
  show (((BitVec.ofNat 32 i + 128#32 - BitVec.ofNat 32 j).toInt : ℝ) : EReal) = _
  rw [word_dist]
  push_cast
  rfl
omit H in
theorem word_row (n : Fin 32) (j : Fin 256) :
    (BitVec.ofNat 32 n * 128#32 - 128#32 + BitVec.ofNat 32 j).toInt = (n : ℤ) * 128 - 128 + j := by
  have hi := n.isLt; have hj := j.isLt
  simp only [BitVec.toInt_eq_toNat_bmod, BitVec.toNat_sub, BitVec.toNat_add, BitVec.toNat_mul, BitVec.toNat_ofNat, Int.bmod_def]
  omega
omit H in
theorem mask (n : Fin 32) (g : Fin 2) (e : Fin 8) (i : Fin 128) (j : Fin 256) :
    (res_main_v71_1 V0 : IVec S1x32x2x8x128x256 1) (ix6 0 n g e i j) = if Sees n i j then 1#1 else 0#1 := by
  pointwise [res_main_v71_1]
  rw [dist]
  have h128 : Ideal.ofBits .f32 1124073472#32 = ((128 : ℝ) : EReal) := by
    simp [Ideal.ofBits, Ideal.ieee, -EReal.coe_mul]; norm_num
  have hz : (0 : EReal) ≤ (((i : ℝ) + 128 - j : ℝ) : EReal) ↔ (j : ℕ) ≤ (i : ℕ) + 128 := by
    rw [EReal.coe_nonneg, sub_nonneg]
    exact_mod_cast Iff.rfl
  have hb : (((i : ℝ) + 128 - j : ℝ) : EReal) < Ideal.ofBits .f32 1124073472#32 ↔ (i : ℕ) < (j : ℕ) := by
    rw [h128, EReal.coe_lt_coe_iff, show ((i : ℝ) + 128 - j < 128 ↔ (i : ℝ) < j) from by constructor <;> intro h <;> linarith]
    exact_mod_cast Iff.rfl
  have hn : IntOp.cmpi .sge (IntOp.addi (IntOp.subi (IntOp.muli (BitVec.ofNat 32 n) 128#32) 128#32)
      ((res_main_v24 V0 : IVec S256 32) (ix1 j))) 0#32 = BitVec.ofBool (decide (128 ≤ (j : ℕ) ∨ 0 < (n : ℕ))) := by
    show BitVec.ofBool ((0#32).sle (BitVec.ofNat 32 n * 128#32 - 128#32 + BitVec.ofNat 32 j)) = _
    rw [BitVec.sle, word_row]
    congr 1
    rw [decide_eq_decide]
    show (0 : ℤ) ≤ _ ↔ _
    omega
  have hz' : decide ((0 : EReal) ≤ (((i : ℝ) + 128 - j : ℝ) : EReal)) = decide ((j : ℕ) ≤ (i : ℕ) + 128) := decide_eq_decide.mpr hz
  have hb' : decide ((((i : ℝ) + 128 - j : ℝ) : EReal) < Ideal.ofBits .f32 1124073472#32) = decide ((i : ℕ) < (j : ℕ)) :=
    decide_eq_decide.mpr hb
  rw [hn, hz', hb']
  unfold Cert.Attn.Sees
  by_cases h1 : (j : ℕ) ≤ (i : ℕ) + 128 <;> by_cases h2 : (i : ℕ) < (j : ℕ) <;> by_cases h3 : 128 ≤ (j : ℕ) ∨ 0 < (n : ℕ) <;>
    simp only [h1, h2, h3, true_and, false_and, and_true, and_false, if_true, if_false, decide_true, decide_false] <;> rfl

end Cert.ReferenceIdeal.Attn

end
-- ==== Proof.RefSums.lean ====
/- The reference's sums and maxima along one axis of arrays of rank six, as sums and maxima over that axis. -/
module

public import proofs.«01_k».proof.Proof.RefRows

@[expose] public section

set_option maxRecDepth 16384

noncomputable section

namespace Cert.ReferenceIdeal.Attn

open Cert.ReferenceIdeal Cert.ReferenceIdeal.Gen Cert.ReferenceIdeal.Value Idealize.ShloMosaic Idealize.ShloMosaic.StableHlo
open Cert.Attn (Sees)

/-- The entries that a row's reduction over the keys takes. -/
theorem fiber_keys (n : Fin 32) (g : Fin 2) (e : Fin 8) (i : Fin 128) (x : S1x32x2x8x128x256.Idx) :
    reducesTo_S1x32x2x8x128x256_S1x32x2x8x128_d5.drop x = ix5 0 n g e i ↔ ∃ j : Fin 256, ix6 (0 : Fin 1) n g e i j = x := by
  constructor
  · intro h
    refine ⟨x 5, ?_⟩
    funext a; apply Fin.ext
    match a with
    | ⟨0, _⟩ => exact (congrArg Fin.val (congrFun h 0)).symm
    | ⟨1, _⟩ => exact (congrArg Fin.val (congrFun h 1)).symm
    | ⟨2, _⟩ => exact (congrArg Fin.val (congrFun h 2)).symm
    | ⟨3, _⟩ => exact (congrArg Fin.val (congrFun h 3)).symm
    | ⟨4, _⟩ => exact (congrArg Fin.val (congrFun h 4)).symm
    | ⟨5, _⟩ => rfl
  · rintro ⟨j, rfl⟩
    funext b; apply Fin.ext
    match b with
    | ⟨0, _⟩ => rfl
    | ⟨1, _⟩ => rfl
    | ⟨2, _⟩ => rfl
    | ⟨3, _⟩ => rfl
    | ⟨4, _⟩ => rfl
theorem sum_keys (v : S1x32x2x8x128x256.Idx → EReal) (z : EReal) (n : Fin 32) (g : Fin 2) (e : Fin 8) (i : Fin 128) :
    Ideal.hostReduceAdd reducesTo_S1x32x2x8x128x256_S1x32x2x8x128_d5 v z (ix5 0 n g e i) = z + ∑ j : Fin 256, v (ix6 (0 : Fin 1) n g e i j) :=
  congrArg (z + ·) (Finset.sum_filter_eq_sum_of_fiber _ (fun j : Fin 256 => ix6 (0 : Fin 1) n g e i j) (fun _ _ h => congrFun h 5)
    (fiber_keys n g e i) v)
/-- The larger of two numbers, as the host's operation gives it. -/
theorem host_max (a b : EReal) : (FloatOps.maximumf (F := Ideal) (φ := .f32) a b : EReal) = max a b := rfl
/-- The larger of two arrays, at an index. -/
theorem max_at {s : Shape} (A B : FVec Ideal s .f32) (i : s.Idx) : (maximumf A B : FVec Ideal s .f32) i = max (A i : EReal) (B i : EReal) := rfl
/-- A maximum over a row's keys, whichever operation equal to `max` it is written with. -/
theorem max_keys (op : EReal → EReal → EReal) [Std.Commutative op] [Std.Associative op] (hop : op = max)
    (v : S1x32x2x8x128x256.Idx → EReal) (z : EReal) (n : Fin 32) (g : Fin 2) (e : Fin 8) (i : Fin 128) :
    (Finset.univ.filter fun x => reducesTo_S1x32x2x8x128x256_S1x32x2x8x128_d5.drop x = ix5 (0 : Fin 1) n g e i).fold op z v
      = (Finset.univ : Finset (Fin 256)).fold max z fun j => v (ix6 (0 : Fin 1) n g e i j) := by
  subst hop
  exact Finset.fold_filter_eq_fold_of_fiber max _ (fun j : Fin 256 => ix6 (0 : Fin 1) n g e i j) (fun _ _ h => congrFun h 5)
    (fiber_keys n g e i) z v

/-- The one entry that a reduction over two axes of extent one takes. -/
theorem fiber_row (n : Fin 32) (g : Fin 2) (e : Fin 8) (i : Fin 128) (x : S1x32x2x8x128x1.Idx) :
    reducesTo_S1x32x2x8x128x1_S32x2x8x128_d0_5.drop x = ix4 n g e i ↔ ∃ j : Fin 1, ix6 (0 : Fin 1) n g e i j = x := by
  constructor
  · intro h
    refine ⟨x 5, ?_⟩
    funext a; apply Fin.ext
    match a with
    | ⟨0, _⟩ => exact (Nat.lt_one_iff.mp (x 0).isLt).symm
    | ⟨1, _⟩ => exact (congrArg Fin.val (congrFun h 0)).symm
    | ⟨2, _⟩ => exact (congrArg Fin.val (congrFun h 1)).symm
    | ⟨3, _⟩ => exact (congrArg Fin.val (congrFun h 2)).symm
    | ⟨4, _⟩ => exact (congrArg Fin.val (congrFun h 3)).symm
    | ⟨5, _⟩ => rfl
  · rintro ⟨j, rfl⟩
    funext b; apply Fin.ext
    match b with
    | ⟨0, _⟩ => rfl
    | ⟨1, _⟩ => rfl
    | ⟨2, _⟩ => rfl
    | ⟨3, _⟩ => rfl
theorem sum_row (v : S1x32x2x8x128x1.Idx → EReal) (z : EReal) (n : Fin 32) (g : Fin 2) (e : Fin 8) (i : Fin 128) :
    Ideal.hostReduceAdd reducesTo_S1x32x2x8x128x1_S32x2x8x128_d0_5 v z (ix4 n g e i) = z + v (ix6 (0 : Fin 1) n g e i (0 : Fin 1)) :=
  congrArg (z + ·) ((Finset.sum_filter_eq_sum_of_fiber _ (fun j : Fin 1 => ix6 (0 : Fin 1) n g e i j) (fun _ _ h => congrFun h 5)
    (fiber_row n g e i) v).trans (Fin.sum_univ_one _))

/-- The entries that a sum over the blocks takes. -/
theorem fiber_blocks (g : Fin 2) (e : Fin 8) (i : Fin 128) (x : S1x32x2x8x128x1.Idx) :
    reducesTo_S1x32x2x8x128x1_S1x2x8x128x1_d1.drop x = ix5 0 g e i 0 ↔ ∃ n : Fin 32, ix6 (0 : Fin 1) n g e i (0 : Fin 1) = x := by
  constructor
  · intro h
    refine ⟨x 1, ?_⟩
    funext a; apply Fin.ext
    match a with
    | ⟨0, _⟩ => exact (congrArg Fin.val (congrFun h 0)).symm
    | ⟨1, _⟩ => rfl
    | ⟨2, _⟩ => exact (congrArg Fin.val (congrFun h 1)).symm
    | ⟨3, _⟩ => exact (congrArg Fin.val (congrFun h 2)).symm
    | ⟨4, _⟩ => exact (congrArg Fin.val (congrFun h 3)).symm
    | ⟨5, _⟩ => exact (congrArg Fin.val (congrFun h 4)).symm
  · rintro ⟨n, rfl⟩
    funext b; apply Fin.ext
    match b with
    | ⟨0, _⟩ => rfl
    | ⟨1, _⟩ => rfl
    | ⟨2, _⟩ => rfl
    | ⟨3, _⟩ => rfl
    | ⟨4, _⟩ => rfl
theorem sum_blocks (v : S1x32x2x8x128x1.Idx → EReal) (z : EReal) (g : Fin 2) (e : Fin 8) (i : Fin 128) :
    Ideal.hostReduceAdd reducesTo_S1x32x2x8x128x1_S1x2x8x128x1_d1 v z (ix5 0 g e i 0) = z + ∑ n : Fin 32, v (ix6 (0 : Fin 1) n g e i (0 : Fin 1)) :=
  congrArg (z + ·) (Finset.sum_filter_eq_sum_of_fiber _ (fun n : Fin 32 => ix6 (0 : Fin 1) n g e i (0 : Fin 1)) (fun _ _ h => congrFun h 1)
    (fiber_blocks g e i) v)

/-- The one entry that a reduction over three axes of extent one takes. -/
theorem fiber_place (g : Fin 2) (e : Fin 8) (i : Fin 128) (x : S1x1x2x8x128x1.Idx) :
    reducesTo_S1x1x2x8x128x1_S2x8x128_d0_1_5.drop x = ix3 g e i ↔ ∃ j : Fin 1, ix6 (0 : Fin 1) (0 : Fin 1) g e i j = x := by
  constructor
  · intro h
    refine ⟨x 5, ?_⟩
    funext a; apply Fin.ext
    match a with
    | ⟨0, _⟩ => exact (Nat.lt_one_iff.mp (x 0).isLt).symm
    | ⟨1, _⟩ => exact (Nat.lt_one_iff.mp (x 1).isLt).symm
    | ⟨2, _⟩ => exact (congrArg Fin.val (congrFun h 0)).symm
    | ⟨3, _⟩ => exact (congrArg Fin.val (congrFun h 1)).symm
    | ⟨4, _⟩ => exact (congrArg Fin.val (congrFun h 2)).symm
    | ⟨5, _⟩ => rfl
  · rintro ⟨j, rfl⟩
    funext b; apply Fin.ext
    match b with
    | ⟨0, _⟩ => rfl
    | ⟨1, _⟩ => rfl
    | ⟨2, _⟩ => rfl
theorem sum_place (v : S1x1x2x8x128x1.Idx → EReal) (z : EReal) (g : Fin 2) (e : Fin 8) (i : Fin 128) :
    Ideal.hostReduceAdd reducesTo_S1x1x2x8x128x1_S2x8x128_d0_1_5 v z (ix3 g e i) = z + v (ix6 (0 : Fin 1) (0 : Fin 1) g e i 0) :=
  congrArg (z + ·) ((Finset.sum_filter_eq_sum_of_fiber _ (fun j : Fin 1 => ix6 (0 : Fin 1) (0 : Fin 1) g e i j) (fun _ _ h => congrFun h 5)
    (fiber_place g e i) v).trans (Fin.sum_univ_one _))

end Cert.ReferenceIdeal.Attn

end
-- ==== Proof.RefShares.lean ====
/- The reference's scores, weights and shares, read at an index over the reals. -/
module

public import proofs.«01_k».proof.Proof.RefSums

@[expose] public section

set_option maxRecDepth 16384

noncomputable section

namespace Cert.ReferenceIdeal.Attn

open Cert.ReferenceIdeal Cert.ReferenceIdeal.Gen Cert.ReferenceIdeal.Value Idealize.ShloMosaic Idealize.ShloMosaic.StableHlo
open Cert.Attn (Sees)

variable {V0 : Valuation τ sig (Elt Ideal)} {A : ℕ → ℕ → ℝ} {S : ℕ → ℝ} {D : ℕ → ℕ → ℝ} (H : Reads V0 A S D)

theorem ofBits_two : Ideal.ofBits .f32 1073741824#32 = ((2 : ℝ) : EReal) := by
  simp [Ideal.ofBits, Ideal.ieee, -EReal.coe_mul]; norm_num
theorem ofBits_neg_eight : Ideal.ofBits .f32 3238002688#32 = ((-8 : ℝ) : EReal) := by
  simp [Ideal.ofBits, Ideal.ieee, -EReal.coe_mul, -EReal.coe_neg]; norm_num
theorem ofBits_sixteen : Ideal.ofBits .f32 1098907648#32 = ((16 : ℝ) : EReal) := by
  simp [Ideal.ofBits, Ideal.ieee, -EReal.coe_mul]; norm_num
theorem ofBits_eighth : Ideal.ofBits .f32 1040187392#32 = ((1 / 8 : ℝ) : EReal) := by
  simp [Ideal.ofBits, Ideal.ieee, -EReal.coe_mul]; norm_num
theorem ofBits_bot : Ideal.ofBits .f32 4286578688#32 = ⊥ := by
  simp [Ideal.ofBits, Ideal.ieee]
theorem ofBits_one : Ideal.ofBits .f32 1065353216#32 = ((1 : ℝ) : EReal) := by
  simp [Ideal.ofBits, Ideal.ieee, -EReal.coe_mul]; norm_num
theorem ofBits_half : Ideal.ofBits .f32 1056964608#32 = ((1 / 2 : ℝ) : EReal) := by
  simp [Ideal.ofBits, Ideal.ieee, -EReal.coe_mul]; norm_num

theorem div_real {x y : ℝ} (hy : y ≠ 0) : Ideal.div (x : EReal) (y : EReal) = ((x / y : ℝ) : EReal) := by
  rw [Ideal.div_coe hy, ← EReal.coe_mul, mul_one_div]

/-- A head's slope, as the reference's power of two. -/
theorem slope (g : Fin 2) (e : Fin 8) :
    Ideal.pow (Ideal.ofBits .f32 1073741824#32) (Ideal.div (Ideal.ofBits .f32 3238002688#32
        * (1 + (FloatOps.sitofp (F := Ideal) FTy.f32 (BitVec.ofNat 32 (g * 8 + e)) : EReal))) (Ideal.ofBits .f32 1098907648#32))
      = ((Cert.Attn.slope (8 * g + e) : ℝ) : EReal) := by
  have hw : (BitVec.ofNat 32 (g * 8 + e)).toInt = ((8 * g + e : ℕ) : ℤ) := by
    have := g.isLt; have := e.isLt
    simp only [BitVec.toInt_eq_toNat_bmod, BitVec.toNat_ofNat, Int.bmod_def]
    omega
  rw [show (FloatOps.sitofp (F := Ideal) FTy.f32 (BitVec.ofNat 32 (g * 8 + e)) : EReal)
      = (((BitVec.ofNat 32 (g * 8 + e)).toInt : ℝ) : EReal) from rfl, hw, ofBits_two, ofBits_neg_eight, ofBits_sixteen,
    show (1 : EReal) = ((1 : ℝ) : EReal) from rfl, ← EReal.coe_add, ← EReal.coe_mul, div_real (by norm_num), Ideal.pow_coe_coe]
  unfold Cert.Attn.slope
  push_cast
  rfl

include H

/-- A score: nothing (`-∞`) for a key that is not seen. -/
theorem score (n : Fin 32) (g : Fin 2) (e : Fin 8) (i : Fin 128) (j : Fin 256) :
    (res_main_v71_0 V0 : FVec Ideal S1x32x2x8x128x256 .f32) (ix6 0 n g e i j)
      = if Sees n i j then ((Cert.Attn.score A n (8 * g + e) i j : ℝ) : EReal) else ⊥ := by
  pointwise [res_main_v71_0]
  rw [mask]
  by_cases hs : Sees n i j
  · rw [if_pos hs, if_pos hs]
    refine Eq.trans (if_pos rfl) ?_
    simp only [keys H, query H, if_pos hs.2.2]
    rw [slope, dist, ofBits_eighth]
    simp only [← EReal.coe_mul]
    rw [← Cert.Attn.coe_sum, ← EReal.coe_mul, ← EReal.coe_sub]
    unfold Cert.Attn.score
    rw [show (8 * (g : ℕ) + (e : ℕ)) / 8 = g from by have := e.isLt; omega]
  · rw [if_neg hs, if_neg hs]
    refine Eq.trans (if_neg (by decide)) ?_
    exact ofBits_bot

/-- The score as an extended real. -/
def scoreAt (V0 : Valuation τ sig (Elt Ideal)) (n : Fin 32) (g : Fin 2) (e : Fin 8) (i : Fin 128) (j : Fin 256) : EReal :=
  (res_main_v71_0 V0 : FVec Ideal S1x32x2x8x128x256 .f32) (ix6 0 n g e i j)
/-- A row's maximum as an extended real. -/
def peakAt (V0 : Valuation τ sig (Elt Ideal)) (n : Fin 32) (g : Fin 2) (e : Fin 8) (i : Fin 128) : EReal :=
  (res_main_v90 V0 : FVec Ideal S1x32x2x8x128x1 .f32) (ix6 0 n g e i 0)

omit H in
/-- The maximum of a row's scores. -/
theorem top (n : Fin 32) (g : Fin 2) (e : Fin 8) (i : Fin 128) :
    (res_main_v81 V0 : FVec Ideal S1x32x2x8x128 .f32) (ix5 0 n g e i)
      = (Finset.univ : Finset (Fin 256)).fold max ⊥ fun j => scoreAt V0 n g e i j := by
  have h : ∀ z : EReal, z = (Finset.univ : Finset (Fin 256)).fold max ⊥ (fun j => scoreAt V0 n g e i j) →
      (res_main_v81 V0 : FVec Ideal S1x32x2x8x128 .f32) (ix5 0 n g e i) = z := by
    intro z hz
    pointwise [res_main_v81]
    refine (max_keys _ (funext fun a => funext fun b => host_max a b) _ _ n g e i).trans ?_
    rw [ofBits_bot, hz]
    rfl
  exact h _ rfl

omit H in
theorem peak_left (n : Fin 32) (g : Fin 2) (e : Fin 8) (i : Fin 128) :
    (res_main_v87 V0 : FVec Ideal S1x32x2x8x128x1 .f32) (ix6 0 n g e i 0)
      = (Finset.univ : Finset (Fin 256)).fold max ⊥ fun j => scoreAt V0 n g e i j := by
  refine Eq.trans ?_ (top n g e i)
  pointwise [res_main_v87]
theorem peak_right (n : Fin 32) (g : Fin 2) (e : Fin 8) (i : Fin 128) :
    (broadcastInDim S1x32x2x8x128x1 ![0, 1, 2, 3, 4, 5] bcast_S1x1x2x8x128x1_S1x32x2x8x128x1_0_1_2_3_4_5
      (res_main_v88 V0) : FVec Ideal S1x32x2x8x128x1 .f32) (ix6 0 n g e i 0) = ((S (8 * g + e) : ℝ) : EReal) := by
  refine Eq.trans ?_ (sinks H g e i)
  pointwise [res_main_v88]
/-- The larger of a row's largest score and its sink. -/
theorem peakAt_eq (n : Fin 32) (g : Fin 2) (e : Fin 8) (i : Fin 128) : peakAt V0 n g e i
    = max ((Finset.univ : Finset (Fin 256)).fold max ⊥ fun j => scoreAt V0 n g e i j) ((S (8 * g + e) : ℝ) : EReal) :=
  (max_at _ _ _).trans (congrArg₂ max (peak_left n g e i) (peak_right H n g e i))
theorem scoreAt_lt (n : Fin 32) (g : Fin 2) (e : Fin 8) (i : Fin 128) (j : Fin 256) : scoreAt V0 n g e i j < ⊤ := by
  refine lt_of_eq_of_lt (score H n g e i j) ?_
  split <;> [exact EReal.coe_lt_top _; exact bot_lt_top]

/-- A row's maximum is a real number: the sink is one. -/
theorem peak_real (n : Fin 32) (g : Fin 2) (e : Fin 8) (i : Fin 128) : ∃ M : ℝ, peakAt V0 n g e i = (M : EReal) := by
  have h0 := peakAt_eq H n g e i
  have hlt : peakAt V0 n g e i < ⊤ := by
    rw [h0]
    refine max_lt ?_ (EReal.coe_lt_top _)
    rw [Finset.fold_max_lt]
    refine ⟨bot_lt_top, fun j _ => ?_⟩
    exact scoreAt_lt H n g e i j
  have hgt : ⊥ < peakAt V0 n g e i := by
    rw [h0]
    exact lt_max_of_lt_right (EReal.bot_lt_coe _)
  exact ⟨_, (EReal.coe_toReal hlt.ne hgt.ne').symm⟩

/-- A row's maximum. -/
def peak (V0 : Valuation τ sig (Elt Ideal)) (n : Fin 32) (g : Fin 2) (e : Fin 8) (i : Fin 128) : ℝ := (peakAt V0 n g e i).toReal
/-- What the row's exponentials are divided by, inverted. -/
def scale (V0 : Valuation τ sig (Elt Ideal)) (n : Fin 32) (g : Fin 2) (e : Fin 8) (i : Fin 128) : ℝ := Real.exp (-peak V0 n g e i)
omit H in
theorem scale_pos (n : Fin 32) (g : Fin 2) (e : Fin 8) (i : Fin 128) : 0 < scale V0 n g e i := Real.exp_pos _
theorem peak_eq (n : Fin 32) (g : Fin 2) (e : Fin 8) (i : Fin 128) :
    (res_main_v90 V0 : FVec Ideal S1x32x2x8x128x1 .f32) (ix6 0 n g e i 0) = ((peak V0 n g e i : ℝ) : EReal) := by
  obtain ⟨M, h⟩ := peak_real H n g e i
  unfold peak
  rw [h]
  exact h

theorem weight (n : Fin 32) (g : Fin 2) (e : Fin 8) (i : Fin 128) (j : Fin 256) :
    (res_main_v111 V0 : FVec Ideal S1x32x2x8x128x256 .f32) (ix6 0 n g e i j)
      = ((Cert.Attn.weight A n (8 * g + e) i j * scale V0 n g e i : ℝ) : EReal) := by
  pointwise [res_main_v111]
  rw [score H, peak_eq H]
  unfold Cert.Attn.weight
  split
  · rw [← EReal.coe_sub, Ideal.exp_coe, sub_eq_add_neg, Real.exp_add]; rfl
  · rw [EReal.bot_sub, Ideal.exp_bot, zero_mul]; rfl
theorem sink_weight (n : Fin 32) (g : Fin 2) (e : Fin 8) (i : Fin 128) :
    (res_main_v117 V0 : FVec Ideal S1x32x2x8x128x1 .f32) (ix6 0 n g e i 0)
      = ((Real.exp (S (8 * g + e)) * scale V0 n g e i : ℝ) : EReal) := by
  pointwise [res_main_v117]
  rw [sinks H, peak_eq H, ← EReal.coe_sub, Ideal.exp_coe, sub_eq_add_neg, Real.exp_add]; rfl
theorem total (n : Fin 32) (g : Fin 2) (e : Fin 8) (i : Fin 128) :
    (res_main_v118 V0 : FVec Ideal S1x32x2x8x128x1 .f32) (ix6 0 n g e i 0)
      = ((Cert.Attn.total A S n (8 * g + e) i * scale V0 n g e i : ℝ) : EReal) := by
  pointwise [res_main_v118]
  rw [sum_keys, zero_add, sink_weight H]
  simp only [weight H]
  rw [← Cert.Attn.coe_sum, ← EReal.coe_add, Cert.Attn.total_mul]
omit H in
theorem total_scale_ne (A : ℕ → ℕ → ℝ) (S : ℕ → ℝ) (n : Fin 32) (g : Fin 2) (e : Fin 8) (i : Fin 128) :
    Cert.Attn.total A S n (8 * g + e) i * scale V0 n g e i ≠ 0 :=
  (mul_pos (Cert.Attn.total_pos A S _ _ _) (scale_pos n g e i)).ne'
theorem share (n : Fin 32) (g : Fin 2) (e : Fin 8) (i : Fin 128) (j : Fin 256) :
    (res_main_v120 V0 : FVec Ideal S1x32x2x8x128x256 .f32) (ix6 0 n g e i j)
      = ((Cert.Attn.share A S n (8 * g + e) i j : ℝ) : EReal) := by
  pointwise [res_main_v120]
  rw [weight H, total H, div_real (total_scale_ne A S n g e i), Cert.Attn.share_mul A S (scale_pos n g e i)]
theorem gain (n : Fin 32) (g : Fin 2) (e : Fin 8) (i : Fin 128) (j : Fin 256) :
    (res_main_v131 V0 : FVec Ideal S1x32x2x8x128x256 .f32) (ix6 0 n g e i j)
      = ((Cert.Attn.gainPadded A D n (8 * g + e) i j : ℝ) : EReal) := by
  pointwise [res_main_v131]
  simp only [dout H, values H, ← EReal.coe_mul]
  rw [← Cert.Attn.coe_sum]
  unfold Cert.Attn.gainPadded
  rw [show (8 * (g : ℕ) + (e : ℕ)) / 8 = g from by have := e.isLt; omega]

end Cert.ReferenceIdeal.Attn

end
-- ==== Proof.Lse.lean ====
/- The logarithms of the rows' totals, which the kernel's program computes before the backward call. -/
module

public import proofs.«01_k».proof.Proof.BlockArrays
public import proofs.«01_k».proof.Proof.RefShares
public import Idealize.ShloMosaic.Lib.Claim

@[expose] public section

set_option maxRecDepth 16384

noncomputable section

namespace Cert.KernelIdeal.Swa

open Idealize.ShloMosaic Idealize.ShloMosaic.TcCoe Idealize.ShloMosaic.Tactic Idealize.ShloMosaic.StableHlo
open Cert.KernelIdeal.Gen
open Cert.Attn (Sees)

/-- The sinks, one for every row. -/
def sinkRows (x1 : FVec Ideal S1x16 .f32) : FVec Ideal S1x32x2x8x128x1 .f32 :=
  broadcastInDim S1x32x2x8x128x1 ![0, 1, 2, 3, 4, 5] bcast_S1x1x2x8x1x1_S1x32x2x8x128x1_0_1_2_3_4_5
    (broadcastInDim S1x1x2x8x1x1 ![2, 3, 4, 5] bcast_S2x8x1x1_S1x1x2x8x1x1_2_3_4_5 (shapeCast _ x1 shapeCasts_S1x16_S2x8x1x1))
/-- The rows' largest scores. -/
def topRows (s : FVec Ideal S1x32x2x8x128x256 .f32) : FVec Ideal S1x32x2x8x128x1 .f32 :=
  broadcastInDim S1x32x2x8x128x1 ![0, 1, 2, 3, 4] bcast_S1x32x2x8x128_S1x32x2x8x128x1_0_1_2_3_4
    (Host.reduce FloatOps.maximumf s (constant S_ .f32 0xFF800000#32) reducesTo_S1x32x2x8x128x256_S1x32x2x8x128_d5 h_S_)
/-- The larger of a row's largest score and its sink. -/
def peakRows (s : FVec Ideal S1x32x2x8x128x256 .f32) (x1 : FVec Ideal S1x16 .f32) : FVec Ideal S1x32x2x8x128x1 .f32 :=
  maximumf (topRows s) (sinkRows x1)
/-- The exponentials of a row's scores, lowered by its maximum. -/
def expRows (s : FVec Ideal S1x32x2x8x128x256 .f32) (p : FVec Ideal S1x32x2x8x128x1 .f32) : FVec Ideal S1x32x2x8x128x256 .f32 :=
  Host.exp (subf s (broadcastInDim S1x32x2x8x128x256 ![0, 1, 2, 3, 4, 5] bcast_S1x32x2x8x128x1_S1x32x2x8x128x256_0_1_2_3_4_5 p))
/-- Their sum with the sink's. -/
def sumRows (s : FVec Ideal S1x32x2x8x128x256 .f32) (x1 : FVec Ideal S1x16 .f32) (p : FVec Ideal S1x32x2x8x128x1 .f32) :
    FVec Ideal S1x32x2x8x128x1 .f32 :=
  addf (broadcastInDim S1x32x2x8x128x1 ![0, 1, 2, 3, 4] bcast_S1x32x2x8x128_S1x32x2x8x128x1_0_1_2_3_4
      (Host.reduceAdd (expRows s p) (constant S_ .f32 0x00000000#32) reducesTo_S1x32x2x8x128x256_S1x32x2x8x128_d5 h_S_))
    (Host.exp (subf (sinkRows x1) p))
/-- The logarithms, in the layout of the kernel's argument. -/
def logRows (s : FVec Ideal S1x32x2x8x128x256 .f32) (x1 : FVec Ideal S1x16 .f32) (p : FVec Ideal S1x32x2x8x128x1 .f32) :
    FVec Ideal S32x16x128 .f32 :=
  shapeCast _ (addf p (Host.log (sumRows s x1 p))) shapeCasts_S1x32x2x8x128x1_S32x16x128

theorem logs_eq (m : (ℓ : Loc nD τ sig) → Buf (Elt Ideal) ℓ) (c : Dev nD)
    (V0 : Valuation Cert.ReferenceIdeal.τ Cert.ReferenceIdeal.sig (Elt Ideal))
    (h0 : (m ((c : Thread nD τ).loc main_arg0) : FVec Ideal S4096x5376 .f32) = V0 (Proc.devRef .tc Cert.ReferenceIdeal.main_arg0)) :
    (V m c main_v87 : FVec Ideal S32x16x128 .f32)
      = logRows (Cert.ReferenceIdeal.Value.res_main_v71_0 V0) (m ((c : Thread nD τ).loc main_arg1))
          (peakRows (Cert.ReferenceIdeal.Value.res_main_v71_0 V0) (m ((c : Thread nD τ).loc main_arg1))) := by
  unfold V
  simp only [hostOps0, hostOps0_1, hostOps0_2, List.flatten_cons, List.flatten_nil, List.append_nil, List.cons_append,
    List.nil_append]
  entry_read
  rw [h0]
  rfl

section Read

variable {V0 : Valuation Cert.ReferenceIdeal.τ Cert.ReferenceIdeal.sig (Elt Ideal)} {A : ℕ → ℕ → ℝ} {S : ℕ → ℝ} {D : ℕ → ℕ → ℝ}

theorem sinkRows_at (x1 : FVec Ideal S1x16 .f32) (h1 : ∀ h : Fin 16, x1 (ix2 0 h) = ((S h : ℝ) : EReal))
    (n : Fin 32) (g : Fin 2) (e : Fin 8) (i : Fin 128) : sinkRows x1 (ix6 0 n g e i 0) = ((S (8 * g + e) : ℝ) : EReal) := by
  pointwise [sinkRows]
  rw [h1]
  congr 2 <;> dsimp only <;> omega
theorem topRows_at (n : Fin 32) (g : Fin 2) (e : Fin 8) (i : Fin 128) :
    topRows (Cert.ReferenceIdeal.Value.res_main_v71_0 V0) (ix6 0 n g e i 0)
      = (Finset.univ : Finset (Fin 256)).fold max ⊥ fun j => Cert.ReferenceIdeal.Attn.scoreAt V0 n g e i j :=
  Cert.ReferenceIdeal.Attn.peak_left n g e i

variable (H : Cert.ReferenceIdeal.Attn.Reads V0 A S D)
include H

/-- A row's maximum is the one that the reference takes. -/
theorem peakRows_at (x1 : FVec Ideal S1x16 .f32) (h1 : ∀ h : Fin 16, x1 (ix2 0 h) = ((S h : ℝ) : EReal))
    (n : Fin 32) (g : Fin 2) (e : Fin 8) (i : Fin 128) :
    peakRows (Cert.ReferenceIdeal.Value.res_main_v71_0 V0) x1 (ix6 0 n g e i 0)
      = ((Cert.ReferenceIdeal.Attn.peak V0 n g e i : ℝ) : EReal) := by
  refine (Cert.ReferenceIdeal.Attn.max_at _ _ _).trans ?_
  rw [topRows_at, sinkRows_at x1 h1, ← Cert.ReferenceIdeal.Attn.peakAt_eq H]
  exact Cert.ReferenceIdeal.Attn.peak_eq H n g e i

/-- The logarithm of the total of a row's exponentials. -/
theorem logRows_at (x1 : FVec Ideal S1x16 .f32) (h1 : ∀ h : Fin 16, x1 (ix2 0 h) = ((S h : ℝ) : EReal))
    (p : FVec Ideal S1x32x2x8x128x1 .f32)
    (hp : ∀ (n : Fin 32) (g : Fin 2) (e : Fin 8) (i : Fin 128), p (ix6 0 n g e i 0) = ((Cert.ReferenceIdeal.Attn.peak V0 n g e i : ℝ) : EReal))
    (n : Fin 32) (h : Fin 16) (r : Fin 128) :
    logRows (Cert.ReferenceIdeal.Value.res_main_v71_0 V0) x1 p (ix3 n h r) = ((Real.log (Cert.Attn.total A S n h r) : ℝ) : EReal) := by
  have hw : ∀ (n : Fin 32) (g : Fin 2) (e : Fin 8) (i : Fin 128) (j : Fin 256),
      expRows (Cert.ReferenceIdeal.Value.res_main_v71_0 V0) p (ix6 0 n g e i j)
        = ((Cert.Attn.weight A n (8 * g + e) i j * Cert.ReferenceIdeal.Attn.scale V0 n g e i : ℝ) : EReal) := by
    intro n g e i j
    pointwise [expRows]
    rw [show (Cert.ReferenceIdeal.Value.res_main_v71_0 V0 : FVec Ideal S1x32x2x8x128x256 .f32) (ix6 0 n g e i j) = _ from
      Cert.ReferenceIdeal.Attn.score H n g e i j, hp]
    unfold Cert.Attn.weight Cert.ReferenceIdeal.Attn.scale
    split
    · rw [← EReal.coe_sub, Ideal.exp_coe, sub_eq_add_neg, Real.exp_add]
    · rw [EReal.bot_sub, Ideal.exp_bot, zero_mul]; rfl
  have hs : ∀ (n : Fin 32) (g : Fin 2) (e : Fin 8) (i : Fin 128),
      sumRows (Cert.ReferenceIdeal.Value.res_main_v71_0 V0) x1 p (ix6 0 n g e i 0)
        = ((Cert.Attn.total A S n (8 * g + e) i * Cert.ReferenceIdeal.Attn.scale V0 n g e i : ℝ) : EReal) := by
    intro n g e i
    pointwise [sumRows]
    rw [Cert.ReferenceIdeal.Attn.sum_keys, zero_add, sinkRows_at x1 h1, hp, ← EReal.coe_sub, Ideal.exp_coe]
    simp only [hw]
    rw [← Cert.Attn.coe_sum, ← EReal.coe_add, sub_eq_add_neg, Real.exp_add]
    exact congrArg Real.toEReal (Cert.Attn.total_mul ..)
  pointwise [logRows]
  rw [hp, hs]
  generalize hg : (⟨_, _⟩ : Fin 2) = g
  generalize he : (⟨_, _⟩ : Fin 8) = e
  have hh : 8 * (g : ℕ) + (e : ℕ) = h := by subst hg he; dsimp only; omega
  have hpos : 0 < Cert.Attn.total A S n h r * Cert.ReferenceIdeal.Attn.scale V0 n g e r :=
    mul_pos (Cert.Attn.total_pos A S _ _ _) (Cert.ReferenceIdeal.Attn.scale_pos n g e r)
  rw [hh, Ideal.log_coe, if_neg (not_le.mpr hpos), ← EReal.coe_add]
  congr 1
  rw [Real.log_mul (Cert.Attn.total_pos A S _ _ _).ne' (Cert.ReferenceIdeal.Attn.scale_pos n g e r).ne']
  unfold Cert.ReferenceIdeal.Attn.scale
  rw [Real.log_exp]
  ring

end Read

/-- The backward call finds the arguments and the logarithms, where the arguments are real. -/
theorem arrayReads (m : (ℓ : Loc nD τ sig) → Buf (Elt Ideal) ℓ) (c : Dev nD) {A : ℕ → ℕ → ℝ} {S : ℕ → ℝ} {D : ℕ → ℕ → ℝ}
    (V0 : Valuation Cert.ReferenceIdeal.τ Cert.ReferenceIdeal.sig (Elt Ideal))
    (h0 : V0 (Proc.devRef .tc Cert.ReferenceIdeal.main_arg0) = (m ((c : Thread nD τ).loc main_arg0) : FVec Ideal S4096x5376 .f32))
    (h1 : V0 (Proc.devRef .tc Cert.ReferenceIdeal.main_arg1) = (m ((c : Thread nD τ).loc main_arg1) : FVec Ideal S1x16 .f32))
    (h2 : V0 (Proc.devRef .tc Cert.ReferenceIdeal.main_arg2) = (m ((c : Thread nD τ).loc main_arg2) : FVec Ideal S4096x1024 .bf16))
    (H : Cert.ReferenceIdeal.Attn.Reads V0 A S D) : ArrayReads m A S D c where
  proj := fun r k => (congrFun (V_main_arg0 m c) _).trans ((congrFun h0 _).symm.trans (H.proj r _ k.isLt))
  sink := fun h => (congrFun (V_main_arg1 m c) _).trans ((congrFun h1 _).symm.trans (H.sink h))
  dout := fun r k => (congrFun (V_main_arg2 m c) _).trans ((congrFun h2 _).symm.trans (H.dout r k))
  log := fun n h r => by
    have hs : ∀ h : Fin 16, (m ((c : Thread nD τ).loc main_arg1) : FVec Ideal S1x16 .f32) (ix2 0 h) = ((S h : ℝ) : EReal) :=
      fun h => (congrFun h1 _).symm.trans (H.sink h)
    exact (congrFun (logs_eq m c V0 h0.symm) _).trans (logRows_at H _ hs _ (fun n g e i => peakRows_at H _ hs n g e i) n h r)

end Cert.KernelIdeal.Swa

end
-- ==== Proof.PartsMiddle.lean ====
/- The pieces that a middle point leaves, in the words of the call's arithmetic. -/
module

public import proofs.«01_k».proof.Proof.RunEnds
public import proofs.«01_k».proof.Proof.Parts

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (a1 : Memref sig .tc .smem S1x16 .f32) (h1 : a1.IsWhole)
  (a2 : Memref sig .tc .vmem S128x1024 .f32) (h2 : a2.IsWhole)
  (a3 : Memref sig .tc .vmem S128x256 .f32) (h3 : a3.IsWhole)
  (a4 : Memref sig .tc .vmem S128x256 .f32) (h4 : a4.IsWhole)
  (a5 : Memref sig .tc .vmem S128x1024 .bf16) (h5 : a5.IsWhole)
  (a6 : Memref sig .tc .vmem S1x16x128 .f32) (h6 : a6.IsWhole)
  (a7 : Memref sig .tc .vmem S128x1024 .bf16) (h7 : a7.IsWhole)
  (a8 : Memref sig .tc .vmem S128x256 .bf16) (h8 : a8.IsWhole)
  (a9 : Memref sig .tc .vmem S16x128 .f32) (h9 : a9.IsWhole)
  (a10 : Memref sig .tc .vmem S128x256 .f32) (h10 : a10.IsWhole)
  (x0 : Vec F S1x16 .f32) (x1 : Vec F S128x1024 .f32) (x2 x3 : Vec F S128x256 .f32)
  (x4 : Vec F S128x1024 .bf16) (x5 : Vec F S1x16x128 .f32)
  (xo8 : Vec F S16x128 .f32) (xs0 : Vec F S128x256 .f32)

variable (p1 : ¬Opens i) (p2 : Treats i) (p3 : ¬Closes i)

set_option maxHeartbeats 2000000

theorem middle_dq_pieces : ∀ p ∈ (middleRun c i a1 h1 a2 h2 a3 h3 a4 h4 a5 h5 a6 h6 a7 h7 a8 h8 a9 h9 a10 h10 p1 p2 p3 x0 x1 x2 x3 x4 x5 xo8 xs0).1, ∃ (k : ℕ) (hk : k < 8),
    p = (⟨pairRect k hk, dqOf i a2 h2 a3 h3 a4 h4 a5 h5 a6 h6 x1 x2 x3 x4 x5 k hk⟩ : View.Piece (Elt F) S128x1024 .bf16) := by
  refine List.forall_mem_cons.mpr ⟨⟨7, by decide, rfl⟩, ?_⟩
  refine List.forall_mem_cons.mpr ⟨⟨6, by decide, rfl⟩, ?_⟩
  refine List.forall_mem_cons.mpr ⟨⟨5, by decide, rfl⟩, ?_⟩
  refine List.forall_mem_cons.mpr ⟨⟨4, by decide, rfl⟩, ?_⟩
  refine List.forall_mem_cons.mpr ⟨⟨3, by decide, rfl⟩, ?_⟩
  refine List.forall_mem_cons.mpr ⟨⟨2, by decide, rfl⟩, ?_⟩
  refine List.forall_mem_cons.mpr ⟨⟨1, by decide, rfl⟩, ?_⟩
  exact List.forall_mem_cons.mpr ⟨⟨0, by decide, rfl⟩, List.forall_mem_nil _⟩

/-! The four arrays sent back, as the body's steps name them. -/

theorem middle_keys0 : k0_pay92 (middleRun.sl.r_38 c i a2 h2 a3 h3 a4 h4 a5 h5 a6 h6 x1 x2 x3 x4 x5) (middleRun.sl.r_40 c a2 h2 x1) (middleRun.sl.r_51 c i a2 h2 a3 h3 a4 h4 a5 h5 a6 h6 x1 x2 x3 x4 x5) = dkeysOf i a2 h2 a3 h3 a4 h4 a5 h5 a6 h6 x1 x2 x3 x4 x5 0 (by decide) := rfl
theorem middle_vals0 : k0_pay93 (middleRun.sl.r_39 c i a2 h2 a3 h3 a4 h4 a5 h5 a6 h6 x1 x2 x3 x4 x5) (middleRun.sl.r_41 c a5 h5 x4) (middleRun.sl.r_49 c i a2 h2 a3 h3 a4 h4 a6 h6 x1 x2 x3 x5) (middleRun.sl.r_50 c i a2 h2 a3 h3 a4 h4 a6 h6 x1 x2 x3 x5) = dvalsOf i a2 h2 a3 h3 a4 h4 a5 h5 a6 h6 x1 x2 x3 x4 x5 0 (by decide) := rfl
theorem middle_keys1 : (middleRun.sl.r_122 c i a2 h2 a3 h3 a4 h4 a5 h5 a6 h6 x1 x2 x3 x4 x5) = dkeysOf i a2 h2 a3 h3 a4 h4 a5 h5 a6 h6 x1 x2 x3 x4 x5 1 (by decide) := rfl
theorem middle_vals1 : (middleRun.sl.r_123 c i a2 h2 a3 h3 a4 h4 a5 h5 a6 h6 x1 x2 x3 x4 x5) = dvalsOf i a2 h2 a3 h3 a4 h4 a5 h5 a6 h6 x1 x2 x3 x4 x5 1 (by decide) := rfl

/-- What the carry held of group `g`'s keys or values. -/
def carried (v : Bool) (g : ℕ) (hg : g < 2) : Vec F S128x64 .f32 :=
  View.readAt (Elt F) a10.view (colRect v g hg).toLoadRect (h10.unread xs0)

theorem middle_dkv_pieces : ∀ p ∈ (middleRun c i a1 h1 a2 h2 a3 h3 a4 h4 a5 h5 a6 h6 a7 h7 a8 h8 a9 h9 a10 h10 p1 p2 p3 x0 x1 x2 x3 x4 x5 xo8 xs0).2.1, ∃ (v : Bool) (g : ℕ) (hg : g < 2),
    p = (⟨colRect v g hg, closed (carried a10 h10 xs0 v g hg) (sentOf i a2 h2 a3 h3 a4 h4 a5 h5 a6 h6 x1 x2 x3 x4 x5 v g hg)⟩ : View.Piece (Elt F) S128x256 .bf16) := by
  refine List.forall_mem_cons.mpr ⟨⟨true, 1, by decide, congrArg (fun x => (⟨colRect true 1 (by decide), closed (carried a10 h10 xs0 true 1 (by decide)) x⟩ : View.Piece (Elt F) S128x256 .bf16)) (middle_vals1 c i a2 h2 a3 h3 a4 h4 a5 h5 a6 h6 x1 x2 x3 x4 x5)⟩, ?_⟩
  refine List.forall_mem_cons.mpr ⟨⟨false, 1, by decide, congrArg (fun x => (⟨colRect false 1 (by decide), closed (carried a10 h10 xs0 false 1 (by decide)) x⟩ : View.Piece (Elt F) S128x256 .bf16)) (middle_keys1 c i a2 h2 a3 h3 a4 h4 a5 h5 a6 h6 x1 x2 x3 x4 x5)⟩, ?_⟩
  refine List.forall_mem_cons.mpr ⟨⟨true, 0, by decide, congrArg (fun x => (⟨colRect true 0 (by decide), closed (carried a10 h10 xs0 true 0 (by decide)) x⟩ : View.Piece (Elt F) S128x256 .bf16)) (middle_vals0 c i a2 h2 a3 h3 a4 h4 a5 h5 a6 h6 x1 x2 x3 x4 x5)⟩, ?_⟩
  exact List.forall_mem_cons.mpr ⟨⟨false, 0, by decide, congrArg (fun x => (⟨colRect false 0 (by decide), closed (carried a10 h10 xs0 false 0 (by decide)) x⟩ : View.Piece (Elt F) S128x256 .bf16)) (middle_keys0 c i a2 h2 a3 h3 a4 h4 a5 h5 a6 h6 x1 x2 x3 x4 x5)⟩, List.forall_mem_nil _⟩

theorem middle_carry_pieces : ∀ p ∈ (middleRun c i a1 h1 a2 h2 a3 h3 a4 h4 a5 h5 a6 h6 a7 h7 a8 h8 a9 h9 a10 h10 p1 p2 p3 x0 x1 x2 x3 x4 x5 xo8 xs0).2.2.2.1, ∃ (v : Bool) (g : ℕ) (hg : g < 2),
    p = (⟨colRect v g hg, opened (sentOf i a2 h2 a3 h3 a4 h4 a5 h5 a6 h6 x1 x2 x3 x4 x5 v g hg)⟩ : View.Piece (Elt F) S128x256 .f32) := by
  refine List.forall_mem_cons.mpr ⟨⟨true, 1, by decide, congrArg (fun x => (⟨colRect true 1 (by decide), opened x⟩ : View.Piece (Elt F) S128x256 .f32)) (middle_vals1 c i a2 h2 a3 h3 a4 h4 a5 h5 a6 h6 x1 x2 x3 x4 x5)⟩, ?_⟩
  refine List.forall_mem_cons.mpr ⟨⟨false, 1, by decide, congrArg (fun x => (⟨colRect false 1 (by decide), opened x⟩ : View.Piece (Elt F) S128x256 .f32)) (middle_keys1 c i a2 h2 a3 h3 a4 h4 a5 h5 a6 h6 x1 x2 x3 x4 x5)⟩, ?_⟩
  refine List.forall_mem_cons.mpr ⟨⟨true, 0, by decide, congrArg (fun x => (⟨colRect true 0 (by decide), opened x⟩ : View.Piece (Elt F) S128x256 .f32)) (middle_vals0 c i a2 h2 a3 h3 a4 h4 a5 h5 a6 h6 x1 x2 x3 x4 x5)⟩, ?_⟩
  exact List.forall_mem_cons.mpr ⟨⟨false, 0, by decide, congrArg (fun x => (⟨colRect false 0 (by decide), opened x⟩ : View.Piece (Elt F) S128x256 .f32)) (middle_keys0 c i a2 h2 a3 h3 a4 h4 a5 h5 a6 h6 x1 x2 x3 x4 x5)⟩, List.forall_mem_nil _⟩

theorem middle_sums_pieces : ∀ p ∈ (middleRun c i a1 h1 a2 h2 a3 h3 a4 h4 a5 h5 a6 h6 a7 h7 a8 h8 a9 h9 a10 h10 p1 p2 p3 x0 x1 x2 x3 x4 x5 xo8 xs0).2.2.1, ∃ (n : ℕ) (hn : n < 16),
    p = (⟨rowRect n hn, rowOf i a1 h1 a2 h2 a3 h3 a4 h4 a5 h5 a6 h6 x0 x1 x2 x3 x4 x5 n hn (View.readAt (Elt F) a9.view (rowRect n hn).toLoadRect (h9.unread xo8))⟩ : View.Piece (Elt F) S16x128 .f32) := by
  refine List.forall_mem_cons.mpr ⟨⟨15, by decide, rfl⟩, ?_⟩
  refine List.forall_mem_cons.mpr ⟨⟨14, by decide, rfl⟩, ?_⟩
  refine List.forall_mem_cons.mpr ⟨⟨13, by decide, rfl⟩, ?_⟩
  refine List.forall_mem_cons.mpr ⟨⟨12, by decide, rfl⟩, ?_⟩
  refine List.forall_mem_cons.mpr ⟨⟨11, by decide, rfl⟩, ?_⟩
  refine List.forall_mem_cons.mpr ⟨⟨10, by decide, rfl⟩, ?_⟩
  refine List.forall_mem_cons.mpr ⟨⟨9, by decide, rfl⟩, ?_⟩
  refine List.forall_mem_cons.mpr ⟨⟨8, by decide, rfl⟩, ?_⟩
  refine List.forall_mem_cons.mpr ⟨⟨7, by decide, rfl⟩, ?_⟩
  refine List.forall_mem_cons.mpr ⟨⟨6, by decide, rfl⟩, ?_⟩
  refine List.forall_mem_cons.mpr ⟨⟨5, by decide, rfl⟩, ?_⟩
  refine List.forall_mem_cons.mpr ⟨⟨4, by decide, rfl⟩, ?_⟩
  refine List.forall_mem_cons.mpr ⟨⟨3, by decide, rfl⟩, ?_⟩
  refine List.forall_mem_cons.mpr ⟨⟨2, by decide, rfl⟩, ?_⟩
  refine List.forall_mem_cons.mpr ⟨⟨1, by decide, rfl⟩, ?_⟩
  exact List.forall_mem_cons.mpr ⟨⟨0, by decide, rfl⟩, List.forall_mem_nil _⟩

end Cert.KernelIdeal.Swa

end
-- ==== Proof.PartsOpening.lean ====
/- The pieces that the opening point leaves, in the words of the call's arithmetic. -/
module

public import proofs.«01_k».proof.Proof.RunEnds
public import proofs.«01_k».proof.Proof.Parts

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (a1 : Memref sig .tc .smem S1x16 .f32) (h1 : a1.IsWhole)
  (a2 : Memref sig .tc .vmem S128x1024 .f32) (h2 : a2.IsWhole)
  (a3 : Memref sig .tc .vmem S128x256 .f32) (h3 : a3.IsWhole)
  (a4 : Memref sig .tc .vmem S128x256 .f32) (h4 : a4.IsWhole)
  (a5 : Memref sig .tc .vmem S128x1024 .bf16) (h5 : a5.IsWhole)
  (a6 : Memref sig .tc .vmem S1x16x128 .f32) (h6 : a6.IsWhole)
  (a7 : Memref sig .tc .vmem S128x1024 .bf16) (h7 : a7.IsWhole)
  (a8 : Memref sig .tc .vmem S128x256 .bf16) (h8 : a8.IsWhole)
  (a9 : Memref sig .tc .vmem S16x128 .f32) (h9 : a9.IsWhole)
  (a10 : Memref sig .tc .vmem S128x256 .f32) (h10 : a10.IsWhole)
  (x0 : Vec F S1x16 .f32) (x1 : Vec F S128x1024 .f32) (x2 x3 : Vec F S128x256 .f32)
  (x4 : Vec F S128x1024 .bf16) (x5 : Vec F S1x16x128 .f32)
  (xo8 : Vec F S16x128 .f32) (xs0 : Vec F S128x256 .f32)

variable (p1 : Opens i) (p2 : Treats i) (p3 : ¬Closes i)

set_option maxHeartbeats 2000000

theorem opening_dq_pieces : ∀ p ∈ (openingRun c i a1 h1 a2 h2 a3 h3 a4 h4 a5 h5 a6 h6 a7 h7 a8 h8 a9 h9 a10 h10 p1 p2 p3 x0 x1 x2 x3 x4 x5).1, ∃ (k : ℕ) (hk : k < 8),
    p = (⟨pairRect k hk, dqOf i a2 h2 a3 h3 a4 h4 a5 h5 a6 h6 x1 x2 x3 x4 x5 k hk⟩ : View.Piece (Elt F) S128x1024 .bf16) := by
  refine List.forall_mem_cons.mpr ⟨⟨7, by decide, rfl⟩, ?_⟩
  refine List.forall_mem_cons.mpr ⟨⟨6, by decide, rfl⟩, ?_⟩
  refine List.forall_mem_cons.mpr ⟨⟨5, by decide, rfl⟩, ?_⟩
  refine List.forall_mem_cons.mpr ⟨⟨4, by decide, rfl⟩, ?_⟩
  refine List.forall_mem_cons.mpr ⟨⟨3, by decide, rfl⟩, ?_⟩
  refine List.forall_mem_cons.mpr ⟨⟨2, by decide, rfl⟩, ?_⟩
  refine List.forall_mem_cons.mpr ⟨⟨1, by decide, rfl⟩, ?_⟩
  exact List.forall_mem_cons.mpr ⟨⟨0, by decide, rfl⟩, List.forall_mem_nil _⟩

/-! The four arrays sent back, as the body's steps name them. -/

theorem opening_keys0 : k0_pay92 (openingRun.sl.r_38 c i a2 h2 a3 h3 a4 h4 a5 h5 a6 h6 x1 x2 x3 x4 x5) (openingRun.sl.r_40 c a2 h2 x1) (openingRun.sl.r_51 c i a2 h2 a3 h3 a4 h4 a5 h5 a6 h6 x1 x2 x3 x4 x5) = dkeysOf i a2 h2 a3 h3 a4 h4 a5 h5 a6 h6 x1 x2 x3 x4 x5 0 (by decide) := rfl
theorem opening_vals0 : k0_pay93 (openingRun.sl.r_39 c i a2 h2 a3 h3 a4 h4 a5 h5 a6 h6 x1 x2 x3 x4 x5) (openingRun.sl.r_41 c a5 h5 x4) (openingRun.sl.r_49 c i a2 h2 a3 h3 a4 h4 a6 h6 x1 x2 x3 x5) (openingRun.sl.r_50 c i a2 h2 a3 h3 a4 h4 a6 h6 x1 x2 x3 x5) = dvalsOf i a2 h2 a3 h3 a4 h4 a5 h5 a6 h6 x1 x2 x3 x4 x5 0 (by decide) := rfl
theorem opening_keys1 : (openingRun.sl.r_122 c i a2 h2 a3 h3 a4 h4 a5 h5 a6 h6 x1 x2 x3 x4 x5) = dkeysOf i a2 h2 a3 h3 a4 h4 a5 h5 a6 h6 x1 x2 x3 x4 x5 1 (by decide) := rfl
theorem opening_vals1 : (openingRun.sl.r_123 c i a2 h2 a3 h3 a4 h4 a5 h5 a6 h6 x1 x2 x3 x4 x5) = dvalsOf i a2 h2 a3 h3 a4 h4 a5 h5 a6 h6 x1 x2 x3 x4 x5 1 (by decide) := rfl

/-- The whole of the carry, at zero. -/
abbrev carryZero : View.Piece (Elt F) S128x256 .f32 := ⟨Rect.unit ![0, 0] S128x256.size inb_S128x256_S128x256_0_0, k0_pay2⟩

/-- The carry once the first group has written its parts. -/
abbrev carryHalf : List (View.Piece (Elt F) S128x256 .f32) :=
  [⟨colRect true 0 (by decide), opened (sentOf i a2 h2 a3 h3 a4 h4 a5 h5 a6 h6 x1 x2 x3 x4 x5 true 0 (by decide))⟩,
    ⟨colRect false 0 (by decide), opened (sentOf i a2 h2 a3 h3 a4 h4 a5 h5 a6 h6 x1 x2 x3 x4 x5 false 0 (by decide))⟩, carryZero]
/-- What the carry held of group `g`'s keys or values when they were added: zero. -/
def cleared (v : Bool) (g : ℕ) (hg : g < 2) : Vec F S128x64 .f32 :=
  a10.view.readCov (if g = 0 then [carryZero] else carryHalf i a2 h2 a3 h3 a4 h4 a5 h5 a6 h6 x1 x2 x3 x4 x5) (colRect v g hg).toLoadRect

theorem carry_half : openingRun.sl.HS0_3 c i a2 h2 a3 h3 a4 h4 a5 h5 a6 h6 x1 x2 x3 x4 x5 = carryHalf i a2 h2 a3 h3 a4 h4 a5 h5 a6 h6 x1 x2 x3 x4 x5 :=
  congrArg₂ (fun x y => ([⟨colRect true 0 (by decide), opened x⟩, ⟨colRect false 0 (by decide), opened y⟩, carryZero] : List (View.Piece (Elt F) S128x256 .f32)))
    (opening_vals0 c i a2 h2 a3 h3 a4 h4 a5 h5 a6 h6 x1 x2 x3 x4 x5) (opening_keys0 c i a2 h2 a3 h3 a4 h4 a5 h5 a6 h6 x1 x2 x3 x4 x5)

theorem opening_dkv_pieces : ∀ p ∈ (openingRun c i a1 h1 a2 h2 a3 h3 a4 h4 a5 h5 a6 h6 a7 h7 a8 h8 a9 h9 a10 h10 p1 p2 p3 x0 x1 x2 x3 x4 x5).2.1, ∃ (v : Bool) (g : ℕ) (hg : g < 2),
    p = (⟨colRect v g hg, closed (cleared i a2 h2 a3 h3 a4 h4 a5 h5 a6 h6 a10 x1 x2 x3 x4 x5  v g hg) (sentOf i a2 h2 a3 h3 a4 h4 a5 h5 a6 h6 x1 x2 x3 x4 x5 v g hg)⟩ : View.Piece (Elt F) S128x256 .bf16) := by
  refine List.forall_mem_cons.mpr ⟨⟨true, 1, by decide, congrArg₂ (fun x l => (⟨colRect true 1 (by decide), closed (a10.view.readCov l (colRect true 1 (by decide)).toLoadRect) x⟩ : View.Piece (Elt F) S128x256 .bf16)) (opening_vals1 c i a2 h2 a3 h3 a4 h4 a5 h5 a6 h6 x1 x2 x3 x4 x5) (carry_half c i a2 h2 a3 h3 a4 h4 a5 h5 a6 h6 x1 x2 x3 x4 x5)⟩, ?_⟩
  refine List.forall_mem_cons.mpr ⟨⟨false, 1, by decide, congrArg₂ (fun x l => (⟨colRect false 1 (by decide), closed (a10.view.readCov l (colRect false 1 (by decide)).toLoadRect) x⟩ : View.Piece (Elt F) S128x256 .bf16)) (opening_keys1 c i a2 h2 a3 h3 a4 h4 a5 h5 a6 h6 x1 x2 x3 x4 x5) (carry_half c i a2 h2 a3 h3 a4 h4 a5 h5 a6 h6 x1 x2 x3 x4 x5)⟩, ?_⟩
  refine List.forall_mem_cons.mpr ⟨⟨true, 0, by decide, congrArg (fun x => (⟨colRect true 0 (by decide), closed (cleared i a2 h2 a3 h3 a4 h4 a5 h5 a6 h6 a10 x1 x2 x3 x4 x5 true 0 (by decide)) x⟩ : View.Piece (Elt F) S128x256 .bf16)) (opening_vals0 c i a2 h2 a3 h3 a4 h4 a5 h5 a6 h6 x1 x2 x3 x4 x5)⟩, ?_⟩
  exact List.forall_mem_cons.mpr ⟨⟨false, 0, by decide, congrArg (fun x => (⟨colRect false 0 (by decide), closed (cleared i a2 h2 a3 h3 a4 h4 a5 h5 a6 h6 a10 x1 x2 x3 x4 x5 false 0 (by decide)) x⟩ : View.Piece (Elt F) S128x256 .bf16)) (opening_keys0 c i a2 h2 a3 h3 a4 h4 a5 h5 a6 h6 x1 x2 x3 x4 x5)⟩, List.forall_mem_nil _⟩

theorem opening_carry_pieces : (openingRun c i a1 h1 a2 h2 a3 h3 a4 h4 a5 h5 a6 h6 a7 h7 a8 h8 a9 h9 a10 h10 p1 p2 p3 x0 x1 x2 x3 x4 x5).2.2.2.1 =
    ⟨colRect true 1 (by decide), opened (sentOf i a2 h2 a3 h3 a4 h4 a5 h5 a6 h6 x1 x2 x3 x4 x5 true 1 (by decide))⟩ ::
      ⟨colRect false 1 (by decide), opened (sentOf i a2 h2 a3 h3 a4 h4 a5 h5 a6 h6 x1 x2 x3 x4 x5 false 1 (by decide))⟩ :: carryHalf i a2 h2 a3 h3 a4 h4 a5 h5 a6 h6 x1 x2 x3 x4 x5 :=
  (congrArg₂ (fun x y => ((⟨colRect true 1 (by decide), opened x⟩ :: ⟨colRect false 1 (by decide), opened y⟩ :: openingRun.sl.HS0_3 c i a2 h2 a3 h3 a4 h4 a5 h5 a6 h6 x1 x2 x3 x4 x5) : List (View.Piece (Elt F) S128x256 .f32)))
    (opening_vals1 c i a2 h2 a3 h3 a4 h4 a5 h5 a6 h6 x1 x2 x3 x4 x5) (opening_keys1 c i a2 h2 a3 h3 a4 h4 a5 h5 a6 h6 x1 x2 x3 x4 x5)).trans
    (congrArg (fun l => ⟨colRect true 1 (by decide), opened (sentOf i a2 h2 a3 h3 a4 h4 a5 h5 a6 h6 x1 x2 x3 x4 x5 true 1 (by decide))⟩ ::
      ⟨colRect false 1 (by decide), opened (sentOf i a2 h2 a3 h3 a4 h4 a5 h5 a6 h6 x1 x2 x3 x4 x5 false 1 (by decide))⟩ :: l) (carry_half c i a2 h2 a3 h3 a4 h4 a5 h5 a6 h6 x1 x2 x3 x4 x5))

/-- The sinks' sums once the first `n` heads have written their rows over zeros. -/
def sumsUpTo : (n : ℕ) → n ≤ 16 → List (View.Piece (Elt F) S16x128 .f32)
  | 0, _ => [⟨Rect.unit ![0, 0] S16x128.size inb_S16x128_S16x128_0_0, k0_pay1⟩]
  | n + 1, hn => ⟨rowRect n hn, rowOf i a1 h1 a2 h2 a3 h3 a4 h4 a5 h5 a6 h6 x0 x1 x2 x3 x4 x5 n hn (a9.view.readCov (sumsUpTo n (by omega)) (rowRect n hn).toLoadRect)⟩ :: sumsUpTo n (by omega)

end Cert.KernelIdeal.Swa

end
-- ==== Proof.PartsSums.lean ====
/- The rows of the sinks' sums that the opening point leaves, one after another. -/
module

public import proofs.«01_k».proof.Proof.PartsOpening

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (a1 : Memref sig .tc .smem S1x16 .f32) (h1 : a1.IsWhole)
  (a2 : Memref sig .tc .vmem S128x1024 .f32) (h2 : a2.IsWhole)
  (a3 : Memref sig .tc .vmem S128x256 .f32) (h3 : a3.IsWhole)
  (a4 : Memref sig .tc .vmem S128x256 .f32) (h4 : a4.IsWhole)
  (a5 : Memref sig .tc .vmem S128x1024 .bf16) (h5 : a5.IsWhole)
  (a6 : Memref sig .tc .vmem S1x16x128 .f32) (h6 : a6.IsWhole)
  (a7 : Memref sig .tc .vmem S128x1024 .bf16) (h7 : a7.IsWhole)
  (a8 : Memref sig .tc .vmem S128x256 .bf16) (h8 : a8.IsWhole)
  (a9 : Memref sig .tc .vmem S16x128 .f32) (h9 : a9.IsWhole)
  (a10 : Memref sig .tc .vmem S128x256 .f32) (h10 : a10.IsWhole)
  (x0 : Vec F S1x16 .f32) (x1 : Vec F S128x1024 .f32) (x2 x3 : Vec F S128x256 .f32)
  (x4 : Vec F S128x1024 .bf16) (x5 : Vec F S1x16x128 .f32)
  (xo8 : Vec F S16x128 .f32) (xs0 : Vec F S128x256 .f32)

set_option maxHeartbeats 2000000

theorem sums_up_to_0 : openingRun.sl.H8_1 = sumsUpTo i a1 h1 a2 h2 a3 h3 a4 h4 a5 h5 a6 h6 a9 x0 x1 x2 x3 x4 x5 0 (by decide) := rfl
theorem sums_up_to_1 : openingRun.sl.H8_2 c i a1 h1 a2 h2 a3 h3 a4 h4 a5 h5 a6 h6 a9 x0 x1 x2 x3 x4 x5 = sumsUpTo i a1 h1 a2 h2 a3 h3 a4 h4 a5 h5 a6 h6 a9 x0 x1 x2 x3 x4 x5 1 (by decide) := by
  unfold openingRun.sl.H8_2 openingRun.sl.v66
  rw [sums_up_to_0]
  rfl
theorem sums_up_to_2 : openingRun.sl.H8_3 c i a1 h1 a2 h2 a3 h3 a4 h4 a5 h5 a6 h6 a9 x0 x1 x2 x3 x4 x5 = sumsUpTo i a1 h1 a2 h2 a3 h3 a4 h4 a5 h5 a6 h6 a9 x0 x1 x2 x3 x4 x5 2 (by decide) := by
  unfold openingRun.sl.H8_3 openingRun.sl.v99
  rw [sums_up_to_1]
  rfl
theorem sums_up_to_3 : openingRun.sl.H8_4 c i a1 h1 a2 h2 a3 h3 a4 h4 a5 h5 a6 h6 a9 x0 x1 x2 x3 x4 x5 = sumsUpTo i a1 h1 a2 h2 a3 h3 a4 h4 a5 h5 a6 h6 a9 x0 x1 x2 x3 x4 x5 3 (by decide) := by
  unfold openingRun.sl.H8_4 openingRun.sl.v148
  rw [sums_up_to_2]
  rfl
theorem sums_up_to_4 : openingRun.sl.H8_5 c i a1 h1 a2 h2 a3 h3 a4 h4 a5 h5 a6 h6 a9 x0 x1 x2 x3 x4 x5 = sumsUpTo i a1 h1 a2 h2 a3 h3 a4 h4 a5 h5 a6 h6 a9 x0 x1 x2 x3 x4 x5 4 (by decide) := by
  unfold openingRun.sl.H8_5 openingRun.sl.v181
  rw [sums_up_to_3]
  rfl
theorem sums_up_to_5 : openingRun.sl.H8_6 c i a1 h1 a2 h2 a3 h3 a4 h4 a5 h5 a6 h6 a9 x0 x1 x2 x3 x4 x5 = sumsUpTo i a1 h1 a2 h2 a3 h3 a4 h4 a5 h5 a6 h6 a9 x0 x1 x2 x3 x4 x5 5 (by decide) := by
  unfold openingRun.sl.H8_6 openingRun.sl.v230
  rw [sums_up_to_4]
  rfl
theorem sums_up_to_6 : openingRun.sl.H8_7 c i a1 h1 a2 h2 a3 h3 a4 h4 a5 h5 a6 h6 a9 x0 x1 x2 x3 x4 x5 = sumsUpTo i a1 h1 a2 h2 a3 h3 a4 h4 a5 h5 a6 h6 a9 x0 x1 x2 x3 x4 x5 6 (by decide) := by
  unfold openingRun.sl.H8_7 openingRun.sl.v263
  rw [sums_up_to_5]
  rfl
theorem sums_up_to_7 : openingRun.sl.H8_8 c i a1 h1 a2 h2 a3 h3 a4 h4 a5 h5 a6 h6 a9 x0 x1 x2 x3 x4 x5 = sumsUpTo i a1 h1 a2 h2 a3 h3 a4 h4 a5 h5 a6 h6 a9 x0 x1 x2 x3 x4 x5 7 (by decide) := by
  unfold openingRun.sl.H8_8 openingRun.sl.r_47 openingRun.sl.v312
  rw [sums_up_to_6]
  rfl
theorem sums_up_to_8 : openingRun.sl.H8_9 c i a1 h1 a2 h2 a3 h3 a4 h4 a5 h5 a6 h6 a9 x0 x1 x2 x3 x4 x5 = sumsUpTo i a1 h1 a2 h2 a3 h3 a4 h4 a5 h5 a6 h6 a9 x0 x1 x2 x3 x4 x5 8 (by decide) := by
  unfold openingRun.sl.H8_9 openingRun.sl.v345
  rw [sums_up_to_7]
  rfl
theorem sums_up_to_9 : openingRun.sl.H8_10 c i a1 h1 a2 h2 a3 h3 a4 h4 a5 h5 a6 h6 a9 x0 x1 x2 x3 x4 x5 = sumsUpTo i a1 h1 a2 h2 a3 h3 a4 h4 a5 h5 a6 h6 a9 x0 x1 x2 x3 x4 x5 9 (by decide) := by
  unfold openingRun.sl.H8_10 openingRun.sl.v438
  rw [sums_up_to_8]
  rfl
theorem sums_up_to_10 : openingRun.sl.H8_11 c i a1 h1 a2 h2 a3 h3 a4 h4 a5 h5 a6 h6 a9 x0 x1 x2 x3 x4 x5 = sumsUpTo i a1 h1 a2 h2 a3 h3 a4 h4 a5 h5 a6 h6 a9 x0 x1 x2 x3 x4 x5 10 (by decide) := by
  unfold openingRun.sl.H8_11 openingRun.sl.r_71 openingRun.sl.v471
  rw [sums_up_to_9]
  rfl
theorem sums_up_to_11 : openingRun.sl.H8_12 c i a1 h1 a2 h2 a3 h3 a4 h4 a5 h5 a6 h6 a9 x0 x1 x2 x3 x4 x5 = sumsUpTo i a1 h1 a2 h2 a3 h3 a4 h4 a5 h5 a6 h6 a9 x0 x1 x2 x3 x4 x5 11 (by decide) := by
  unfold openingRun.sl.H8_12 openingRun.sl.v520
  rw [sums_up_to_10]
  rfl
theorem sums_up_to_12 : openingRun.sl.H8_13 c i a1 h1 a2 h2 a3 h3 a4 h4 a5 h5 a6 h6 a9 x0 x1 x2 x3 x4 x5 = sumsUpTo i a1 h1 a2 h2 a3 h3 a4 h4 a5 h5 a6 h6 a9 x0 x1 x2 x3 x4 x5 12 (by decide) := by
  unfold openingRun.sl.H8_13 openingRun.sl.r_89 openingRun.sl.v553
  rw [sums_up_to_11]
  rfl
theorem sums_up_to_13 : openingRun.sl.H8_14 c i a1 h1 a2 h2 a3 h3 a4 h4 a5 h5 a6 h6 a9 x0 x1 x2 x3 x4 x5 = sumsUpTo i a1 h1 a2 h2 a3 h3 a4 h4 a5 h5 a6 h6 a9 x0 x1 x2 x3 x4 x5 13 (by decide) := by
  unfold openingRun.sl.H8_14 openingRun.sl.v602
  rw [sums_up_to_12]
  rfl
theorem sums_up_to_14 : openingRun.sl.H8_15 c i a1 h1 a2 h2 a3 h3 a4 h4 a5 h5 a6 h6 a9 x0 x1 x2 x3 x4 x5 = sumsUpTo i a1 h1 a2 h2 a3 h3 a4 h4 a5 h5 a6 h6 a9 x0 x1 x2 x3 x4 x5 14 (by decide) := by
  unfold openingRun.sl.H8_15 openingRun.sl.v635
  rw [sums_up_to_13]
  rfl
theorem sums_up_to_15 : openingRun.sl.H8_16 c i a1 h1 a2 h2 a3 h3 a4 h4 a5 h5 a6 h6 a9 x0 x1 x2 x3 x4 x5 = sumsUpTo i a1 h1 a2 h2 a3 h3 a4 h4 a5 h5 a6 h6 a9 x0 x1 x2 x3 x4 x5 15 (by decide) := by
  unfold openingRun.sl.H8_16 openingRun.sl.v684
  rw [sums_up_to_14]
  rfl

variable (p1 : Opens i) (p2 : Treats i) (p3 : ¬Closes i)

theorem opening_sums_pieces : (openingRun c i a1 h1 a2 h2 a3 h3 a4 h4 a5 h5 a6 h6 a7 h7 a8 h8 a9 h9 a10 h10 p1 p2 p3 x0 x1 x2 x3 x4 x5).2.2.1 = sumsUpTo i a1 h1 a2 h2 a3 h3 a4 h4 a5 h5 a6 h6 a9 x0 x1 x2 x3 x4 x5 16 (by decide) := by
  refine Eq.trans (b := _ :: openingRun.sl.H8_16 c i a1 h1 a2 h2 a3 h3 a4 h4 a5 h5 a6 h6 a9 x0 x1 x2 x3 x4 x5) rfl ?_
  unfold openingRun.sl.v717
  rw [sums_up_to_15]
  rfl

end Cert.KernelIdeal.Swa

end
-- ==== Proof.Pieces.lean ====
/- What every point of the backward call leaves in its outputs' staging buffers and in the carry, over the reals. -/
module

public import proofs.«01_k».proof.Proof.Contents
public import proofs.«01_k».proof.Proof.PartsMiddle
public import proofs.«01_k».proof.Proof.PartsSums
public import proofs.«01_k».proof.Proof.BlockArrays
public import Idealize.ShloMosaic.Lib.Pipeline.CanonAppend

@[expose] public section

set_option maxRecDepth 16384

noncomputable section

namespace Cert.KernelIdeal.Swa

open Idealize.ShloMosaic Idealize.ShloMosaic.TcCoe Idealize.ShloMosaic.Tactic
open Cert.KernelIdeal.Gen
open Cert.Attn (Sees)

variable (A : ℕ → ℕ → ℝ) (S : ℕ → ℝ) (D : ℕ → ℕ → ℝ)

/-- What block `n` sends back to column `k` of the keys and values, to key `j`. -/
def sentCol (n j k : ℕ) : ℝ :=
  if k < 128 then Cert.Attn.dkeyFrom A S D n (k / 64) j (k % 64) else Cert.Attn.dvalFrom A S D n ((k - 128) / 64) j (k % 64)
/-- The gradient of column `k` of row `i` of block `n`'s queries. -/
def queryCol (n i k : ℕ) : ℝ := Cert.Attn.dquery A S D n (k / 64) i (k % 64)

theorem sentCol_colOf (v : Bool) {g : ℕ} (hg : g < 2) (n j d : ℕ) (hd : d < 64) :
    sentCol A S D n j (colOf v g + d) = cond v (Cert.Attn.dvalFrom A S D n g j d) (Cert.Attn.dkeyFrom A S D n g j d) := by
  unfold sentCol
  cases v
  · rw [if_pos (by dsimp only [colOf, cond]; omega)]
    dsimp only [colOf, cond]
    rw [show (0 + 64 * g + d) / 64 = g by omega, show (0 + 64 * g + d) % 64 = d by omega]
  · rw [if_neg (by dsimp only [colOf, cond]; omega)]
    dsimp only [colOf, cond]
    rw [show (128 + 64 * g + d - 128) / 64 = g by omega, show (128 + 64 * g + d) % 64 = d by omega]

/-! ## Where a rectangle's elements lie -/

theorem emb_unit {s : Shape} (off size : Fin s.rank → ℕ) (hb) (x : (Rect.unit (s := s) off size hb).shape.Idx) (a : Fin s.rank) :
    (((Rect.unit (s := s) off size hb).emb x a : Fin _) : ℕ) = off a + (x a : ℕ) := by
  exact congrArg (off a + ·) (one_mul _)

theorem mem_col (v : Bool) {g : ℕ} (hg : g < 2) {y : S128x256.Idx} (h1 : colOf v g ≤ (y 1).val) (h2 : (y 1).val < colOf v g + 64) :
    y ∈ (colRect v g hg).set := by
  rw [Rect.mem_set_unit]
  intro a
  match a with
  | 0 => exact ⟨Nat.zero_le _, (Nat.zero_add 128).symm ▸ (y 0).isLt⟩
  | 1 => exact ⟨h1, h2⟩
theorem mem_row {k : ℕ} (hk : k < 16) {y : S16x128.Idx} : y ∈ (rowRect k hk).set ↔ (y 0).val = k := by
  rw [Rect.mem_set_unit]
  constructor
  · intro h
    have := h 0
    change k ≤ (y 0).val ∧ (y 0).val < k + 1 at this
    omega
  · intro h a
    match a with
    | 0 => exact ⟨h.ge, h ▸ Nat.lt_succ_self _⟩
    | 1 => exact ⟨Nat.zero_le _, (Nat.zero_add 128).symm ▸ (y 1).isLt⟩

/-! ## The pieces, over the reals -/

section

variable {A S D} {n : ℕ} {i : grid0.Coords}
  {a1 : Memref sig .tc .smem S1x16 .f32} {h1 : a1.IsWhole}
  {a2 : Memref sig .tc .vmem S128x1024 .f32} {h2 : a2.IsWhole}
  {a3 : Memref sig .tc .vmem S128x256 .f32} {h3 : a3.IsWhole}
  {a4 : Memref sig .tc .vmem S128x256 .f32} {h4 : a4.IsWhole}
  {a5 : Memref sig .tc .vmem S128x1024 .bf16} {h5 : a5.IsWhole}
  {a6 : Memref sig .tc .vmem S1x16x128 .f32} {h6 : a6.IsWhole}
  {a9 : Memref sig .tc .vmem S16x128 .f32} {h9 : a9.IsWhole}
  {a10 : Memref sig .tc .vmem S128x256 .f32} {h10 : a10.IsWhole}
  {x0 : Vec Ideal S1x16 .f32} {x1 : Vec Ideal S128x1024 .f32} {x2 x3 : Vec Ideal S128x256 .f32}
  {x4 : Vec Ideal S128x1024 .bf16} {x5 : Vec Ideal S1x16x128 .f32} {xo8 : Vec Ideal S16x128 .f32} {xs0 : Vec Ideal S128x256 .f32}
  (B : BlockReads A S D n i x0 x1 x2 x3 x4 x5)
include B

theorem BlockReads.dq_piece (k : ℕ) (hk : k < 8) (x : S128x128.Idx) :
    (dqOf i a2 h2 a3 h3 a4 h4 a5 h5 a6 h6 x1 x2 x3 x4 x5 k hk x : EReal)
      = (fun y : S128x1024.Idx => ((queryCol A S D n (y 0).val (y 1).val : ℝ) : EReal)) ((pairRect k hk).emb x) := by
  obtain ⟨r, q, rfl⟩ : ∃ (r q : Fin 128), x = ix2 r q := ⟨x 0, x 1, (ix2_eta x).symm⟩
  refine (B.dq_at k hk r q).trans ?_
  dsimp only [queryCol]
  rw [emb_unit, emb_unit]
  exact congrArg (fun r : ℕ => ((Cert.Attn.dquery A S D n ((128 * k + q) / 64) r ((128 * k + q) % 64) : ℝ) : EReal)) (Nat.zero_add _).symm

theorem BlockReads.carry_piece (v : Bool) (g : ℕ) (hg : g < 2) (x : S128x64.Idx) :
    (opened (sentOf i a2 h2 a3 h3 a4 h4 a5 h5 a6 h6 x1 x2 x3 x4 x5 v g hg) x : EReal)
      = (fun y : S128x256.Idx => ((sentCol A S D n (128 + (y 0).val) (y 1).val : ℝ) : EReal)) ((colRect v g hg).emb x) := by
  obtain ⟨r, d, rfl⟩ : ∃ (r : Fin 128) (d : Fin 64), x = ix2 r d := ⟨x 0, x 1, (ix2_eta x).symm⟩
  pointwise [opened]
  refine (B.sent_at v g hg ⟨128 + r, by omega⟩ d).trans ?_
  dsimp only
  rw [emb_unit, emb_unit, ← sentCol_colOf A S D v hg n _ d d.isLt]
  exact congrArg (fun r : ℕ => ((sentCol A S D n (128 + r) (colOf v g + d) : ℝ) : EReal)) (Nat.zero_add _).symm

theorem BlockReads.dkv_piece {carry : ℕ → ℕ → ℝ} (hx : ∀ (r : Fin 128) (k : Fin 256), (xs0 (ix2 r k) : EReal) = ((carry r k : ℝ) : EReal))
    (v : Bool) (g : ℕ) (hg : g < 2) (x : S128x64.Idx) :
    (closed (carried a10 h10 xs0 v g hg) (sentOf i a2 h2 a3 h3 a4 h4 a5 h5 a6 h6 x1 x2 x3 x4 x5 v g hg) x : EReal)
      = (fun y : S128x256.Idx => ((carry (y 0).val (y 1).val + sentCol A S D n (y 0).val (y 1).val : ℝ) : EReal)) ((colRect v g hg).emb x) := by
  obtain ⟨r, d, rfl⟩ : ∃ (r : Fin 128) (d : Fin 64), x = ix2 r d := ⟨x 0, x 1, (ix2_eta x).symm⟩
  have hc := colOf_le v hg
  have e : carried a10 h10 xs0 v g hg (ix2 r d) = xs0 (ix2 r ⟨colOf v g + d, by omega⟩) := by
    unfold carried
    rw [Memref.IsWhole.readAt_unread h10]
    refine congrArg xs0 (funext fun b => Fin.ext ?_)
    match b with
    | 0 => exact (congrArg (0 + ·) (one_mul _)).trans (zero_add _)
    | 1 => exact congrArg (colOf v g + ·) (one_mul _)
  pointwise [closed]
  refine (congrArg₂ (fun a b : EReal => a + b) (e.trans (hx _ _)) (B.sent_at v g hg ⟨r, by omega⟩ d)).trans ?_
  dsimp only
  rw [emb_unit, emb_unit, ← sentCol_colOf A S D v hg n _ d d.isLt, EReal.coe_add]
  exact congrArg (fun r : ℕ => ((carry r (colOf v g + d) : ℝ) : EReal) + ((sentCol A S D n r (colOf v g + d) : ℝ) : EReal)) (Nat.zero_add _).symm

theorem BlockReads.sums_piece {sums : ℕ → ℕ → ℝ} (old : Vec Ideal S1x128 .f32) (k : ℕ) (hk : k < 16)
    (ho : ∀ r : Fin 128, (old (ix2 0 r) : EReal) = ((sums k r : ℝ) : EReal)) (x : S1x128.Idx) :
    (rowOf i a1 h1 a2 h2 a3 h3 a4 h4 a5 h5 a6 h6 x0 x1 x2 x3 x4 x5 k hk old x : EReal)
      = (fun y : S16x128.Idx => ((sums (y 0).val (y 1).val + Cert.Attn.dsinkFrom A S D n (y 0).val (y 1).val : ℝ) : EReal)) ((rowRect k hk).emb x) := by
  obtain ⟨z, r, rfl⟩ : ∃ (z : Fin 1) (r : Fin 128), x = ix2 z r := ⟨x 0, x 1, (ix2_eta x).symm⟩
  obtain rfl : z = 0 := Subsingleton.elim _ _
  refine (B.row_at k hk old r).trans ?_
  dsimp only
  rw [emb_unit, emb_unit, ho, EReal.coe_add]
  exact congrArg (fun r : ℕ => ((sums k r : ℝ) : EReal) + ((Cert.Attn.dsinkFrom A S D n k r : ℝ) : EReal)) (Nat.zero_add _).symm

/-- The sinks' sums at the first point, once the first `k` heads have theirs. -/
theorem BlockReads.sums_up_to : ∀ (k : ℕ) (hk : k ≤ 16) (y : S16x128.Idx),
    (View.canon (sumsUpTo i a1 h1 a2 h2 a3 h3 a4 h4 a5 h5 a6 h6 a9 x0 x1 x2 x3 x4 x5 k hk) y : EReal)
      = ((if (y 0).val < k then Cert.Attn.dsinkFrom A S D n (y 0).val (y 1).val else 0 : ℝ) : EReal)
  | 0, hk, y => by
    rw [if_neg (Nat.not_lt_zero _)]
    refine (congrFun (View.canon_unit_zero (by decide) _ _) y).trans ?_
    obtain ⟨h, r, rfl⟩ : ∃ (h : Fin 16) (r : Fin 128), y = ix2 h r := ⟨y 0, y 1, (ix2_eta y).symm⟩
    pointwise [k0_pay1]
    simp [Ideal.ofBits, Ideal.ieee]
  | k + 1, hk, y => by
    by_cases h : (y 0).val = k
    · obtain ⟨x, rfl⟩ := (rowRect k hk).exists_idx_of_mem ((mem_row hk).mpr h)
      rw [if_pos (by omega)]
      refine (View.canon_cons_emb (rowRect k hk) _ _ x).trans ((B.sums_piece (sums := fun _ _ => 0) _ k hk (fun r => ?_) x).trans ?_)
      · rw [View.readCov_eq_canon']
        refine (BlockReads.sums_up_to k (by omega) _).trans ?_
        rw [if_neg]
        exact Nat.lt_irrefl k
      · dsimp only
        rw [zero_add]
        rfl
    · refine (View.canon_cons_of_not_mem _ _ (mt (mem_row hk).mp h)).trans ((BlockReads.sums_up_to k (by omega) y).trans ?_)
      exact congrArg (fun z : ℝ => (z : EReal)) (if_congr (by omega) rfl rfl)

end

end Cert.KernelIdeal.Swa

end
-- ==== Proof.LeftValue.lean ====
/- By induction over the points: what every point of the backward call leaves, over the reals. -/
module

public import proofs.«01_k».proof.Proof.Pieces

@[expose] public section

set_option maxRecDepth 16384

noncomputable section

namespace Cert.KernelIdeal.Swa

open Idealize.ShloMosaic Idealize.ShloMosaic.TcCoe Idealize.ShloMosaic.Tactic
open Cert.KernelIdeal.Gen
open Cert.Attn (Sees)

variable (m : (ℓ : Loc nD τ sig) → Buf (Elt Ideal) ℓ) (A : ℕ → ℕ → ℝ) (S : ℕ → ℝ) (D : ℕ → ℕ → ℝ)

/-- What the buffers hold after the point that treats block `n`. -/
structure Holds (n : ℕ) (L : Left Ideal) : Prop where
  dq : ∀ y : S128x1024.Idx, (L.dq y : EReal) = ((queryCol A S D n (y 0).val (y 1).val : ℝ) : EReal)
  dkv : 0 < n → ∀ y : S128x256.Idx, (L.dkv y : EReal)
    = ((sentCol A S D (n - 1) (128 + (y 0).val) (y 1).val + sentCol A S D n (y 0).val (y 1).val : ℝ) : EReal)
  sums : ∀ y : S16x128.Idx, (L.sums y : EReal) = ((∑ k ∈ Finset.range (n + 1), Cert.Attn.dsinkFrom A S D k (y 0).val (y 1).val : ℝ) : EReal)
  carry : ∀ y : S128x256.Idx, (L.carry y : EReal) = ((sentCol A S D n (128 + (y 0).val) (y 1).val : ℝ) : EReal)

variable {m A S D} {c : Dev nD} (R : ArrayReads m A S D c) (t : Fin cfg0.N)
include R

/-- The first point. -/
theorem holds_first (h : t.val = 0) : Holds A S D 0 (leftFirst m c t h) := by
  have B := R.block t (by omega)
  rw [h] at B
  refine ⟨fun y => ?_, fun h0 => absurd h0 (Nat.lt_irrefl 0), fun y => ?_, fun y => ?_⟩
  · refine View.canon_apply_of_pieces (fun y : S128x1024.Idx => ((queryCol A S D 0 (y 0).val (y 1).val : ℝ) : EReal)) _ (fun p hp x => ?_) y (opening_dq m c t h y)
    obtain ⟨k, hk, rfl⟩ := opening_dq_pieces _ _ _ _ _ _ _ _ _ _ _ _ _ _ _ _ _ _ _ _ _ _ _ _ _ _ _ _ _ _ _ p hp
    exact B.dq_piece k hk x
  · have e : (openingAt m c t h).2.2.1 = _ := opening_sums_pieces _ _ _ _ _ _ _ _ _ _ _ _ _ _ _ _ _ _ _ _ _ _ _ _ _ _ _ _ _ _ _
    refine (congrFun (congrArg View.canon e) y).trans ((B.sums_up_to 16 _ y).trans ?_)
    rw [if_pos (show (y 0).val < 16 from (y 0).isLt), Finset.sum_range_one]
  · have hy1 : (y 1).val < 256 := (y 1).isLt
    have e : (openingAt m c t h).2.2.2.1 = _ := opening_carry_pieces _ _ _ _ _ _ _ _ _ _ _ _ _ _ _ _ _ _ _ _ _ _ _ _ _ _ _ _ _ _ _
    refine (congrFun (congrArg View.canon e) y).trans ?_
    refine View.canon_append_of_pieces (Val := Elt Ideal) (e := .f32) (fun y : S128x256.Idx => ((sentCol A S D 0 (128 + (y 0).val) (y 1).val : ℝ) : EReal)) [carryZero]
      [_, _, _, _] ?_ y ?_
    · refine List.forall_mem_cons.mpr ⟨B.carry_piece true 1 (by decide), List.forall_mem_cons.mpr ⟨B.carry_piece false 1 (by decide),
        List.forall_mem_cons.mpr ⟨B.carry_piece true 0 (by decide), List.forall_mem_cons.mpr ⟨B.carry_piece false 0 (by decide), List.forall_mem_nil _⟩⟩⟩⟩
    · by_cases e : (y 1).val < 64
      · exact ⟨_, .tail _ (.tail _ (.tail _ (.head _))), mem_col false (by decide) (Nat.zero_le _) e⟩
      by_cases e' : (y 1).val < 128
      · exact ⟨_, .tail _ (.head _), mem_col false (by decide) (by dsimp only [colOf, cond]; omega) (by dsimp only [colOf, cond]; omega)⟩
      by_cases e'' : (y 1).val < 192
      · exact ⟨_, .tail _ (.tail _ (.head _)), mem_col true (by decide) (by dsimp only [colOf, cond]; omega) (by dsimp only [colOf, cond]; omega)⟩
      · exact ⟨_, .head _, mem_col true (by decide) (by dsimp only [colOf, cond]; omega) (by dsimp only [colOf, cond]; omega)⟩

/-- A point that treats a block and is not the first. -/
theorem holds_middle (h0 : t.val ≠ 0) (h1 : t.val < 32) {prev : Left Ideal} (P : Holds A S D (t.val - 1) prev) :
    Holds A S D t.val (leftMiddle m c t h0 h1 prev) := by
  have B := R.block t h1
  refine ⟨fun y => ?_, fun _ y => ?_, fun y => ?_, fun y => ?_⟩
  · refine View.canon_apply_of_pieces (fun y : S128x1024.Idx => ((queryCol A S D t.val (y 0).val (y 1).val : ℝ) : EReal)) _ (fun p hp x => ?_) y
      (middle_dq m c t h0 h1 prev.sums prev.carry y)
    obtain ⟨k, hk, rfl⟩ := middle_dq_pieces _ _ _ _ _ _ _ _ _ _ _ _ _ _ _ _ _ _ _ _ _ _ _ _ _ _ _ _ _ _ _ _ _ p hp
    exact B.dq_piece k hk x
  · refine View.canon_apply_of_pieces (fun y : S128x256.Idx => ((sentCol A S D (t.val - 1) (128 + (y 0).val) (y 1).val
      + sentCol A S D t.val (y 0).val (y 1).val : ℝ) : EReal)) _ (fun p hp x => ?_) y (middle_dkv m c t h0 h1 prev.sums prev.carry y)
    obtain ⟨v, g, hg, rfl⟩ := middle_dkv_pieces _ _ _ _ _ _ _ _ _ _ _ _ _ _ _ _ _ _ _ _ _ _ _ _ _ _ _ _ _ _ _ _ _ p hp
    exact B.dkv_piece (carry := fun r k => sentCol A S D (t.val - 1) (128 + r) k) (fun r k => P.carry (ix2 r k)) v g hg x
  · refine (View.canon_apply_of_pieces (fun y : S16x128.Idx => (((∑ k ∈ Finset.range (t.val - 1 + 1), Cert.Attn.dsinkFrom A S D k (y 0).val (y 1).val)
      + Cert.Attn.dsinkFrom A S D t.val (y 0).val (y 1).val : ℝ) : EReal)) _ (fun p hp x => ?_) y (middle_sums m c t h0 h1 prev.sums prev.carry y)).trans ?_
    · obtain ⟨k, hk, rfl⟩ := middle_sums_pieces _ _ _ _ _ _ _ _ _ _ _ _ _ _ _ _ _ _ _ _ _ _ _ _ _ _ _ _ _ _ _ _ _ p hp
      refine B.sums_piece (sums := fun h r => ∑ k ∈ Finset.range (t.val - 1 + 1), Cert.Attn.dsinkFrom A S D k h r) _ k hk (fun r => ?_) x
      rw [Memref.IsWhole.readAt_unread]
      refine (P.sums _).trans ?_
      exact congrArg (fun r : ℕ => ((∑ k' ∈ Finset.range (t.val - 1 + 1), Cert.Attn.dsinkFrom A S D k' k r : ℝ) : EReal))
        ((congrArg (0 + ·) (one_mul _)).trans (Nat.zero_add _))
    · dsimp only
      rw [Finset.sum_range_succ _ t.val, Nat.sub_add_cancel (Nat.one_le_iff_ne_zero.mpr h0)]
  · refine View.canon_apply_of_pieces (fun y : S128x256.Idx => ((sentCol A S D t.val (128 + (y 0).val) (y 1).val : ℝ) : EReal)) _ (fun p hp x => ?_) y
      (middle_carry m c t h0 h1 prev.sums prev.carry y)
    obtain ⟨v, g, hg, rfl⟩ := middle_carry_pieces _ _ _ _ _ _ _ _ _ _ _ _ _ _ _ _ _ _ _ _ _ _ _ _ _ _ _ _ _ _ _ _ _ p hp
    exact B.carry_piece v g hg x

/-- Every point that treats a block. -/
theorem holds (n : ℕ) (hn : n < cfg0.N) (h : n < 32) : Holds A S D n (left m c n hn) := by
  induction n with
  | zero => exact holds_first R ⟨0, hn⟩ rfl
  | succ n ih =>
    have e : left m c (n + 1) hn = _ := left_middle m c ⟨n + 1, hn⟩ (Nat.succ_ne_zero n) h
    rw [e]
    exact holds_middle R ⟨n + 1, hn⟩ (Nat.succ_ne_zero n) h (ih (Nat.lt_of_succ_lt hn) (by omega))

/-- The last point leaves the query gradients and the sinks' sums, and writes out the carry. -/
theorem last_dkv (h : t.val = 32) (y : S128x256.Idx) :
    ((left m c t.val t.isLt).dkv y : EReal) = ((sentCol A S D 31 (128 + (y 0).val) (y 1).val : ℝ) : EReal) := by
  have H := holds R (t.val - 1) (Nat.lt_of_le_of_lt (Nat.sub_le _ _) t.isLt) (by omega)
  rw [left_last m c t h]
  refine (congrFun (View.canon_unit_zero (by decide) _ _) y).trans ?_
  have e := Memref.IsWhole.readAt_unread (Val := Elt Ideal) (m := mCarry) (Memref.isWhole_whole _) (before m c t).carry
    (Rect.unit ![0, 0] S128x256.size inb_S128x256_S128x256_0_0).toLoadRect y
  have ey : (Rect.unit (s := S128x256) ![0, 0] S128x256.size inb_S128x256_S128x256_0_0).toLoadRect.idx y = y := by
    refine funext fun b => Fin.ext ?_
    match b with
    | 0 => exact (congrArg (0 + ·) (one_mul _)).trans (Nat.zero_add _)
    | 1 => exact (congrArg (0 + ·) (one_mul _)).trans (Nat.zero_add _)
  rw [ey] at e
  refine Eq.trans e ((H.carry y).trans ?_)
  rw [h]
omit R in
theorem last_dq (h : t.val = 32) : (left m c t.val t.isLt).dq = (before m c t).dq := by rw [left_last m c t h]; rfl
omit R in
theorem last_sums (h : t.val = 32) : (left m c t.val t.isLt).sums = (before m c t).sums := by rw [left_last m c t h]; rfl

end Cert.KernelIdeal.Swa

end
-- ==== Proof.OutValue.lean ====
/- The three arrays the backward call writes, over the reals. -/
module

public import proofs.«01_k».proof.Proof.LeftValue
public import proofs.«01_k».proof.Proof.Frame

@[expose] public section

set_option maxRecDepth 16384

noncomputable section

namespace Cert.KernelIdeal.Swa

open Idealize.ShloMosaic Idealize.ShloMosaic.TcCoe Idealize.ShloMosaic.Tactic
open Cert.KernelIdeal.Gen
open Cert.Attn (Sees)

theorem index6 : ∀ t : Fin cfg0.N, win0_6.index t = ![min t.val 31, 0] := by decide +kernel
theorem index7 : ∀ t : Fin cfg0.N, win0_7.index t = ![t.val - 1, 0] := by decide +kernel
theorem index8 : ∀ t : Fin cfg0.N, win0_8.index t = ![0, 0] := by decide +kernel

variable {m : (ℓ : Loc nD τ sig) → Buf (Elt Ideal) ℓ} {A : ℕ → ℕ → ℝ} {S : ℕ → ℝ} {D : ℕ → ℕ → ℝ} {c : Dev nD}

/-- The gradient of column `k` of row `i` of block `n`'s keys and values. -/
def keyValCol (A : ℕ → ℕ → ℝ) (S : ℕ → ℝ) (D : ℕ → ℕ → ℝ) (n i k : ℕ) : ℝ :=
  if k < 128 then Cert.Attn.dkey A S D n (k / 64) i (k % 64) else Cert.Attn.dval A S D n ((k - 128) / 64) i (k % 64)
theorem keyValCol_eq (n i k : ℕ) : keyValCol A S D n i k = Cert.Attn.both (fun n j => sentCol A S D n j k) n i := by
  unfold keyValCol sentCol Cert.Attn.dkey Cert.Attn.dval Cert.Attn.both
  split <;> rfl

variable (R : ArrayReads m A S D c)
include R

theorem left_dq (t : Fin cfg0.N) (y : S128x1024.Idx) :
    ((left m c t.val t.isLt).dq y : EReal) = ((queryCol A S D (min t.val 31) (y 0).val (y 1).val : ℝ) : EReal) := by
  have := points t
  by_cases h : t.val < 32
  · rw [Nat.min_eq_left (by omega)]
    exact (holds R t.val t.isLt h).dq y
  · have e : t.val = 32 := by omega
    rw [last_dq t e, show min t.val 31 = t.val - 1 by omega]
    exact (holds R (t.val - 1) (Nat.lt_of_le_of_lt (Nat.sub_le _ _) t.isLt) (by omega)).dq y
theorem left_dkv (t : Fin cfg0.N) (h0 : t.val ≠ 0) (y : S128x256.Idx) :
    ((left m c t.val t.isLt).dkv y : EReal) = ((keyValCol A S D (t.val - 1) (y 0).val (y 1).val : ℝ) : EReal) := by
  have := points t
  rw [keyValCol_eq]
  unfold Cert.Attn.both
  by_cases h : t.val < 32
  · rw [if_pos (by omega), Nat.sub_add_cancel (Nat.one_le_iff_ne_zero.mpr h0)]
    exact (holds R t.val t.isLt h).dkv (Nat.pos_of_ne_zero h0) y
  · have e : t.val = 32 := by omega
    rw [if_neg (by omega), add_zero, show t.val - 1 = 31 by omega]
    exact last_dkv R t e y
theorem left_sums (t : Fin cfg0.N) (h : t.val = 32) (y : S16x128.Idx) :
    ((left m c t.val t.isLt).sums y : EReal) = ((Cert.Attn.dsink A S D (y 0).val (y 1).val : ℝ) : EReal) := by
  rw [last_sums t h]
  refine ((holds R (t.val - 1) (Nat.lt_of_le_of_lt (Nat.sub_le _ _) t.isLt) (by omega)).sums y).trans ?_
  unfold Cert.Attn.dsink
  rw [Finset.sum_range, h]

theorem dq_array (y : S4096x1024.Idx) :
    ((dats m 0 c).arrAt 6 cfg0.N y : EReal) = ((queryCol A S D ((y 0).val / 128) ((y 0).val % 128) (y 1).val : ℝ) : EReal) := by
  refine congrFun ((dats m 0 c).arrAt_eq_of_covers 6 (fun y : S4096x1024.Idx =>
    ((queryCol A S D ((y 0).val / 128) ((y 0).val % 128) (y 1).val : ℝ) : EReal)) (by decide +kernel) fun t hf y => ?_) y
  rw [after6]
  refine (left_dq R t _).trans ?_
  have hy : (y 0).val < 128 := (y 0).isLt
  have e0 : ((((cfg0.win 6).blk t).view.emb y) 0 : ℕ) = min t.val 31 * 128 + (y 0).val := by blk_simp [index6 t]
  have e1 : ((((cfg0.win 6).blk t).view.emb y) 1 : ℕ) = (y 1).val := by blk_simp [index6 t]
  dsimp only
  rw [e0, e1, show (min t.val 31 * 128 + (y 0).val) / 128 = min t.val 31 by omega, show (min t.val 31 * 128 + (y 0).val) % 128 = (y 0).val by omega]

theorem dkv_array (y : S4096x256.Idx) :
    ((dats m 0 c).arrAt 7 cfg0.N y : EReal) = ((keyValCol A S D ((y 0).val / 128) ((y 0).val % 128) (y 1).val : ℝ) : EReal) := by
  refine congrFun ((dats m 0 c).arrAt_eq_of_covers 7 (fun y : S4096x256.Idx =>
    ((keyValCol A S D ((y 0).val / 128) ((y 0).val % 128) (y 1).val : ℝ) : EReal)) (by decide +kernel) fun t hf y => ?_) y
  rw [after7]
  refine (left_dkv R t ((flush7 t).mp hf) _).trans ?_
  have hy : (y 0).val < 128 := (y 0).isLt
  have e0 : ((((cfg0.win 7).blk t).view.emb y) 0 : ℕ) = (t.val - 1) * 128 + (y 0).val := by blk_simp [index7 t]
  have e1 : ((((cfg0.win 7).blk t).view.emb y) 1 : ℕ) = (y 1).val := by blk_simp [index7 t]
  dsimp only
  rw [e0, e1, show ((t.val - 1) * 128 + (y 0).val) / 128 = t.val - 1 by omega, show ((t.val - 1) * 128 + (y 0).val) % 128 = (y 0).val by omega]

theorem dsink_array (y : S16x128.Idx) :
    ((dats m 0 c).arrAt 8 cfg0.N y : EReal) = ((Cert.Attn.dsink A S D (y 0).val (y 1).val : ℝ) : EReal) := by
  refine congrFun ((dats m 0 c).arrAt_eq_of_covers 8 (fun y : S16x128.Idx =>
    ((Cert.Attn.dsink A S D (y 0).val (y 1).val : ℝ) : EReal)) (by decide +kernel) fun t hf y => ?_) y
  rw [after8]
  refine (left_sums R t ((flush8 t).mp hf) _).trans ?_
  have e0 : ((((cfg0.win 8).blk t).view.emb y) 0 : ℕ) = (y 0).val := by blk_simp [index8 t]
  have e1 : ((((cfg0.win 8).blk t).view.emb y) 1 : ℕ) = (y 1).val := by blk_simp [index8 t]
  dsimp only
  rw [e0, e1]

end Cert.KernelIdeal.Swa

end
-- ==== Proof.RefBack.lean ====
/- The reference's gradients of the shares and scores, read at an index over the reals. -/
module

public import proofs.«01_k».proof.Proof.RefShares

@[expose] public section

set_option maxRecDepth 16384

noncomputable section

namespace Cert.ReferenceIdeal.Attn

open Cert.ReferenceIdeal Cert.ReferenceIdeal.Gen Cert.ReferenceIdeal.Value Idealize.ShloMosaic Idealize.ShloMosaic.StableHlo
open Cert.Attn (Sees)

variable {V0 : Valuation τ sig (Elt Ideal)} {A : ℕ → ℕ → ℝ} {S : ℕ → ℝ} {D : ℕ → ℕ → ℝ} (H : Reads V0 A S D)

include H

/-- The mean of a row's gradients, over the row's total. -/
theorem mean (n : Fin 32) (g : Fin 2) (e : Fin 8) (i : Fin 128) :
    (res_main_v139 V0 : FVec Ideal S1x32x2x8x128x1 .f32) (ix6 0 n g e i 0)
      = ((-(Cert.Attn.mean A S D n (8 * g + e) i / (Cert.Attn.total A S n (8 * g + e) i * scale V0 n g e i)) : ℝ) : EReal) := by
  pointwise [res_main_v139]
  rw [EReal.coe_neg]
  refine congrArg (fun x : EReal => -x) ((sum_keys _ _ n g e i).trans ?_)
  rw [zero_add, ← Cert.Attn.back_mean A S D (scale_pos n g e i), Cert.Attn.coe_sum]
  refine Finset.sum_congr rfl fun j _ => ?_
  pointwise []
  have hT := total_scale_ne (V0 := V0) A S n g e i
  rw [gain H, total H, weight H, show (1 : EReal) = ((1 : ℝ) : EReal) from rfl, ← EReal.coe_mul, div_real (mul_ne_zero hT hT), ← EReal.coe_mul, ← EReal.coe_mul]

/-- What a row sends back to the sink. -/
theorem sink_back (n : Fin 32) (g : Fin 2) (e : Fin 8) (i : Fin 128) :
    (res_main_v142 V0 : FVec Ideal S1x32x2x8x128x1 .f32) (ix6 0 n g e i 0)
      = ((Cert.Attn.dsinkFrom A S D n (8 * g + e) i : ℝ) : EReal) := by
  pointwise [res_main_v142]
  rw [mean H, sink_weight H, ← EReal.coe_mul, Cert.Attn.back_sink A S D (scale_pos n g e i)]

/-- The gradient that reaches a score by way of its share. -/
theorem score_back (n : Fin 32) (g : Fin 2) (e : Fin 8) (i : Fin 128) (j : Fin 256) :
    (res_main_v152 V0 : FVec Ideal S1x32x2x8x128x256 .f32) (ix6 0 n g e i j)
      = ((Cert.Attn.dscore A S D n (8 * g + e) i j : ℝ) : EReal) := by
  pointwise [res_main_v152]
  rw [gain H, total H, weight H, sum_row, mean H, zero_add, div_real (total_scale_ne A S n g e i), ← EReal.coe_add, ← EReal.coe_mul,
    Cert.Attn.back_score A S D (scale_pos n g e i)]

/-- Nothing reaches the row's maximum. -/
theorem peak_back (n : Fin 32) (g : Fin 2) (e : Fin 8) (i : Fin 128) :
    (res_main_v156 V0 : FVec Ideal S1x32x2x8x128x1 .f32) (ix6 0 n g e i 0) = (0 : EReal) := by
  pointwise [res_main_v156]
  rw [sink_back H, sum_keys, zero_add]
  refine Eq.trans ?_ (congrArg Real.toEReal (Cert.Attn.back_max A S D n (8 * g + e) i))
  rw [EReal.coe_add, EReal.coe_neg, Cert.Attn.coe_sum]
  refine congrArg _ (Finset.sum_congr rfl fun j _ => ?_)
  pointwise []
  rw [score_back H, EReal.coe_neg]
omit H

/-- Whether a score is its row's largest, as a number. -/
def tieAt (V0 : Valuation τ sig (Elt Ideal)) (n : Fin 32) (g : Fin 2) (e : Fin 8) (i : Fin 128) (j : Fin 256) : EReal :=
  (res_main_v85 V0 : FVec Ideal S1x32x2x8x128x256 .f32) (ix6 0 n g e i j)
theorem tieAt_eq (n : Fin 32) (g : Fin 2) (e : Fin 8) (i : Fin 128) (j : Fin 256) :
    tieAt V0 n g e i j = (((BitVec.ofBool (decide (scoreAt V0 n g e i j
      = (Finset.univ : Finset (Fin 256)).fold max ⊥ fun j => scoreAt V0 n g e i j))).toNat : ℝ) : EReal) := by
  rw [← top]
  unfold tieAt scoreAt
  pointwise [res_main_v85]
  rfl
theorem tieAt_nonneg (n : Fin 32) (g : Fin 2) (e : Fin 8) (i : Fin 128) (j : Fin 256) : 0 ≤ tieAt V0 n g e i j := by
  rw [tieAt_eq]
  exact EReal.coe_nonneg.mpr (Nat.cast_nonneg _)
/-- A maximum is attained. -/
theorem fold_max_mem {k : ℕ} (f : Fin (k + 1) → EReal) : ∃ j, f j = (Finset.univ : Finset (Fin (k + 1))).fold max ⊥ f := by
  obtain ⟨j, -, h⟩ := Finset.exists_mem_eq_sup (Finset.univ : Finset (Fin (k + 1))) Finset.univ_nonempty f
  exact ⟨j, h.symm⟩
theorem tieAt_one (n : Fin 32) (g : Fin 2) (e : Fin 8) (i : Fin 128) : ∃ j, tieAt V0 n g e i j = ((1 : ℝ) : EReal) := by
  obtain ⟨j, h⟩ := fold_max_mem (fun j : Fin 256 => scoreAt V0 n g e i j)
  refine ⟨j, ?_⟩
  rw [tieAt_eq, decide_eq_true h]
  simp
/-- How many scores are their row's largest: not none. -/
theorem ties_ne (n : Fin 32) (g : Fin 2) (e : Fin 8) (i : Fin 128) : ∑ j : Fin 256, tieAt V0 n g e i j ≠ 0 := by
  obtain ⟨j, h⟩ := tieAt_one (V0 := V0) n g e i
  have h1 : ((1 : ℝ) : EReal) ≤ ∑ j : Fin 256, tieAt V0 n g e i j := by
    rw [← h]
    exact Finset.single_le_sum (fun j _ => tieAt_nonneg n g e i j) (Finset.mem_univ j)
  refine (lt_of_lt_of_le ?_ h1).ne'
  exact EReal.coe_pos.mpr one_pos

theorem div_zero_left {y : EReal} (hy : y ≠ 0) : Ideal.div 0 y = 0 := by
  unfold Ideal.div
  rw [if_neg hy, zero_mul]

include H
/-- Nothing reaches a row's maximum, whatever it is multiplied by. -/
theorem zero_row (n : Fin 32) (g : Fin 2) (e : Fin 8) (i : Fin 128) (X : FVec Ideal S1x32x2x8x128x1 .f32) :
    Ideal.hostReduceAdd reducesTo_S1x32x2x8x128x1_S32x2x8x128_d0_5 (mulf (res_main_v156 V0) X) 0 (ix4 n g e i) = 0 :=
  (sum_row _ _ n g e i).trans ((zero_add _).trans
    ((congrArg (fun x : EReal => x * (X (ix6 0 n g e i 0) : EReal)) (peak_back H n g e i)).trans (zero_mul _)))
omit H in
theorem ties_sum (n : Fin 32) (g : Fin 2) (e : Fin 8) (i : Fin 128) :
    Ideal.hostReduceAdd reducesTo_S1x32x2x8x128x256_S1x32x2x8x128_d5 (res_main_v85 V0) 0 (ix5 0 n g e i) = ∑ j : Fin 256, tieAt V0 n g e i j :=
  (sum_keys _ _ n g e i).trans (zero_add _)
/-- The gradient that reaches the product of a query and a key. -/
theorem prod_back (n : Fin 32) (g : Fin 2) (e : Fin 8) (i : Fin 128) (j : Fin 256) :
    (res_main_v182 V0 : FVec Ideal S1x32x2x256x128x8 .f32) (ix6 0 n g j i e)
      = ((Cert.Attn.dscore A S D n (8 * g + e) i j * (1 / 8) : ℝ) : EReal) := by
  pointwise [res_main_v182]
  rw [mask]
  by_cases hs : Sees n i j
  · rw [if_pos hs]
    refine Eq.trans (if_pos rfl) ?_
    rw [zero_row H, ties_sum, div_zero_left (ties_ne n g e i), zero_mul, add_zero, score_back H, ofBits_eighth, ← EReal.coe_mul]
  · rw [if_neg hs, Cert.Attn.dscore_of_not_sees A S D hs, zero_mul]
    exact Eq.trans (if_neg (by decide)) rfl

/-- What a block's queries send back to its values. -/
theorem val_back (n : Fin 32) (j : Fin 256) (g : Fin 2) (d : Fin 64) :
    (res_main_v133 V0 : FVec Ideal S1x32x256x2x64 .f32) (ix5 0 n j g d) = ((Cert.Attn.dvalFrom A S D n g j d : ℝ) : EReal) := by
  pointwise [res_main_v133]
  simp only [dout H, share H, ← EReal.coe_mul, ← Cert.Attn.coe_sum]
  unfold Cert.Attn.dvalFrom
  exact congrArg Real.toEReal (Finset.sum_congr rfl fun e _ => Finset.sum_congr rfl fun i _ => mul_comm _ _)
/-- What a block's queries send back to its keys. -/
theorem key_back (n : Fin 32) (j : Fin 256) (g : Fin 2) (d : Fin 64) :
    (res_main_v186 V0 : FVec Ideal S1x32x256x2x64 .f32) (ix5 0 n j g d) = ((Cert.Attn.dkeyFrom A S D n g j d : ℝ) : EReal) := by
  pointwise [res_main_v186]
  simp only [prod_back H, query H, ← EReal.coe_mul, ← Cert.Attn.coe_sum]
  unfold Cert.Attn.dkeyFrom
  rw [Finset.sum_comm, Finset.sum_mul]
  refine congrArg Real.toEReal (Finset.sum_congr rfl fun e _ => ?_)
  rw [Finset.sum_mul]
  exact Finset.sum_congr rfl fun i _ => by ring

end Cert.ReferenceIdeal.Attn

end
-- ==== Proof.RefResults.lean ====
/- The reference's three results, read at an index over the reals. -/
module

public import proofs.«01_k».proof.Proof.RefBack

@[expose] public section

set_option maxRecDepth 16384

noncomputable section

namespace Cert.ReferenceIdeal.Attn

open Cert.ReferenceIdeal Cert.ReferenceIdeal.Gen Cert.ReferenceIdeal.Value Idealize.ShloMosaic Idealize.ShloMosaic.StableHlo
open Cert.Attn (Sees)

variable {V0 : Valuation τ sig (Elt Ideal)} {A : ℕ → ℕ → ℝ} {S : ℕ → ℝ} {D : ℕ → ℕ → ℝ} (H : Reads V0 A S D)

include H

/-- The gradient of the queries. -/
theorem dq_at (r : Fin 4096) (c : Fin 1024) :
    (val4 V0 (Proc.devRef .tc main_v197) : FVec Ideal S4096x1024 .bf16) (ix2 r c)
      = ((Cert.Attn.dquery A S D (r / 128) (c / 64) (r % 128) (c % 64) : ℝ) : EReal) := by
  rw [val4_main_v197]
  pointwise []
  simp only [prod_back H, keys H, dif_pos, ← EReal.coe_mul]
  have hh : 8 * ((c : ℕ) / 512) + (c : ℕ) / 64 % 8 = c / 64 := by omega
  have hg : (c : ℕ) / 512 = c / 64 / 8 := by omega
  rw [hh, hg, ← Cert.Attn.coe_sum]
  unfold Cert.Attn.dquery
  rw [Finset.sum_mul]
  refine congrArg Real.toEReal (Finset.sum_congr rfl fun j _ => ?_)
  by_cases hs : Sees ((r : ℕ) / 128) ((r : ℕ) % 128) j
  · rw [if_pos hs.2.2]
    ring
  · rw [Cert.Attn.dscore_of_not_sees A S D hs]
    simp only [zero_mul]

/-- The gradients of the keys and values. -/
theorem dkv_at (r : Fin 4096) (c : Fin 256) :
    (val4 V0 (Proc.devRef .tc main_v200) : FVec Ideal S4096x256 .bf16) (ix2 r c)
      = (((if (c : ℕ) < 128 then Cert.Attn.dkey A S D (r / 128) (c / 64) (r % 128) (c % 64)
          else Cert.Attn.dval A S D (r / 128) ((c - 128) / 64) (r % 128) (c % 64) : ℝ)) : EReal) := by
  rw [val4_main_v200]
  pointwise [res_main_v174, res_main_v190]
  simp only [key_back H, val_back H]
  unfold Cert.Attn.dkey Cert.Attn.dval Cert.Attn.both
  have e1 : (128 + (r : ℕ)) / 128 = r / 128 + 1 := by omega
  have e2 : (128 + (r : ℕ)) % 128 = r % 128 := by omega
  have e3 : ((c : ℕ) - 128) % 64 = c % 64 ∨ (c : ℕ) < 128 := by omega
  rw [e1, e2]
  by_cases hc : (c : ℕ) < 128
  · rw [dif_pos hc, if_pos hc]
    by_cases hr : (r : ℕ) < 3968
    · rw [dif_pos ⟨hr, hc⟩, if_pos (by omega), EReal.coe_add]
    · rw [dif_neg (fun h => hr h.1), if_neg (by omega), add_zero, add_zero]
  · rw [dif_neg hc, if_neg hc, e3.resolve_right hc]
    by_cases hr : (r : ℕ) < 3968
    · rw [dif_pos ⟨hr, by omega⟩, if_pos (by omega), EReal.coe_add]
    · rw [dif_neg (fun h => hr h.1), if_neg (by omega), add_zero, add_zero]

/-- Nothing reaches a row's maximum, whatever it is multiplied by. -/
theorem zero_at (n : Fin 32) (g : Fin 2) (e : Fin 8) (i : Fin 128) (X : FVec Ideal S1x32x2x8x128x1 .f32) :
    (mulf (res_main_v156 V0) X : FVec Ideal S1x32x2x8x128x1 .f32) (ix6 0 n g e i 0) = (0 : EReal) :=
  (congrArg (fun x : EReal => x * (X (ix6 0 n g e i 0) : EReal)) (peak_back H n g e i)).trans (zero_mul _)
/-- The gradients of the sinks, by head and place in a block. -/
theorem dsink_at (h : Fin 16) (i : Fin 128) :
    (val4 V0 (Proc.devRef .tc main_v170) : FVec Ideal S16x128 .f32) (ix2 h i) = ((Cert.Attn.dsink A S D h i : ℝ) : EReal) := by
  rw [val4_main_v170]
  pointwise []
  rw [sum_place, sum_place, zero_add, zero_add]
  have e1 : 8 * ((h : ℕ) / 8) + (h : ℕ) % 8 = h := by omega
  refine (congrArg₂ (fun x y : EReal => x + y) (y' := 0) ?_ ?_).trans (add_zero _)
  · pointwise []
    rw [sum_blocks, zero_add]
    simp only [sink_back H]
    rw [← Cert.Attn.coe_sum, e1]
    rfl
  · pointwise []
    rw [sum_blocks, zero_add]
    exact Finset.sum_eq_zero fun n _ => zero_at H n _ _ i _

end Cert.ReferenceIdeal.Attn

end
-- ==== Proof.Equal.lean ====
/- The kernel and the reference write the same three arrays, where the entries they read are real. -/
module

public import proofs.«01_k».proof.Defs
public import proofs.«01_k».proof.Proof.Gen.KernelIdeal
public import proofs.«01_k».proof.Proof.Gen.ReferenceIdeal
public import proofs.«01_k».proof.Proof.Finite
public import proofs.«01_k».proof.Proof.Lse
public import proofs.«01_k».proof.Proof.OutValue
public import proofs.«01_k».proof.Proof.RefResults

@[expose] public section

set_option maxRecDepth 16384

noncomputable section

namespace Cert.Equal

open Idealize.ShloMosaic Idealize.ShloMosaic.TcCoe Idealize.ShloMosaic.StableHlo Idealize.SL.Sem
open Cert.KernelIdeal (S4096x5376 S1x16 S4096x1024 S4096x256 S16x128)

/-- The three gradients as arrays of reals. -/
def dq (A : ℕ → ℕ → ℝ) (S : ℕ → ℝ) (D : ℕ → ℕ → ℝ) : FVec Ideal S4096x1024 .bf16 :=
  fun y => ((Cert.KernelIdeal.Swa.queryCol A S D ((y 0).val / 128) ((y 0).val % 128) (y 1).val : ℝ) : EReal)
def dkv (A : ℕ → ℕ → ℝ) (S : ℕ → ℝ) (D : ℕ → ℕ → ℝ) : FVec Ideal S4096x256 .bf16 :=
  fun y => ((Cert.KernelIdeal.Swa.keyValCol A S D ((y 0).val / 128) ((y 0).val % 128) (y 1).val : ℝ) : EReal)
def dsink (A : ℕ → ℕ → ℝ) (S : ℕ → ℝ) (D : ℕ → ℕ → ℝ) : FVec Ideal S16x128 .f32 :=
  fun y => ((Cert.Attn.dsink A S D (y 0).val (y 1).val : ℝ) : EReal)

section Reference

open Cert.ReferenceIdeal.Value

variable {V0 : Valuation Cert.ReferenceIdeal.τ Cert.ReferenceIdeal.sig (Elt Ideal)} {A : ℕ → ℕ → ℝ} {S : ℕ → ℝ} {D : ℕ → ℕ → ℝ}
  (H : Cert.ReferenceIdeal.Attn.Reads V0 A S D)
include H

theorem ref_dq : (val4 V0 (Proc.devRef .tc Cert.ReferenceIdeal.main_v197) : FVec Ideal S4096x1024 .bf16) = dq A S D :=
  funext fun y => (congrArg (val4 V0 (Proc.devRef .tc Cert.ReferenceIdeal.main_v197) : FVec Ideal S4096x1024 .bf16) (ix2_eta y).symm).trans
    (Cert.ReferenceIdeal.Attn.dq_at H (y 0) (y 1))
theorem ref_dkv : (val4 V0 (Proc.devRef .tc Cert.ReferenceIdeal.main_v200) : FVec Ideal S4096x256 .bf16) = dkv A S D :=
  funext fun y => (congrArg (val4 V0 (Proc.devRef .tc Cert.ReferenceIdeal.main_v200) : FVec Ideal S4096x256 .bf16) (ix2_eta y).symm).trans
    (Cert.ReferenceIdeal.Attn.dkv_at H (y 0) (y 1))
theorem ref_dsink : (val4 V0 (Proc.devRef .tc Cert.ReferenceIdeal.main_v170) : FVec Ideal S16x128 .f32) = dsink A S D :=
  funext fun y => (congrArg (val4 V0 (Proc.devRef .tc Cert.ReferenceIdeal.main_v170) : FVec Ideal S16x128 .f32) (ix2_eta y).symm).trans
    (Cert.ReferenceIdeal.Attn.dsink_at H (y 0) (y 1))

end Reference

section Arguments

variable (m : (ℓ : Loc Cert.KernelIdeal.nD Cert.KernelIdeal.τ Cert.KernelIdeal.sig) → Buf (Elt Ideal) ℓ) (c : Dev Cert.KernelIdeal.nD)

/-- The kernel's arguments on a device. -/
def arg0 : FVec Ideal S4096x5376 .f32 := m ((c.tc : Thread Cert.KernelIdeal.nD Cert.KernelIdeal.τ).loc Cert.KernelIdeal.main_arg0)
def arg1 : FVec Ideal S1x16 .f32 := m ((c.tc : Thread Cert.KernelIdeal.nD Cert.KernelIdeal.τ).loc Cert.KernelIdeal.main_arg1)
def arg2 : FVec Ideal S4096x1024 .bf16 := m ((c.tc : Thread Cert.KernelIdeal.nD Cert.KernelIdeal.τ).loc Cert.KernelIdeal.main_arg2)
/-- Their entries as reals. -/
def proj (r j : ℕ) : ℝ := if h : r < 4096 ∧ j < 5376 then (arg0 m c (ix2 ⟨r, h.1⟩ ⟨j, h.2⟩) : EReal).toReal else 0
def sinks (k : ℕ) : ℝ := if h : k < 16 then (arg1 m c (ix2 0 ⟨k, h⟩) : EReal).toReal else 0
def dout (r j : ℕ) : ℝ := if h : r < 4096 ∧ j < 1024 then (arg2 m c (ix2 ⟨r, h.1⟩ ⟨j, h.2⟩) : EReal).toReal else 0

theorem proj_at (r : Fin 4096) (j : Fin 5376) : proj m c r j = (arg0 m c (ix2 r j) : EReal).toReal := dif_pos ⟨r.isLt, j.isLt⟩
theorem sinks_at (k : Fin 16) : sinks m c k = (arg1 m c (ix2 0 k) : EReal).toReal := dif_pos k.isLt
theorem dout_at (r : Fin 4096) (j : Fin 1024) : dout m c r j = (arg2 m c (ix2 r j) : EReal).toReal := dif_pos ⟨r.isLt, j.isLt⟩

/-- Where the precondition holds, the reference's arguments are those reals. -/
theorem reads (hpre : Cert.Pre_KernelIdeal_finite m) (V0 : Valuation Cert.ReferenceIdeal.τ Cert.ReferenceIdeal.sig (Elt Ideal))
    (h0 : V0 (Proc.devRef .tc Cert.ReferenceIdeal.main_arg0) = arg0 m c) (h1 : V0 (Proc.devRef .tc Cert.ReferenceIdeal.main_arg1) = arg1 m c)
    (h2 : V0 (Proc.devRef .tc Cert.ReferenceIdeal.main_arg2) = arg2 m c) :
    Cert.ReferenceIdeal.Attn.Reads V0 (proj m c) (sinks m c) (dout m c) where
  proj := fun r j hj => (congrFun h0 _).trans ((Cert.Pre_finite.proj_real _ _ _ (hpre c).1 r j hj).trans
    (congrArg Real.toEReal (proj_at m c r j).symm))
  sink := fun k => (congrFun h1 _).trans ((Cert.Pre_finite.sink_real _ _ _ (hpre c).2.1 k).trans
    (congrArg Real.toEReal (sinks_at m c k).symm))
  dout := fun r j => (congrFun h2 _).trans ((Cert.Pre_finite.dout_real _ _ _ (hpre c).2.2 r j).trans
    (congrArg Real.toEReal (dout_at m c r j).symm))

end Arguments

/-- The reference's run, its results as arrays of reals. -/
theorem ref_run (m' : (ℓ : Loc Cert.ReferenceIdeal.nD Cert.ReferenceIdeal.τ Cert.ReferenceIdeal.sig) → Buf (Elt Ideal) ℓ)
    (g' : Dev Cert.ReferenceIdeal.nD → PrngReg) (A : Dev Cert.ReferenceIdeal.nD → ℕ → ℕ → ℝ) (S : Dev Cert.ReferenceIdeal.nD → ℕ → ℝ)
    (D : Dev Cert.ReferenceIdeal.nD → ℕ → ℕ → ℝ)
    (H : ∀ c, Cert.ReferenceIdeal.Attn.Reads (launchContents m' c) (A c) (S c) (D c)) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v197) = dq (A c) (S c) (D c)
        ∧ r.2.mem ((c.tc : Thread Cert.ReferenceIdeal.nD Cert.ReferenceIdeal.τ).loc Cert.ReferenceIdeal.main_v200) = dkv (A c) (S c) (D c)
        ∧ r.2.mem ((c.tc : Thread Cert.ReferenceIdeal.nD Cert.ReferenceIdeal.τ).loc Cert.ReferenceIdeal.main_v170) = dsink (A c) (S c) (D c)
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run Cert.ReferenceIdeal.defs _ _).mono
    (fun r h c => ⟨(h c).1.trans ((Cert.ReferenceIdeal.Value.val4_main_v197 _).symm.trans (ref_dq (H c))),
      (h c).2.1.trans ((Cert.ReferenceIdeal.Value.val4_main_v200 _).symm.trans (ref_dkv (H c))),
      (h c).2.2.1.trans ((Cert.ReferenceIdeal.Value.val4_main_v170 _).symm.trans (ref_dsink (H c))), (h c).2.2.2⟩)
    (Cert.ReferenceIdeal.Value.run (F := Ideal) m' g')

theorem algebraic : Cert.algebraic_KernelIdeal_ReferenceIdeal_pre_finite := by
  intro m g m' g' hpre hagree
  have H := fun c => reads m c hpre (launchContents m' c) (hagree c).1 (hagree c).2.1 (hagree c).2.2
  have R := fun c => Cert.KernelIdeal.Swa.arrayReads m c (launchContents m' c) (hagree c).1 (hagree c).2.1 (hagree c).2.2 (H c)
  refine ⟨fun c => dq (proj m c) (sinks m c) (dout m c), fun c => dkv (proj m c) (sinks m c) (dout m c),
    fun c => dsink (proj m c) (sinks m c) (dout m c), ?_, ?_⟩
  · refine (θ_run Cert.KernelIdeal.defs _ _).mono (fun r h c => ?_) (Cert.KernelIdeal.Swa.run_arrays m g)
    exact ⟨(h c).1.trans (funext fun y => Cert.KernelIdeal.Swa.dq_array (R c) y),
      (h c).2.1.trans (funext fun y => Cert.KernelIdeal.Swa.dkv_array (R c) y),
      (h c).2.2.1.trans (funext fun y => Cert.KernelIdeal.Swa.dsink_array (R c) y), (h c).2.2.2⟩
  · exact ref_run m' g' _ _ _ H

end Cert.Equal

end
-- ==== Proof.Products.lean ====
/- What the proofs of the step's products share. -/
module

public import Idealize.ShloMosaic.Lib.Pointwise
public import Idealize.ShloMosaic.Lib.Pipeline.ValueKit
public import Idealize.ShloMosaic.PureOps.Ideal

@[expose] public section

noncomputable section

namespace Cert.Products

open Idealize.ShloMosaic

theorem zeros2 : (![0, 0] : Fin 2 → Nat) = fun _ => 0 := funext fun a => by fin_cases a <;> rfl
theorem zeros3 : (![0, 0, 0] : Fin 3 → Nat) = fun _ => 0 := funext fun a => by fin_cases a <;> rfl

theorem two : Ideal.ofBits .f32 0x40000000#32 = 2 := by
  simp [Ideal.ofBits, Ideal.ieee, -EReal.coe_mul]; norm_num; rfl

/-- The derivative of the square by the product rule is twice the value's product. -/
theorem twice (u r : EReal) : u * r + r * u = 2 * u * r := by
  rw [mul_comm r u, mul_assoc, show (2 : EReal) = 1 + 1 by norm_num, EReal.right_distrib_of_nonneg zero_le_one zero_le_one, one_mul]

/-- The sum of products the other way round, under a batch of one sequence. -/
theorem swap_one {n : ℕ} (f g : Fin n → EReal) : (∑ _b : Fin 1, ∑ k, g k * f k) = ∑ k, f k * g k := by
  rw [Fin.sum_univ_one]
  exact Finset.sum_congr rfl fun k _ => mul_comm _ _

/-- A sum over `a * b` indices, a block at a time. -/
theorem sum_blocks {a b n : ℕ} (h : a * b = n) (f : Fin n → EReal) :
    ∑ k : Fin n, f k = ∑ i : Fin a, ∑ j : Fin b, f ⟨b * i + j, by
      subst h
      calc b * (i : ℕ) + j < b * i + b := by omega
        _ = b * (i + 1) := by ring
        _ ≤ b * a := Nat.mul_le_mul_left _ i.isLt
        _ = a * b := Nat.mul_comm _ _⟩ := by
  subst h
  rw [← finProdFinEquiv.sum_comp, Fintype.sum_prod_type]
  exact Finset.sum_congr rfl fun i _ => Finset.sum_congr rfl fun j _ => congrArg f (Fin.ext (by simp [finProdFinEquiv, Nat.add_comm]))

end Cert.Products

end
-- ==== Proof.DownBwd.lean ====
/- The product that carries the loss's derivative back through the MLP's second matrix and the squared relu:
   every element of the kernel's result is the reference's. -/
module

public import proofs.«01_k».proof.Defs
public import proofs.«01_k».proof.Proof.Gen.DownBwdIdeal.Value
public import proofs.«01_k».proof.Proof.Gen.DownBwdRefIdeal.Run
public import proofs.«01_k».proof.Proof.Products

@[expose] public section

noncomputable section

namespace Cert.DownBwdIdeal.Product

open Idealize.ShloMosaic Idealize.ShloMosaic.TcCoe Idealize.ShloMosaic.Tactic
open Cert.DownBwdIdeal.Gen Cert.DownBwdIdeal.Value Cert.Products

/-- What the body leaves in its output block is its one payload of the three input blocks. -/
theorem out_eq {F : FTy → Type} [FloatOps F] (c : Dev nD) (i : grid0.Coords) (a3 : Memref sig .tc .vmem S1024x2048 .bf16) (h3 : a3.IsWhole)
    (a4 : Memref sig .tc .vmem S1024x2048 .bf16) (h4 : a4.IsWhole) (a5 : Memref sig .tc .vmem S1024x1024 .bf16) (h5 : a5.IsWhole)
    (a6 : Memref sig .tc .vmem S1024x1024 .bf16) (h6 : a6.IsWhole) (a7 : Memref sig .tc .vmem S8x128 .f32) (h7 : a7.IsWhole)
    (x0 : Vec F S1024x2048 .bf16) (x1 : Vec F S1024x2048 .bf16) (x2 : Vec F S1024x1024 .bf16) :
    out0_A_3 c i a3 h3 a4 h4 a5 h5 a6 h6 a7 h7 x0 x1 x2 = k0_pay1 x0 x1 x2 := by
  unfold out0_A_3
  rw [View.read_writes_junk_eq_canon]
  unfold kernelRun0_A
  dsimp only
  sl_unfold_words
  rw [View.canon_unit_zero zeros2]
  simp only [View.readAt_eq_ld, h3.read_unread, h4.read_unread, h5.read_unread, View.ld_unit_zero (S := S1024x2048) zeros2,
    View.ld_unit_zero (S := S1024x1024) zeros2]

/-- The payload's element: twice the activation times the row of the derivative against the row of the matrix. -/
theorem pay_at (x0 x1 : Vec Ideal S1024x2048 .bf16) (x2 : Vec Ideal S1024x1024 .bf16) (p q : Fin 1024) :
    (k0_pay1 x0 x1 x2 (ix2 p q) : EReal) = 2 * x2 (ix2 p q) * ∑ k : Fin 2048, (x0 (ix2 p k) : EReal) * x1 (ix2 q k) := by
  pointwise [k0_pay1]
  rw [two]

variable (m : (ℓ : Loc nD τ sig) → Buf (Elt Ideal) ℓ)

theorem index0 : ∀ t : Fin cfg0.N, win0_0.index t = ![t.val / 8, 0] := by decide +kernel
theorem index1 : ∀ t : Fin cfg0.N, win0_1.index t = ![t.val % 8, 0] := by decide +kernel
theorem index2 : ∀ t : Fin cfg0.N, win0_2.index t = ![t.val / 8, t.val % 8] := by decide +kernel
theorem index3 : ∀ t : Fin cfg0.N, win0_3.index t = ![t.val / 8, t.val % 8] := by decide +kernel

variable (c : Dev nD) (t : Fin cfg0.N)

theorem lt_points : t.val < 32 := t.isLt

theorem block0 (p : Fin 1024) (k : Fin 2048) :
    (iblk m c 0 t : Vec Ideal S1024x2048 .bf16) (ix2 p k) = (V m c main_arg0 : FVec Ideal S4096x2048 .bf16)
      (ix2 ⟨1024 * (t.val / 8) + p, by have := lt_points t; omega⟩ k) := by
  blk_ext [iblk, index0 t]
theorem block1 (p : Fin 1024) (k : Fin 2048) :
    (iblk m c 1 t : Vec Ideal S1024x2048 .bf16) (ix2 p k) = (V m c main_arg1 : FVec Ideal S8192x2048 .bf16)
      (ix2 ⟨1024 * (t.val % 8) + p, by have := lt_points t; omega⟩ k) := by
  blk_ext [iblk, index1 t]
theorem block2 (p q : Fin 1024) :
    (iblk m c 2 t : Vec Ideal S1024x1024 .bf16) (ix2 p q) = (V m c main_arg2 : FVec Ideal S4096x8192 .bf16)
      (ix2 ⟨1024 * (t.val / 8) + p, by have := lt_points t; omega⟩ ⟨1024 * (t.val % 8) + q, by have := lt_points t; omega⟩) := by
  blk_ext [iblk, index2 t]

/-- The result as one function of the three arrays. -/
def G (X : FVec Ideal S4096x2048 .bf16) (W : FVec Ideal S8192x2048 .bf16) (U : FVec Ideal S4096x8192 .bf16) : FVec Ideal S4096x8192 .bf16 :=
  fun y => ((2 * U y * ∑ k : Fin 2048, (X (ix2 (y 0) k) : EReal) * W (ix2 (y 1) k) : EReal))

theorem array : (dats m 0 c).arrAt 3 cfg0.N = G (V m c main_arg0) (V m c main_arg1) (V m c main_arg2) := by
  refine (dats m 0 c).arrAt_eq_of_covers 3 _ (by decide +kernel) fun t hf y => ?_
  rw [after0_3]
  unfold outsAt0
  rw [out_eq]
  obtain ⟨p, q, rfl⟩ : ∃ p q, y = ix2 p q := ⟨y 0, y 1, (ix2_eta y).symm⟩
  refine (pay_at _ _ _ p q).trans ?_
  have e : ((cfg0.win 3).blk t).view.emb (ix2 p q) = ix2 ⟨1024 * (t.val / 8) + p, by have := lt_points t; omega⟩
      ⟨1024 * (t.val % 8) + q, by have := lt_points t; omega⟩ := by
    blk_ext [index3 t]
  rw [e]
  unfold G
  refine congrArg₂ (fun a b : EReal => 2 * a * b) (block2 m c t p q) (Finset.sum_congr rfl fun k _ => ?_)
  exact congrArg₂ (fun a b : EReal => a * b) (block0 m c t p k) (block1 m c t q k)

/-- The run: the result and the arguments. -/
theorem run_array (ρ : Dev nD → PrngReg) :
    θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((array m c).trans (by rw [V_main_arg0, V_main_arg1, V_main_arg2])), (h c).2⟩)
    (run_blocks m ρ)

end Cert.DownBwdIdeal.Product

namespace Cert.DownBwdRefIdeal.Product

open Idealize.ShloMosaic Idealize.ShloMosaic.TcCoe Idealize.ShloMosaic.Tactic
open Cert.DownBwdRefIdeal.Gen Cert.DownBwdRefIdeal.Value Cert.Products

/-- The reference's result is the same function of the three arrays. -/
theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = Cert.DownBwdIdeal.Product.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (run (F := Ideal) m ρ)
  funext y
  obtain ⟨p, q, rfl⟩ : ∃ p q, y = ix2 p q := ⟨y 0, y 1, (ix2_eta y).symm⟩
  unfold Cert.DownBwdIdeal.Product.G
  pointwise []
  exact twice _ _

end Cert.DownBwdRefIdeal.Product

namespace Cert.DownBwdIdeal.Product

open Idealize.ShloMosaic Idealize.ShloMosaic.TcCoe

theorem frame : Cert.quiescent_DownBwdIdeal := fun m ρ _ => Gen.frame m ρ
theorem frame_ref : Cert.quiescent_DownBwdRefIdeal := fun m ρ _ =>
  (θ_run Cert.DownBwdRefIdeal.defs _ _).mono (fun r h => ⟨fun c => (h c).2, sem_eq_zero_of_no_sems (by decide) r.2⟩)
    (Cert.DownBwdRefIdeal.Product.result m ρ)
theorem algebraic : Cert.algebraic_DownBwdIdeal_DownBwdRefIdeal := by
  intro m g m' g' _ hagree
  refine ⟨_, run_array m g, ?_⟩
  refine (θ_run Cert.DownBwdRefIdeal.defs _ _).mono (fun r h c => ⟨(h c).1.trans ?_, (h c).2⟩) (Cert.DownBwdRefIdeal.Product.result m' g')
  rw [(hagree c).1, (hagree c).2.1, (hagree c).2.2]

end Cert.DownBwdIdeal.Product

end
-- ==== Proof.DownGrad.lean ====
/- The gradient of the MLP's second matrix: every element of the kernel's result is the reference's. -/
module

public import proofs.«01_k».proof.Defs
public import proofs.«01_k».proof.Proof.Gen.DownGradIdeal.Value
public import proofs.«01_k».proof.Proof.Gen.DownGradRefIdeal.Run
public import proofs.«01_k».proof.Proof.Products

@[expose] public section

noncomputable section

namespace Cert.DownGradIdeal.Product

open Idealize.ShloMosaic Idealize.ShloMosaic.TcCoe Idealize.ShloMosaic.Tactic
open Cert.DownGradIdeal.Gen Cert.DownGradIdeal.Value Cert.Products

/-- The grid's last axis has one point, so the body stores the product and adds nothing to it. -/
theorem out_eq {F : FTy → Type} [FloatOps F] (c : Dev nD) (i : grid0.Coords) (a3 : Memref sig .tc .vmem S4096x1024 .bf16) (h3 : a3.IsWhole)
    (a4 : Memref sig .tc .vmem S4096x1024 .bf16) (h4 : a4.IsWhole) (a5 : Memref sig .tc .vmem S1x1024x1024 .f32) (h5 : a5.IsWhole)
    (hc0 : cond0_0 i) (hc1 : ¬cond0_1 i) (x0 x1 : Vec F S4096x1024 .bf16) :
    out0_A_2 c i a3 h3 a4 h4 a5 h5 hc0 hc1 x0 x1 = k0_pay2 x0 x1 := by
  unfold out0_A_2
  rw [View.read_writes_junk_eq_canon]
  unfold kernelRun0_A
  dsimp only
  sl_unfold_words
  rw [View.canon_unit_zero zeros3]
  simp only [View.readAt_eq_ld, h3.read_unread, h4.read_unread, View.ld_unit_zero (S := S4096x1024) zeros2]

/-- The block's element: the squares of a column of activations against a column of the derivative. -/
theorem pay_at (x0 x1 : Vec Ideal S4096x1024 .bf16) (p q : Fin 1024) :
    (k0_pay2 x0 x1 (ix3 0 p q) : EReal) = ∑ k : Fin 4096, (x0 (ix2 k p) * x0 (ix2 k p) : EReal) * x1 (ix2 k q) := by
  pointwise [k0_pay2, k0_pay1]

variable (m : (ℓ : Loc nD τ sig) → Buf (Elt Ideal) ℓ)

theorem index0 : ∀ t : Fin cfg0.N, win0_0.index t = ![0, t.val / 2] := by decide +kernel
theorem index1 : ∀ t : Fin cfg0.N, win0_1.index t = ![0, t.val % 2] := by decide +kernel
theorem index2 : ∀ t : Fin cfg0.N, win0_2.index t = ![0, t.val / 2, t.val % 2] := by decide +kernel

variable (c : Dev nD) (t : Fin cfg0.N)

theorem lt_points : t.val < 16 := t.isLt

theorem block0 (k : Fin 4096) (p : Fin 1024) :
    (iblk m c 0 t : Vec Ideal S4096x1024 .bf16) (ix2 k p) = (V m c main_arg0 : FVec Ideal S4096x8192 .bf16)
      (ix2 k ⟨1024 * (t.val / 2) + p, by have := lt_points t; omega⟩) := by
  blk_ext [iblk, index0 t]
theorem block1 (k : Fin 4096) (q : Fin 1024) :
    (iblk m c 1 t : Vec Ideal S4096x1024 .bf16) (ix2 k q) = (V m c main_arg1 : FVec Ideal S4096x2048 .bf16)
      (ix2 k ⟨1024 * (t.val % 2) + q, by omega⟩) := by
  blk_ext [iblk, index1 t]

/-- The result as one function of the two arrays. -/
def G (U : FVec Ideal S4096x8192 .bf16) (D : FVec Ideal S4096x2048 .bf16) : FVec Ideal S1x8192x2048 .f32 :=
  fun y => ((∑ k : Fin 4096, (U (ix2 k (y 1)) * U (ix2 k (y 1)) : EReal) * D (ix2 k (y 2)) : EReal))

theorem array : (dats m 0 c).arrAt 2 cfg0.N = G (V m c main_arg0) (V m c main_arg1) := by
  refine (dats m 0 c).arrAt_eq_of_covers 2 _ (by decide +kernel) fun t hf y => ?_
  rw [after0_2]
  unfold outsAt0
  rw [out_eq]
  obtain ⟨z, p, q, rfl⟩ : ∃ (z : Fin 1) (p : Fin _) (q : Fin _), y = ix3 z p q := ⟨y 0, y 1, y 2, (ix3_eta y).symm⟩
  obtain rfl : z = 0 := Subsingleton.elim _ _
  refine (pay_at _ _ p q).trans ?_
  have e : ((cfg0.win 2).blk t).view.emb (ix3 0 p q) = ix3 0 ⟨1024 * (t.val / 2) + p, by have := lt_points t; omega⟩
      ⟨1024 * (t.val % 2) + q, by omega⟩ := by
    blk_ext [index2 t]
  rw [e]
  unfold G
  exact Finset.sum_congr rfl fun k _ => congrArg₂ (fun a b : EReal => a * a * b) (block0 m c t k p) (block1 m c t k q)

/-- The run: the result and the arguments. -/
theorem run_array (ρ : Dev nD → PrngReg) :
    θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((array m c).trans (by rw [V_main_arg0, V_main_arg1])), (h c).2⟩)
    (run_blocks m ρ)

end Cert.DownGradIdeal.Product

namespace Cert.DownGradRefIdeal.Product

open Idealize.ShloMosaic Idealize.ShloMosaic.TcCoe Idealize.ShloMosaic.Tactic
open Cert.DownGradRefIdeal.Gen Cert.DownGradRefIdeal.Value Cert.Products

/-- The reference's result is the same function of the two arrays. -/
theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = Cert.DownGradIdeal.Product.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (run (F := Ideal) m ρ)
  funext y
  obtain ⟨z, p, q, rfl⟩ : ∃ (z : Fin 1) (p : Fin _) (q : Fin _), y = ix3 z p q := ⟨y 0, y 1, y 2, (ix3_eta y).symm⟩
  obtain rfl : z = 0 := Subsingleton.elim _ _
  unfold Cert.DownGradIdeal.Product.G
  pointwise []
  exact swap_one _ _

end Cert.DownGradRefIdeal.Product

namespace Cert.DownGradIdeal.Product

open Idealize.ShloMosaic Idealize.ShloMosaic.TcCoe

theorem frame : Cert.quiescent_DownGradIdeal := fun m ρ _ => Gen.frame m ρ
theorem frame_ref : Cert.quiescent_DownGradRefIdeal := fun m ρ _ =>
  (θ_run Cert.DownGradRefIdeal.defs _ _).mono (fun r h => ⟨fun c => (h c).2, sem_eq_zero_of_no_sems (by decide) r.2⟩)
    (Cert.DownGradRefIdeal.Product.result m ρ)
theorem algebraic : Cert.algebraic_DownGradIdeal_DownGradRefIdeal := by
  intro m g m' g' _ hagree
  refine ⟨_, run_array m g, ?_⟩
  refine (θ_run Cert.DownGradRefIdeal.defs _ _).mono (fun r h c => ⟨(h c).1.trans ?_, (h c).2⟩) (Cert.DownGradRefIdeal.Product.result m' g')
  rw [(hagree c).1, (hagree c).2]

end Cert.DownGradIdeal.Product
-- ==== Proof.UpGrad.lean ====
/- The gradient of the MLP's first matrix, in four column blocks: every element of the kernel's result is the reference's. -/
module

public import proofs.«01_k».proof.Defs
public import proofs.«01_k».proof.Proof.Gen.UpGradIdeal.Value
public import proofs.«01_k».proof.Proof.Gen.UpGradRefIdeal.Run
public import proofs.«01_k».proof.Proof.Products

@[expose] public section

noncomputable section

namespace Cert.UpGradIdeal.Product

open Idealize.ShloMosaic Idealize.ShloMosaic.TcCoe Idealize.ShloMosaic.Tactic
open Cert.UpGradIdeal.Gen Cert.UpGradIdeal.Value Cert.Products

/-- The grid's last axis has one point, so the body stores the product and adds nothing to it. -/
theorem out_eq {F : FTy → Type} [FloatOps F] (c : Dev nD) (i : grid0.Coords) (a3 : Memref sig .tc .vmem S4096x1024 .bf16) (h3 : a3.IsWhole)
    (a4 : Memref sig .tc .vmem S4096x1024 .bf16) (h4 : a4.IsWhole) (a5 : Memref sig .tc .vmem S1x1024x1024 .f32) (h5 : a5.IsWhole)
    (hc0 : cond0_0 i) (hc1 : ¬cond0_1 i) (x0 x1 : Vec F S4096x1024 .bf16) :
    out0_A_2 c i a3 h3 a4 h4 a5 h5 hc0 hc1 x0 x1 = k0_pay2 x0 x1 := by
  unfold out0_A_2
  rw [View.read_writes_junk_eq_canon]
  unfold kernelRun0_A
  dsimp only
  sl_unfold_words
  rw [View.canon_unit_zero zeros3]
  simp only [View.readAt_eq_ld, h3.read_unread, h4.read_unread, View.ld_unit_zero (S := S4096x1024) zeros2]

/-- The block's element: a column of the activations against a column of the derivative. -/
theorem pay_at (x0 x1 : Vec Ideal S4096x1024 .bf16) (p q : Fin 1024) :
    (k0_pay2 x0 x1 (ix3 0 p q) : EReal) = ∑ k : Fin 4096, (x0 (ix2 k p) : EReal) * x1 (ix2 k q) := by
  pointwise [k0_pay2, k0_pay1]

variable (m : (ℓ : Loc nD τ sig) → Buf (Elt Ideal) ℓ)

theorem index0 : ∀ t : Fin cfg0.N, win0_0.index t = ![0, t.val / 8] := by decide +kernel
theorem index1 : ∀ t : Fin cfg0.N, win0_1.index t = ![0, t.val % 8] := by decide +kernel
theorem index2 : ∀ t : Fin cfg0.N, win0_2.index t = ![t.val % 8 / 2, t.val / 8, t.val % 2] := by decide +kernel

variable (c : Dev nD) (t : Fin cfg0.N)

theorem lt_points : t.val < 16 := t.isLt

theorem block0 (k : Fin 4096) (p : Fin 1024) :
    (iblk m c 0 t : Vec Ideal S4096x1024 .bf16) (ix2 k p) = (V m c main_arg0 : FVec Ideal S4096x2048 .bf16)
      (ix2 k ⟨1024 * (t.val / 8) + p, by have := lt_points t; omega⟩) := by
  blk_ext [iblk, index0 t]
theorem block1 (k : Fin 4096) (q : Fin 1024) :
    (iblk m c 1 t : Vec Ideal S4096x1024 .bf16) (ix2 k q) = (V m c main_arg1 : FVec Ideal S4096x8192 .bf16)
      (ix2 k ⟨1024 * (t.val % 8) + q, by omega⟩) := by
  blk_ext [iblk, index1 t]

/-- The column of the whole matrix in block `s` at `q`. -/
def col (s : Fin 4) (q : Fin 2048) : Fin 8192 := ⟨s * 2048 + q, by omega⟩
/-- The result as one function of the two arrays. -/
def G (U : FVec Ideal S4096x2048 .bf16) (D : FVec Ideal S4096x8192 .bf16) : FVec Ideal S4x2048x2048 .f32 :=
  fun y => ((∑ k : Fin 4096, (U (ix2 k (y 1)) : EReal) * D (ix2 k (col (y 0) (y 2))) : EReal))

theorem array : (dats m 0 c).arrAt 2 cfg0.N = G (V m c main_arg0) (V m c main_arg1) := by
  refine (dats m 0 c).arrAt_eq_of_covers 2 _ (by decide +kernel) fun t hf y => ?_
  rw [after0_2]
  unfold outsAt0
  rw [out_eq]
  obtain ⟨z, p, q, rfl⟩ : ∃ (z : Fin 1) (p : Fin _) (q : Fin _), y = ix3 z p q := ⟨y 0, y 1, y 2, (ix3_eta y).symm⟩
  obtain rfl : z = 0 := Subsingleton.elim _ _
  refine (pay_at _ _ p q).trans ?_
  have e : ((cfg0.win 2).blk t).view.emb (ix3 0 p q) = ix3 ⟨t.val % 8 / 2, by omega⟩ ⟨1024 * (t.val / 8) + p, by have := lt_points t; omega⟩
      ⟨1024 * (t.val % 2) + q, by omega⟩ := by
    blk_ext [index2 t]
  rw [e]
  unfold G
  have ec : col ⟨t.val % 8 / 2, by omega⟩ ⟨1024 * (t.val % 2) + q, by omega⟩ = ⟨1024 * (t.val % 8) + q, by omega⟩ :=
    Fin.ext (by unfold col; dsimp only; omega)
  refine Finset.sum_congr rfl fun k _ => congrArg₂ (fun a b : EReal => a * b) (block0 m c t k p) ((block1 m c t k q).trans ?_)
  exact congrArg (fun j => (V m c main_arg1 : FVec Ideal S4096x8192 .bf16) (ix2 k j)) ec.symm

/-- The run: the result and the arguments. -/
theorem run_array (ρ : Dev nD → PrngReg) :
    θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((array m c).trans (by rw [V_main_arg0, V_main_arg1])), (h c).2⟩)
    (run_blocks m ρ)

end Cert.UpGradIdeal.Product

namespace Cert.UpGradRefIdeal.Product

open Idealize.ShloMosaic Idealize.ShloMosaic.TcCoe Idealize.ShloMosaic.Tactic
open Cert.UpGradRefIdeal.Gen Cert.UpGradRefIdeal.Value Cert.Products

/-- The reference's result is the same function of the two arrays. -/
theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = Cert.UpGradIdeal.Product.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (run (F := Ideal) m ρ)
  funext y
  obtain ⟨z, p, q, rfl⟩ : ∃ (z : Fin 4) (p : Fin _) (q : Fin _), y = ix3 z p q := ⟨y 0, y 1, y 2, (ix3_eta y).symm⟩
  unfold Cert.UpGradIdeal.Product.G
  pointwise []
  exact swap_one _ _

end Cert.UpGradRefIdeal.Product

namespace Cert.UpGradIdeal.Product

open Idealize.ShloMosaic Idealize.ShloMosaic.TcCoe

theorem frame : Cert.quiescent_UpGradIdeal := fun m ρ _ => Gen.frame m ρ
theorem frame_ref : Cert.quiescent_UpGradRefIdeal := fun m ρ _ =>
  (θ_run Cert.UpGradRefIdeal.defs _ _).mono (fun r h => ⟨fun c => (h c).2, sem_eq_zero_of_no_sems (by decide) r.2⟩)
    (Cert.UpGradRefIdeal.Product.result m ρ)
theorem algebraic : Cert.algebraic_UpGradIdeal_UpGradRefIdeal := by
  intro m g m' g' _ hagree
  refine ⟨_, run_array m g, ?_⟩
  refine (θ_run Cert.UpGradRefIdeal.defs _ _).mono (fun r h c => ⟨(h c).1.trans ?_, (h c).2⟩) (Cert.UpGradRefIdeal.Product.result m' g')
  rw [(hagree c).1, (hagree c).2]

end Cert.UpGradIdeal.Product
-- ==== Proof.UpBwd.lean ====
/- The product that carries the derivative back through the MLP's first matrix, summed over that matrix's
   four column blocks: every element of the kernel's
   result is the reference's. -/
module

public import proofs.«01_k».proof.Defs
public import proofs.«01_k».proof.Proof.Gen.UpBwdIdeal.Value
public import proofs.«01_k».proof.Proof.Gen.UpBwdRefIdeal.Run
public import proofs.«01_k».proof.Proof.Products

@[expose] public section

noncomputable section

namespace Cert.UpBwdIdeal.Product

open Idealize.ShloMosaic Idealize.ShloMosaic.TcCoe Idealize.ShloMosaic.Tactic
open Cert.UpBwdIdeal.Gen Cert.UpBwdIdeal.Value Cert.Products

section Body

variable {F : FTy → Type} [FloatOps F] (c : Dev nD) (i : grid0.Coords) (a3 : Memref sig .tc .vmem S1024x2048 .bf16) (h3 : a3.IsWhole)
    (a4 : Memref sig .tc .vmem S1x1024x2048 .bf16) (h4 : a4.IsWhole) (a5 : Memref sig .tc .vmem S1024x1024 .bf16) (h5 : a5.IsWhole)
    (a6 : Memref sig .tc .vmem S1024x1024 .f32) (h6 : a6.IsWhole) (x0 : Vec F S1024x2048 .bf16) (x1 : Vec F S1x1024x2048 .bf16)
    (xs : Vec F S1024x1024 .f32)

/-- At the first of the four blocks the accumulator is the block's product. -/
theorem first (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_junk_eq_canon]
  unfold kernelRun0_A
  dsimp only
  sl_unfold_words
  rw [View.canon_unit_zero zeros2]
  simp only [View.readAt_eq_ld, h3.read_unread, h4.read_unread, View.ld_unit_zero (S := S1024x2048) zeros2,
    View.ld_unit_zero (S := S1x1024x2048) zeros3]

/-- At the others the block's product is added to it. -/
theorem middle (hc0 : ¬cond0_0 i) (hc1 : cond0_1 i) (hc2 : ¬cond0_2 i) :
    sout0_B_0 c i a3 h3 a4 h4 a5 h5 a6 h6 hc0 hc1 hc2 x0 x1 xs = k0_pay3 x0 x1 xs := by
  unfold sout0_B_0
  rw [View.read_writes_junk_eq_canon]
  unfold kernelRun0_B
  dsimp only
  sl_unfold_words
  rw [View.canon_unit_zero zeros2]
  simp only [View.readAt_eq_ld, h3.read_unread, h4.read_unread, h6.read_unread, View.ld_unit_zero (S := S1024x2048) zeros2,
    View.ld_unit_zero (S := S1x1024x2048) zeros3, View.ld_unit_zero (S := S1024x1024) zeros2]
theorem last (hc0 : ¬cond0_0 i) (hc1 : cond0_1 i) (hc2 : cond0_2 i) :
    sout0_C_0 c i a3 h3 a4 h4 a5 h5 a6 h6 hc0 hc1 hc2 x0 x1 xs = k0_pay3 x0 x1 xs := by
  unfold sout0_C_0
  rw [View.read_writes_junk_eq_canon]
  unfold kernelRun0_C
  dsimp only
  sl_unfold_words
  rw [View.canon_unit_zero zeros2]
  simp only [View.readAt_eq_ld, h3.read_unread, h4.read_unread, h6.read_unread, View.ld_unit_zero (S := S1024x2048) zeros2,
    View.ld_unit_zero (S := S1x1024x2048) zeros3, View.ld_unit_zero (S := S1024x1024) zeros2]

/-- At the last the accumulator is stored. -/
theorem stored (hc0 : ¬cond0_0 i) (hc1 : cond0_1 i) (hc2 : cond0_2 i) :
    out0_C_2 c i a3 h3 a4 h4 a5 h5 a6 h6 hc0 hc1 hc2 x0 x1 xs = k0_pay4 (k0_pay3 x0 x1 xs) := by
  unfold out0_C_2
  rw [View.read_writes_junk_eq_canon]
  unfold kernelRun0_C
  dsimp only
  sl_unfold_words
  rw [View.canon_unit_zero zeros2, View.readCov_unit_zero (S := S1024x1024) _ zeros2]
  simp only [View.readAt_eq_ld, h3.read_unread, h4.read_unread, h6.read_unread, View.ld_unit_zero (S := S1024x2048) zeros2,
    View.ld_unit_zero (S := S1x1024x2048) zeros3, View.ld_unit_zero (S := S1024x1024) zeros2]

end Body

/-- One block's product: a row of the derivative against a row of the matrix's block. -/
theorem pay2_at (x0 : Vec Ideal S1024x2048 .bf16) (x1 : Vec Ideal S1x1024x2048 .bf16) (p q : Fin 1024) :
    (k0_pay2 x0 x1 (ix2 p q) : EReal) = ∑ k : Fin 2048, (x0 (ix2 p k) : EReal) * x1 (ix3 0 q k) := by
  pointwise [k0_pay2, k0_pay1]
theorem pay3_at (x0 : Vec Ideal S1024x2048 .bf16) (x1 : Vec Ideal S1x1024x2048 .bf16) (xs : Vec Ideal S1024x1024 .f32) (p q : Fin 1024) :
    (k0_pay3 x0 x1 xs (ix2 p q) : EReal) = xs (ix2 p q) + k0_pay2 x0 x1 (ix2 p q) := by
  pointwise [k0_pay3, k0_pay2, k0_pay1]
theorem pay4_at (xs : Vec Ideal S1024x1024 .f32) (p q : Fin 1024) : (k0_pay4 xs (ix2 p q) : EReal) = xs (ix2 p q) := by
  pointwise [k0_pay4]

variable (m : (ℓ : Loc nD τ sig) → Buf (Elt Ideal) ℓ)

theorem index0 : ∀ t : Fin cfg0.N, win0_0.index t = ![t.val / 8, t.val % 4] := by decide +kernel
theorem index1 : ∀ t : Fin cfg0.N, win0_1.index t = ![t.val % 4, t.val % 8 / 4, 0] := by decide +kernel
theorem index2 : ∀ t : Fin cfg0.N, win0_2.index t = ![t.val / 8, t.val % 8 / 4] := by decide +kernel

variable (c : Dev nD) (t : Fin cfg0.N)

theorem lt_points : t.val < 32 := t.isLt

/-- The row and the column of the whole arrays, at a point's block. -/
def row (p : Fin 1024) : Fin 4096 := ⟨1024 * (t.val / 8) + p, by have := lt_points t; omega⟩
def col (q : Fin 1024) : Fin 2048 := ⟨1024 * (t.val % 8 / 4) + q, by omega⟩

theorem block0 (p : Fin 1024) (k : Fin 2048) :
    (iblk m c 0 t : Vec Ideal S1024x2048 .bf16) (ix2 p k) = (V m c main_arg0 : FVec Ideal S4096x8192 .bf16)
      (ix2 (row t p) ⟨2048 * (t.val % 4) + k, by omega⟩) := by
  unfold row
  blk_ext [iblk, index0 t]
theorem block1 (q : Fin 1024) (k : Fin 2048) :
    (iblk m c 1 t : Vec Ideal S1x1024x2048 .bf16) (ix3 0 q k) = (V m c main_arg1 : FVec Ideal S4x2048x2048 .bf16)
      (ix3 ⟨t.val % 4, by omega⟩ (col t q) k) := by
  unfold col
  blk_ext [iblk, index1 t]

/-- The term of the whole product's sum. -/
def term (U : FVec Ideal S4096x8192 .bf16) (W : FVec Ideal S4x2048x2048 .bf16) (p : Fin 4096) (q : Fin 2048) (k : Fin 8192) : EReal :=
  (U (ix2 p k) : EReal) * W (ix3 ⟨k / 2048, by omega⟩ q ⟨k % 2048, by omega⟩)

/-- Block `i` of the whole product's sum. -/
def part (U : FVec Ideal S4096x8192 .bf16) (W : FVec Ideal S4x2048x2048 .bf16) (p : Fin 4096) (q : Fin 2048) (i : ℕ) : EReal :=
  ∑ k : Fin 2048, term U W p q ⟨2048 * (i % 4) + k, by omega⟩

/-- The result as one function of the two arrays. -/
def G (U : FVec Ideal S4096x8192 .bf16) (W : FVec Ideal S4x2048x2048 .bf16) : FVec Ideal S4096x2048 .bf16 :=
  fun y => (∑ k : Fin 8192, term U W (y 0) (y 1) k : EReal)

theorem whole (U : FVec Ideal S4096x8192 .bf16) (W : FVec Ideal S4x2048x2048 .bf16) (p : Fin 4096) (q : Fin 2048) :
    ∑ k : Fin 8192, term U W p q k = ∑ i ∈ Finset.range 4, part U W p q i := by
  rw [sum_blocks (a := 4) (b := 2048) rfl, Finset.sum_range]
  refine Finset.sum_congr rfl fun i _ => ?_
  unfold part
  refine Finset.sum_congr rfl fun k _ => congrArg (term U W p q) (Fin.ext ?_)
  have : i.val % 4 = i.val := Nat.mod_eq_of_lt i.isLt
  dsimp only
  omega

/-- A point's product is its block of the sum. -/
theorem point (p q : Fin 1024) : (k0_pay2 (iblk m c 0 t) (iblk m c 1 t) (ix2 p q) : EReal)
    = part (V m c main_arg0) (V m c main_arg1) (row t p) (col t q) (t.val % 4) := by
  refine (pay2_at _ _ p q).trans ?_
  unfold part term
  refine Finset.sum_congr rfl fun k _ => (congrArg₂ (fun a b : EReal => a * b) (block0 m c t p k) (block1 m c t q k)).trans ?_
  simp only [Nat.mod_mod]
  refine congrArg (fun b : EReal => _ * b) (congrArg₂ (fun i j => (V m c main_arg1 : FVec Ideal S4x2048x2048 .bf16) (ix3 i (col t q) j)) ?_ ?_)
  · exact Fin.ext (show t.val % 4 = (2048 * (t.val % 4) + k.val) / 2048 by omega)
  · exact Fin.ext (show k.val = (2048 * (t.val % 4) + k.val) % 2048 by omega)

/-- What the accumulator holds after a point: the blocks of the sum so far. -/
theorem held (p q : Fin 1024) : ∀ (n : ℕ) (h : n < cfg0.N), ((outsAt0 m c n h).2 (ix2 p q) : EReal)
    = ∑ i ∈ Finset.range (n % 4 + 1), part (V m c main_arg0) (V m c main_arg1) (row ⟨n, h⟩ p) (col ⟨n, h⟩ q) i := by
  intro n
  induction n with
  | zero =>
    intro h
    rw [outsAt0_A m c ⟨0, h⟩ rfl (by dsimp only; omega) (by dsimp only; omega)]
    dsimp only
    rw [first, Nat.zero_mod, Finset.sum_range_one]
    exact point m c ⟨0, h⟩ p q
  | succ n ih =>
    intro h
    by_cases h0 : (n + 1) % 4 = 0
    · rw [outsAt0_A m c ⟨n + 1, h⟩ h0 (by dsimp only; omega) (by dsimp only; omega)]
      dsimp only
      rw [first, h0, Finset.sum_range_one]
      refine (point m c ⟨n + 1, h⟩ p q).trans ?_
      dsimp only
      rw [h0]
    · have hn : n < cfg0.N := Nat.lt_of_succ_lt h
      have e : (n + 1) % 4 = n % 4 + 1 := by omega
      have er : row ⟨n + 1, h⟩ p = row ⟨n, hn⟩ p := Fin.ext (by unfold row; dsimp only; omega)
      have ec : col ⟨n + 1, h⟩ q = col ⟨n, hn⟩ q := Fin.ext (by unfold col; dsimp only; omega)
      have step : ((k0_pay3 (iblk m c 0 ⟨n + 1, h⟩) (iblk m c 1 ⟨n + 1, h⟩) (outsAt0 m c n hn).2 : Vec Ideal S1024x1024 .f32) (ix2 p q) : EReal)
          = ∑ i ∈ Finset.range ((n + 1) % 4 + 1), part (V m c main_arg0) (V m c main_arg1) (row ⟨n + 1, h⟩ p) (col ⟨n + 1, h⟩ q) i := by
        rw [Finset.sum_range_succ]
        refine (pay3_at _ _ _ p q).trans ?_
        refine congrArg₂ (fun a b : EReal => a + b) ((ih hn).trans ?_) (point m c ⟨n + 1, h⟩ p q)
        rw [e, er, ec]
      by_cases h2 : (n + 1) % 4 = 3
      · rw [outsAt0_C m c ⟨n + 1, h⟩ h0 (by dsimp only; omega) h2]
        dsimp only
        rw [last]
        exact step
      · rw [outsAt0_B m c ⟨n + 1, h⟩ h0 (by dsimp only; omega) h2]
        dsimp only
        rw [middle]
        exact step

/-- What the last of the four points stores is what the accumulator then holds. -/
theorem stored_at (h : t.val % 4 = 3) (p q : Fin 1024) :
    ((outsAt0 m c t.val t.isLt).1 (ix2 p q) : EReal) = (outsAt0 m c t.val t.isLt).2 (ix2 p q) := by
  rw [outsAt0_C m c t (by omega) (by omega) h]
  dsimp only
  rw [last, stored]
  exact pay4_at _ p q

theorem array : (dats m 0 c).arrAt 2 cfg0.N = G (V m c main_arg0) (V m c main_arg1) := by
  refine (dats m 0 c).arrAt_eq_of_covers 2 _ (by decide +kernel) fun t hf y => ?_
  rw [after0_2]
  have hm : t.val % 4 = 3 := (flush0_2 t).mp hf
  obtain ⟨p, q, rfl⟩ : ∃ p q, y = ix2 p q := ⟨y 0, y 1, (ix2_eta y).symm⟩
  refine (stored_at m c t hm p q).trans ((held m c p q t.val t.isLt).trans ?_)
  have e : ((cfg0.win 2).blk t).view.emb (ix2 p q) = ix2 (row t p) (col t q) := by
    unfold row col
    blk_ext [index2 t]
  rw [e, hm]
  exact (whole _ _ _ _).symm

/-- The run: the result and the arguments. -/
theorem run_array (ρ : Dev nD → PrngReg) :
    θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((array m c).trans (by rw [V_main_arg0, V_main_arg1])), (h c).2⟩)
    (run_blocks m ρ)

end Cert.UpBwdIdeal.Product

namespace Cert.UpBwdRefIdeal.Product

open Idealize.ShloMosaic Idealize.ShloMosaic.TcCoe Idealize.ShloMosaic.Tactic
open Cert.UpBwdRefIdeal.Gen Cert.UpBwdRefIdeal.Value Cert.Products

/-- The reference's result is the same function of the two arrays. -/
theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = Cert.UpBwdIdeal.Product.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (run (F := Ideal) m ρ)
  funext y
  obtain ⟨p, q, rfl⟩ : ∃ p q, y = ix2 p q := ⟨y 0, y 1, (ix2_eta y).symm⟩
  unfold Cert.UpBwdIdeal.Product.G
  pointwise []
  rfl

end Cert.UpBwdRefIdeal.Product

namespace Cert.UpBwdIdeal.Product

open Idealize.ShloMosaic Idealize.ShloMosaic.TcCoe

theorem frame : Cert.quiescent_UpBwdIdeal := fun m ρ _ => Gen.frame m ρ
theorem frame_ref : Cert.quiescent_UpBwdRefIdeal := fun m ρ _ =>
  (θ_run Cert.UpBwdRefIdeal.defs _ _).mono (fun r h => ⟨fun c => (h c).2, sem_eq_zero_of_no_sems (by decide) r.2⟩)
    (Cert.UpBwdRefIdeal.Product.result m ρ)
theorem algebraic : Cert.algebraic_UpBwdIdeal_UpBwdRefIdeal := by
  intro m g m' g' _ hagree
  refine ⟨_, run_array m g, ?_⟩
  refine (θ_run Cert.UpBwdRefIdeal.defs _ _).mono (fun r h c => ⟨(h c).1.trans ?_, (h c).2⟩) (Cert.UpBwdRefIdeal.Product.result m' g')
  rw [(hagree c).1, (hagree c).2]

end Cert.UpBwdIdeal.Product

end
-- ==== Proof.OutGrad.lean ====
/- The gradient of the output matrix: every element of the kernel's result is the reference's. -/
module

public import proofs.«01_k».proof.Defs
public import proofs.«01_k».proof.Proof.Gen.OutGradIdeal.Value
public import proofs.«01_k».proof.Proof.Gen.OutGradRefIdeal.Run
public import proofs.«01_k».proof.Proof.Products

@[expose] public section

noncomputable section

namespace Cert.OutGradIdeal.Product

open Idealize.ShloMosaic Idealize.ShloMosaic.TcCoe Idealize.ShloMosaic.Tactic
open Cert.OutGradIdeal.Gen Cert.OutGradIdeal.Value Cert.Products

/-- The grid's last axis has one point, so the body stores the product and adds nothing to it. -/
theorem out_eq {F : FTy → Type} [FloatOps F] (c : Dev nD) (i : grid0.Coords) (a3 : Memref sig .tc .vmem S4096x1024 .bf16) (h3 : a3.IsWhole)
    (a4 : Memref sig .tc .vmem S4096x1024 .bf16) (h4 : a4.IsWhole) (a5 : Memref sig .tc .vmem S1x1024x1024 .f32) (h5 : a5.IsWhole)
    (hc0 : cond0_0 i) (hc1 : ¬cond0_1 i) (x0 x1 : Vec F S4096x1024 .bf16) :
    out0_A_2 c i a3 h3 a4 h4 a5 h5 hc0 hc1 x0 x1 = k0_pay2 x0 x1 := by
  unfold out0_A_2
  rw [View.read_writes_junk_eq_canon]
  unfold kernelRun0_A
  dsimp only
  sl_unfold_words
  rw [View.canon_unit_zero zeros3]
  simp only [View.readAt_eq_ld, h3.read_unread, h4.read_unread, View.ld_unit_zero (S := S4096x1024) zeros2]

/-- The block's element: a column of the activations against a column of the derivative. -/
theorem pay_at (x0 x1 : Vec Ideal S4096x1024 .bf16) (p q : Fin 1024) :
    (k0_pay2 x0 x1 (ix3 0 p q) : EReal) = ∑ k : Fin 4096, (x0 (ix2 k p) : EReal) * x1 (ix2 k q) := by
  pointwise [k0_pay2, k0_pay1]

variable (m : (ℓ : Loc nD τ sig) → Buf (Elt Ideal) ℓ)

theorem index0 : ∀ t : Fin cfg0.N, win0_0.index t = ![0, t.val / 2] := by decide +kernel
theorem index1 : ∀ t : Fin cfg0.N, win0_1.index t = ![0, t.val % 2] := by decide +kernel
theorem index2 : ∀ t : Fin cfg0.N, win0_2.index t = ![0, t.val / 2, t.val % 2] := by decide +kernel

variable (c : Dev nD) (t : Fin cfg0.N)

theorem lt_points : t.val < 4 := t.isLt

theorem block0 (k : Fin 4096) (p : Fin 1024) :
    (iblk m c 0 t : Vec Ideal S4096x1024 .bf16) (ix2 k p) = (V m c main_arg0 : FVec Ideal S4096x2048 .bf16)
      (ix2 k ⟨1024 * (t.val / 2) + p, by have := lt_points t; omega⟩) := by
  blk_ext [iblk, index0 t]
theorem block1 (k : Fin 4096) (q : Fin 1024) :
    (iblk m c 1 t : Vec Ideal S4096x1024 .bf16) (ix2 k q) = (V m c main_arg1 : FVec Ideal S4096x2048 .bf16)
      (ix2 k ⟨1024 * (t.val % 2) + q, by omega⟩) := by
  blk_ext [iblk, index1 t]

/-- The result as one function of the two arrays. -/
def G (U : FVec Ideal S4096x2048 .bf16) (D : FVec Ideal S4096x2048 .bf16) : FVec Ideal S1x2048x2048 .f32 :=
  fun y => ((∑ k : Fin 4096, (U (ix2 k (y 1)) : EReal) * D (ix2 k (y 2)) : EReal))

theorem array : (dats m 0 c).arrAt 2 cfg0.N = G (V m c main_arg0) (V m c main_arg1) := by
  refine (dats m 0 c).arrAt_eq_of_covers 2 _ (by decide +kernel) fun t hf y => ?_
  rw [after0_2]
  unfold outsAt0
  rw [out_eq]
  obtain ⟨z, p, q, rfl⟩ : ∃ (z : Fin 1) (p : Fin _) (q : Fin _), y = ix3 z p q := ⟨y 0, y 1, y 2, (ix3_eta y).symm⟩
  obtain rfl : z = 0 := Subsingleton.elim _ _
  refine (pay_at _ _ p q).trans ?_
  have e : ((cfg0.win 2).blk t).view.emb (ix3 0 p q) = ix3 0 ⟨1024 * (t.val / 2) + p, by have := lt_points t; omega⟩
      ⟨1024 * (t.val % 2) + q, by omega⟩ := by
    blk_ext [index2 t]
  rw [e]
  unfold G
  exact Finset.sum_congr rfl fun k _ => congrArg₂ (fun a b : EReal => a * b) (block0 m c t k p) (block1 m c t k q)

/-- The run: the result and the arguments. -/
theorem run_array (ρ : Dev nD → PrngReg) :
    θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((array m c).trans (by rw [V_main_arg0, V_main_arg1])), (h c).2⟩)
    (run_blocks m ρ)

end Cert.OutGradIdeal.Product

namespace Cert.OutGradRefIdeal.Product

open Idealize.ShloMosaic Idealize.ShloMosaic.TcCoe Idealize.ShloMosaic.Tactic
open Cert.OutGradRefIdeal.Gen Cert.OutGradRefIdeal.Value Cert.Products

/-- The reference's result is the same function of the two arrays. -/
theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = Cert.OutGradIdeal.Product.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (run (F := Ideal) m ρ)
  funext y
  obtain ⟨z, p, q, rfl⟩ : ∃ (z : Fin 1) (p : Fin _) (q : Fin _), y = ix3 z p q := ⟨y 0, y 1, y 2, (ix3_eta y).symm⟩
  obtain rfl : z = 0 := Subsingleton.elim _ _
  unfold Cert.OutGradIdeal.Product.G
  pointwise []
  exact swap_one _ _

end Cert.OutGradRefIdeal.Product

namespace Cert.OutGradIdeal.Product

open Idealize.ShloMosaic Idealize.ShloMosaic.TcCoe

theorem frame : Cert.quiescent_OutGradIdeal := fun m ρ _ => Gen.frame m ρ
theorem frame_ref : Cert.quiescent_OutGradRefIdeal := fun m ρ _ =>
  (θ_run Cert.OutGradRefIdeal.defs _ _).mono (fun r h => ⟨fun c => (h c).2, sem_eq_zero_of_no_sems (by decide) r.2⟩)
    (Cert.OutGradRefIdeal.Product.result m ρ)
theorem algebraic : Cert.algebraic_OutGradIdeal_OutGradRefIdeal := by
  intro m g m' g' _ hagree
  refine ⟨_, run_array m g, ?_⟩
  refine (θ_run Cert.OutGradRefIdeal.defs _ _).mono (fun r h c => ⟨(h c).1.trans ?_, (h c).2⟩) (Cert.OutGradRefIdeal.Product.result m' g')
  rw [(hagree c).1, (hagree c).2]

end Cert.OutGradIdeal.Product
-- ==== Proof.OutBwd.lean ====
/- The product that carries the derivative back through the output matrix: every element of the kernel's
   result is the reference's. -/
module

public import proofs.«01_k».proof.Defs
public import proofs.«01_k».proof.Proof.Gen.OutBwdIdeal.Value
public import proofs.«01_k».proof.Proof.Gen.OutBwdRefIdeal.Run
public import proofs.«01_k».proof.Proof.Products

@[expose] public section

noncomputable section

namespace Cert.OutBwdIdeal.Product

open Idealize.ShloMosaic Idealize.ShloMosaic.TcCoe Idealize.ShloMosaic.Tactic
open Cert.OutBwdIdeal.Gen Cert.OutBwdIdeal.Value Cert.Products

/-- What the body leaves in its output block is its one payload of the two input blocks. -/
theorem out_eq {F : FTy → Type} [FloatOps F] (c : Dev nD) (i : grid0.Coords) (a3 : Memref sig .tc .vmem S1024x2048 .bf16) (h3 : a3.IsWhole)
    (a4 : Memref sig .tc .vmem S1024x2048 .bf16) (h4 : a4.IsWhole) (a5 : Memref sig .tc .vmem S1024x1024 .bf16) (h5 : a5.IsWhole)
    (a6 : Memref sig .tc .vmem S8x128 .f32) (h6 : a6.IsWhole) (x0 : Vec F S1024x2048 .bf16) (x1 : Vec F S1024x2048 .bf16) :
    out0_A_2 c i a3 h3 a4 h4 a5 h5 a6 h6 x0 x1 = k0_pay1 x0 x1 := by
  unfold out0_A_2
  rw [View.read_writes_junk_eq_canon]
  unfold kernelRun0_A
  dsimp only
  sl_unfold_words
  rw [View.canon_unit_zero zeros2]
  simp only [View.readAt_eq_ld, h3.read_unread, h4.read_unread, View.ld_unit_zero (S := S1024x2048) zeros2]

/-- The payload's element: a row of the derivative against a row of the matrix. -/
theorem pay_at (x0 x1 : Vec Ideal S1024x2048 .bf16) (p q : Fin 1024) :
    (k0_pay1 x0 x1 (ix2 p q) : EReal) = ∑ k : Fin 2048, (x0 (ix2 p k) : EReal) * x1 (ix2 q k) := by
  pointwise [k0_pay1]

variable (m : (ℓ : Loc nD τ sig) → Buf (Elt Ideal) ℓ)

theorem index0 : ∀ t : Fin cfg0.N, win0_0.index t = ![t.val / 2, 0] := by decide +kernel
theorem index1 : ∀ t : Fin cfg0.N, win0_1.index t = ![t.val % 2, 0] := by decide +kernel
theorem index2 : ∀ t : Fin cfg0.N, win0_2.index t = ![t.val / 2, t.val % 2] := by decide +kernel

variable (c : Dev nD) (t : Fin cfg0.N)

theorem lt_points : t.val < 8 := t.isLt

theorem block0 (p : Fin 1024) (k : Fin 2048) :
    (iblk m c 0 t : Vec Ideal S1024x2048 .bf16) (ix2 p k) = (V m c main_arg0 : FVec Ideal S4096x2048 .bf16)
      (ix2 ⟨1024 * (t.val / 2) + p, by have := lt_points t; omega⟩ k) := by
  blk_ext [iblk, index0 t]
theorem block1 (q : Fin 1024) (k : Fin 2048) :
    (iblk m c 1 t : Vec Ideal S1024x2048 .bf16) (ix2 q k) = (V m c main_arg1 : FVec Ideal S2048x2048 .bf16)
      (ix2 ⟨1024 * (t.val % 2) + q, by omega⟩ k) := by
  blk_ext [iblk, index1 t]

/-- The result as one function of the two arrays. -/
def G (X : FVec Ideal S4096x2048 .bf16) (W : FVec Ideal S2048x2048 .bf16) : FVec Ideal S4096x2048 .bf16 :=
  fun y => ((∑ k : Fin 2048, (X (ix2 (y 0) k) : EReal) * W (ix2 (y 1) k) : EReal))

theorem array : (dats m 0 c).arrAt 2 cfg0.N = G (V m c main_arg0) (V m c main_arg1) := by
  refine (dats m 0 c).arrAt_eq_of_covers 2 _ (by decide +kernel) fun t hf y => ?_
  rw [after0_2]
  unfold outsAt0
  rw [out_eq]
  obtain ⟨p, q, rfl⟩ : ∃ p q, y = ix2 p q := ⟨y 0, y 1, (ix2_eta y).symm⟩
  refine (pay_at _ _ p q).trans ?_
  have e : ((cfg0.win 2).blk t).view.emb (ix2 p q) = ix2 ⟨1024 * (t.val / 2) + p, by have := lt_points t; omega⟩
      ⟨1024 * (t.val % 2) + q, by omega⟩ := by
    blk_ext [index2 t]
  rw [e]
  unfold G
  exact Finset.sum_congr rfl fun k _ => congrArg₂ (fun a b : EReal => a * b) (block0 m c t p k) (block1 m c t q k)

/-- The run: the result and the arguments. -/
theorem run_array (ρ : Dev nD → PrngReg) :
    θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((array m c).trans (by rw [V_main_arg0, V_main_arg1])), (h c).2⟩)
    (run_blocks m ρ)

end Cert.OutBwdIdeal.Product

namespace Cert.OutBwdRefIdeal.Product

open Idealize.ShloMosaic Idealize.ShloMosaic.TcCoe Idealize.ShloMosaic.Tactic
open Cert.OutBwdRefIdeal.Gen Cert.OutBwdRefIdeal.Value Cert.Products

/-- The reference's result is the same function of the two arrays. -/
theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = Cert.OutBwdIdeal.Product.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (run (F := Ideal) m ρ)
  funext y
  obtain ⟨p, q, rfl⟩ : ∃ p q, y = ix2 p q := ⟨y 0, y 1, (ix2_eta y).symm⟩
  unfold Cert.OutBwdIdeal.Product.G
  pointwise []

end Cert.OutBwdRefIdeal.Product

namespace Cert.OutBwdIdeal.Product

open Idealize.ShloMosaic Idealize.ShloMosaic.TcCoe

theorem frame : Cert.quiescent_OutBwdIdeal := fun m ρ _ => Gen.frame m ρ
theorem frame_ref : Cert.quiescent_OutBwdRefIdeal := fun m ρ _ =>
  (θ_run Cert.OutBwdRefIdeal.defs _ _).mono (fun r h => ⟨fun c => (h c).2, sem_eq_zero_of_no_sems (by decide) r.2⟩)
    (Cert.OutBwdRefIdeal.Product.result m ρ)
theorem algebraic : Cert.algebraic_OutBwdIdeal_OutBwdRefIdeal := by
  intro m g m' g' _ hagree
  refine ⟨_, run_array m g, ?_⟩
  refine (θ_run Cert.OutBwdRefIdeal.defs _ _).mono (fun r h c => ⟨(h c).1.trans ?_, (h c).2⟩) (Cert.OutBwdRefIdeal.Product.result m' g')
  rw [(hagree c).1, (hagree c).2]

end Cert.OutBwdIdeal.Product

end
-- ==== Proof.InGrad0.lean ====
/- The gradient of the transposed input matrix, its first and third quarters of the columns: every element of the kernel's result is the reference's. -/
module

public import proofs.«01_k».proof.Defs
public import proofs.«01_k».proof.Proof.Gen.InGrad0Ideal.Value
public import proofs.«01_k».proof.Proof.Gen.InGrad0RefIdeal.Run
public import proofs.«01_k».proof.Proof.Products

@[expose] public section

noncomputable section

namespace Cert.InGrad0Ideal.Product

open Idealize.ShloMosaic Idealize.ShloMosaic.TcCoe Idealize.ShloMosaic.Tactic
open Cert.InGrad0Ideal.Gen Cert.InGrad0Ideal.Value Cert.Products

/-- The grid's last axis has one point, so the body stores the product and adds nothing to it. -/
theorem out_eq {F : FTy → Type} [FloatOps F] (c : Dev nD) (i : grid0.Coords) (a3 : Memref sig .tc .vmem S4096x896 .bf16) (h3 : a3.IsWhole)
    (a4 : Memref sig .tc .vmem S4096x512 .bf16) (h4 : a4.IsWhole) (a5 : Memref sig .tc .vmem S4096x512 .bf16) (h5 : a5.IsWhole)
    (a6 : Memref sig .tc .vmem S1x896x1024 .f32) (h6 : a6.IsWhole)
    (hc0 : cond0_0 i) (hc1 : ¬cond0_1 i) (x0 : Vec F S4096x896 .bf16) (x1 x2 : Vec F S4096x512 .bf16) :
    out0_A_3 c i a3 h3 a4 h4 a5 h5 a6 h6 hc0 hc1 x0 x1 x2 = k0_pay2 x0 x1 x2 := by
  unfold out0_A_3
  rw [View.read_writes_junk_eq_canon]
  unfold kernelRun0_A
  dsimp only
  sl_unfold_words
  rw [View.canon_unit_zero zeros3]
  simp only [View.readAt_eq_ld, h3.read_unread, h4.read_unread, h5.read_unread, View.ld_unit_zero (S := S4096x896) zeros2,
    View.ld_unit_zero (S := S4096x512) zeros2]

/-- The block's element: a column of the derivative against a column of the activations, of the first of the two
    blocks or of the second. -/
theorem pay_at (x0 : Vec Ideal S4096x896 .bf16) (x1 x2 : Vec Ideal S4096x512 .bf16) (p : Fin 896) (q : Fin 1024) :
    (k0_pay2 x0 x1 x2 (ix3 0 p q) : EReal) = ∑ k : Fin 4096, (x0 (ix2 k p) : EReal)
      * if h : q.val < 512 then x1 (ix2 k ⟨q, h⟩) else x2 (ix2 k ⟨q - 512, by omega⟩) := by
  pointwise [k0_pay2, k0_pay1]

variable (m : (ℓ : Loc nD τ sig) → Buf (Elt Ideal) ℓ)

theorem index0 : ∀ t : Fin cfg0.N, win0_0.index t = ![0, t.val] := by decide +kernel
theorem index1 : ∀ t : Fin cfg0.N, win0_1.index t = ![0, 0] := by decide +kernel
theorem index2 : ∀ t : Fin cfg0.N, win0_2.index t = ![0, 2] := by decide +kernel
theorem index3 : ∀ t : Fin cfg0.N, win0_3.index t = ![0, t.val, 0] := by decide +kernel

variable (c : Dev nD) (t : Fin cfg0.N)

theorem lt_points : t.val < 6 := t.isLt

theorem block0 (k : Fin 4096) (p : Fin 896) :
    (iblk m c 0 t : Vec Ideal S4096x896 .bf16) (ix2 k p) = (V m c main_arg0 : FVec Ideal S4096x5376 .bf16)
      (ix2 k ⟨896 * t.val + p, by have := lt_points t; omega⟩) := by
  blk_ext [iblk, index0 t]
theorem block1 (k : Fin 4096) (q : Fin 512) :
    (iblk m c 1 t : Vec Ideal S4096x512 .bf16) (ix2 k q) = (V m c main_arg1 : FVec Ideal S4096x2048 .bf16) (ix2 k ⟨q, by omega⟩) := by
  blk_ext [iblk, index1 t]
theorem block2 (k : Fin 4096) (q : Fin 512) :
    (iblk m c 2 t : Vec Ideal S4096x512 .bf16) (ix2 k q) = (V m c main_arg1 : FVec Ideal S4096x2048 .bf16) (ix2 k ⟨1024 + q, by omega⟩) := by
  blk_ext [iblk, index2 t]

/-- The result's column `q` is this column of the whole gradient. -/
def col (q : Fin 1024) : Fin 2048 := if h : q.val < 512 then ⟨q, by omega⟩ else ⟨1024 + (q - 512), by omega⟩

/-- The result as one function of the two arrays. -/
def G (P : FVec Ideal S4096x5376 .bf16) (H : FVec Ideal S4096x2048 .bf16) : FVec Ideal S1x5376x1024 .f32 :=
  fun y => ((∑ k : Fin 4096, (P (ix2 k (y 1)) : EReal) * H (ix2 k (col (y 2))) : EReal))

theorem array : (dats m 0 c).arrAt 3 cfg0.N = G (V m c main_arg0) (V m c main_arg1) := by
  refine (dats m 0 c).arrAt_eq_of_covers 3 _ (by decide +kernel) fun t hf y => ?_
  rw [after0_3]
  unfold outsAt0
  rw [out_eq]
  obtain ⟨z, p, q, rfl⟩ : ∃ (z : Fin 1) (p : Fin _) (q : Fin _), y = ix3 z p q := ⟨y 0, y 1, y 2, (ix3_eta y).symm⟩
  obtain rfl : z = 0 := Subsingleton.elim _ _
  refine (pay_at _ _ _ p q).trans ?_
  have e : ((cfg0.win 3).blk t).view.emb (ix3 0 p q) = ix3 0 ⟨896 * t.val + p, by have := lt_points t; omega⟩ q := by
    blk_ext [index3 t]
  rw [e]
  refine Finset.sum_congr rfl fun k _ => congrArg₂ (fun a b : EReal => a * b) (block0 m c t k p) ?_
  show _ = (V m c main_arg1 : FVec Ideal S4096x2048 .bf16) (ix2 k (col q))
  unfold col
  by_cases h : q.val < 512
  · rw [dif_pos h, dif_pos h]; exact block1 m c t k _
  · rw [dif_neg h, dif_neg h]; exact block2 m c t k _

/-- The run: the result and the arguments. -/
theorem run_array (ρ : Dev nD → PrngReg) :
    θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((array m c).trans (by rw [V_main_arg0, V_main_arg1])), (h c).2⟩)
    (run_blocks m ρ)

end Cert.InGrad0Ideal.Product

namespace Cert.InGrad0RefIdeal.Product

open Idealize.ShloMosaic Idealize.ShloMosaic.TcCoe Idealize.ShloMosaic.Tactic
open Cert.InGrad0RefIdeal.Gen Cert.InGrad0RefIdeal.Value Cert.Products

/-- The reference's result is the same function of the two arrays. -/
theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = Cert.InGrad0Ideal.Product.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (run (F := Ideal) m ρ)
  funext y
  obtain ⟨z, p, q, rfl⟩ : ∃ (z : Fin 1) (p : Fin _) (q : Fin _), y = ix3 z p q := ⟨y 0, y 1, y 2, (ix3_eta y).symm⟩
  obtain rfl : z = 0 := Subsingleton.elim _ _
  unfold Cert.InGrad0Ideal.Product.G
  pointwise []
  unfold Cert.InGrad0Ideal.Product.col
  by_cases h : q.val < 512
  · rw [dif_pos h, dif_pos h]; exact Fin.sum_univ_one _
  · rw [dif_neg h, dif_neg h]; exact Fin.sum_univ_one _

end Cert.InGrad0RefIdeal.Product

namespace Cert.InGrad0Ideal.Product

open Idealize.ShloMosaic Idealize.ShloMosaic.TcCoe

theorem frame : Cert.quiescent_InGrad0Ideal := fun m ρ _ => Gen.frame m ρ
theorem frame_ref : Cert.quiescent_InGrad0RefIdeal := fun m ρ _ =>
  (θ_run Cert.InGrad0RefIdeal.defs _ _).mono (fun r h => ⟨fun c => (h c).2, sem_eq_zero_of_no_sems (by decide) r.2⟩)
    (Cert.InGrad0RefIdeal.Product.result m ρ)
theorem algebraic : Cert.algebraic_InGrad0Ideal_InGrad0RefIdeal := by
  intro m g m' g' _ hagree
  refine ⟨_, run_array m g, ?_⟩
  refine (θ_run Cert.InGrad0RefIdeal.defs _ _).mono (fun r h c => ⟨(h c).1.trans ?_, (h c).2⟩) (Cert.InGrad0RefIdeal.Product.result m' g')
  rw [(hagree c).1, (hagree c).2]

end Cert.InGrad0Ideal.Product
-- ==== Proof.InGrad1.lean ====
/- The gradient of the transposed input matrix, its second and fourth quarters of the columns: every element of the kernel's result is the reference's. -/
module

public import proofs.«01_k».proof.Defs
public import proofs.«01_k».proof.Proof.Gen.InGrad1Ideal.Value
public import proofs.«01_k».proof.Proof.Gen.InGrad1RefIdeal.Run
public import proofs.«01_k».proof.Proof.Products

@[expose] public section

noncomputable section

namespace Cert.InGrad1Ideal.Product

open Idealize.ShloMosaic Idealize.ShloMosaic.TcCoe Idealize.ShloMosaic.Tactic
open Cert.InGrad1Ideal.Gen Cert.InGrad1Ideal.Value Cert.Products

/-- The grid's last axis has one point, so the body stores the product and adds nothing to it. -/
theorem out_eq {F : FTy → Type} [FloatOps F] (c : Dev nD) (i : grid0.Coords) (a3 : Memref sig .tc .vmem S4096x896 .bf16) (h3 : a3.IsWhole)
    (a4 : Memref sig .tc .vmem S4096x512 .bf16) (h4 : a4.IsWhole) (a5 : Memref sig .tc .vmem S4096x512 .bf16) (h5 : a5.IsWhole)
    (a6 : Memref sig .tc .vmem S1x896x1024 .f32) (h6 : a6.IsWhole)
    (hc0 : cond0_0 i) (hc1 : ¬cond0_1 i) (x0 : Vec F S4096x896 .bf16) (x1 x2 : Vec F S4096x512 .bf16) :
    out0_A_3 c i a3 h3 a4 h4 a5 h5 a6 h6 hc0 hc1 x0 x1 x2 = k0_pay2 x0 x1 x2 := by
  unfold out0_A_3
  rw [View.read_writes_junk_eq_canon]
  unfold kernelRun0_A
  dsimp only
  sl_unfold_words
  rw [View.canon_unit_zero zeros3]
  simp only [View.readAt_eq_ld, h3.read_unread, h4.read_unread, h5.read_unread, View.ld_unit_zero (S := S4096x896) zeros2,
    View.ld_unit_zero (S := S4096x512) zeros2]

/-- The block's element: a column of the derivative against a column of the activations, of the first of the two
    blocks or of the second. -/
theorem pay_at (x0 : Vec Ideal S4096x896 .bf16) (x1 x2 : Vec Ideal S4096x512 .bf16) (p : Fin 896) (q : Fin 1024) :
    (k0_pay2 x0 x1 x2 (ix3 0 p q) : EReal) = ∑ k : Fin 4096, (x0 (ix2 k p) : EReal)
      * if h : q.val < 512 then x1 (ix2 k ⟨q, h⟩) else x2 (ix2 k ⟨q - 512, by omega⟩) := by
  pointwise [k0_pay2, k0_pay1]

variable (m : (ℓ : Loc nD τ sig) → Buf (Elt Ideal) ℓ)

theorem index0 : ∀ t : Fin cfg0.N, win0_0.index t = ![0, t.val] := by decide +kernel
theorem index1 : ∀ t : Fin cfg0.N, win0_1.index t = ![0, 1] := by decide +kernel
theorem index2 : ∀ t : Fin cfg0.N, win0_2.index t = ![0, 3] := by decide +kernel
theorem index3 : ∀ t : Fin cfg0.N, win0_3.index t = ![0, t.val, 0] := by decide +kernel

variable (c : Dev nD) (t : Fin cfg0.N)

theorem lt_points : t.val < 6 := t.isLt

theorem block0 (k : Fin 4096) (p : Fin 896) :
    (iblk m c 0 t : Vec Ideal S4096x896 .bf16) (ix2 k p) = (V m c main_arg0 : FVec Ideal S4096x5376 .bf16)
      (ix2 k ⟨896 * t.val + p, by have := lt_points t; omega⟩) := by
  blk_ext [iblk, index0 t]
theorem block1 (k : Fin 4096) (q : Fin 512) :
    (iblk m c 1 t : Vec Ideal S4096x512 .bf16) (ix2 k q) = (V m c main_arg1 : FVec Ideal S4096x2048 .bf16) (ix2 k ⟨512 + q, by omega⟩) := by
  blk_ext [iblk, index1 t]
theorem block2 (k : Fin 4096) (q : Fin 512) :
    (iblk m c 2 t : Vec Ideal S4096x512 .bf16) (ix2 k q) = (V m c main_arg1 : FVec Ideal S4096x2048 .bf16) (ix2 k ⟨1536 + q, by omega⟩) := by
  blk_ext [iblk, index2 t]

/-- The result's column `q` is this column of the whole gradient. -/
def col (q : Fin 1024) : Fin 2048 := if h : q.val < 512 then ⟨512 + q, by omega⟩ else ⟨1536 + (q - 512), by omega⟩

/-- The result as one function of the two arrays. -/
def G (P : FVec Ideal S4096x5376 .bf16) (H : FVec Ideal S4096x2048 .bf16) : FVec Ideal S1x5376x1024 .f32 :=
  fun y => ((∑ k : Fin 4096, (P (ix2 k (y 1)) : EReal) * H (ix2 k (col (y 2))) : EReal))

theorem array : (dats m 0 c).arrAt 3 cfg0.N = G (V m c main_arg0) (V m c main_arg1) := by
  refine (dats m 0 c).arrAt_eq_of_covers 3 _ (by decide +kernel) fun t hf y => ?_
  rw [after0_3]
  unfold outsAt0
  rw [out_eq]
  obtain ⟨z, p, q, rfl⟩ : ∃ (z : Fin 1) (p : Fin _) (q : Fin _), y = ix3 z p q := ⟨y 0, y 1, y 2, (ix3_eta y).symm⟩
  obtain rfl : z = 0 := Subsingleton.elim _ _
  refine (pay_at _ _ _ p q).trans ?_
  have e : ((cfg0.win 3).blk t).view.emb (ix3 0 p q) = ix3 0 ⟨896 * t.val + p, by have := lt_points t; omega⟩ q := by
    blk_ext [index3 t]
  rw [e]
  refine Finset.sum_congr rfl fun k _ => congrArg₂ (fun a b : EReal => a * b) (block0 m c t k p) ?_
  show _ = (V m c main_arg1 : FVec Ideal S4096x2048 .bf16) (ix2 k (col q))
  unfold col
  by_cases h : q.val < 512
  · rw [dif_pos h, dif_pos h]; exact block1 m c t k _
  · rw [dif_neg h, dif_neg h]; exact block2 m c t k _

/-- The run: the result and the arguments. -/
theorem run_array (ρ : Dev nD → PrngReg) :
    θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((array m c).trans (by rw [V_main_arg0, V_main_arg1])), (h c).2⟩)
    (run_blocks m ρ)

end Cert.InGrad1Ideal.Product

namespace Cert.InGrad1RefIdeal.Product

open Idealize.ShloMosaic Idealize.ShloMosaic.TcCoe Idealize.ShloMosaic.Tactic
open Cert.InGrad1RefIdeal.Gen Cert.InGrad1RefIdeal.Value Cert.Products

/-- The reference's result is the same function of the two arrays. -/
theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = Cert.InGrad1Ideal.Product.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (run (F := Ideal) m ρ)
  funext y
  obtain ⟨z, p, q, rfl⟩ : ∃ (z : Fin 1) (p : Fin _) (q : Fin _), y = ix3 z p q := ⟨y 0, y 1, y 2, (ix3_eta y).symm⟩
  obtain rfl : z = 0 := Subsingleton.elim _ _
  unfold Cert.InGrad1Ideal.Product.G
  pointwise []
  unfold Cert.InGrad1Ideal.Product.col
  by_cases h : q.val < 512
  · rw [dif_pos h, dif_pos h]; exact Fin.sum_univ_one _
  · rw [dif_neg h, dif_neg h]; exact Fin.sum_univ_one _

end Cert.InGrad1RefIdeal.Product

namespace Cert.InGrad1Ideal.Product

open Idealize.ShloMosaic Idealize.ShloMosaic.TcCoe

theorem frame : Cert.quiescent_InGrad1Ideal := fun m ρ _ => Gen.frame m ρ
theorem frame_ref : Cert.quiescent_InGrad1RefIdeal := fun m ρ _ =>
  (θ_run Cert.InGrad1RefIdeal.defs _ _).mono (fun r h => ⟨fun c => (h c).2, sem_eq_zero_of_no_sems (by decide) r.2⟩)
    (Cert.InGrad1RefIdeal.Product.result m ρ)
theorem algebraic : Cert.algebraic_InGrad1Ideal_InGrad1RefIdeal := by
  intro m g m' g' _ hagree
  refine ⟨_, run_array m g, ?_⟩
  refine (θ_run Cert.InGrad1RefIdeal.defs _ _).mono (fun r h c => ⟨(h c).1.trans ?_, (h c).2⟩) (Cert.InGrad1RefIdeal.Product.result m' g')
  rw [(hagree c).1, (hagree c).2]

end Cert.InGrad1Ideal.Product
-- ==== Proof.InBwd0.lean ====
/- The product that carries the derivative back through the input matrix, for the first half of the rows, summed
   over two halves of the inner axis: every element of the kernel's
   result is the reference's. -/
module

public import proofs.«01_k».proof.Defs
public import proofs.«01_k».proof.Proof.Gen.InBwd0Ideal.Frame
public import proofs.«01_k».proof.Proof.Gen.InBwd0RefIdeal.Run
public import proofs.«01_k».proof.Proof.Products

@[expose] public section

noncomputable section

namespace Cert.InBwd0Ideal.Product

open Idealize.ShloMosaic Idealize.ShloMosaic.TcCoe Idealize.ShloMosaic.Tactic
open Cert.InBwd0Ideal.Gen Cert.Products

section Body

variable {F : FTy → Type} [FloatOps F] (c : Dev nD) (i : grid0.Coords) (a3 : Memref sig .tc .vmem S1024x2688 .bf16) (h3 : a3.IsWhole)
    (a4 : Memref sig .tc .vmem S2688x1024 .bf16) (h4 : a4.IsWhole) (a5 : Memref sig .tc .vmem S1024x1024 .bf16) (h5 : a5.IsWhole)
    (a6 : Memref sig .tc .vmem S1024x1024 .f32) (h6 : a6.IsWhole) (x0 : Vec F S1024x2688 .bf16) (x1 : Vec F S2688x1024 .bf16)
    (xs : Vec F S1024x1024 .f32)

/-- At the first of the two blocks the accumulator is the block's product. -/
theorem first (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_junk_eq_canon]
  unfold kernelRun0_A
  dsimp only
  sl_unfold_words
  rw [View.canon_unit_zero zeros2]
  simp only [View.readAt_eq_ld, h3.read_unread, h4.read_unread, View.ld_unit_zero (S := S1024x2688) zeros2,
    View.ld_unit_zero (S := S2688x1024) zeros2]

/-- At the second the block's product is added to it. -/
theorem last (hc0 : ¬cond0_0 i) (hc1 : cond0_1 i) (hc2 : cond0_2 i) :
    sout0_B_0 c i a3 h3 a4 h4 a5 h5 a6 h6 hc0 hc1 hc2 x0 x1 xs = k0_pay3 x0 x1 xs := by
  unfold sout0_B_0
  rw [View.read_writes_junk_eq_canon]
  unfold kernelRun0_B
  dsimp only
  sl_unfold_words
  rw [View.canon_unit_zero zeros2]
  simp only [View.readAt_eq_ld, h3.read_unread, h4.read_unread, h6.read_unread, View.ld_unit_zero (S := S1024x2688) zeros2,
    View.ld_unit_zero (S := S2688x1024) zeros2, View.ld_unit_zero (S := S1024x1024) zeros2]

/-- There the accumulator is stored. -/
theorem stored (hc0 : ¬cond0_0 i) (hc1 : cond0_1 i) (hc2 : cond0_2 i) :
    out0_B_2 c i a3 h3 a4 h4 a5 h5 a6 h6 hc0 hc1 hc2 x0 x1 xs = k0_pay4 (k0_pay3 x0 x1 xs) := by
  unfold out0_B_2
  rw [View.read_writes_junk_eq_canon]
  unfold kernelRun0_B
  dsimp only
  sl_unfold_words
  rw [View.canon_unit_zero zeros2, View.readCov_unit_zero (S := S1024x1024) _ zeros2]
  simp only [View.readAt_eq_ld, h3.read_unread, h4.read_unread, h6.read_unread, View.ld_unit_zero (S := S1024x2688) zeros2,
    View.ld_unit_zero (S := S2688x1024) zeros2, View.ld_unit_zero (S := S1024x1024) zeros2]

end Body

/-- One block's product: a row of the derivative against a column of the transposed matrix. -/
theorem pay2_at (x0 : Vec Ideal S1024x2688 .bf16) (x1 : Vec Ideal S2688x1024 .bf16) (p q : Fin 1024) :
    (k0_pay2 x0 x1 (ix2 p q) : EReal) = ∑ k : Fin 2688, (x0 (ix2 p k) : EReal) * x1 (ix2 k q) := by
  pointwise [k0_pay2, k0_pay1]
theorem pay3_at (x0 : Vec Ideal S1024x2688 .bf16) (x1 : Vec Ideal S2688x1024 .bf16) (xs : Vec Ideal S1024x1024 .f32) (p q : Fin 1024) :
    (k0_pay3 x0 x1 xs (ix2 p q) : EReal) = xs (ix2 p q) + k0_pay2 x0 x1 (ix2 p q) := by
  pointwise [k0_pay3, k0_pay2, k0_pay1]
theorem pay4_at (xs : Vec Ideal S1024x1024 .f32) (p q : Fin 1024) : (k0_pay4 xs (ix2 p q) : EReal) = xs (ix2 p q) := by
  pointwise [k0_pay4]

variable (m : (ℓ : Loc nD τ sig) → Buf (Elt Ideal) ℓ)

theorem index0 : ∀ t : Fin cfg0.N, win0_0.index t = ![t.val / 4, t.val % 2] := by decide +kernel
theorem index1 : ∀ t : Fin cfg0.N, win0_1.index t = ![t.val % 2, t.val % 4 / 2] := by decide +kernel
theorem index2 : ∀ t : Fin cfg0.N, win0_2.index t = ![t.val / 4, t.val % 4 / 2] := by decide +kernel

variable (c : Dev nD) (t : Fin cfg0.N)

theorem lt_points : t.val < 8 := t.isLt

/-- The row and the column of the whole arrays, at a point's block. -/
def row (p : Fin 1024) : Fin 4096 := ⟨1024 * (t.val / 4) + p, by have := lt_points t; omega⟩
def col (q : Fin 1024) : Fin 2048 := ⟨1024 * (t.val % 4 / 2) + q, by omega⟩

theorem block0 (p : Fin 1024) (k : Fin 2688) :
    (iblk m c 0 t : Vec Ideal S1024x2688 .bf16) (ix2 p k) = (V m c main_arg0 : FVec Ideal S4096x5376 .bf16)
      (ix2 (row t p) ⟨2688 * (t.val % 2) + k, by omega⟩) := by
  unfold row
  blk_ext [iblk, index0 t]
theorem block1 (k : Fin 2688) (q : Fin 1024) :
    (iblk m c 1 t : Vec Ideal S2688x1024 .bf16) (ix2 k q) = (V m c main_arg1 : FVec Ideal S5376x2048 .bf16)
      (ix2 ⟨2688 * (t.val % 2) + k, by omega⟩ (col t q)) := by
  unfold col
  blk_ext [iblk, index1 t]

/-- The term of the whole product's sum. -/
def term (U : FVec Ideal S4096x5376 .bf16) (W : FVec Ideal S5376x2048 .bf16) (p : Fin 4096) (q : Fin 2048) (k : Fin 5376) : EReal :=
  (U (ix2 p k) : EReal) * W (ix2 k q)

/-- Block `i` of the whole product's sum. -/
def part (U : FVec Ideal S4096x5376 .bf16) (W : FVec Ideal S5376x2048 .bf16) (p : Fin 4096) (q : Fin 2048) (i : ℕ) : EReal :=
  ∑ k : Fin 2688, term U W p q ⟨2688 * (i % 2) + k, by omega⟩

/-- The product as one function of the two arrays, and its first half of the rows. -/
def full (U : FVec Ideal S4096x5376 .bf16) (W : FVec Ideal S5376x2048 .bf16) : FVec Ideal S4096x2048 .bf16 :=
  fun y => (∑ k : Fin 5376, term U W (y 0) (y 1) k : EReal)
theorem full_at (U : FVec Ideal S4096x5376 .bf16) (W : FVec Ideal S5376x2048 .bf16) (p : Fin 4096) (q : Fin 2048) :
    (full U W (ix2 p q) : EReal) = ∑ k : Fin 5376, term U W p q k := rfl
def G (U : FVec Ideal S4096x5376 .bf16) (W : FVec Ideal S5376x2048 .bf16) : FVec Ideal S2048x2048 .bf16 :=
  fun y => (∑ k : Fin 5376, term U W ⟨(y 0).val, lt_trans (y 0).isLt (by decide)⟩ (y 1) k : EReal)

theorem whole (U : FVec Ideal S4096x5376 .bf16) (W : FVec Ideal S5376x2048 .bf16) (p : Fin 4096) (q : Fin 2048) :
    ∑ k : Fin 5376, term U W p q k = ∑ i ∈ Finset.range 2, part U W p q i := by
  rw [sum_blocks (a := 2) (b := 2688) rfl, Finset.sum_range]
  refine Finset.sum_congr rfl fun i _ => ?_
  unfold part
  refine Finset.sum_congr rfl fun k _ => congrArg (term U W p q) (Fin.ext ?_)
  have : i.val % 2 = i.val := Nat.mod_eq_of_lt i.isLt
  dsimp only
  omega

/-- A point's product is its block of the sum. -/
theorem point (p q : Fin 1024) : (k0_pay2 (iblk m c 0 t) (iblk m c 1 t) (ix2 p q) : EReal)
    = part (V m c main_arg0) (V m c main_arg1) (row t p) (col t q) (t.val % 2) := by
  refine (pay2_at _ _ p q).trans ?_
  unfold part term
  refine Finset.sum_congr rfl fun k _ => (congrArg₂ (fun a b : EReal => a * b) (block0 m c t p k) (block1 m c t k q)).trans ?_
  simp only [Nat.mod_mod]

/-- What the accumulator holds after a point: the blocks of the sum so far. -/
theorem held (p q : Fin 1024) : ∀ (n : ℕ) (h : n < cfg0.N), ((outsAt0 m c n h).2 (ix2 p q) : EReal)
    = ∑ i ∈ Finset.range (n % 2 + 1), part (V m c main_arg0) (V m c main_arg1) (row ⟨n, h⟩ p) (col ⟨n, h⟩ q) i := by
  intro n
  induction n with
  | zero =>
    intro h
    rw [outsAt0_A m c ⟨0, h⟩ rfl (by dsimp only; omega) (by dsimp only; omega)]
    dsimp only
    rw [first, Nat.zero_mod, Finset.sum_range_one]
    exact point m c ⟨0, h⟩ p q
  | succ n ih =>
    intro h
    by_cases h0 : (n + 1) % 2 = 0
    · rw [outsAt0_A m c ⟨n + 1, h⟩ h0 (by dsimp only; omega) (by dsimp only; omega)]
      dsimp only
      rw [first, h0, Finset.sum_range_one]
      refine (point m c ⟨n + 1, h⟩ p q).trans ?_
      dsimp only
      rw [h0]
    · have hn : n < cfg0.N := Nat.lt_of_succ_lt h
      have e : (n + 1) % 2 = n % 2 + 1 := by omega
      have er : row ⟨n + 1, h⟩ p = row ⟨n, hn⟩ p := Fin.ext (by unfold row; dsimp only; omega)
      have ec : col ⟨n + 1, h⟩ q = col ⟨n, hn⟩ q := Fin.ext (by unfold col; dsimp only; omega)
      have step : ((k0_pay3 (iblk m c 0 ⟨n + 1, h⟩) (iblk m c 1 ⟨n + 1, h⟩) (outsAt0 m c n hn).2 : Vec Ideal S1024x1024 .f32) (ix2 p q) : EReal)
          = ∑ i ∈ Finset.range ((n + 1) % 2 + 1), part (V m c main_arg0) (V m c main_arg1) (row ⟨n + 1, h⟩ p) (col ⟨n + 1, h⟩ q) i := by
        rw [Finset.sum_range_succ]
        refine (pay3_at _ _ _ p q).trans ?_
        refine congrArg₂ (fun a b : EReal => a + b) ((ih hn).trans ?_) (point m c ⟨n + 1, h⟩ p q)
        rw [e, er, ec]
      rw [outsAt0_B m c ⟨n + 1, h⟩ h0 (by dsimp only; omega) (by dsimp only; omega)]
      dsimp only
      rw [last]
      exact step

/-- What the second of the two points stores is what the accumulator then holds. -/
theorem stored_at (h : t.val % 2 = 1) (p q : Fin 1024) :
    ((outsAt0 m c t.val t.isLt).1 (ix2 p q) : EReal) = (outsAt0 m c t.val t.isLt).2 (ix2 p q) := by
  rw [outsAt0_B m c t (by omega) h h]
  dsimp only
  rw [last, stored]
  exact pay4_at _ p q

/-- The block of a point that writes, in the array. -/
theorem emb_at (p q : Fin 1024) : ((cfg0.win 2).blk t).view.emb (ix2 p q) = ix2 (row t p) (col t q) := by
  unfold row col
  blk_ext [index2 t]

/-- What a point writes is the block of the product. -/
theorem written (hf : (cfg0.win 2).flush t = true) :
    (dats m 0 c).flushed 2 t = ((cfg0.win 2).blk t).view.read (Elt Ideal) (full (V m c main_arg0) (V m c main_arg1)) := by
  have hm : t.val % 2 = 1 := (flush0_2 t).mp hf
  have e : (dats m 0 c).flushed 2 t = (cfg0.win 2).cut (grid0.coords t) ((outsAt0 m c t.val t.isLt).1) := by
    show (cfg0.win 2).cut (grid0.coords t) ((dats m 0 c).after 2 t) = _
    rw [after0_2]
  rw [e]
  funext y
  obtain ⟨p, q, rfl⟩ : ∃ (p : Fin 1024) (q : Fin 1024), y = ix2 p q := ⟨y 0, y 1, (ix2_eta y).symm⟩
  refine (stored_at m c t hm p q).trans ((held m c p q t.val t.isLt).trans ?_)
  rw [hm, View.read_apply, emb_at t p q]
  refine (whole _ _ _ _).symm.trans ?_
  refine Eq.trans ?_ (cast_eq rfl _).symm
  exact (full_at (V m c main_arg0) (V m c main_arg1) (row t p) (col t q)).symm

/-- The second of the two points writes. -/
theorem flushes (t : Fin cfg0.N) (h : t.val % 2 = 1) : (cfg0.win 2).flush t = true := (flush0_2 t).mpr h

/-- The array after the call, in its first half of the rows. -/
theorem array (p : Fin 4096) (q : Fin 2048) (h : p.val < 2048) :
    (dats m 0 c).arrAt 2 cfg0.N (ix2 p q) = full (V m c main_arg0) (V m c main_arg1) (ix2 p q) := by
  have ht : 4 * (p.val / 1024) + 2 * (q.val / 1024) + 1 < cfg0.N := (show _ < 8 by omega)
  have ep : row ⟨_, ht⟩ ⟨p.val % 1024, by omega⟩ = p := Fin.ext (by unfold row; dsimp only; omega)
  have eq : col ⟨_, ht⟩ ⟨q.val % 1024, by omega⟩ = q := Fin.ext (by unfold col; dsimp only; omega)
  refine (dats m 0 c).arrAt_apply_of_mem 2 _ (written m c ·) cfg0.N ⟨_, ht⟩ _ ht (flushes _ (by dsimp only; omega)) ?_
  have w := ((cfg0.win 2).blk ⟨_, ht⟩).view.emb_mem_set (ix2 ⟨p.val % 1024, by omega⟩ ⟨q.val % 1024, by omega⟩)
  rw [emb_at, ep, eq] at w
  exact w

/-- A slice of the first half of an array's rows reads them. -/
theorem half (A : FVec Ideal S4096x2048 .bf16) (p q : Fin 2048) :
    extractStridedSlice S2048x2048 ![0, 0] A slices_S4096x2048_S2048x2048_0_0 (ix2 p q) = A (ix2 ⟨p.val, by omega⟩ q) := by
  pointwise []

/-- The slice that follows the call reads the half of the rows that the call wrote. -/
theorem sliced : Pipeline.afterTail₀ cfgs (dats m) 0 (V0 m) [hostOps1] c main_v1
    = G (V m c main_arg0) (V m c main_arg1) := by
  show StableHlo.after hostOps1 _ (Proc.tc.devRef main_v1) = _
  rw [StableHlo.after_cons, StableHlo.after_nil, StableHlo.unary_result]
  have e := Pipeline.withArrays_arr spec0 (by decide) c (V0 m c) (fun w => (dats m 0 c).arrAt w cfg0.N) 2
  funext y
  obtain ⟨p, q, rfl⟩ : ∃ (p : Fin 2048) (q : Fin 2048), y = ix2 p q := ⟨y 0, y 1, (ix2_eta y).symm⟩
  have a := (congrFun e (ix2 ⟨p.val, by omega⟩ q)).trans (array m c ⟨p.val, by omega⟩ q p.isLt)
  exact (half _ p q).trans a

/-- The run: the result and the arguments. -/
theorem run_array (ρ : Dev nD → PrngReg) :
    θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v1 (Pipeline.mem_restRefs_of main_v1 (by decide) (by decide))).trans (sliced m c),
      ((h c).1 0).trans (((dats m 0 c).arrAt_in 0 rfl _).trans (A_eq m c 0)),
      ((h c).1 1).trans (((dats m 0 c).arrAt_in 1 rfl _).trans (A_eq m c 1))⟩)
    (run_main m ρ)

end Cert.InBwd0Ideal.Product

namespace Cert.InBwd0RefIdeal.Product

open Idealize.ShloMosaic Idealize.ShloMosaic.TcCoe Idealize.ShloMosaic.Tactic
open Cert.InBwd0RefIdeal.Gen Cert.InBwd0RefIdeal.Value Cert.Products

/-- The reference's result is the same function of the two arrays. -/
theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = Cert.InBwd0Ideal.Product.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (run (F := Ideal) m ρ)
  funext y
  obtain ⟨p, q, rfl⟩ : ∃ (p : Fin 2048) (q : Fin 2048), y = ix2 p q := ⟨y 0, y 1, (ix2_eta y).symm⟩
  unfold Cert.InBwd0Ideal.Product.G
  pointwise []
  rfl

end Cert.InBwd0RefIdeal.Product

namespace Cert.InBwd0Ideal.Product

open Idealize.ShloMosaic Idealize.ShloMosaic.TcCoe

theorem frame : Cert.quiescent_InBwd0Ideal := fun m ρ _ => Gen.frame m ρ
theorem frame_ref : Cert.quiescent_InBwd0RefIdeal := fun m ρ _ =>
  (θ_run Cert.InBwd0RefIdeal.defs _ _).mono (fun r h => ⟨fun c => (h c).2, sem_eq_zero_of_no_sems (by decide) r.2⟩)
    (Cert.InBwd0RefIdeal.Product.result m ρ)
theorem algebraic : Cert.algebraic_InBwd0Ideal_InBwd0RefIdeal := by
  intro m g m' g' _ hagree
  refine ⟨_, run_array m g, ?_⟩
  refine (θ_run Cert.InBwd0RefIdeal.defs _ _).mono (fun r h c => ⟨(h c).1.trans ?_, (h c).2⟩) (Cert.InBwd0RefIdeal.Product.result m' g')
  rw [(hagree c).1, (hagree c).2]

end Cert.InBwd0Ideal.Product

end
-- ==== Proof.InBwd1.lean ====
/- The product that carries the derivative back through the input matrix, for the second half of the rows, summed
   over two halves of the inner axis: every element of the kernel's
   result is the reference's. -/
module

public import proofs.«01_k».proof.Defs
public import proofs.«01_k».proof.Proof.Gen.InBwd1Ideal.Value
public import proofs.«01_k».proof.Proof.Gen.InBwd1RefIdeal.Run
public import proofs.«01_k».proof.Proof.Products

@[expose] public section

noncomputable section

namespace Cert.InBwd1Ideal.Product

open Idealize.ShloMosaic Idealize.ShloMosaic.TcCoe Idealize.ShloMosaic.Tactic
open Cert.InBwd1Ideal.Gen Cert.InBwd1Ideal.Value Cert.Products

section Body

variable {F : FTy → Type} [FloatOps F] (c : Dev nD) (i : grid0.Coords) (a3 : Memref sig .tc .vmem S1024x2688 .bf16) (h3 : a3.IsWhole)
    (a4 : Memref sig .tc .vmem S2688x1024 .bf16) (h4 : a4.IsWhole) (a5 : Memref sig .tc .vmem S1024x1024 .bf16) (h5 : a5.IsWhole)
    (a6 : Memref sig .tc .vmem S1024x1024 .f32) (h6 : a6.IsWhole) (x0 : Vec F S1024x2688 .bf16) (x1 : Vec F S2688x1024 .bf16)
    (xs : Vec F S1024x1024 .f32)

/-- At the first of the two blocks the accumulator is the block's product. -/
theorem first (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_junk_eq_canon]
  unfold kernelRun0_A
  dsimp only
  sl_unfold_words
  rw [View.canon_unit_zero zeros2]
  simp only [View.readAt_eq_ld, h3.read_unread, h4.read_unread, View.ld_unit_zero (S := S1024x2688) zeros2,
    View.ld_unit_zero (S := S2688x1024) zeros2]

/-- At the second the block's product is added to it. -/
theorem last (hc0 : ¬cond0_0 i) (hc1 : cond0_1 i) (hc2 : cond0_2 i) :
    sout0_B_0 c i a3 h3 a4 h4 a5 h5 a6 h6 hc0 hc1 hc2 x0 x1 xs = k0_pay3 x0 x1 xs := by
  unfold sout0_B_0
  rw [View.read_writes_junk_eq_canon]
  unfold kernelRun0_B
  dsimp only
  sl_unfold_words
  rw [View.canon_unit_zero zeros2]
  simp only [View.readAt_eq_ld, h3.read_unread, h4.read_unread, h6.read_unread, View.ld_unit_zero (S := S1024x2688) zeros2,
    View.ld_unit_zero (S := S2688x1024) zeros2, View.ld_unit_zero (S := S1024x1024) zeros2]

/-- There the accumulator is stored. -/
theorem stored (hc0 : ¬cond0_0 i) (hc1 : cond0_1 i) (hc2 : cond0_2 i) :
    out0_B_2 c i a3 h3 a4 h4 a5 h5 a6 h6 hc0 hc1 hc2 x0 x1 xs = k0_pay4 (k0_pay3 x0 x1 xs) := by
  unfold out0_B_2
  rw [View.read_writes_junk_eq_canon]
  unfold kernelRun0_B
  dsimp only
  sl_unfold_words
  rw [View.canon_unit_zero zeros2, View.readCov_unit_zero (S := S1024x1024) _ zeros2]
  simp only [View.readAt_eq_ld, h3.read_unread, h4.read_unread, h6.read_unread, View.ld_unit_zero (S := S1024x2688) zeros2,
    View.ld_unit_zero (S := S2688x1024) zeros2, View.ld_unit_zero (S := S1024x1024) zeros2]

end Body

/-- One block's product: a row of the derivative against a column of the transposed matrix. -/
theorem pay2_at (x0 : Vec Ideal S1024x2688 .bf16) (x1 : Vec Ideal S2688x1024 .bf16) (p q : Fin 1024) :
    (k0_pay2 x0 x1 (ix2 p q) : EReal) = ∑ k : Fin 2688, (x0 (ix2 p k) : EReal) * x1 (ix2 k q) := by
  pointwise [k0_pay2, k0_pay1]
theorem pay3_at (x0 : Vec Ideal S1024x2688 .bf16) (x1 : Vec Ideal S2688x1024 .bf16) (xs : Vec Ideal S1024x1024 .f32) (p q : Fin 1024) :
    (k0_pay3 x0 x1 xs (ix2 p q) : EReal) = xs (ix2 p q) + k0_pay2 x0 x1 (ix2 p q) := by
  pointwise [k0_pay3, k0_pay2, k0_pay1]
theorem pay4_at (xs : Vec Ideal S1024x1024 .f32) (p q : Fin 1024) : (k0_pay4 xs (ix2 p q) : EReal) = xs (ix2 p q) := by
  pointwise [k0_pay4]

variable (m : (ℓ : Loc nD τ sig) → Buf (Elt Ideal) ℓ)

theorem index0 : ∀ t : Fin cfg0.N, win0_0.index t = ![t.val / 4 + 2, t.val % 2] := by decide +kernel
theorem index1 : ∀ t : Fin cfg0.N, win0_1.index t = ![t.val % 2, t.val % 4 / 2] := by decide +kernel
theorem index2 : ∀ t : Fin cfg0.N, win0_2.index t = ![t.val / 4 + 2, t.val % 4 / 2] := by decide +kernel

variable (c : Dev nD) (t : Fin cfg0.N)

theorem lt_points : t.val < 8 := t.isLt

/-- The row and the column of the whole arrays, at a point's block. -/
def row (p : Fin 1024) : Fin 4096 := ⟨1024 * (t.val / 4 + 2) + p, by have := lt_points t; omega⟩
def col (q : Fin 1024) : Fin 2048 := ⟨1024 * (t.val % 4 / 2) + q, by omega⟩

theorem block0 (p : Fin 1024) (k : Fin 2688) :
    (iblk m c 0 t : Vec Ideal S1024x2688 .bf16) (ix2 p k) = (V m c main_arg0 : FVec Ideal S4096x5376 .bf16)
      (ix2 (row t p) ⟨2688 * (t.val % 2) + k, by omega⟩) := by
  unfold row
  blk_ext [iblk, index0 t]
theorem block1 (k : Fin 2688) (q : Fin 1024) :
    (iblk m c 1 t : Vec Ideal S2688x1024 .bf16) (ix2 k q) = (V m c main_arg1 : FVec Ideal S5376x2048 .bf16)
      (ix2 ⟨2688 * (t.val % 2) + k, by omega⟩ (col t q)) := by
  unfold col
  blk_ext [iblk, index1 t]

/-- The term of the whole product's sum. -/
def term (U : FVec Ideal S4096x5376 .bf16) (W : FVec Ideal S5376x2048 .bf16) (p : Fin 4096) (q : Fin 2048) (k : Fin 5376) : EReal :=
  (U (ix2 p k) : EReal) * W (ix2 k q)

/-- Block `i` of the whole product's sum. -/
def part (U : FVec Ideal S4096x5376 .bf16) (W : FVec Ideal S5376x2048 .bf16) (p : Fin 4096) (q : Fin 2048) (i : ℕ) : EReal :=
  ∑ k : Fin 2688, term U W p q ⟨2688 * (i % 2) + k, by omega⟩

/-- The result as one function of the three arrays: the given one's first half of the rows, and the product's second. -/
def G (U : FVec Ideal S4096x5376 .bf16) (W : FVec Ideal S5376x2048 .bf16) (H : FVec Ideal S4096x2048 .bf16) : FVec Ideal S4096x2048 .bf16 :=
  fun y => (if (y 0).val < 2048 then H y else ∑ k : Fin 5376, term U W (y 0) (y 1) k : EReal)

theorem whole (U : FVec Ideal S4096x5376 .bf16) (W : FVec Ideal S5376x2048 .bf16) (p : Fin 4096) (q : Fin 2048) :
    ∑ k : Fin 5376, term U W p q k = ∑ i ∈ Finset.range 2, part U W p q i := by
  rw [sum_blocks (a := 2) (b := 2688) rfl, Finset.sum_range]
  refine Finset.sum_congr rfl fun i _ => ?_
  unfold part
  refine Finset.sum_congr rfl fun k _ => congrArg (term U W p q) (Fin.ext ?_)
  have : i.val % 2 = i.val := Nat.mod_eq_of_lt i.isLt
  dsimp only
  omega

/-- A point's product is its block of the sum. -/
theorem point (p q : Fin 1024) : (k0_pay2 (iblk m c 0 t) (iblk m c 1 t) (ix2 p q) : EReal)
    = part (V m c main_arg0) (V m c main_arg1) (row t p) (col t q) (t.val % 2) := by
  refine (pay2_at _ _ p q).trans ?_
  unfold part term
  refine Finset.sum_congr rfl fun k _ => (congrArg₂ (fun a b : EReal => a * b) (block0 m c t p k) (block1 m c t k q)).trans ?_
  simp only [Nat.mod_mod]

/-- What the accumulator holds after a point: the blocks of the sum so far. -/
theorem held (p q : Fin 1024) : ∀ (n : ℕ) (h : n < cfg0.N), ((outsAt0 m c n h).2 (ix2 p q) : EReal)
    = ∑ i ∈ Finset.range (n % 2 + 1), part (V m c main_arg0) (V m c main_arg1) (row ⟨n, h⟩ p) (col ⟨n, h⟩ q) i := by
  intro n
  induction n with
  | zero =>
    intro h
    rw [outsAt0_A m c ⟨0, h⟩ rfl (by dsimp only; omega) (by dsimp only; omega)]
    dsimp only
    rw [first, Nat.zero_mod, Finset.sum_range_one]
    exact point m c ⟨0, h⟩ p q
  | succ n ih =>
    intro h
    by_cases h0 : (n + 1) % 2 = 0
    · rw [outsAt0_A m c ⟨n + 1, h⟩ h0 (by dsimp only; omega) (by dsimp only; omega)]
      dsimp only
      rw [first, h0, Finset.sum_range_one]
      refine (point m c ⟨n + 1, h⟩ p q).trans ?_
      dsimp only
      rw [h0]
    · have hn : n < cfg0.N := Nat.lt_of_succ_lt h
      have e : (n + 1) % 2 = n % 2 + 1 := by omega
      have er : row ⟨n + 1, h⟩ p = row ⟨n, hn⟩ p := Fin.ext (by unfold row; dsimp only; omega)
      have ec : col ⟨n + 1, h⟩ q = col ⟨n, hn⟩ q := Fin.ext (by unfold col; dsimp only; omega)
      have step : ((k0_pay3 (iblk m c 0 ⟨n + 1, h⟩) (iblk m c 1 ⟨n + 1, h⟩) (outsAt0 m c n hn).2 : Vec Ideal S1024x1024 .f32) (ix2 p q) : EReal)
          = ∑ i ∈ Finset.range ((n + 1) % 2 + 1), part (V m c main_arg0) (V m c main_arg1) (row ⟨n + 1, h⟩ p) (col ⟨n + 1, h⟩ q) i := by
        rw [Finset.sum_range_succ]
        refine (pay3_at _ _ _ p q).trans ?_
        refine congrArg₂ (fun a b : EReal => a + b) ((ih hn).trans ?_) (point m c ⟨n + 1, h⟩ p q)
        rw [e, er, ec]
      rw [outsAt0_B m c ⟨n + 1, h⟩ h0 (by dsimp only; omega) (by dsimp only; omega)]
      dsimp only
      rw [last]
      exact step

/-- What the second of the two points stores is what the accumulator then holds. -/
theorem stored_at (h : t.val % 2 = 1) (p q : Fin 1024) :
    ((outsAt0 m c t.val t.isLt).1 (ix2 p q) : EReal) = (outsAt0 m c t.val t.isLt).2 (ix2 p q) := by
  rw [outsAt0_B m c t (by omega) h h]
  dsimp only
  rw [last, stored]
  exact pay4_at _ p q

/-- The block of a point that writes, in the array. -/
theorem emb_at (p q : Fin 1024) : ((cfg0.win 2).blk t).view.emb (ix2 p q) = ix2 (row t p) (col t q) := by
  unfold row col
  blk_ext [index2 t]

/-- What a point writes is the block of the result. -/
theorem written (H : FVec Ideal S4096x2048 .bf16) (hf : (cfg0.win 2).flush t = true) :
    (dats m 0 c).flushed 2 t = ((cfg0.win 2).blk t).view.read (Elt Ideal) (G (V m c main_arg0) (V m c main_arg1) H) := by
  have hm : t.val % 2 = 1 := (flush0_2 t).mp hf
  rw [flushed2]
  funext y
  obtain ⟨p, q, rfl⟩ : ∃ (p : Fin 1024) (q : Fin 1024), y = ix2 p q := ⟨y 0, y 1, (ix2_eta y).symm⟩
  refine (stored_at m c t hm p q).trans ((held m c p q t.val t.isLt).trans ?_)
  rw [hm, View.read_apply]
  refine (whole _ _ _ _).symm.trans ?_
  rw [emb_at t p q]
  refine (if_neg ?_).symm
  show ¬(row t p).val < 2048
  unfold row
  dsimp only
  omega

/-- The second of the two points writes. -/
theorem flushes (t : Fin cfg0.N) (h : t.val % 2 = 1) : (cfg0.win 2).flush t = true := (flush0_2 t).mpr h

/-- The result's array, on entry, is the array given to be written into. -/
theorem entry : V m c main_v0 = m ((c : Thread nD τ).loc main_arg2) := by
  show StableHlo.after hostOps0 _ (Proc.tc.devRef main_v0) = _
  rw [StableHlo.after_cons, StableHlo.after_nil, StableHlo.unary_result]
  rfl

/-- The array after the run. -/
theorem array : (dats m 0 c).arrAt 2 cfg0.N = G (V m c main_arg0) (V m c main_arg1) (m ((c : Thread nD τ).loc main_arg2)) := by
  funext y
  obtain ⟨p, q, rfl⟩ : ∃ (p : Fin 4096) (q : Fin 2048), y = ix2 p q := ⟨y 0, y 1, (ix2_eta y).symm⟩
  by_cases h : p.val < 2048
  · refine Eq.trans ?_ (if_pos h).symm
    refine (entry2 m c _ fun t hf hi => ?_).trans ?_
    · obtain ⟨y, hy⟩ := View.exists_emb_of_mem_set _ hi
      obtain ⟨a, b, rfl⟩ : ∃ (a : Fin 1024) (b : Fin 1024), y = ix2 a b := ⟨y 0, y 1, (ix2_eta y).symm⟩
      rw [emb_at t a b] at hy
      have e : (row t a).val = p.val := congrArg (fun i => (i 0).val) hy
      unfold row at e
      dsimp only at e
      omega
    · exact congrFun (entry m c) _
  · have ht : 4 * ((p.val - 2048) / 1024) + 2 * (q.val / 1024) + 1 < cfg0.N := (show _ < 8 by omega)
    have ep : row ⟨_, ht⟩ ⟨p.val % 1024, by omega⟩ = p := Fin.ext (by unfold row; dsimp only; omega)
    have eq : col ⟨_, ht⟩ ⟨q.val % 1024, by omega⟩ = q := Fin.ext (by unfold col; dsimp only; omega)
    refine (dats m 0 c).arrAt_apply_of_mem 2 _ (written m c · _) cfg0.N ⟨_, ht⟩ _ ht (flushes _ (by dsimp only; omega)) ?_
    have w := ((cfg0.win 2).blk ⟨_, ht⟩).view.emb_mem_set (ix2 ⟨p.val % 1024, by omega⟩ ⟨q.val % 1024, by omega⟩)
    rw [emb_at, ep, eq] at w
    exact w

/-- The run: the result and the arguments. -/
theorem run_array (ρ : Dev nD → PrngReg) :
    θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((array m c).trans (by rw [V_main_arg0, V_main_arg1])), (h c).2⟩)
    (run_blocks m ρ)

end Cert.InBwd1Ideal.Product

namespace Cert.InBwd1RefIdeal.Product

open Idealize.ShloMosaic Idealize.ShloMosaic.TcCoe Idealize.ShloMosaic.Tactic
open Cert.InBwd1RefIdeal.Gen Cert.InBwd1RefIdeal.Value Cert.Products

/-- The reference's result is the same function of the three arrays. -/
theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = Cert.InBwd1Ideal.Product.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (run (F := Ideal) m ρ)
  funext y
  obtain ⟨p, q, rfl⟩ : ∃ p q, y = ix2 p q := ⟨y 0, y 1, (ix2_eta y).symm⟩
  unfold Cert.InBwd1Ideal.Product.G
  pointwise []
  by_cases h : p.val < 2048
  · rw [dif_pos h]
    exact (if_pos h).symm
  · rw [dif_neg h]
    refine Eq.trans ?_ (if_neg h).symm
    have e : 2048 + (p.val - 2048) = p.val := by omega
    simp only [e]
    rfl

end Cert.InBwd1RefIdeal.Product

namespace Cert.InBwd1Ideal.Product

open Idealize.ShloMosaic Idealize.ShloMosaic.TcCoe

theorem frame : Cert.quiescent_InBwd1Ideal := fun m ρ _ => Gen.frame m ρ
theorem frame_ref : Cert.quiescent_InBwd1RefIdeal := fun m ρ _ =>
  (θ_run Cert.InBwd1RefIdeal.defs _ _).mono (fun r h => ⟨fun c => (h c).2, sem_eq_zero_of_no_sems (by decide) r.2⟩)
    (Cert.InBwd1RefIdeal.Product.result m ρ)
theorem algebraic : Cert.algebraic_InBwd1Ideal_InBwd1RefIdeal := by
  intro m g m' g' _ hagree
  refine ⟨_, run_array m g, ?_⟩
  refine (θ_run Cert.InBwd1RefIdeal.defs _ _).mono (fun r h c => ⟨(h c).1.trans ?_, (h c).2⟩) (Cert.InBwd1RefIdeal.Product.result m' g')
  rw [(hagree c).1, (hagree c).2.1, (hagree c).2.2]

end Cert.InBwd1Ideal.Product

end
-- ==== Proof.InFwd.lean ====
/- The product of the normalised input with the input matrix: every element of the kernel's
   result is the reference's. -/
module

public import proofs.«01_k».proof.Defs
public import proofs.«01_k».proof.Proof.Gen.InFwdIdeal.Value
public import proofs.«01_k».proof.Proof.Gen.InFwdRefIdeal.Run
public import proofs.«01_k».proof.Proof.Products

@[expose] public section

noncomputable section

namespace Cert.InFwdIdeal.Product

open Idealize.ShloMosaic Idealize.ShloMosaic.TcCoe Idealize.ShloMosaic.Tactic
open Cert.InFwdIdeal.Gen Cert.InFwdIdeal.Value Cert.Products

/-- What the body leaves in its output block is its one payload of the two input blocks. -/
theorem out_eq {F : FTy → Type} [FloatOps F] (c : Dev nD) (i : grid0.Coords) (a3 : Memref sig .tc .vmem S1024x2048 .bf16) (h3 : a3.IsWhole)
    (a4 : Memref sig .tc .vmem S768x2048 .bf16) (h4 : a4.IsWhole) (a5 : Memref sig .tc .vmem S1024x768 .f32) (h5 : a5.IsWhole)
    (a6 : Memref sig .tc .vmem S8x128 .f32) (h6 : a6.IsWhole) (x0 : Vec F S1024x2048 .bf16) (x1 : Vec F S768x2048 .bf16) :
    out0_A_2 c i a3 h3 a4 h4 a5 h5 a6 h6 x0 x1 = k0_pay1 x0 x1 := by
  unfold out0_A_2
  rw [View.read_writes_junk_eq_canon]
  unfold kernelRun0_A
  dsimp only
  sl_unfold_words
  rw [View.canon_unit_zero zeros2]
  simp only [View.readAt_eq_ld, h3.read_unread, h4.read_unread, View.ld_unit_zero (S := S1024x2048) zeros2,
    View.ld_unit_zero (S := S768x2048) zeros2]

/-- The payload's element: a row of the activations against a row of the transposed matrix. -/
theorem pay_at (x0 : Vec Ideal S1024x2048 .bf16) (x1 : Vec Ideal S768x2048 .bf16) (p : Fin 1024) (q : Fin 768) :
    (k0_pay1 x0 x1 (ix2 p q) : EReal) = ∑ k : Fin 2048, (x0 (ix2 p k) : EReal) * x1 (ix2 q k) := by
  pointwise [k0_pay1]

variable (m : (ℓ : Loc nD τ sig) → Buf (Elt Ideal) ℓ)

theorem index0 : ∀ t : Fin cfg0.N, win0_0.index t = ![t.val / 7, 0] := by decide +kernel
theorem index1 : ∀ t : Fin cfg0.N, win0_1.index t = ![t.val % 7, 0] := by decide +kernel
theorem index2 : ∀ t : Fin cfg0.N, win0_2.index t = ![t.val / 7, t.val % 7] := by decide +kernel

variable (c : Dev nD) (t : Fin cfg0.N)

theorem lt_points : t.val < 28 := t.isLt

theorem block0 (p : Fin 1024) (k : Fin 2048) :
    (iblk m c 0 t : Vec Ideal S1024x2048 .bf16) (ix2 p k) = (V m c main_arg0 : FVec Ideal S4096x2048 .bf16)
      (ix2 ⟨1024 * (t.val / 7) + p, by have := lt_points t; omega⟩ k) := by
  blk_ext [iblk, index0 t]
theorem block1 (q : Fin 768) (k : Fin 2048) :
    (iblk m c 1 t : Vec Ideal S768x2048 .bf16) (ix2 q k) = (V m c main_arg1 : FVec Ideal S5376x2048 .bf16)
      (ix2 ⟨768 * (t.val % 7) + q, by omega⟩ k) := by
  blk_ext [iblk, index1 t]

/-- The result as one function of the two arrays. -/
def G (X : FVec Ideal S4096x2048 .bf16) (W : FVec Ideal S5376x2048 .bf16) : FVec Ideal S4096x5376 .f32 :=
  fun y => ((∑ k : Fin 2048, (X (ix2 (y 0) k) : EReal) * W (ix2 (y 1) k) : EReal))

theorem array : (dats m 0 c).arrAt 2 cfg0.N = G (V m c main_arg0) (V m c main_arg1) := by
  refine (dats m 0 c).arrAt_eq_of_covers 2 _ (by decide +kernel) fun t hf y => ?_
  rw [after0_2]
  unfold outsAt0
  rw [out_eq]
  obtain ⟨p, q, rfl⟩ : ∃ p q, y = ix2 p q := ⟨y 0, y 1, (ix2_eta y).symm⟩
  refine (pay_at _ _ p q).trans ?_
  have e : ((cfg0.win 2).blk t).view.emb (ix2 p q) = ix2 ⟨1024 * (t.val / 7) + p, by have := lt_points t; omega⟩
      ⟨768 * (t.val % 7) + q, by omega⟩ := by
    blk_ext [index2 t]
  rw [e]
  unfold G
  exact Finset.sum_congr rfl fun k _ => congrArg₂ (fun a b : EReal => a * b) (block0 m c t p k) (block1 m c t q k)

/-- The run: the result and the arguments. -/
theorem run_array (ρ : Dev nD → PrngReg) :
    θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((array m c).trans (by rw [V_main_arg0, V_main_arg1])), (h c).2⟩)
    (run_blocks m ρ)

end Cert.InFwdIdeal.Product

namespace Cert.InFwdRefIdeal.Product

open Idealize.ShloMosaic Idealize.ShloMosaic.TcCoe Idealize.ShloMosaic.Tactic
open Cert.InFwdRefIdeal.Gen Cert.InFwdRefIdeal.Value Cert.Products

/-- The reference's result is the same function of the two arrays. -/
theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = Cert.InFwdIdeal.Product.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (run (F := Ideal) m ρ)
  funext y
  obtain ⟨p, q, rfl⟩ : ∃ p q, y = ix2 p q := ⟨y 0, y 1, (ix2_eta y).symm⟩
  unfold Cert.InFwdIdeal.Product.G
  pointwise []

end Cert.InFwdRefIdeal.Product

namespace Cert.InFwdIdeal.Product

open Idealize.ShloMosaic Idealize.ShloMosaic.TcCoe

theorem frame : Cert.quiescent_InFwdIdeal := fun m ρ _ => Gen.frame m ρ
theorem frame_ref : Cert.quiescent_InFwdRefIdeal := fun m ρ _ =>
  (θ_run Cert.InFwdRefIdeal.defs _ _).mono (fun r h => ⟨fun c => (h c).2, sem_eq_zero_of_no_sems (by decide) r.2⟩)
    (Cert.InFwdRefIdeal.Product.result m ρ)
theorem algebraic : Cert.algebraic_InFwdIdeal_InFwdRefIdeal := by
  intro m g m' g' _ hagree
  refine ⟨_, run_array m g, ?_⟩
  refine (θ_run Cert.InFwdRefIdeal.defs _ _).mono (fun r h c => ⟨(h c).1.trans ?_, (h c).2⟩) (Cert.InFwdRefIdeal.Product.result m' g')
  rw [(hagree c).1, (hagree c).2]

end Cert.InFwdIdeal.Product

end
-- ==== Proof.OutFwd.lean ====
/- The product of the mixers' outputs with the output matrix: every element of the kernel's
   result is the reference's. -/
module

public import proofs.«01_k».proof.Defs
public import proofs.«01_k».proof.Proof.Gen.OutFwdIdeal.Value
public import proofs.«01_k».proof.Proof.Gen.OutFwdRefIdeal.Run
public import proofs.«01_k».proof.Proof.Products

@[expose] public section

noncomputable section

namespace Cert.OutFwdIdeal.Product

open Idealize.ShloMosaic Idealize.ShloMosaic.TcCoe Idealize.ShloMosaic.Tactic
open Cert.OutFwdIdeal.Gen Cert.OutFwdIdeal.Value Cert.Products

/-- What the body leaves in its output block is its one payload of the two input blocks. -/
theorem out_eq {F : FTy → Type} [FloatOps F] (c : Dev nD) (i : grid0.Coords) (a3 : Memref sig .tc .vmem S1024x2048 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S8x128 .f32) (h6 : a6.IsWhole) (x0 : Vec F S1024x2048 .bf16) (x1 : Vec F S2048x1024 .bf16) :
    out0_A_2 c i a3 h3 a4 h4 a5 h5 a6 h6 x0 x1 = k0_pay1 x0 x1 := by
  unfold out0_A_2
  rw [View.read_writes_junk_eq_canon]
  unfold kernelRun0_A
  dsimp only
  sl_unfold_words
  rw [View.canon_unit_zero zeros2]
  simp only [View.readAt_eq_ld, h3.read_unread, h4.read_unread, View.ld_unit_zero (S := S1024x2048) zeros2,
    View.ld_unit_zero (S := S2048x1024) zeros2]

/-- The payload's element: a row of the activations against a column of the matrix. -/
theorem pay_at (x0 : Vec Ideal S1024x2048 .bf16) (x1 : Vec Ideal S2048x1024 .bf16) (p q : Fin 1024) :
    (k0_pay1 x0 x1 (ix2 p q) : EReal) = ∑ k : Fin 2048, (x0 (ix2 p k) : EReal) * x1 (ix2 k q) := by
  pointwise [k0_pay1]

variable (m : (ℓ : Loc nD τ sig) → Buf (Elt Ideal) ℓ)

theorem index0 : ∀ t : Fin cfg0.N, win0_0.index t = ![t.val / 2, 0] := by decide +kernel
theorem index1 : ∀ t : Fin cfg0.N, win0_1.index t = ![0, t.val % 2] := by decide +kernel
theorem index2 : ∀ t : Fin cfg0.N, win0_2.index t = ![t.val / 2, t.val % 2] := by decide +kernel

variable (c : Dev nD) (t : Fin cfg0.N)

theorem lt_points : t.val < 8 := t.isLt

theorem block0 (p : Fin 1024) (k : Fin 2048) :
    (iblk m c 0 t : Vec Ideal S1024x2048 .bf16) (ix2 p k) = (V m c main_arg0 : FVec Ideal S4096x2048 .bf16)
      (ix2 ⟨1024 * (t.val / 2) + p, by have := lt_points t; omega⟩ k) := by
  blk_ext [iblk, index0 t]
theorem block1 (k : Fin 2048) (q : Fin 1024) :
    (iblk m c 1 t : Vec Ideal S2048x1024 .bf16) (ix2 k q) = (V m c main_arg1 : FVec Ideal S2048x2048 .bf16)
      (ix2 k ⟨1024 * (t.val % 2) + q, by omega⟩) := by
  blk_ext [iblk, index1 t]

/-- The result as one function of the two arrays. -/
def G (X : FVec Ideal S4096x2048 .bf16) (W : FVec Ideal S2048x2048 .bf16) : FVec Ideal S4096x2048 .bf16 :=
  fun y => ((∑ k : Fin 2048, (X (ix2 (y 0) k) : EReal) * W (ix2 k (y 1)) : EReal))

theorem array : (dats m 0 c).arrAt 2 cfg0.N = G (V m c main_arg0) (V m c main_arg1) := by
  refine (dats m 0 c).arrAt_eq_of_covers 2 _ (by decide +kernel) fun t hf y => ?_
  rw [after0_2]
  unfold outsAt0
  rw [out_eq]
  obtain ⟨p, q, rfl⟩ : ∃ p q, y = ix2 p q := ⟨y 0, y 1, (ix2_eta y).symm⟩
  refine (pay_at _ _ p q).trans ?_
  have e : ((cfg0.win 2).blk t).view.emb (ix2 p q) = ix2 ⟨1024 * (t.val / 2) + p, by have := lt_points t; omega⟩
      ⟨1024 * (t.val % 2) + q, by omega⟩ := by
    blk_ext [index2 t]
  rw [e]
  unfold G
  exact Finset.sum_congr rfl fun k _ => congrArg₂ (fun a b : EReal => a * b) (block0 m c t p k) (block1 m c t k q)

/-- The run: the result and the arguments. -/
theorem run_array (ρ : Dev nD → PrngReg) :
    θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((array m c).trans (by rw [V_main_arg0, V_main_arg1])), (h c).2⟩)
    (run_blocks m ρ)

end Cert.OutFwdIdeal.Product

namespace Cert.OutFwdRefIdeal.Product

open Idealize.ShloMosaic Idealize.ShloMosaic.TcCoe Idealize.ShloMosaic.Tactic
open Cert.OutFwdRefIdeal.Gen Cert.OutFwdRefIdeal.Value Cert.Products

/-- The reference's result is the same function of the two arrays. -/
theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = Cert.OutFwdIdeal.Product.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (run (F := Ideal) m ρ)
  funext y
  obtain ⟨p, q, rfl⟩ : ∃ p q, y = ix2 p q := ⟨y 0, y 1, (ix2_eta y).symm⟩
  unfold Cert.OutFwdIdeal.Product.G
  pointwise []

end Cert.OutFwdRefIdeal.Product

namespace Cert.OutFwdIdeal.Product

open Idealize.ShloMosaic Idealize.ShloMosaic.TcCoe

theorem frame : Cert.quiescent_OutFwdIdeal := fun m ρ _ => Gen.frame m ρ
theorem frame_ref : Cert.quiescent_OutFwdRefIdeal := fun m ρ _ =>
  (θ_run Cert.OutFwdRefIdeal.defs _ _).mono (fun r h => ⟨fun c => (h c).2, sem_eq_zero_of_no_sems (by decide) r.2⟩)
    (Cert.OutFwdRefIdeal.Product.result m ρ)
theorem algebraic : Cert.algebraic_OutFwdIdeal_OutFwdRefIdeal := by
  intro m g m' g' _ hagree
  refine ⟨_, run_array m g, ?_⟩
  refine (θ_run Cert.OutFwdRefIdeal.defs _ _).mono (fun r h c => ⟨(h c).1.trans ?_, (h c).2⟩) (Cert.OutFwdRefIdeal.Product.result m' g')
  rw [(hagree c).1, (hagree c).2]

end Cert.OutFwdIdeal.Product

end
-- ==== Proof.UpFwd.lean ====
/- The product with the MLP's first matrix, held in four column blocks, and the relu: every element of the kernel's
   result is the reference's. -/
module

public import proofs.«01_k».proof.Defs
public import proofs.«01_k».proof.Proof.Gen.UpFwdIdeal.Value
public import proofs.«01_k».proof.Proof.Gen.UpFwdRefIdeal.Run
public import proofs.«01_k».proof.Proof.Products

@[expose] public section

noncomputable section

namespace Cert.UpFwdIdeal.Product

open Idealize.ShloMosaic Idealize.ShloMosaic.TcCoe Idealize.ShloMosaic.Tactic
open Cert.UpFwdIdeal.Gen Cert.UpFwdIdeal.Value Cert.Products

/-- What the body leaves in its output block is its one payload of the two input blocks. -/
theorem out_eq {F : FTy → Type} [FloatOps F] (c : Dev nD) (i : grid0.Coords) (a3 : Memref sig .tc .vmem S1024x2048 .bf16) (h3 : a3.IsWhole)
    (a4 : Memref sig .tc .vmem S1x2048x1024 .bf16) (h4 : a4.IsWhole) (a5 : Memref sig .tc .vmem S1024x1024 .bf16) (h5 : a5.IsWhole)
    (a6 : Memref sig .tc .vmem S8x128 .f32) (h6 : a6.IsWhole) (x0 : Vec F S1024x2048 .bf16) (x1 : Vec F S1x2048x1024 .bf16) :
    out0_A_2 c i a3 h3 a4 h4 a5 h5 a6 h6 x0 x1 = k0_pay1 x0 x1 := by
  unfold out0_A_2
  rw [View.read_writes_junk_eq_canon]
  unfold kernelRun0_A
  dsimp only
  sl_unfold_words
  rw [View.canon_unit_zero zeros2]
  simp only [View.readAt_eq_ld, h3.read_unread, h4.read_unread, View.ld_unit_zero (S := S1024x2048) zeros2,
    View.ld_unit_zero (S := S1x2048x1024) zeros3]

/-- The payload's element: a row of the activations against a column of the matrix, or zero where that is greater. -/
theorem pay_at (x0 : Vec Ideal S1024x2048 .bf16) (x1 : Vec Ideal S1x2048x1024 .bf16) (p q : Fin 1024) :
    (k0_pay1 x0 x1 (ix2 p q) : EReal) = max (∑ k : Fin 2048, (x0 (ix2 p k) : EReal) * x1 (ix3 0 k q)) 0 := by
  pointwise [k0_pay1]

variable (m : (ℓ : Loc nD τ sig) → Buf (Elt Ideal) ℓ)

theorem index0 : ∀ t : Fin cfg0.N, win0_0.index t = ![t.val / 8, 0] := by decide +kernel
theorem index1 : ∀ t : Fin cfg0.N, win0_1.index t = ![t.val % 8 / 2, 0, t.val % 2] := by decide +kernel
theorem index2 : ∀ t : Fin cfg0.N, win0_2.index t = ![t.val / 8, t.val % 8] := by decide +kernel

variable (c : Dev nD) (t : Fin cfg0.N)

theorem lt_points : t.val < 32 := t.isLt

theorem block0 (p : Fin 1024) (k : Fin 2048) :
    (iblk m c 0 t : Vec Ideal S1024x2048 .bf16) (ix2 p k) = (V m c main_arg0 : FVec Ideal S4096x2048 .bf16)
      (ix2 ⟨1024 * (t.val / 8) + p, by have := lt_points t; omega⟩ k) := by
  blk_ext [iblk, index0 t]
theorem block1 (k : Fin 2048) (q : Fin 1024) :
    (iblk m c 1 t : Vec Ideal S1x2048x1024 .bf16) (ix3 0 k q) = (V m c main_arg1 : FVec Ideal S4x2048x2048 .bf16)
      (ix3 ⟨t.val % 8 / 2, by omega⟩ k ⟨1024 * (t.val % 2) + q, by omega⟩) := by
  blk_ext [iblk, index1 t]

/-- Column `j` of the whole matrix: its block and its place there. -/
def column (W : FVec Ideal S4x2048x2048 .bf16) (j : Fin 8192) (k : Fin 2048) : EReal :=
  W (ix3 ⟨j / 2048, by omega⟩ k ⟨j % 2048, by omega⟩)

/-- The result as one function of the two arrays. -/
def G (X : FVec Ideal S4096x2048 .bf16) (W : FVec Ideal S4x2048x2048 .bf16) : FVec Ideal S4096x8192 .bf16 :=
  fun y => ((max (∑ k : Fin 2048, (X (ix2 (y 0) k) : EReal) * column W (y 1) k) 0 : EReal))

theorem array : (dats m 0 c).arrAt 2 cfg0.N = G (V m c main_arg0) (V m c main_arg1) := by
  refine (dats m 0 c).arrAt_eq_of_covers 2 _ (by decide +kernel) fun t hf y => ?_
  rw [after0_2]
  unfold outsAt0
  rw [out_eq]
  obtain ⟨p, q, rfl⟩ : ∃ p q, y = ix2 p q := ⟨y 0, y 1, (ix2_eta y).symm⟩
  refine (pay_at _ _ p q).trans ?_
  have e : ((cfg0.win 2).blk t).view.emb (ix2 p q) = ix2 ⟨1024 * (t.val / 8) + p, by have := lt_points t; omega⟩
      ⟨1024 * (t.val % 8) + q, by omega⟩ := by
    blk_ext [index2 t]
  rw [e]
  unfold G
  refine congrArg (fun a : EReal => max a 0) (Finset.sum_congr rfl fun k _ => ?_)
  refine congrArg₂ (fun a b : EReal => a * b) (block0 m c t p k) ((block1 m c t k q).trans ?_)
  unfold column
  exact congrArg₂ (fun i j => (V m c main_arg1 : FVec Ideal S4x2048x2048 .bf16) (ix3 i k j))
    (Fin.ext (show t.val % 8 / 2 = (1024 * (t.val % 8) + q.val) / 2048 by omega))
    (Fin.ext (show 1024 * (t.val % 2) + q.val = (1024 * (t.val % 8) + q.val) % 2048 by omega))

/-- The run: the result and the arguments. -/
theorem run_array (ρ : Dev nD → PrngReg) :
    θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((array m c).trans (by rw [V_main_arg0, V_main_arg1])), (h c).2⟩)
    (run_blocks m ρ)

end Cert.UpFwdIdeal.Product

namespace Cert.UpFwdRefIdeal.Product

open Idealize.ShloMosaic Idealize.ShloMosaic.TcCoe Idealize.ShloMosaic.Tactic
open Cert.UpFwdRefIdeal.Gen Cert.UpFwdRefIdeal.Value Cert.Products

/-- The reference's result is the same function of the two arrays. -/
theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = Cert.UpFwdIdeal.Product.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (run (F := Ideal) m ρ)
  funext y
  obtain ⟨p, q, rfl⟩ : ∃ p q, y = ix2 p q := ⟨y 0, y 1, (ix2_eta y).symm⟩
  unfold Cert.UpFwdIdeal.Product.G
  pointwise []
  rfl

end Cert.UpFwdRefIdeal.Product

namespace Cert.UpFwdIdeal.Product

open Idealize.ShloMosaic Idealize.ShloMosaic.TcCoe

theorem frame : Cert.quiescent_UpFwdIdeal := fun m ρ _ => Gen.frame m ρ
theorem frame_ref : Cert.quiescent_UpFwdRefIdeal := fun m ρ _ =>
  (θ_run Cert.UpFwdRefIdeal.defs _ _).mono (fun r h => ⟨fun c => (h c).2, sem_eq_zero_of_no_sems (by decide) r.2⟩)
    (Cert.UpFwdRefIdeal.Product.result m ρ)
theorem algebraic : Cert.algebraic_UpFwdIdeal_UpFwdRefIdeal := by
  intro m g m' g' _ hagree
  refine ⟨_, run_array m g, ?_⟩
  refine (θ_run Cert.UpFwdRefIdeal.defs _ _).mono (fun r h c => ⟨(h c).1.trans ?_, (h c).2⟩) (Cert.UpFwdRefIdeal.Product.result m' g')
  rw [(hagree c).1, (hagree c).2]

end Cert.UpFwdIdeal.Product

end
-- ==== Proof.DownFwd.lean ====
/- The product of the squared activations with the MLP's second matrix, summed over four blocks of the
   inner axis: every element of the kernel's
   result is the reference's. -/
module

public import proofs.«01_k».proof.Defs
public import proofs.«01_k».proof.Proof.Gen.DownFwdIdeal.Value
public import proofs.«01_k».proof.Proof.Gen.DownFwdRefIdeal.Run
public import proofs.«01_k».proof.Proof.Products

@[expose] public section

noncomputable section

namespace Cert.DownFwdIdeal.Product

open Idealize.ShloMosaic Idealize.ShloMosaic.TcCoe Idealize.ShloMosaic.Tactic
open Cert.DownFwdIdeal.Gen Cert.DownFwdIdeal.Value Cert.Products

section Body

variable {F : FTy → Type} [FloatOps F] (c : Dev nD) (i : grid0.Coords) (a3 : Memref sig .tc .vmem S1024x2048 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (x0 : Vec F S1024x2048 .bf16) (x1 : Vec F S2048x1024 .bf16)
    (xs : Vec F S1024x1024 .f32)

/-- At the first of the four blocks the accumulator is the block's product. -/
theorem first (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_junk_eq_canon]
  unfold kernelRun0_A
  dsimp only
  sl_unfold_words
  rw [View.canon_unit_zero zeros2]
  simp only [View.readAt_eq_ld, h3.read_unread, h4.read_unread, View.ld_unit_zero (S := S1024x2048) zeros2,
    View.ld_unit_zero (S := S2048x1024) zeros2]

/-- At the others the block's product is added to it. -/
theorem middle (hc0 : ¬cond0_0 i) (hc1 : cond0_1 i) (hc2 : ¬cond0_2 i) :
    sout0_B_0 c i a3 h3 a4 h4 a5 h5 a6 h6 hc0 hc1 hc2 x0 x1 xs = k0_pay3 x0 x1 xs := by
  unfold sout0_B_0
  rw [View.read_writes_junk_eq_canon]
  unfold kernelRun0_B
  dsimp only
  sl_unfold_words
  rw [View.canon_unit_zero zeros2]
  simp only [View.readAt_eq_ld, h3.read_unread, h4.read_unread, h6.read_unread, View.ld_unit_zero (S := S1024x2048) zeros2,
    View.ld_unit_zero (S := S2048x1024) zeros2, View.ld_unit_zero (S := S1024x1024) zeros2]
theorem last (hc0 : ¬cond0_0 i) (hc1 : cond0_1 i) (hc2 : cond0_2 i) :
    sout0_C_0 c i a3 h3 a4 h4 a5 h5 a6 h6 hc0 hc1 hc2 x0 x1 xs = k0_pay3 x0 x1 xs := by
  unfold sout0_C_0
  rw [View.read_writes_junk_eq_canon]
  unfold kernelRun0_C
  dsimp only
  sl_unfold_words
  rw [View.canon_unit_zero zeros2]
  simp only [View.readAt_eq_ld, h3.read_unread, h4.read_unread, h6.read_unread, View.ld_unit_zero (S := S1024x2048) zeros2,
    View.ld_unit_zero (S := S2048x1024) zeros2, View.ld_unit_zero (S := S1024x1024) zeros2]

/-- At the last the accumulator is stored. -/
theorem stored (hc0 : ¬cond0_0 i) (hc1 : cond0_1 i) (hc2 : cond0_2 i) :
    out0_C_2 c i a3 h3 a4 h4 a5 h5 a6 h6 hc0 hc1 hc2 x0 x1 xs = k0_pay4 (k0_pay3 x0 x1 xs) := by
  unfold out0_C_2
  rw [View.read_writes_junk_eq_canon]
  unfold kernelRun0_C
  dsimp only
  sl_unfold_words
  rw [View.canon_unit_zero zeros2, View.readCov_unit_zero (S := S1024x1024) _ zeros2]
  simp only [View.readAt_eq_ld, h3.read_unread, h4.read_unread, h6.read_unread, View.ld_unit_zero (S := S1024x2048) zeros2,
    View.ld_unit_zero (S := S2048x1024) zeros2, View.ld_unit_zero (S := S1024x1024) zeros2]

end Body

/-- One block's product: the squares of a row of activations against a column of the matrix. -/
theorem pay2_at (x0 : Vec Ideal S1024x2048 .bf16) (x1 : Vec Ideal S2048x1024 .bf16) (p q : Fin 1024) :
    (k0_pay2 x0 x1 (ix2 p q) : EReal) = ∑ k : Fin 2048, (x0 (ix2 p k) * x0 (ix2 p k) : EReal) * x1 (ix2 k q) := by
  pointwise [k0_pay2, k0_pay1]
theorem pay3_at (x0 : Vec Ideal S1024x2048 .bf16) (x1 : Vec Ideal S2048x1024 .bf16) (xs : Vec Ideal S1024x1024 .f32) (p q : Fin 1024) :
    (k0_pay3 x0 x1 xs (ix2 p q) : EReal) = xs (ix2 p q) + k0_pay2 x0 x1 (ix2 p q) := by
  pointwise [k0_pay3, k0_pay2, k0_pay1]
theorem pay4_at (xs : Vec Ideal S1024x1024 .f32) (p q : Fin 1024) : (k0_pay4 xs (ix2 p q) : EReal) = xs (ix2 p q) := by
  pointwise [k0_pay4]

variable (m : (ℓ : Loc nD τ sig) → Buf (Elt Ideal) ℓ)

theorem index0 : ∀ t : Fin cfg0.N, win0_0.index t = ![t.val / 8, t.val % 4] := by decide +kernel
theorem index1 : ∀ t : Fin cfg0.N, win0_1.index t = ![t.val % 4, t.val % 8 / 4] := by decide +kernel
theorem index2 : ∀ t : Fin cfg0.N, win0_2.index t = ![t.val / 8, t.val % 8 / 4] := by decide +kernel

variable (c : Dev nD) (t : Fin cfg0.N)

theorem lt_points : t.val < 32 := t.isLt

/-- The row and the column of the whole arrays, at a point's block. -/
def row (p : Fin 1024) : Fin 4096 := ⟨1024 * (t.val / 8) + p, by have := lt_points t; omega⟩
def col (q : Fin 1024) : Fin 2048 := ⟨1024 * (t.val % 8 / 4) + q, by omega⟩

theorem block0 (p : Fin 1024) (k : Fin 2048) :
    (iblk m c 0 t : Vec Ideal S1024x2048 .bf16) (ix2 p k) = (V m c main_arg0 : FVec Ideal S4096x8192 .bf16)
      (ix2 (row t p) ⟨2048 * (t.val % 4) + k, by omega⟩) := by
  unfold row
  blk_ext [iblk, index0 t]
theorem block1 (k : Fin 2048) (q : Fin 1024) :
    (iblk m c 1 t : Vec Ideal S2048x1024 .bf16) (ix2 k q) = (V m c main_arg1 : FVec Ideal S8192x2048 .bf16)
      (ix2 ⟨2048 * (t.val % 4) + k, by omega⟩ (col t q)) := by
  unfold col
  blk_ext [iblk, index1 t]

/-- The term of the whole product's sum. -/
def term (U : FVec Ideal S4096x8192 .bf16) (W : FVec Ideal S8192x2048 .bf16) (p : Fin 4096) (q : Fin 2048) (k : Fin 8192) : EReal :=
  (U (ix2 p k) * U (ix2 p k) : EReal) * W (ix2 k q)

/-- Block `i` of the whole product's sum. -/
def part (U : FVec Ideal S4096x8192 .bf16) (W : FVec Ideal S8192x2048 .bf16) (p : Fin 4096) (q : Fin 2048) (i : ℕ) : EReal :=
  ∑ k : Fin 2048, term U W p q ⟨2048 * (i % 4) + k, by omega⟩

/-- The result as one function of the two arrays. -/
def G (U : FVec Ideal S4096x8192 .bf16) (W : FVec Ideal S8192x2048 .bf16) : FVec Ideal S4096x2048 .bf16 :=
  fun y => (∑ k : Fin 8192, term U W (y 0) (y 1) k : EReal)

theorem whole (U : FVec Ideal S4096x8192 .bf16) (W : FVec Ideal S8192x2048 .bf16) (p : Fin 4096) (q : Fin 2048) :
    ∑ k : Fin 8192, term U W p q k = ∑ i ∈ Finset.range 4, part U W p q i := by
  rw [sum_blocks (a := 4) (b := 2048) rfl, Finset.sum_range]
  refine Finset.sum_congr rfl fun i _ => ?_
  unfold part
  refine Finset.sum_congr rfl fun k _ => congrArg (term U W p q) (Fin.ext ?_)
  have : i.val % 4 = i.val := Nat.mod_eq_of_lt i.isLt
  dsimp only
  omega

/-- A point's product is its block of the sum. -/
theorem point (p q : Fin 1024) : (k0_pay2 (iblk m c 0 t) (iblk m c 1 t) (ix2 p q) : EReal)
    = part (V m c main_arg0) (V m c main_arg1) (row t p) (col t q) (t.val % 4) := by
  refine (pay2_at _ _ p q).trans ?_
  unfold part term
  refine Finset.sum_congr rfl fun k _ => (congrArg₂ (fun a b : EReal => a * a * b) (block0 m c t p k) (block1 m c t k q)).trans ?_
  simp only [Nat.mod_mod]

/-- What the accumulator holds after a point: the blocks of the sum so far. -/
theorem held (p q : Fin 1024) : ∀ (n : ℕ) (h : n < cfg0.N), ((outsAt0 m c n h).2 (ix2 p q) : EReal)
    = ∑ i ∈ Finset.range (n % 4 + 1), part (V m c main_arg0) (V m c main_arg1) (row ⟨n, h⟩ p) (col ⟨n, h⟩ q) i := by
  intro n
  induction n with
  | zero =>
    intro h
    rw [outsAt0_A m c ⟨0, h⟩ rfl (by dsimp only; omega) (by dsimp only; omega)]
    dsimp only
    rw [first, Nat.zero_mod, Finset.sum_range_one]
    exact point m c ⟨0, h⟩ p q
  | succ n ih =>
    intro h
    by_cases h0 : (n + 1) % 4 = 0
    · rw [outsAt0_A m c ⟨n + 1, h⟩ h0 (by dsimp only; omega) (by dsimp only; omega)]
      dsimp only
      rw [first, h0, Finset.sum_range_one]
      refine (point m c ⟨n + 1, h⟩ p q).trans ?_
      dsimp only
      rw [h0]
    · have hn : n < cfg0.N := Nat.lt_of_succ_lt h
      have e : (n + 1) % 4 = n % 4 + 1 := by omega
      have er : row ⟨n + 1, h⟩ p = row ⟨n, hn⟩ p := Fin.ext (by unfold row; dsimp only; omega)
      have ec : col ⟨n + 1, h⟩ q = col ⟨n, hn⟩ q := Fin.ext (by unfold col; dsimp only; omega)
      have step : ((k0_pay3 (iblk m c 0 ⟨n + 1, h⟩) (iblk m c 1 ⟨n + 1, h⟩) (outsAt0 m c n hn).2 : Vec Ideal S1024x1024 .f32) (ix2 p q) : EReal)
          = ∑ i ∈ Finset.range ((n + 1) % 4 + 1), part (V m c main_arg0) (V m c main_arg1) (row ⟨n + 1, h⟩ p) (col ⟨n + 1, h⟩ q) i := by
        rw [Finset.sum_range_succ]
        refine (pay3_at _ _ _ p q).trans ?_
        refine congrArg₂ (fun a b : EReal => a + b) ((ih hn).trans ?_) (point m c ⟨n + 1, h⟩ p q)
        rw [e, er, ec]
      by_cases h2 : (n + 1) % 4 = 3
      · rw [outsAt0_C m c ⟨n + 1, h⟩ h0 (by dsimp only; omega) h2]
        dsimp only
        rw [last]
        exact step
      · rw [outsAt0_B m c ⟨n + 1, h⟩ h0 (by dsimp only; omega) h2]
        dsimp only
        rw [middle]
        exact step

/-- What the last of the four points stores is what the accumulator then holds. -/
theorem stored_at (h : t.val % 4 = 3) (p q : Fin 1024) :
    ((outsAt0 m c t.val t.isLt).1 (ix2 p q) : EReal) = (outsAt0 m c t.val t.isLt).2 (ix2 p q) := by
  rw [outsAt0_C m c t (by omega) (by omega) h]
  dsimp only
  rw [last, stored]
  exact pay4_at _ p q

theorem array : (dats m 0 c).arrAt 2 cfg0.N = G (V m c main_arg0) (V m c main_arg1) := by
  refine (dats m 0 c).arrAt_eq_of_covers 2 _ (by decide +kernel) fun t hf y => ?_
  rw [after0_2]
  have hm : t.val % 4 = 3 := (flush0_2 t).mp hf
  obtain ⟨p, q, rfl⟩ : ∃ p q, y = ix2 p q := ⟨y 0, y 1, (ix2_eta y).symm⟩
  refine (stored_at m c t hm p q).trans ((held m c p q t.val t.isLt).trans ?_)
  have e : ((cfg0.win 2).blk t).view.emb (ix2 p q) = ix2 (row t p) (col t q) := by
    unfold row col
    blk_ext [index2 t]
  rw [e, hm]
  exact (whole _ _ _ _).symm

/-- The run: the result and the arguments. -/
theorem run_array (ρ : Dev nD → PrngReg) :
    θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((array m c).trans (by rw [V_main_arg0, V_main_arg1])), (h c).2⟩)
    (run_blocks m ρ)

end Cert.DownFwdIdeal.Product

namespace Cert.DownFwdRefIdeal.Product

open Idealize.ShloMosaic Idealize.ShloMosaic.TcCoe Idealize.ShloMosaic.Tactic
open Cert.DownFwdRefIdeal.Gen Cert.DownFwdRefIdeal.Value Cert.Products

/-- The reference's result is the same function of the two arrays. -/
theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = Cert.DownFwdIdeal.Product.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (run (F := Ideal) m ρ)
  funext y
  obtain ⟨p, q, rfl⟩ : ∃ p q, y = ix2 p q := ⟨y 0, y 1, (ix2_eta y).symm⟩
  unfold Cert.DownFwdIdeal.Product.G
  pointwise []
  rfl

end Cert.DownFwdRefIdeal.Product

namespace Cert.DownFwdIdeal.Product

open Idealize.ShloMosaic Idealize.ShloMosaic.TcCoe

theorem frame : Cert.quiescent_DownFwdIdeal := fun m ρ _ => Gen.frame m ρ
theorem frame_ref : Cert.quiescent_DownFwdRefIdeal := fun m ρ _ =>
  (θ_run Cert.DownFwdRefIdeal.defs _ _).mono (fun r h => ⟨fun c => (h c).2, sem_eq_zero_of_no_sems (by decide) r.2⟩)
    (Cert.DownFwdRefIdeal.Product.result m ρ)
theorem algebraic : Cert.algebraic_DownFwdIdeal_DownFwdRefIdeal := by
  intro m g m' g' _ hagree
  refine ⟨_, run_array m g, ?_⟩
  refine (θ_run Cert.DownFwdRefIdeal.defs _ _).mono (fun r h c => ⟨(h c).1.trans ?_, (h c).2⟩) (Cert.DownFwdRefIdeal.Product.result m' g')
  rw [(hagree c).1, (hagree c).2]

end Cert.DownFwdIdeal.Product

end
-- ==== Proof.Optimiser.lean ====
/- The optimiser's step of one element, and the choice it makes between the two halves of the gradient. -/
module

public import Idealize.ShloMosaic.Lib.Pointwise
public import Idealize.ShloMosaic.PureOps.Ideal

@[expose] public section

noncomputable section

namespace Cert.Optimiser

open Idealize.ShloMosaic

/-- The first moment after the step: of the gradient and the moment before. -/
def moment (g m : EReal) : EReal := Ideal.ofBits .f32 0x3F666666#32 * m + Ideal.ofBits .f32 0x3DCCCCCD#32 * g

/-- The second moment after the step. -/
def second (g v : EReal) : EReal := Ideal.ofBits .f32 0x3F7FBE77#32 * v + Ideal.ofBits .f32 0x3A83126F#32 * (g * g)

/-- The weight's change: of the weight and the two moments after the step. -/
def change (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

theorem change_congr {w w' m m' v v' : EReal} (hw : w = w') (hm : m = m') (hv : v = v') : change w m v = change w' m' v' := by
  rw [hw, hm, hv]

/-- A choice between two values by an equality of words. -/
theorem choice {n : ℕ} {α : Type} (a b : BitVec n) (x y : α) : Scalar.select (IntOp.cmpi .eq a b) x y = if a = b then x else y := by
  unfold Scalar.select IntOp.cmpi
  by_cases h : a = b
  · subst h; simp
  · have e : (a == b) = false := by simpa using h
    simp [h, e]

theorem choice_comm {n : ℕ} {α : Type} (a b : BitVec n) (x y : α) : Scalar.select (IntOp.cmpi .eq a b) x y = if b = a then x else y := by
  rw [choice]
  by_cases h : a = b
  · rw [if_pos h, if_pos h.symm]
  · rw [if_neg h, if_neg fun k => h k.symm]

end Cert.Optimiser

end
-- ==== Proof.StepUp.lean ====
/- The optimiser's step on a matrix's shard, whose gradient comes in two halves of the rows: the gradient
   put together, the weights' change and the two moments are the reference's, at every element. -/
module

public import proofs.«01_k».proof.Defs
public import proofs.«01_k».proof.Proof.Gen.StepUp.Frame
public import proofs.«01_k».proof.Proof.Gen.StepUpIdeal.Frame
public import proofs.«01_k».proof.Proof.Gen.StepUpRefIdeal.Run
public import proofs.«01_k».proof.Proof.Products
public import proofs.«01_k».proof.Proof.Optimiser

@[expose] public section

noncomputable section

namespace Cert.StepUp.Step

open Idealize.ShloMosaic Idealize.ShloMosaic.TcCoe Idealize.ShloMosaic.Tactic
open Cert.StepUp.Gen Cert.Optimiser

section Tables

variable {F : FTy → Type} [FloatOps F]

/-- The word of the table that tells which half is the device's own. -/
abbrev word (pf : pre0.Contents (Elt F)) : BitVec 32 := pf.at 0 (Rect.unit (s := S2) ![1] S1.size inb_S2_S1_1) numel1_S1

/-- Where the device's own half is read: at the point's rows if they lie in that half, else at the first rows. -/
theorem map1 (pf : pre0.Contents (Elt F)) (i : grid0.Coords) : cc0_transform_1 inb_S2_S1_1 numel1_S1 pf i
    = ![if BitVec.ofNat 32 ((i 0).val / 4) = word pf then (i 0).val % 4 else 0, 0] := by
  unfold cc0_transform_1 word Scalar.cmpi
  dsimp only
  generalize pf.at 0 (Rect.unit (s := S2) ![1] S1.size inb_S2_S1_1) numel1_S1 = w
  obtain ⟨k, hk⟩ : ∃ k : Fin 8, (i 0).val = k.val := ⟨i 0, rfl⟩
  rw [hk, choice (b := w)]
  clear hk
  fin_cases k <;> split_ifs with h h' h' <;>
    first | decide | exact (h' ((show _ = _ by decide).trans h)).elim | exact (h ((show _ = _ by decide).trans h')).elim

/-- Where the other half is read: at the first rows if the point's lie in the device's own, else at the point's. -/
theorem map2 (pf : pre0.Contents (Elt F)) (i : grid0.Coords) : cc0_transform_2 inb_S2_S1_1 numel1_S1 pf i
    = ![if BitVec.ofNat 32 ((i 0).val / 4) = word pf then 0 else (i 0).val % 4, 0] := by
  unfold cc0_transform_2 word Scalar.cmpi
  dsimp only
  generalize pf.at 0 (Rect.unit (s := S2) ![1] S1.size inb_S2_S1_1) numel1_S1 = w
  obtain ⟨k, hk⟩ : ∃ k : Fin 8, (i 0).val = k.val := ⟨i 0, rfl⟩
  rw [hk, choice (b := w)]
  clear hk
  fin_cases k <;> split_ifs with h h' h' <;>
    first | decide | exact (h' ((show _ = _ by decide).trans h)).elim | exact (h ((show _ = _ by decide).trans h')).elim

theorem inside (n : ℕ) (h : n < 4) (a : Fin 2) : ((![n, 0] : Fin 2 → ℕ) a + 1) * S256x2048.size a ≤ S1024x2048.size a := by
  fin_cases a
  · show (n + 1) * 256 ≤ 1024
    omega
  · show (0 + 1) * 2048 ≤ 2048
    decide

/-- Whatever the table holds, the blocks lie inside the halves. -/
theorem ok (m : (ℓ : Loc nD τ sig) → Buf (Elt F) ℓ) : Ok m := by
  constructor
  · intro i
    rw [map1]
    exact ⟨inside _ (by split_ifs <;> omega), .inl rfl⟩
  · intro i
    rw [map2]
    exact ⟨inside _ (by split_ifs <;> omega), .inl rfl⟩

end Tables

end Cert.StepUp.Step

namespace Cert.StepUpIdeal.Step

open Idealize.ShloMosaic Idealize.ShloMosaic.TcCoe Idealize.ShloMosaic.Tactic
open Cert.StepUpIdeal.Gen Cert.Optimiser

section Tables

variable {F : FTy → Type} [FloatOps F]

/-- The word of the table that tells which half is the device's own. -/
abbrev word (pf : pre0.Contents (Elt F)) : BitVec 32 := pf.at 0 (Rect.unit (s := S2) ![1] S1.size inb_S2_S1_1) numel1_S1

/-- Where the device's own half is read: at the point's rows if they lie in that half, else at the first rows. -/
theorem map1 (pf : pre0.Contents (Elt F)) (i : grid0.Coords) : cc0_transform_1 inb_S2_S1_1 numel1_S1 pf i
    = ![if BitVec.ofNat 32 ((i 0).val / 4) = word pf then (i 0).val % 4 else 0, 0] := by
  unfold cc0_transform_1 word Scalar.cmpi
  dsimp only
  generalize pf.at 0 (Rect.unit (s := S2) ![1] S1.size inb_S2_S1_1) numel1_S1 = w
  obtain ⟨k, hk⟩ : ∃ k : Fin 8, (i 0).val = k.val := ⟨i 0, rfl⟩
  rw [hk, choice (b := w)]
  clear hk
  fin_cases k <;> split_ifs with h h' h' <;>
    first | decide | exact (h' ((show _ = _ by decide).trans h)).elim | exact (h ((show _ = _ by decide).trans h')).elim

/-- Where the other half is read: at the first rows if the point's lie in the device's own, else at the point's. -/
theorem map2 (pf : pre0.Contents (Elt F)) (i : grid0.Coords) : cc0_transform_2 inb_S2_S1_1 numel1_S1 pf i
    = ![if BitVec.ofNat 32 ((i 0).val / 4) = word pf then 0 else (i 0).val % 4, 0] := by
  unfold cc0_transform_2 word Scalar.cmpi
  dsimp only
  generalize pf.at 0 (Rect.unit (s := S2) ![1] S1.size inb_S2_S1_1) numel1_S1 = w
  obtain ⟨k, hk⟩ : ∃ k : Fin 8, (i 0).val = k.val := ⟨i 0, rfl⟩
  rw [hk, choice (b := w)]
  clear hk
  fin_cases k <;> split_ifs with h h' h' <;>
    first | decide | exact (h' ((show _ = _ by decide).trans h)).elim | exact (h ((show _ = _ by decide).trans h')).elim

theorem inside (n : ℕ) (h : n < 4) (a : Fin 2) : ((![n, 0] : Fin 2 → ℕ) a + 1) * S256x2048.size a ≤ S1024x2048.size a := by
  fin_cases a
  · show (n + 1) * 256 ≤ 1024
    omega
  · show (0 + 1) * 2048 ≤ 2048
    decide

/-- Whatever the table holds, the blocks lie inside the halves. -/
theorem ok (m : (ℓ : Loc nD τ sig) → Buf (Elt F) ℓ) : Ok m := by
  constructor
  · intro i
    rw [map1]
    exact ⟨inside _ (by split_ifs <;> omega), .inl rfl⟩
  · intro i
    rw [map2]
    exact ⟨inside _ (by split_ifs <;> omega), .inl rfl⟩

end Tables

end Cert.StepUpIdeal.Step

namespace Cert.StepUpIdeal.Step

open Idealize.ShloMosaic Idealize.ShloMosaic.TcCoe Idealize.ShloMosaic.Tactic
open Cert.StepUpIdeal.Gen Cert.Products Cert.Optimiser

section Body

variable {F : FTy → Type} [FloatOps F] (c : Dev nD) (i : grid0.Coords)
    (a2 : Memref sig .tc .vmem S1x256x2048 .f32) (h2 : a2.IsWhole) (a3 : Memref sig .tc .vmem S256x2048 .f32) (h3 : a3.IsWhole)
    (a4 : Memref sig .tc .vmem S256x2048 .f32) (h4 : a4.IsWhole) (a5 : Memref sig .tc .vmem S1x256x2048 .f32) (h5 : a5.IsWhole)
    (a6 : Memref sig .tc .vmem S1x256x2048 .f32) (h6 : a6.IsWhole) (a7 : Memref sig .tc .vmem S1x256x2048 .f32) (h7 : a7.IsWhole)
    (a8 : Memref sig .tc .vmem S1x256x2048 .f32) (h8 : a8.IsWhole) (a9 : Memref sig .tc .vmem S1x256x2048 .f32) (h9 : a9.IsWhole)
    (a10 : Memref sig .tc .vmem S1x256x2048 .f32) (h10 : a10.IsWhole)
    (x0 : Vec F S1x256x2048 .f32) (x1 x2 : Vec F S256x2048 .f32) (x3 x4 : Vec F S1x256x2048 .f32) (xt : TbBuf0 (F := F) c tbM0_0)

/-- The word of the table that the body reads. -/
abbrev wordOf : BitVec 32 := View.ld (View.read (Elt F) (View.whole main_arg5) xt) (Rect.unit (s := S2) ![1] S1.size inb_S2_S1_1) (Shape.Idx.first (by decide))

/-- What the body stores of the gradient. -/
theorem out5 : out0_A_5 c i a2 h2 a3 h3 a4 h4 a5 h5 a6 h6 a7 h7 a8 h8 a9 h9 a10 h10 x0 x1 x2 x3 x4 xt
    = k0_pay2 (k0_pay6 i (wordOf c xt) x1 x2) := by
  unfold out0_A_5
  rw [View.read_writes_junk_eq_canon]
  unfold kernelRun0_A
  dsimp only
  sl_unfold_words
  rw [View.canon_unit_zero zeros3]
  simp only [View.readAt_eq_ld, h2.read_unread, h3.read_unread, h4.read_unread, h5.read_unread, h6.read_unread, View.ld_unit_zero (S := S256x2048) zeros2,
    View.ld_unit_zero (S := S1x256x2048) zeros3]

/-- What the body stores of the weights' change. -/
theorem out6 : out0_A_6 c i a2 h2 a3 h3 a4 h4 a5 h5 a6 h6 a7 h7 a8 h8 a9 h9 a10 h10 x0 x1 x2 x3 x4 xt
    = k0_pay3 (k0_pay6 i (wordOf c xt) x1 x2) (k0_pay7 x0) (k0_pay8 i (wordOf c xt) x1 x2 x3) (k0_pay9 x4) := by
  unfold out0_A_6
  rw [View.read_writes_junk_eq_canon]
  unfold kernelRun0_A
  dsimp only
  sl_unfold_words
  rw [View.canon_unit_zero zeros3]
  simp only [View.readAt_eq_ld, h2.read_unread, h3.read_unread, h4.read_unread, h5.read_unread, h6.read_unread, View.ld_unit_zero (S := S256x2048) zeros2,
    View.ld_unit_zero (S := S1x256x2048) zeros3]

/-- What the body stores of the first moment. -/
theorem out7 : out0_A_7 c i a2 h2 a3 h3 a4 h4 a5 h5 a6 h6 a7 h7 a8 h8 a9 h9 a10 h10 x0 x1 x2 x3 x4 xt
    = k0_pay4 (k0_pay8 i (wordOf c xt) x1 x2 x3) := by
  unfold out0_A_7
  rw [View.read_writes_junk_eq_canon]
  unfold kernelRun0_A
  dsimp only
  sl_unfold_words
  rw [View.canon_unit_zero zeros3]
  simp only [View.readAt_eq_ld, h2.read_unread, h3.read_unread, h4.read_unread, h5.read_unread, h6.read_unread, View.ld_unit_zero (S := S256x2048) zeros2,
    View.ld_unit_zero (S := S1x256x2048) zeros3]

/-- What the body stores of the second moment. -/
theorem out8 : out0_A_8 c i a2 h2 a3 h3 a4 h4 a5 h5 a6 h6 a7 h7 a8 h8 a9 h9 a10 h10 x0 x1 x2 x3 x4 xt
    = k0_pay5 (k0_pay6 i (wordOf c xt) x1 x2) (k0_pay9 x4) := by
  unfold out0_A_8
  rw [View.read_writes_junk_eq_canon]
  unfold kernelRun0_A
  dsimp only
  sl_unfold_words
  rw [View.canon_unit_zero zeros3]
  simp only [View.readAt_eq_ld, h2.read_unread, h3.read_unread, h4.read_unread, h5.read_unread, h6.read_unread, View.ld_unit_zero (S := S256x2048) zeros2,
    View.ld_unit_zero (S := S1x256x2048) zeros3]

end Body

section Values

/-- The gradient's block: the device's own half's where the point's rows lie in it, else the other's. -/
theorem chosen {F : FTy → Type} [FloatOps F] (i : grid0.Coords) (w : BitVec 32) (x1 x2 : Vec F S256x2048 .f32) :
    k0_pay6 i w x1 x2 = if BitVec.ofNat 32 ((i 0).val / 4) = w then x1 else x2 := by
  unfold k0_pay6 Scalar.cmpi
  dsimp only
  obtain ⟨k, hk⟩ : ∃ k : Fin 8, (i 0).val = k.val := ⟨i 0, rfl⟩
  rw [hk, choice (b := w)]
  clear hk
  fin_cases k <;> split_ifs with h h' h' <;>
    first | rfl | exact (h' ((show _ = _ by decide).trans h)).elim | exact (h ((show _ = _ by decide).trans h')).elim

variable (i : grid0.Coords) (w : BitVec 32) (x0 : Vec Ideal S1x256x2048 .f32) (x1 x2 : Vec Ideal S256x2048 .f32) (x3 x4 : Vec Ideal S1x256x2048 .f32)
    (p : Fin 256) (q : Fin 2048)

theorem pay5_at : (k0_pay2 (k0_pay6 i w x1 x2) (ix3 0 p q) : EReal)
    = (k0_pay6 i w x1 x2 (ix2 p q)) := by
  pointwise [k0_pay2]

theorem pay6_at : (k0_pay3 (k0_pay6 i w x1 x2) (k0_pay7 x0) (k0_pay8 i w x1 x2 x3) (k0_pay9 x4) (ix3 0 p q) : EReal)
    = change (x0 (ix3 0 p q)) (moment (k0_pay6 i w x1 x2 (ix2 p q)) (x3 (ix3 0 p q))) (second (k0_pay6 i w x1 x2 (ix2 p q)) (x4 (ix3 0 p q))) := by
  unfold change moment second
  pointwise [k0_pay3, k0_pay7, k0_pay8, k0_pay9, k0_pay1]

theorem pay7_at : (k0_pay4 (k0_pay8 i w x1 x2 x3) (ix3 0 p q) : EReal)
    = moment (k0_pay6 i w x1 x2 (ix2 p q)) (x3 (ix3 0 p q)) := by
  unfold moment
  pointwise [k0_pay4, k0_pay8]

theorem pay8_at : (k0_pay5 (k0_pay6 i w x1 x2) (k0_pay9 x4) (ix3 0 p q) : EReal)
    = second (k0_pay6 i w x1 x2 (ix2 p q)) (x4 (ix3 0 p q)) := by
  unfold second
  pointwise [k0_pay5, k0_pay1, k0_pay9]

end Values

theorem coord (t : Fin grid0.N) : ((grid0.coords t) 0).val = t.val := by
  revert t
  decide +kernel
theorem map0 : ∀ t : Fin grid0.N, cc0_transform_0 (grid0.coords t) = ![0, t.val, 0] := by decide +kernel

variable (m : (ℓ : Loc nD τ sig) → Buf (Elt Ideal) ℓ) (c : Dev nD) (t : Fin (cfgM m (ok m)).N)

theorem lt_points : t.val < 8 := t.isLt

/-- The word is the second of the table's two. -/
theorem word_eq : word (tbl m) = (V m c main_arg5 : IVec S2 32) (ix1 1) := by
  obtain rfl : c = 0 := Subsingleton.elim _ _
  show m _ _ = m _ _
  congr 1
  funext a
  fin_cases a
  rfl

/-- The row of the whole arrays, at a point's block. -/
def row (p : Fin 256) : Fin 2048 := ⟨256 * t.val + p, by have := lt_points m t; omega⟩

theorem index0 : ((cfgM m (ok m)).win 0).index t = ![0, t.val, 0] := map0 t
theorem index3 : ((cfgM m (ok m)).win 3).index t = ![0, t.val, 0] := map0 t
theorem index4 : ((cfgM m (ok m)).win 4).index t = ![0, t.val, 0] := map0 t
theorem index5 : ((cfgM m (ok m)).win 5).index t = ![0, t.val, 0] := map0 t
theorem index6 : ((cfgM m (ok m)).win 6).index t = ![0, t.val, 0] := map0 t
theorem index7 : ((cfgM m (ok m)).win 7).index t = ![0, t.val, 0] := map0 t
theorem index8 : ((cfgM m (ok m)).win 8).index t = ![0, t.val, 0] := map0 t
theorem index1 : ((cfgM m (ok m)).win 1).index t = ![if BitVec.ofNat 32 (t.val / 4) = word (tbl m) then t.val % 4 else 0, 0] :=
  (map1 (tbl m) (grid0.coords t)).trans (by rw [coord])
theorem index2 : ((cfgM m (ok m)).win 2).index t = ![if BitVec.ofNat 32 (t.val / 4) = word (tbl m) then 0 else t.val % 4, 0] :=
  (map2 (tbl m) (grid0.coords t)).trans (by rw [coord])

theorem block0 (p : Fin 256) (q : Fin 2048) : (iblk m (ok m) c 0 t : Vec Ideal S1x256x2048 .f32) (ix3 0 p q)
    = (V m c main_arg0 : FVec Ideal S1x2048x2048 .f32) (ix3 0 (row m t p) q) := by
  unfold row
  blk_ext [iblk, index0 m t]
theorem block3 (p : Fin 256) (q : Fin 2048) : (iblk m (ok m) c 3 t : Vec Ideal S1x256x2048 .f32) (ix3 0 p q)
    = (V m c main_arg3 : FVec Ideal S1x2048x2048 .f32) (ix3 0 (row m t p) q) := by
  unfold row
  blk_ext [iblk, index3 m t]
theorem block4 (p : Fin 256) (q : Fin 2048) : (iblk m (ok m) c 4 t : Vec Ideal S1x256x2048 .f32) (ix3 0 p q)
    = (V m c main_arg4 : FVec Ideal S1x2048x2048 .f32) (ix3 0 (row m t p) q) := by
  unfold row
  blk_ext [iblk, index4 m t]
theorem block1 (h : BitVec.ofNat 32 (t.val / 4) = word (tbl m)) (p : Fin 256) (q : Fin 2048) : (iblk m (ok m) c 1 t : Vec Ideal S256x2048 .f32) (ix2 p q)
    = (V m c main_arg1 : FVec Ideal S1024x2048 .f32) (ix2 ⟨(row m t p).val % 1024, by omega⟩ q) := by
  have e := index1 m t
  rw [if_pos h] at e
  have r : 256 * (t.val % 4) + p.val = (row m t p).val % 1024 := by unfold row; dsimp only; omega
  have b : (iblk m (ok m) c 1 t : Vec Ideal S256x2048 .f32) (ix2 p q)
      = (V m c main_arg1 : FVec Ideal S1024x2048 .f32) (ix2 ⟨256 * (t.val % 4) + p, by omega⟩ q) := by
    blk_ext [iblk, e]
  simp only [r] at b
  exact b
theorem block2 (h : ¬BitVec.ofNat 32 (t.val / 4) = word (tbl m)) (p : Fin 256) (q : Fin 2048) : (iblk m (ok m) c 2 t : Vec Ideal S256x2048 .f32) (ix2 p q)
    = (V m c main_arg2 : FVec Ideal S1024x2048 .f32) (ix2 ⟨(row m t p).val % 1024, by omega⟩ q) := by
  have e := index2 m t
  rw [if_neg h] at e
  have r : 256 * (t.val % 4) + p.val = (row m t p).val % 1024 := by unfold row; dsimp only; omega
  have b : (iblk m (ok m) c 2 t : Vec Ideal S256x2048 .f32) (ix2 p q)
      = (V m c main_arg2 : FVec Ideal S1024x2048 .f32) (ix2 ⟨256 * (t.val % 4) + p, by omega⟩ q) := by
    blk_ext [iblk, e]
  simp only [r] at b
  exact b

/-- The gradient at an element, from its two halves. -/
def grad (A B : FVec Ideal S1024x2048 .f32) (T : IVec S2 32) (p q : Fin 2048) : EReal :=
  if BitVec.ofNat 32 (p.val / 1024) = T (ix1 1) then (A (ix2 ⟨p.val % 1024, by omega⟩ q) : EReal) else B (ix2 ⟨p.val % 1024, by omega⟩ q)

/-- The four results, as functions of the arguments. -/
def G5 (A B : FVec Ideal S1024x2048 .f32) (T : IVec S2 32) : FVec Ideal S1x2048x2048 .f32 := fun y => (grad A B T (y 1) (y 2) : EReal)
def G7 (A B : FVec Ideal S1024x2048 .f32) (M : FVec Ideal S1x2048x2048 .f32) (T : IVec S2 32) : FVec Ideal S1x2048x2048 .f32 :=
  fun y => (moment (grad A B T (y 1) (y 2)) (M y) : EReal)
def G8 (A B : FVec Ideal S1024x2048 .f32) (D : FVec Ideal S1x2048x2048 .f32) (T : IVec S2 32) : FVec Ideal S1x2048x2048 .f32 :=
  fun y => (second (grad A B T (y 1) (y 2)) (D y) : EReal)
def G6 (W : FVec Ideal S1x2048x2048 .f32) (A B : FVec Ideal S1024x2048 .f32) (M D : FVec Ideal S1x2048x2048 .f32) (T : IVec S2 32) : FVec Ideal S1x2048x2048 .f32 :=
  fun y => (change (W y) (moment (grad A B T (y 1) (y 2)) (M y)) (second (grad A B T (y 1) (y 2)) (D y)) : EReal)

/-- A point's gradient. -/
theorem point (p : Fin 256) (q : Fin 2048) : (k0_pay6 (grid0.coords t) (wordOf c (tbl m 0)) (iblk m (ok m) c 1 t) (iblk m (ok m) c 2 t) (ix2 p q) : EReal)
    = grad (V m c main_arg1) (V m c main_arg2) (V m c main_arg5) (row m t p) q := by
  have e : (row m t p).val / 1024 = t.val / 4 := by unfold row; dsimp only; omega
  refine (congrFun (chosen (grid0.coords t) (wordOf c (tbl m 0)) (iblk m (ok m) c 1 t) (iblk m (ok m) c 2 t)) (ix2 p q)).trans ?_
  unfold grad
  by_cases h : BitVec.ofNat 32 (t.val / 4) = word (tbl m)
  · exact (congrFun (if_pos (by rw [coord]; exact h)) (ix2 p q)).trans
      ((block1 m c t h p q).trans (if_pos (by rw [e, ← word_eq m c]; exact h)).symm)
  · exact (congrFun (if_neg (by rw [coord]; exact h)) (ix2 p q)).trans
      ((block2 m c t h p q).trans (if_neg (by rw [e, ← word_eq m c]; exact h)).symm)

/-- Every element lies in a point's block. -/
theorem place (P : Fin 2048) (Q : Fin 2048) : ∃ (t : Fin (cfgM m (ok m)).N) (p : Fin 256) (q : Fin 2048), P = row m t p ∧ Q = q :=
  ⟨⟨P.val / 256, by show _ < 8; omega⟩, ⟨P.val % 256, by omega⟩, Q,
    Fin.ext (by unfold row; dsimp only; omega), rfl⟩

/-- The gradient in the array that holds it after the call. -/
theorem emb5 (p : Fin 256) (q : Fin 2048) : (((cfgM m (ok m)).win 5).blk t).view.emb (ix3 0 p q) = ix3 0 (row m t p) q := by
  unfold row
  blk_ext [index5 m t]
theorem after5 (p : Fin 256) (q : Fin 2048) : ((outsAt0 m (ok m) c t).1 (ix3 0 p q) : EReal)
    = G5 (V m c main_arg1) (V m c main_arg2) (V m c main_arg5) (ix3 0 (row m t p) q) := by
  unfold outsAt0
  dsimp only
  refine (congrFun (out5 c (grid0.coords t) _ _ _ _ _ _ _ _ _ _ _ _ _ _ _ _ _ _ _ _ _ _ _ _) (ix3 0 p q)).trans ?_
  refine (pay5_at (grid0.coords t) (wordOf c (tbl m 0)) _ _ p q).trans ?_
  exact point m c t p q
theorem written5 : (dats m (ok m) 0 c).flushed 5 t = (((cfgM m (ok m)).win 5).blk t).view.read (Elt Ideal) (G5 (V m c main_arg1) (V m c main_arg2) (V m c main_arg5)) := by
  have e : (dats m (ok m) 0 c).flushed 5 t = ((cfgM m (ok m)).win 5).cut (grid0.coords t) ((outsAt0 m (ok m) c t).1) := by
    show ((cfgM m (ok m)).win 5).cut (grid0.coords t) ((dats m (ok m) 0 c).after 5 t) = _
    rw [after0_5]
  rw [e]
  refine funext fun (y : S1x256x2048.Idx) => ?_
  obtain ⟨z, p, q, rfl⟩ : ∃ (z : Fin 1) (p : Fin 256) (q : Fin 2048), y = ix3 z p q := ⟨y 0, y 1, y 2, (ix3_eta y).symm⟩
  obtain rfl : z = 0 := Subsingleton.elim _ _
  exact (after5 m c t p q).trans ((congrArg (G5 (V m c main_arg1) (V m c main_arg2) (V m c main_arg5)) (emb5 m t p q)).symm.trans (cast_eq rfl _).symm)
theorem array5 : (dats m (ok m) 0 c).arrAt 5 (cfgM m (ok m)).N = G5 (V m c main_arg1) (V m c main_arg2) (V m c main_arg5) := by
  refine funext fun (y : S1x2048x2048.Idx) => ?_
  obtain ⟨z, p, q, rfl⟩ : ∃ (z : Fin 1) (p : Fin 2048) (q : Fin 2048), y = ix3 z p q := ⟨y 0, y 1, y 2, (ix3_eta y).symm⟩
  obtain rfl : z = 0 := Subsingleton.elim _ _
  obtain ⟨t, p, q, rfl, rfl⟩ := place m p q
  refine (dats m (ok m) 0 c).arrAt_apply_of_mem 5 _ (fun s _ => written5 m c s) (cfgM m (ok m)).N t _ t.isLt (flush0_5 _ t) ?_
  rw [← emb5]
  exact (((cfgM m (ok m)).win 5).blk t).view.emb_mem_set _

/-- The weights' change in the array that holds it after the call. -/
theorem emb6 (p : Fin 256) (q : Fin 2048) : (((cfgM m (ok m)).win 6).blk t).view.emb (ix3 0 p q) = ix3 0 (row m t p) q := by
  unfold row
  blk_ext [index6 m t]
theorem after6 (p : Fin 256) (q : Fin 2048) : ((outsAt0 m (ok m) c t).2.1 (ix3 0 p q) : EReal)
    = G6 (V m c main_arg0) (V m c main_arg1) (V m c main_arg2) (V m c main_arg3) (V m c main_arg4) (V m c main_arg5) (ix3 0 (row m t p) q) := by
  unfold outsAt0
  dsimp only
  refine (congrFun (out6 c (grid0.coords t) _ _ _ _ _ _ _ _ _ _ _ _ _ _ _ _ _ _ _ _ _ _ _ _) (ix3 0 p q)).trans ?_
  refine (pay6_at (grid0.coords t) (wordOf c (tbl m 0)) _ _ _ _ _ p q).trans ?_
  exact change_congr (block0 m c t p q) (congrArg₂ moment (point m c t p q) (block3 m c t p q)) (congrArg₂ second (point m c t p q) (block4 m c t p q))
theorem written6 : (dats m (ok m) 0 c).flushed 6 t = (((cfgM m (ok m)).win 6).blk t).view.read (Elt Ideal) (G6 (V m c main_arg0) (V m c main_arg1) (V m c main_arg2) (V m c main_arg3) (V m c main_arg4) (V m c main_arg5)) := by
  have e : (dats m (ok m) 0 c).flushed 6 t = ((cfgM m (ok m)).win 6).cut (grid0.coords t) ((outsAt0 m (ok m) c t).2.1) := by
    show ((cfgM m (ok m)).win 6).cut (grid0.coords t) ((dats m (ok m) 0 c).after 6 t) = _
    rw [after0_6]
  rw [e]
  refine funext fun (y : S1x256x2048.Idx) => ?_
  obtain ⟨z, p, q, rfl⟩ : ∃ (z : Fin 1) (p : Fin 256) (q : Fin 2048), y = ix3 z p q := ⟨y 0, y 1, y 2, (ix3_eta y).symm⟩
  obtain rfl : z = 0 := Subsingleton.elim _ _
  exact (after6 m c t p q).trans ((congrArg (G6 (V m c main_arg0) (V m c main_arg1) (V m c main_arg2) (V m c main_arg3) (V m c main_arg4) (V m c main_arg5)) (emb6 m t p q)).symm.trans (cast_eq rfl _).symm)
theorem array6 : (dats m (ok m) 0 c).arrAt 6 (cfgM m (ok m)).N = G6 (V m c main_arg0) (V m c main_arg1) (V m c main_arg2) (V m c main_arg3) (V m c main_arg4) (V m c main_arg5) := by
  refine funext fun (y : S1x2048x2048.Idx) => ?_
  obtain ⟨z, p, q, rfl⟩ : ∃ (z : Fin 1) (p : Fin 2048) (q : Fin 2048), y = ix3 z p q := ⟨y 0, y 1, y 2, (ix3_eta y).symm⟩
  obtain rfl : z = 0 := Subsingleton.elim _ _
  obtain ⟨t, p, q, rfl, rfl⟩ := place m p q
  refine (dats m (ok m) 0 c).arrAt_apply_of_mem 6 _ (fun s _ => written6 m c s) (cfgM m (ok m)).N t _ t.isLt (flush0_6 _ t) ?_
  rw [← emb6]
  exact (((cfgM m (ok m)).win 6).blk t).view.emb_mem_set _

/-- The first moment in the array that holds it after the call. -/
theorem emb7 (p : Fin 256) (q : Fin 2048) : (((cfgM m (ok m)).win 7).blk t).view.emb (ix3 0 p q) = ix3 0 (row m t p) q := by
  unfold row
  blk_ext [index7 m t]
theorem after7 (p : Fin 256) (q : Fin 2048) : ((outsAt0 m (ok m) c t).2.2.1 (ix3 0 p q) : EReal)
    = G7 (V m c main_arg1) (V m c main_arg2) (V m c main_arg3) (V m c main_arg5) (ix3 0 (row m t p) q) := by
  unfold outsAt0
  dsimp only
  refine (congrFun (out7 c (grid0.coords t) _ _ _ _ _ _ _ _ _ _ _ _ _ _ _ _ _ _ _ _ _ _ _ _) (ix3 0 p q)).trans ?_
  refine (pay7_at (grid0.coords t) (wordOf c (tbl m 0)) _ _ _ p q).trans ?_
  exact congrArg₂ moment (point m c t p q) (block3 m c t p q)
theorem written7 : (dats m (ok m) 0 c).flushed 7 t = (((cfgM m (ok m)).win 7).blk t).view.read (Elt Ideal) (G7 (V m c main_arg1) (V m c main_arg2) (V m c main_arg3) (V m c main_arg5)) := by
  have e : (dats m (ok m) 0 c).flushed 7 t = ((cfgM m (ok m)).win 7).cut (grid0.coords t) ((outsAt0 m (ok m) c t).2.2.1) := by
    show ((cfgM m (ok m)).win 7).cut (grid0.coords t) ((dats m (ok m) 0 c).after 7 t) = _
    rw [after0_7]
  rw [e]
  refine funext fun (y : S1x256x2048.Idx) => ?_
  obtain ⟨z, p, q, rfl⟩ : ∃ (z : Fin 1) (p : Fin 256) (q : Fin 2048), y = ix3 z p q := ⟨y 0, y 1, y 2, (ix3_eta y).symm⟩
  obtain rfl : z = 0 := Subsingleton.elim _ _
  exact (after7 m c t p q).trans ((congrArg (G7 (V m c main_arg1) (V m c main_arg2) (V m c main_arg3) (V m c main_arg5)) (emb7 m t p q)).symm.trans (cast_eq rfl _).symm)
theorem array7 : (dats m (ok m) 0 c).arrAt 7 (cfgM m (ok m)).N = G7 (V m c main_arg1) (V m c main_arg2) (V m c main_arg3) (V m c main_arg5) := by
  refine funext fun (y : S1x2048x2048.Idx) => ?_
  obtain ⟨z, p, q, rfl⟩ : ∃ (z : Fin 1) (p : Fin 2048) (q : Fin 2048), y = ix3 z p q := ⟨y 0, y 1, y 2, (ix3_eta y).symm⟩
  obtain rfl : z = 0 := Subsingleton.elim _ _
  obtain ⟨t, p, q, rfl, rfl⟩ := place m p q
  refine (dats m (ok m) 0 c).arrAt_apply_of_mem 7 _ (fun s _ => written7 m c s) (cfgM m (ok m)).N t _ t.isLt (flush0_7 _ t) ?_
  rw [← emb7]
  exact (((cfgM m (ok m)).win 7).blk t).view.emb_mem_set _

/-- The second moment in the array that holds it after the call. -/
theorem emb8 (p : Fin 256) (q : Fin 2048) : (((cfgM m (ok m)).win 8).blk t).view.emb (ix3 0 p q) = ix3 0 (row m t p) q := by
  unfold row
  blk_ext [index8 m t]
theorem after8 (p : Fin 256) (q : Fin 2048) : ((outsAt0 m (ok m) c t).2.2.2 (ix3 0 p q) : EReal)
    = G8 (V m c main_arg1) (V m c main_arg2) (V m c main_arg4) (V m c main_arg5) (ix3 0 (row m t p) q) := by
  unfold outsAt0
  dsimp only
  refine (congrFun (out8 c (grid0.coords t) _ _ _ _ _ _ _ _ _ _ _ _ _ _ _ _ _ _ _ _ _ _ _ _) (ix3 0 p q)).trans ?_
  refine (pay8_at (grid0.coords t) (wordOf c (tbl m 0)) _ _ _ p q).trans ?_
  exact congrArg₂ second (point m c t p q) (block4 m c t p q)
theorem written8 : (dats m (ok m) 0 c).flushed 8 t = (((cfgM m (ok m)).win 8).blk t).view.read (Elt Ideal) (G8 (V m c main_arg1) (V m c main_arg2) (V m c main_arg4) (V m c main_arg5)) := by
  have e : (dats m (ok m) 0 c).flushed 8 t = ((cfgM m (ok m)).win 8).cut (grid0.coords t) ((outsAt0 m (ok m) c t).2.2.2) := by
    show ((cfgM m (ok m)).win 8).cut (grid0.coords t) ((dats m (ok m) 0 c).after 8 t) = _
    rw [after0_8]
  rw [e]
  refine funext fun (y : S1x256x2048.Idx) => ?_
  obtain ⟨z, p, q, rfl⟩ : ∃ (z : Fin 1) (p : Fin 256) (q : Fin 2048), y = ix3 z p q := ⟨y 0, y 1, y 2, (ix3_eta y).symm⟩
  obtain rfl : z = 0 := Subsingleton.elim _ _
  exact (after8 m c t p q).trans ((congrArg (G8 (V m c main_arg1) (V m c main_arg2) (V m c main_arg4) (V m c main_arg5)) (emb8 m t p q)).symm.trans (cast_eq rfl _).symm)
theorem array8 : (dats m (ok m) 0 c).arrAt 8 (cfgM m (ok m)).N = G8 (V m c main_arg1) (V m c main_arg2) (V m c main_arg4) (V m c main_arg5) := by
  refine funext fun (y : S1x2048x2048.Idx) => ?_
  obtain ⟨z, p, q, rfl⟩ : ∃ (z : Fin 1) (p : Fin 2048) (q : Fin 2048), y = ix3 z p q := ⟨y 0, y 1, y 2, (ix3_eta y).symm⟩
  obtain rfl : z = 0 := Subsingleton.elim _ _
  obtain ⟨t, p, q, rfl, rfl⟩ := place m p q
  refine (dats m (ok m) 0 c).arrAt_apply_of_mem 8 _ (fun s _ => written8 m c s) (cfgM m (ok m)).N t _ t.isLt (flush0_8 _ t) ?_
  rw [← emb8]
  exact (((cfgM m (ok m)).win 8).blk t).view.emb_mem_set _

/-- The run: the results and the arguments. -/
theorem run_array (ρ : Dev nD → PrngReg) :
    θ_run defs (onTc (τ := τ) (main (F := Ideal))) ⟨m, fun _ => 0, ρ⟩ fun r => ∀ c : Dev nD,
      r.2.mem ((c : Thread nD τ).loc main_v0_0) = G5 (m ((c : Thread nD τ).loc main_arg1)) (m ((c : Thread nD τ).loc main_arg2)) (m ((c : Thread nD τ).loc main_arg5))
      ∧ r.2.mem ((c : Thread nD τ).loc main_v0_1) = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = G7 (m ((c : Thread nD τ).loc main_arg1)) (m ((c : Thread nD τ).loc main_arg2)) (m ((c : Thread nD τ).loc main_arg3)) (m ((c : Thread nD τ).loc main_arg5))
      ∧ r.2.mem ((c : Thread nD τ).loc main_v0_3) = G8 (m ((c : Thread nD τ).loc main_arg1)) (m ((c : Thread nD τ).loc main_arg2)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨
      ((h c).1 5).trans (array5 m c),
      ((h c).1 6).trans (array6 m c),
      ((h c).1 7).trans (array7 m c),
      ((h c).1 8).trans (array8 m c),
      ((h c).1 0).trans (((dats m (ok m) 0 c).arrAt_in 0 rfl _).trans (A_eq m (ok m) c 0)),
      ((h c).1 1).trans (((dats m (ok m) 0 c).arrAt_in 1 rfl _).trans (A_eq m (ok m) c 1)),
      ((h c).1 2).trans (((dats m (ok m) 0 c).arrAt_in 2 rfl _).trans (A_eq m (ok m) c 2)),
      ((h c).1 3).trans (((dats m (ok m) 0 c).arrAt_in 3 rfl _).trans (A_eq m (ok m) c 3)),
      ((h c).1 4).trans (((dats m (ok m) 0 c).arrAt_in 4 rfl _).trans (A_eq m (ok m) c 4)),
      (h c).2 main_arg5 (by decide : main_arg5 ∈ Pipeline.restRefs sig spec0)⟩)
    (run_main m ρ (ok m))

end Cert.StepUpIdeal.Step

namespace Cert.StepUpRefIdeal.Step

open Idealize.ShloMosaic Idealize.ShloMosaic.TcCoe Idealize.ShloMosaic.Tactic
open Cert.StepUpRefIdeal.Gen Cert.Products Cert.Optimiser

/-- The gradient put together by the reference. -/
def joined (A B : FVec Ideal S1024x2048 .f32) (T : IVec S2 32) : FVec Ideal S1x2048x2048 .f32 :=
  broadcastInDim S1x2048x2048 ![1, 2] bcast_S2048x2048_S1x2048x2048_1_2 (concatenate S2048x2048 0
    [⟨S1024x2048, (select (broadcastInDim S1024x2048 ![] bcast_S_S1024x2048 (cmpi .eq (shapeCast S_ (extractStridedSlice S1 ![1] T slices_S2_S1_1) shapeCasts_S1_S_) (constantI S_ 32 0#32))) A B : FVec Ideal S1024x2048 .f32)⟩,
     ⟨S1024x2048, (select (broadcastInDim S1024x2048 ![] bcast_S_S1024x2048 (cmpi .eq (shapeCast S_ (extractStridedSlice S1 ![1] T slices_S2_S1_1) shapeCasts_S1_S_) (constantI S_ 32 1#32))) A B : FVec Ideal S1024x2048 .f32)⟩]
    concatenates_S1024x2048_S1024x2048_S2048x2048_d0)

/-- It is the same gradient. -/
theorem joined_at (A B : FVec Ideal S1024x2048 .f32) (T : IVec S2 32) (z : Fin 1) (p q : Fin 2048) :
    (joined A B T (ix3 z p q) : EReal) = Cert.StepUpIdeal.Step.grad A B T p q := by
  obtain rfl : z = 0 := Subsingleton.elim _ _
  unfold Cert.StepUpIdeal.Step.grad
  pointwise [joined]
  by_cases h : p.val < 1024
  · have e : p.val / 1024 = 0 := by omega
    have r : p.val % 1024 = p.val := by omega
    simp only [e, r]
    refine (dif_pos h).trans (choice_comm _ _ _ _)
  · have e : p.val / 1024 = 1 := by omega
    have r : p.val % 1024 = p.val - 1024 := by omega
    simp only [e, r]
    refine (dif_neg h).trans (choice_comm _ _ _ _)

/-- The reference's results are the same functions of the arguments. -/
theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = Cert.StepUpIdeal.Step.G5 (m ((c.tc : Thread nD τ).loc main_arg1)) (m ((c.tc : Thread nD τ).loc main_arg2)) (m ((c.tc : Thread nD τ).loc main_arg5))
      ∧ r.2.mem ((c.tc : Thread nD τ).loc main_v33) = Cert.StepUpIdeal.Step.G6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v14) = Cert.StepUpIdeal.Step.G7 (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v20) = Cert.StepUpIdeal.Step.G8 (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2.1.trans ?_, (h c).2.2.1.trans ?_, (h c).2.2.2.1.trans ?_, (h c).2.2.2.2⟩)
    (Cert.StepUpRefIdeal.Value.run (F := Ideal) m ρ)

  · funext y
    obtain ⟨z, p, q, rfl⟩ : ∃ (z : Fin 1) (p : Fin 2048) (q : Fin 2048), y = ix3 z p q := ⟨y 0, y 1, y 2, (ix3_eta y).symm⟩
    have j := joined_at (m ((c.tc : Thread nD τ).loc main_arg1)) (m ((c.tc : Thread nD τ).loc main_arg2)) (m ((c.tc : Thread nD τ).loc main_arg5)) z p q
    unfold Cert.StepUpIdeal.Step.G5
    exact j
  · funext y
    obtain ⟨z, p, q, rfl⟩ : ∃ (z : Fin 1) (p : Fin 2048) (q : Fin 2048), y = ix3 z p q := ⟨y 0, y 1, y 2, (ix3_eta y).symm⟩
    have j := joined_at (m ((c.tc : Thread nD τ).loc main_arg1)) (m ((c.tc : Thread nD τ).loc main_arg2)) (m ((c.tc : Thread nD τ).loc main_arg5)) z p q
    unfold Cert.StepUpIdeal.Step.G6
    unfold change moment second
    simp only [ix3_0, ix3_1, ix3_2, ← j]
    rfl
  · funext y
    obtain ⟨z, p, q, rfl⟩ : ∃ (z : Fin 1) (p : Fin 2048) (q : Fin 2048), y = ix3 z p q := ⟨y 0, y 1, y 2, (ix3_eta y).symm⟩
    have j := joined_at (m ((c.tc : Thread nD τ).loc main_arg1)) (m ((c.tc : Thread nD τ).loc main_arg2)) (m ((c.tc : Thread nD τ).loc main_arg5)) z p q
    unfold Cert.StepUpIdeal.Step.G7
    unfold moment
    simp only [ix3_0, ix3_1, ix3_2, ← j]
    rfl
  · funext y
    obtain ⟨z, p, q, rfl⟩ : ∃ (z : Fin 1) (p : Fin 2048) (q : Fin 2048), y = ix3 z p q := ⟨y 0, y 1, y 2, (ix3_eta y).symm⟩
    have j := joined_at (m ((c.tc : Thread nD τ).loc main_arg1)) (m ((c.tc : Thread nD τ).loc main_arg2)) (m ((c.tc : Thread nD τ).loc main_arg5)) z p q
    unfold Cert.StepUpIdeal.Step.G8
    unfold second
    simp only [ix3_0, ix3_1, ix3_2, ← j]
    rfl

end Cert.StepUpRefIdeal.Step

namespace Cert.StepUpIdeal.Step

open Idealize.ShloMosaic Idealize.ShloMosaic.TcCoe

theorem frame : Cert.quiescent_StepUpIdeal := fun m ρ _ => Gen.frame m ρ (ok m)
theorem frame_ref : Cert.quiescent_StepUpRefIdeal := fun m ρ _ =>
  (θ_run Cert.StepUpRefIdeal.defs _ _).mono (fun r h => ⟨fun c => (h c).2.2.2.2, sem_eq_zero_of_no_sems (by decide) r.2⟩)
    (Cert.StepUpRefIdeal.Step.result m ρ)
theorem algebraic : Cert.algebraic_StepUpIdeal_StepUpRefIdeal := by
  intro m g m' g' _ hagree
  refine ⟨_, _, _, _, run_array m g, ?_⟩
  refine (θ_run Cert.StepUpRefIdeal.defs _ _).mono (fun r h c => ⟨(h c).1.trans ?_, (h c).2.1.trans ?_, (h c).2.2.1.trans ?_, (h c).2.2.2.1.trans ?_, (h c).2.2.2.2⟩)
    (Cert.StepUpRefIdeal.Step.result m' g')
  · rw [(hagree c).2.1, (hagree c).2.2.1, (hagree c).2.2.2.2.2]
  · rw [(hagree c).1, (hagree c).2.1, (hagree c).2.2.1, (hagree c).2.2.2.1, (hagree c).2.2.2.2.1, (hagree c).2.2.2.2.2]
  · rw [(hagree c).2.1, (hagree c).2.2.1, (hagree c).2.2.2.1, (hagree c).2.2.2.2.2]
  · rw [(hagree c).2.1, (hagree c).2.2.1, (hagree c).2.2.2.2.1, (hagree c).2.2.2.2.2]

end Cert.StepUpIdeal.Step

end
-- ==== Proof.StepIn.lean ====
/- The optimiser's step on a matrix's shard, whose gradient comes in two halves of the columns: the gradient
   put together, the weights' change and the two moments are the reference's, at every element. -/
module

public import proofs.«01_k».proof.Defs
public import proofs.«01_k».proof.Proof.Gen.StepIn.Frame
public import proofs.«01_k».proof.Proof.Gen.StepInIdeal.Frame
public import proofs.«01_k».proof.Proof.Gen.StepInRefIdeal.Run
public import proofs.«01_k».proof.Proof.Products
public import proofs.«01_k».proof.Proof.Optimiser

@[expose] public section

noncomputable section

namespace Cert.StepInIdeal.Step

open Idealize.ShloMosaic Idealize.ShloMosaic.TcCoe Idealize.ShloMosaic.Tactic
open Cert.StepInIdeal.Gen Cert.Products Cert.Optimiser

section Body

variable {F : FTy → Type} [FloatOps F] (c : Dev nD) (i : grid0.Coords)
    (a3 : Memref sig .tc .vmem S1x336x1024 .f32) (h3 : a3.IsWhole) (a4 : Memref sig .tc .vmem S336x1024 .f32) (h4 : a4.IsWhole)
    (a5 : Memref sig .tc .vmem S336x1024 .f32) (h5 : a5.IsWhole) (a6 : Memref sig .tc .vmem S1x336x1024 .f32) (h6 : a6.IsWhole)
    (a7 : Memref sig .tc .vmem S1x336x1024 .f32) (h7 : a7.IsWhole) (a8 : Memref sig .tc .vmem S1x336x1024 .f32) (h8 : a8.IsWhole)
    (a9 : Memref sig .tc .vmem S1x336x1024 .f32) (h9 : a9.IsWhole) (a10 : Memref sig .tc .vmem S1x336x1024 .f32) (h10 : a10.IsWhole)
    (a11 : Memref sig .tc .vmem S1x336x1024 .f32) (h11 : a11.IsWhole)
    (x0 : Vec F S1x336x1024 .f32) (x1 x2 : Vec F S336x1024 .f32) (x3 x4 : Vec F S1x336x1024 .f32) (xt : TbBuf0 (F := F) c tbM0_0)

/-- The word of the table that the body reads. -/
abbrev wordOf : BitVec 32 := View.ld (View.read (Elt F) (View.whole main_arg5) xt) (Rect.unit (s := S2) ![1] S1.size inb_S2_S1_1) (Shape.Idx.first (by decide))

/-- What the body stores of the gradient. -/
theorem out5 : out0_A_5 c i a3 h3 a4 h4 a5 h5 a6 h6 a7 h7 a8 h8 a9 h9 a10 h10 a11 h11 x0 x1 x2 x3 x4 xt
    = k0_pay1 (k0_pay5 i (wordOf c xt) x1 x2) := by
  unfold out0_A_5
  rw [View.read_writes_junk_eq_canon]
  unfold kernelRun0_A
  dsimp only
  sl_unfold_words
  rw [View.canon_unit_zero zeros3]
  simp only [View.readAt_eq_ld, h3.read_unread, h4.read_unread, h5.read_unread, h6.read_unread, h7.read_unread, View.ld_unit_zero (S := S336x1024) zeros2,
    View.ld_unit_zero (S := S1x336x1024) zeros3]

/-- What the body stores of the weights' change. -/
theorem out6 : out0_A_6 c i a3 h3 a4 h4 a5 h5 a6 h6 a7 h7 a8 h8 a9 h9 a10 h10 a11 h11 x0 x1 x2 x3 x4 xt
    = k0_pay2 (k0_pay8 i (wordOf c xt) x1 x2 x0 x3 x4) := by
  unfold out0_A_6
  rw [View.read_writes_junk_eq_canon]
  unfold kernelRun0_A
  dsimp only
  sl_unfold_words
  rw [View.canon_unit_zero zeros3]
  simp only [View.readAt_eq_ld, h3.read_unread, h4.read_unread, h5.read_unread, h6.read_unread, h7.read_unread, View.ld_unit_zero (S := S336x1024) zeros2,
    View.ld_unit_zero (S := S1x336x1024) zeros3]

/-- What the body stores of the first moment. -/
theorem out7 : out0_A_7 c i a3 h3 a4 h4 a5 h5 a6 h6 a7 h7 a8 h8 a9 h9 a10 h10 a11 h11 x0 x1 x2 x3 x4 xt
    = k0_pay3 (k0_pay6 i (wordOf c xt) x1 x2 x3) := by
  unfold out0_A_7
  rw [View.read_writes_junk_eq_canon]
  unfold kernelRun0_A
  dsimp only
  sl_unfold_words
  rw [View.canon_unit_zero zeros3]
  simp only [View.readAt_eq_ld, h3.read_unread, h4.read_unread, h5.read_unread, h6.read_unread, h7.read_unread, View.ld_unit_zero (S := S336x1024) zeros2,
    View.ld_unit_zero (S := S1x336x1024) zeros3]

/-- What the body stores of the second moment. -/
theorem out8 : out0_A_8 c i a3 h3 a4 h4 a5 h5 a6 h6 a7 h7 a8 h8 a9 h9 a10 h10 a11 h11 x0 x1 x2 x3 x4 xt
    = k0_pay4 (k0_pay7 i (wordOf c xt) x1 x2 x4) := by
  unfold out0_A_8
  rw [View.read_writes_junk_eq_canon]
  unfold kernelRun0_A
  dsimp only
  sl_unfold_words
  rw [View.canon_unit_zero zeros3]
  simp only [View.readAt_eq_ld, h3.read_unread, h4.read_unread, h5.read_unread, h6.read_unread, h7.read_unread, View.ld_unit_zero (S := S336x1024) zeros2,
    View.ld_unit_zero (S := S1x336x1024) zeros3]

end Body

section Values

/-- The gradient's block: the device's own half's where the point's columns lie in it, else the other's. -/
theorem chosen {F : FTy → Type} [FloatOps F] (i : grid0.Coords) (w : BitVec 32) (x1 x2 : Vec F S336x1024 .f32) :
    k0_pay5 i w x1 x2 = if BitVec.ofNat 32 (i 1).val = w then x1 else x2 := by
  unfold k0_pay5 Scalar.cmpi
  exact choice _ w x1 x2

variable (i : grid0.Coords) (w : BitVec 32) (x0 : Vec Ideal S1x336x1024 .f32) (x1 x2 : Vec Ideal S336x1024 .f32) (x3 x4 : Vec Ideal S1x336x1024 .f32)
    (p : Fin 336) (q : Fin 1024)

theorem pay5_at : (k0_pay1 (k0_pay5 i w x1 x2) (ix3 0 p q) : EReal)
    = (k0_pay5 i w x1 x2 (ix2 p q)) := by
  pointwise [k0_pay1]

theorem pay6_at : (k0_pay2 (k0_pay8 i w x1 x2 x0 x3 x4) (ix3 0 p q) : EReal)
    = change (x0 (ix3 0 p q)) (moment (k0_pay5 i w x1 x2 (ix2 p q)) (x3 (ix3 0 p q))) (second (k0_pay5 i w x1 x2 (ix2 p q)) (x4 (ix3 0 p q))) := by
  unfold change moment second
  pointwise [k0_pay2, k0_pay8, k0_pay7, k0_pay6]

theorem pay7_at : (k0_pay3 (k0_pay6 i w x1 x2 x3) (ix3 0 p q) : EReal)
    = moment (k0_pay5 i w x1 x2 (ix2 p q)) (x3 (ix3 0 p q)) := by
  unfold moment
  pointwise [k0_pay3, k0_pay6]

theorem pay8_at : (k0_pay4 (k0_pay7 i w x1 x2 x4) (ix3 0 p q) : EReal)
    = second (k0_pay5 i w x1 x2 (ix2 p q)) (x4 (ix3 0 p q)) := by
  unfold second
  pointwise [k0_pay4, k0_pay7]

end Values

theorem coord (t : Fin grid0.N) : ((grid0.coords t) 1).val = t.val % 2 := by
  revert t
  decide +kernel
theorem map0 : ∀ t : Fin grid0.N, cc0_transform_0 (grid0.coords t) = ![0, t.val / 2, t.val % 2] := by decide +kernel
theorem map1 : ∀ t : Fin grid0.N, cc0_transform_1 (grid0.coords t) = ![t.val / 2, 0] := by decide +kernel

/-- No block's place depends on the table. -/
theorem ok {F : FTy → Type} [FloatOps F] (m : (ℓ : Loc nD τ sig) → Buf (Elt F) ℓ) : Ok m := trivial

/-- The word of the table that tells which half is the device's own. -/
abbrev word {F : FTy → Type} [FloatOps F] (pf : pre0.Contents (Elt F)) : BitVec 32 := pf.at 0 (Rect.unit (s := S2) ![1] S1.size inb_S2_S1_1) numel1_S1

variable (m : (ℓ : Loc nD τ sig) → Buf (Elt Ideal) ℓ) (c : Dev nD) (t : Fin (cfgM m (ok m)).N)

theorem lt_points : t.val < 8 := t.isLt

/-- The word is the second of the table's two. -/
theorem word_eq : word (tbl m) = (V m c main_arg5 : IVec S2 32) (ix1 1) := by
  obtain rfl : c = 0 := Subsingleton.elim _ _
  show m _ _ = m _ _
  congr 1
  funext a
  fin_cases a
  rfl

/-- The row and the column of the whole arrays, at a point's block. -/
def row (p : Fin 336) : Fin 1344 := ⟨336 * (t.val / 2) + p, by have := lt_points m t; omega⟩
def col (q : Fin 1024) : Fin 2048 := ⟨1024 * (t.val % 2) + q, by omega⟩

theorem index0 : ((cfgM m (ok m)).win 0).index t = ![0, t.val / 2, t.val % 2] := map0 t
theorem index3 : ((cfgM m (ok m)).win 3).index t = ![0, t.val / 2, t.val % 2] := map0 t
theorem index4 : ((cfgM m (ok m)).win 4).index t = ![0, t.val / 2, t.val % 2] := map0 t
theorem index5 : ((cfgM m (ok m)).win 5).index t = ![0, t.val / 2, t.val % 2] := map0 t
theorem index6 : ((cfgM m (ok m)).win 6).index t = ![0, t.val / 2, t.val % 2] := map0 t
theorem index7 : ((cfgM m (ok m)).win 7).index t = ![0, t.val / 2, t.val % 2] := map0 t
theorem index8 : ((cfgM m (ok m)).win 8).index t = ![0, t.val / 2, t.val % 2] := map0 t
theorem index1 : ((cfgM m (ok m)).win 1).index t = ![t.val / 2, 0] := map1 t
theorem index2 : ((cfgM m (ok m)).win 2).index t = ![t.val / 2, 0] := map1 t

theorem block0 (p : Fin 336) (q : Fin 1024) : (iblk m (ok m) c 0 t : Vec Ideal S1x336x1024 .f32) (ix3 0 p q)
    = (V m c main_arg0 : FVec Ideal S1x1344x2048 .f32) (ix3 0 (row m t p) (col m t q)) := by
  unfold row col
  blk_ext [iblk, index0 m t]
theorem block3 (p : Fin 336) (q : Fin 1024) : (iblk m (ok m) c 3 t : Vec Ideal S1x336x1024 .f32) (ix3 0 p q)
    = (V m c main_arg3 : FVec Ideal S1x1344x2048 .f32) (ix3 0 (row m t p) (col m t q)) := by
  unfold row col
  blk_ext [iblk, index3 m t]
theorem block4 (p : Fin 336) (q : Fin 1024) : (iblk m (ok m) c 4 t : Vec Ideal S1x336x1024 .f32) (ix3 0 p q)
    = (V m c main_arg4 : FVec Ideal S1x1344x2048 .f32) (ix3 0 (row m t p) (col m t q)) := by
  unfold row col
  blk_ext [iblk, index4 m t]
theorem block1 (p : Fin 336) (q : Fin 1024) : (iblk m (ok m) c 1 t : Vec Ideal S336x1024 .f32) (ix2 p q)
    = (V m c main_arg1 : FVec Ideal S1344x1024 .f32) (ix2 (row m t p) q) := by
  unfold row
  blk_ext [iblk, index1 m t]
theorem block2 (p : Fin 336) (q : Fin 1024) : (iblk m (ok m) c 2 t : Vec Ideal S336x1024 .f32) (ix2 p q)
    = (V m c main_arg2 : FVec Ideal S1344x1024 .f32) (ix2 (row m t p) q) := by
  unfold row
  blk_ext [iblk, index2 m t]

/-- The gradient at an element, from its two halves. -/
def grad (A B : FVec Ideal S1344x1024 .f32) (T : IVec S2 32) (p : Fin 1344) (q : Fin 2048) : EReal :=
  if BitVec.ofNat 32 (q.val / 1024) = T (ix1 1) then (A (ix2 p ⟨q.val % 1024, by omega⟩) : EReal) else B (ix2 p ⟨q.val % 1024, by omega⟩)

/-- The four results, as functions of the arguments. -/
def G5 (A B : FVec Ideal S1344x1024 .f32) (T : IVec S2 32) : FVec Ideal S1x1344x2048 .f32 := fun y => (grad A B T (y 1) (y 2) : EReal)
def G7 (A B : FVec Ideal S1344x1024 .f32) (M : FVec Ideal S1x1344x2048 .f32) (T : IVec S2 32) : FVec Ideal S1x1344x2048 .f32 :=
  fun y => (moment (grad A B T (y 1) (y 2)) (M y) : EReal)
def G8 (A B : FVec Ideal S1344x1024 .f32) (D : FVec Ideal S1x1344x2048 .f32) (T : IVec S2 32) : FVec Ideal S1x1344x2048 .f32 :=
  fun y => (second (grad A B T (y 1) (y 2)) (D y) : EReal)
def G6 (W : FVec Ideal S1x1344x2048 .f32) (A B : FVec Ideal S1344x1024 .f32) (M D : FVec Ideal S1x1344x2048 .f32) (T : IVec S2 32) : FVec Ideal S1x1344x2048 .f32 :=
  fun y => (change (W y) (moment (grad A B T (y 1) (y 2)) (M y)) (second (grad A B T (y 1) (y 2)) (D y)) : EReal)

/-- A point's gradient. -/
theorem point (p : Fin 336) (q : Fin 1024) : (k0_pay5 (grid0.coords t) (wordOf c (tbl m 0)) (iblk m (ok m) c 1 t) (iblk m (ok m) c 2 t) (ix2 p q) : EReal)
    = grad (V m c main_arg1) (V m c main_arg2) (V m c main_arg5) (row m t p) (col m t q) := by
  have e : (col m t q).val / 1024 = t.val % 2 := by unfold col; dsimp only; omega
  have r : (col m t q).val % 1024 = q.val := by unfold col; dsimp only; omega
  refine (congrFun (chosen (grid0.coords t) (wordOf c (tbl m 0)) (iblk m (ok m) c 1 t) (iblk m (ok m) c 2 t)) (ix2 p q)).trans ?_
  unfold grad
  simp only [r]
  by_cases h : BitVec.ofNat 32 (t.val % 2) = word (tbl m)
  · exact (congrFun (if_pos (by rw [coord]; exact h)) (ix2 p q)).trans
      ((block1 m c t p q).trans (if_pos (by rw [e, ← word_eq m c]; exact h)).symm)
  · exact (congrFun (if_neg (by rw [coord]; exact h)) (ix2 p q)).trans
      ((block2 m c t p q).trans (if_neg (by rw [e, ← word_eq m c]; exact h)).symm)

/-- Every element lies in a point's block. -/
theorem place (P : Fin 1344) (Q : Fin 2048) : ∃ (t : Fin (cfgM m (ok m)).N) (p : Fin 336) (q : Fin 1024), P = row m t p ∧ Q = col m t q :=
  ⟨⟨2 * (P.val / 336) + Q.val / 1024, by show _ < 8; omega⟩, ⟨P.val % 336, by omega⟩, ⟨Q.val % 1024, by omega⟩,
    Fin.ext (by unfold row; dsimp only; omega), Fin.ext (by unfold col; dsimp only; omega)⟩

/-- The gradient in the array that holds it after the call. -/
theorem emb5 (p : Fin 336) (q : Fin 1024) : (((cfgM m (ok m)).win 5).blk t).view.emb (ix3 0 p q) = ix3 0 (row m t p) (col m t q) := by
  unfold row col
  blk_ext [index5 m t]
theorem after5 (p : Fin 336) (q : Fin 1024) : ((outsAt0 m (ok m) c t).1 (ix3 0 p q) : EReal)
    = G5 (V m c main_arg1) (V m c main_arg2) (V m c main_arg5) (ix3 0 (row m t p) (col m t q)) := by
  unfold outsAt0
  dsimp only
  refine (congrFun (out5 c (grid0.coords t) _ _ _ _ _ _ _ _ _ _ _ _ _ _ _ _ _ _ _ _ _ _ _ _) (ix3 0 p q)).trans ?_
  refine (pay5_at (grid0.coords t) (wordOf c (tbl m 0)) _ _ p q).trans ?_
  exact point m c t p q
theorem written5 : (dats m (ok m) 0 c).flushed 5 t = (((cfgM m (ok m)).win 5).blk t).view.read (Elt Ideal) (G5 (V m c main_arg1) (V m c main_arg2) (V m c main_arg5)) := by
  have e : (dats m (ok m) 0 c).flushed 5 t = ((cfgM m (ok m)).win 5).cut (grid0.coords t) ((outsAt0 m (ok m) c t).1) := by
    show ((cfgM m (ok m)).win 5).cut (grid0.coords t) ((dats m (ok m) 0 c).after 5 t) = _
    rw [after0_5]
  rw [e]
  refine funext fun (y : S1x336x1024.Idx) => ?_
  obtain ⟨z, p, q, rfl⟩ : ∃ (z : Fin 1) (p : Fin 336) (q : Fin 1024), y = ix3 z p q := ⟨y 0, y 1, y 2, (ix3_eta y).symm⟩
  obtain rfl : z = 0 := Subsingleton.elim _ _
  exact (after5 m c t p q).trans ((congrArg (G5 (V m c main_arg1) (V m c main_arg2) (V m c main_arg5)) (emb5 m t p q)).symm.trans (cast_eq rfl _).symm)
theorem array5 : (dats m (ok m) 0 c).arrAt 5 (cfgM m (ok m)).N = G5 (V m c main_arg1) (V m c main_arg2) (V m c main_arg5) := by
  refine funext fun (y : S1x1344x2048.Idx) => ?_
  obtain ⟨z, p, q, rfl⟩ : ∃ (z : Fin 1) (p : Fin 1344) (q : Fin 2048), y = ix3 z p q := ⟨y 0, y 1, y 2, (ix3_eta y).symm⟩
  obtain rfl : z = 0 := Subsingleton.elim _ _
  obtain ⟨t, p, q, rfl, rfl⟩ := place m p q
  refine (dats m (ok m) 0 c).arrAt_apply_of_mem 5 _ (fun s _ => written5 m c s) (cfgM m (ok m)).N t _ t.isLt (flush0_5 _ t) ?_
  rw [← emb5]
  exact (((cfgM m (ok m)).win 5).blk t).view.emb_mem_set _

/-- The weights' change in the array that holds it after the call. -/
theorem emb6 (p : Fin 336) (q : Fin 1024) : (((cfgM m (ok m)).win 6).blk t).view.emb (ix3 0 p q) = ix3 0 (row m t p) (col m t q) := by
  unfold row col
  blk_ext [index6 m t]
theorem after6 (p : Fin 336) (q : Fin 1024) : ((outsAt0 m (ok m) c t).2.1 (ix3 0 p q) : EReal)
    = G6 (V m c main_arg0) (V m c main_arg1) (V m c main_arg2) (V m c main_arg3) (V m c main_arg4) (V m c main_arg5) (ix3 0 (row m t p) (col m t q)) := by
  unfold outsAt0
  dsimp only
  refine (congrFun (out6 c (grid0.coords t) _ _ _ _ _ _ _ _ _ _ _ _ _ _ _ _ _ _ _ _ _ _ _ _) (ix3 0 p q)).trans ?_
  refine (pay6_at (grid0.coords t) (wordOf c (tbl m 0)) _ _ _ _ _ p q).trans ?_
  exact change_congr (block0 m c t p q) (congrArg₂ moment (point m c t p q) (block3 m c t p q)) (congrArg₂ second (point m c t p q) (block4 m c t p q))
theorem written6 : (dats m (ok m) 0 c).flushed 6 t = (((cfgM m (ok m)).win 6).blk t).view.read (Elt Ideal) (G6 (V m c main_arg0) (V m c main_arg1) (V m c main_arg2) (V m c main_arg3) (V m c main_arg4) (V m c main_arg5)) := by
  have e : (dats m (ok m) 0 c).flushed 6 t = ((cfgM m (ok m)).win 6).cut (grid0.coords t) ((outsAt0 m (ok m) c t).2.1) := by
    show ((cfgM m (ok m)).win 6).cut (grid0.coords t) ((dats m (ok m) 0 c).after 6 t) = _
    rw [after0_6]
  rw [e]
  refine funext fun (y : S1x336x1024.Idx) => ?_
  obtain ⟨z, p, q, rfl⟩ : ∃ (z : Fin 1) (p : Fin 336) (q : Fin 1024), y = ix3 z p q := ⟨y 0, y 1, y 2, (ix3_eta y).symm⟩
  obtain rfl : z = 0 := Subsingleton.elim _ _
  exact (after6 m c t p q).trans ((congrArg (G6 (V m c main_arg0) (V m c main_arg1) (V m c main_arg2) (V m c main_arg3) (V m c main_arg4) (V m c main_arg5)) (emb6 m t p q)).symm.trans (cast_eq rfl _).symm)
theorem array6 : (dats m (ok m) 0 c).arrAt 6 (cfgM m (ok m)).N = G6 (V m c main_arg0) (V m c main_arg1) (V m c main_arg2) (V m c main_arg3) (V m c main_arg4) (V m c main_arg5) := by
  refine funext fun (y : S1x1344x2048.Idx) => ?_
  obtain ⟨z, p, q, rfl⟩ : ∃ (z : Fin 1) (p : Fin 1344) (q : Fin 2048), y = ix3 z p q := ⟨y 0, y 1, y 2, (ix3_eta y).symm⟩
  obtain rfl : z = 0 := Subsingleton.elim _ _
  obtain ⟨t, p, q, rfl, rfl⟩ := place m p q
  refine (dats m (ok m) 0 c).arrAt_apply_of_mem 6 _ (fun s _ => written6 m c s) (cfgM m (ok m)).N t _ t.isLt (flush0_6 _ t) ?_
  rw [← emb6]
  exact (((cfgM m (ok m)).win 6).blk t).view.emb_mem_set _

/-- The first moment in the array that holds it after the call. -/
theorem emb7 (p : Fin 336) (q : Fin 1024) : (((cfgM m (ok m)).win 7).blk t).view.emb (ix3 0 p q) = ix3 0 (row m t p) (col m t q) := by
  unfold row col
  blk_ext [index7 m t]
theorem after7 (p : Fin 336) (q : Fin 1024) : ((outsAt0 m (ok m) c t).2.2.1 (ix3 0 p q) : EReal)
    = G7 (V m c main_arg1) (V m c main_arg2) (V m c main_arg3) (V m c main_arg5) (ix3 0 (row m t p) (col m t q)) := by
  unfold outsAt0
  dsimp only
  refine (congrFun (out7 c (grid0.coords t) _ _ _ _ _ _ _ _ _ _ _ _ _ _ _ _ _ _ _ _ _ _ _ _) (ix3 0 p q)).trans ?_
  refine (pay7_at (grid0.coords t) (wordOf c (tbl m 0)) _ _ _ p q).trans ?_
  exact congrArg₂ moment (point m c t p q) (block3 m c t p q)
theorem written7 : (dats m (ok m) 0 c).flushed 7 t = (((cfgM m (ok m)).win 7).blk t).view.read (Elt Ideal) (G7 (V m c main_arg1) (V m c main_arg2) (V m c main_arg3) (V m c main_arg5)) := by
  have e : (dats m (ok m) 0 c).flushed 7 t = ((cfgM m (ok m)).win 7).cut (grid0.coords t) ((outsAt0 m (ok m) c t).2.2.1) := by
    show ((cfgM m (ok m)).win 7).cut (grid0.coords t) ((dats m (ok m) 0 c).after 7 t) = _
    rw [after0_7]
  rw [e]
  refine funext fun (y : S1x336x1024.Idx) => ?_
  obtain ⟨z, p, q, rfl⟩ : ∃ (z : Fin 1) (p : Fin 336) (q : Fin 1024), y = ix3 z p q := ⟨y 0, y 1, y 2, (ix3_eta y).symm⟩
  obtain rfl : z = 0 := Subsingleton.elim _ _
  exact (after7 m c t p q).trans ((congrArg (G7 (V m c main_arg1) (V m c main_arg2) (V m c main_arg3) (V m c main_arg5)) (emb7 m t p q)).symm.trans (cast_eq rfl _).symm)
theorem array7 : (dats m (ok m) 0 c).arrAt 7 (cfgM m (ok m)).N = G7 (V m c main_arg1) (V m c main_arg2) (V m c main_arg3) (V m c main_arg5) := by
  refine funext fun (y : S1x1344x2048.Idx) => ?_
  obtain ⟨z, p, q, rfl⟩ : ∃ (z : Fin 1) (p : Fin 1344) (q : Fin 2048), y = ix3 z p q := ⟨y 0, y 1, y 2, (ix3_eta y).symm⟩
  obtain rfl : z = 0 := Subsingleton.elim _ _
  obtain ⟨t, p, q, rfl, rfl⟩ := place m p q
  refine (dats m (ok m) 0 c).arrAt_apply_of_mem 7 _ (fun s _ => written7 m c s) (cfgM m (ok m)).N t _ t.isLt (flush0_7 _ t) ?_
  rw [← emb7]
  exact (((cfgM m (ok m)).win 7).blk t).view.emb_mem_set _

/-- The second moment in the array that holds it after the call. -/
theorem emb8 (p : Fin 336) (q : Fin 1024) : (((cfgM m (ok m)).win 8).blk t).view.emb (ix3 0 p q) = ix3 0 (row m t p) (col m t q) := by
  unfold row col
  blk_ext [index8 m t]
theorem after8 (p : Fin 336) (q : Fin 1024) : ((outsAt0 m (ok m) c t).2.2.2 (ix3 0 p q) : EReal)
    = G8 (V m c main_arg1) (V m c main_arg2) (V m c main_arg4) (V m c main_arg5) (ix3 0 (row m t p) (col m t q)) := by
  unfold outsAt0
  dsimp only
  refine (congrFun (out8 c (grid0.coords t) _ _ _ _ _ _ _ _ _ _ _ _ _ _ _ _ _ _ _ _ _ _ _ _) (ix3 0 p q)).trans ?_
  refine (pay8_at (grid0.coords t) (wordOf c (tbl m 0)) _ _ _ p q).trans ?_
  exact congrArg₂ second (point m c t p q) (block4 m c t p q)
theorem written8 : (dats m (ok m) 0 c).flushed 8 t = (((cfgM m (ok m)).win 8).blk t).view.read (Elt Ideal) (G8 (V m c main_arg1) (V m c main_arg2) (V m c main_arg4) (V m c main_arg5)) := by
  have e : (dats m (ok m) 0 c).flushed 8 t = ((cfgM m (ok m)).win 8).cut (grid0.coords t) ((outsAt0 m (ok m) c t).2.2.2) := by
    show ((cfgM m (ok m)).win 8).cut (grid0.coords t) ((dats m (ok m) 0 c).after 8 t) = _
    rw [after0_8]
  rw [e]
  refine funext fun (y : S1x336x1024.Idx) => ?_
  obtain ⟨z, p, q, rfl⟩ : ∃ (z : Fin 1) (p : Fin 336) (q : Fin 1024), y = ix3 z p q := ⟨y 0, y 1, y 2, (ix3_eta y).symm⟩
  obtain rfl : z = 0 := Subsingleton.elim _ _
  exact (after8 m c t p q).trans ((congrArg (G8 (V m c main_arg1) (V m c main_arg2) (V m c main_arg4) (V m c main_arg5)) (emb8 m t p q)).symm.trans (cast_eq rfl _).symm)
theorem array8 : (dats m (ok m) 0 c).arrAt 8 (cfgM m (ok m)).N = G8 (V m c main_arg1) (V m c main_arg2) (V m c main_arg4) (V m c main_arg5) := by
  refine funext fun (y : S1x1344x2048.Idx) => ?_
  obtain ⟨z, p, q, rfl⟩ : ∃ (z : Fin 1) (p : Fin 1344) (q : Fin 2048), y = ix3 z p q := ⟨y 0, y 1, y 2, (ix3_eta y).symm⟩
  obtain rfl : z = 0 := Subsingleton.elim _ _
  obtain ⟨t, p, q, rfl, rfl⟩ := place m p q
  refine (dats m (ok m) 0 c).arrAt_apply_of_mem 8 _ (fun s _ => written8 m c s) (cfgM m (ok m)).N t _ t.isLt (flush0_8 _ t) ?_
  rw [← emb8]
  exact (((cfgM m (ok m)).win 8).blk t).view.emb_mem_set _

/-- The run: the results and the arguments. -/
theorem run_array (ρ : Dev nD → PrngReg) :
    θ_run defs (onTc (τ := τ) (main (F := Ideal))) ⟨m, fun _ => 0, ρ⟩ fun r => ∀ c : Dev nD,
      r.2.mem ((c : Thread nD τ).loc main_v0_0) = G5 (m ((c : Thread nD τ).loc main_arg1)) (m ((c : Thread nD τ).loc main_arg2)) (m ((c : Thread nD τ).loc main_arg5))
      ∧ r.2.mem ((c : Thread nD τ).loc main_v0_1) = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = G7 (m ((c : Thread nD τ).loc main_arg1)) (m ((c : Thread nD τ).loc main_arg2)) (m ((c : Thread nD τ).loc main_arg3)) (m ((c : Thread nD τ).loc main_arg5))
      ∧ r.2.mem ((c : Thread nD τ).loc main_v0_3) = G8 (m ((c : Thread nD τ).loc main_arg1)) (m ((c : Thread nD τ).loc main_arg2)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨
      ((h c).1 5).trans (array5 m c),
      ((h c).1 6).trans (array6 m c),
      ((h c).1 7).trans (array7 m c),
      ((h c).1 8).trans (array8 m c),
      ((h c).1 0).trans (((dats m (ok m) 0 c).arrAt_in 0 rfl _).trans (A_eq m (ok m) c 0)),
      ((h c).1 1).trans (((dats m (ok m) 0 c).arrAt_in 1 rfl _).trans (A_eq m (ok m) c 1)),
      ((h c).1 2).trans (((dats m (ok m) 0 c).arrAt_in 2 rfl _).trans (A_eq m (ok m) c 2)),
      ((h c).1 3).trans (((dats m (ok m) 0 c).arrAt_in 3 rfl _).trans (A_eq m (ok m) c 3)),
      ((h c).1 4).trans (((dats m (ok m) 0 c).arrAt_in 4 rfl _).trans (A_eq m (ok m) c 4)),
      (h c).2 main_arg5 (by decide : main_arg5 ∈ Pipeline.restRefs sig spec0)⟩)
    (run_main m ρ (ok m))

end Cert.StepInIdeal.Step

namespace Cert.StepInRefIdeal.Step

open Idealize.ShloMosaic Idealize.ShloMosaic.TcCoe Idealize.ShloMosaic.Tactic
open Cert.StepInRefIdeal.Gen Cert.Products Cert.Optimiser

/-- The gradient put together by the reference. -/
def joined (A B : FVec Ideal S1344x1024 .f32) (T : IVec S2 32) : FVec Ideal S1x1344x2048 .f32 :=
  broadcastInDim S1x1344x2048 ![1, 2] bcast_S1344x2048_S1x1344x2048_1_2 (concatenate S1344x2048 1
    [⟨S1344x1024, (select (broadcastInDim S1344x1024 ![] bcast_S_S1344x1024 (cmpi .eq (shapeCast S_ (extractStridedSlice S1 ![1] T slices_S2_S1_1) shapeCasts_S1_S_) (constantI S_ 32 0#32))) A B : FVec Ideal S1344x1024 .f32)⟩,
     ⟨S1344x1024, (select (broadcastInDim S1344x1024 ![] bcast_S_S1344x1024 (cmpi .eq (shapeCast S_ (extractStridedSlice S1 ![1] T slices_S2_S1_1) shapeCasts_S1_S_) (constantI S_ 32 1#32))) A B : FVec Ideal S1344x1024 .f32)⟩]
    concatenates_S1344x1024_S1344x1024_S1344x2048_d1)

/-- It is the same gradient. -/
theorem joined_at (A B : FVec Ideal S1344x1024 .f32) (T : IVec S2 32) (z : Fin 1) (p : Fin 1344) (q : Fin 2048) :
    (joined A B T (ix3 z p q) : EReal) = Cert.StepInIdeal.Step.grad A B T p q := by
  obtain rfl : z = 0 := Subsingleton.elim _ _
  unfold Cert.StepInIdeal.Step.grad
  pointwise [joined]
  by_cases h : q.val < 1024
  · have e : q.val / 1024 = 0 := by omega
    have r : q.val % 1024 = q.val := by omega
    simp only [e, r]
    refine (dif_pos h).trans (choice_comm _ _ _ _)
  · have e : q.val / 1024 = 1 := by omega
    have r : q.val % 1024 = q.val - 1024 := by omega
    simp only [e, r]
    refine (dif_neg h).trans (choice_comm _ _ _ _)

/-- The reference's results are the same functions of the arguments. -/
theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = Cert.StepInIdeal.Step.G5 (m ((c.tc : Thread nD τ).loc main_arg1)) (m ((c.tc : Thread nD τ).loc main_arg2)) (m ((c.tc : Thread nD τ).loc main_arg5))
      ∧ r.2.mem ((c.tc : Thread nD τ).loc main_v33) = Cert.StepInIdeal.Step.G6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v14) = Cert.StepInIdeal.Step.G7 (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v20) = Cert.StepInIdeal.Step.G8 (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2.1.trans ?_, (h c).2.2.1.trans ?_, (h c).2.2.2.1.trans ?_, (h c).2.2.2.2⟩)
    (Cert.StepInRefIdeal.Value.run (F := Ideal) m ρ)

  · funext y
    obtain ⟨z, p, q, rfl⟩ : ∃ (z : Fin 1) (p : Fin 1344) (q : Fin 2048), y = ix3 z p q := ⟨y 0, y 1, y 2, (ix3_eta y).symm⟩
    have j := joined_at (m ((c.tc : Thread nD τ).loc main_arg1)) (m ((c.tc : Thread nD τ).loc main_arg2)) (m ((c.tc : Thread nD τ).loc main_arg5)) z p q
    unfold Cert.StepInIdeal.Step.G5
    exact j
  · funext y
    obtain ⟨z, p, q, rfl⟩ : ∃ (z : Fin 1) (p : Fin 1344) (q : Fin 2048), y = ix3 z p q := ⟨y 0, y 1, y 2, (ix3_eta y).symm⟩
    have j := joined_at (m ((c.tc : Thread nD τ).loc main_arg1)) (m ((c.tc : Thread nD τ).loc main_arg2)) (m ((c.tc : Thread nD τ).loc main_arg5)) z p q
    unfold Cert.StepInIdeal.Step.G6
    unfold change moment second
    simp only [ix3_0, ix3_1, ix3_2, ← j]
    rfl
  · funext y
    obtain ⟨z, p, q, rfl⟩ : ∃ (z : Fin 1) (p : Fin 1344) (q : Fin 2048), y = ix3 z p q := ⟨y 0, y 1, y 2, (ix3_eta y).symm⟩
    have j := joined_at (m ((c.tc : Thread nD τ).loc main_arg1)) (m ((c.tc : Thread nD τ).loc main_arg2)) (m ((c.tc : Thread nD τ).loc main_arg5)) z p q
    unfold Cert.StepInIdeal.Step.G7
    unfold moment
    simp only [ix3_0, ix3_1, ix3_2, ← j]
    rfl
  · funext y
    obtain ⟨z, p, q, rfl⟩ : ∃ (z : Fin 1) (p : Fin 1344) (q : Fin 2048), y = ix3 z p q := ⟨y 0, y 1, y 2, (ix3_eta y).symm⟩
    have j := joined_at (m ((c.tc : Thread nD τ).loc main_arg1)) (m ((c.tc : Thread nD τ).loc main_arg2)) (m ((c.tc : Thread nD τ).loc main_arg5)) z p q
    unfold Cert.StepInIdeal.Step.G8
    unfold second
    simp only [ix3_0, ix3_1, ix3_2, ← j]
    rfl

end Cert.StepInRefIdeal.Step

namespace Cert.StepInIdeal.Step

open Idealize.ShloMosaic Idealize.ShloMosaic.TcCoe

theorem frame : Cert.quiescent_StepInIdeal := fun m ρ _ => Gen.frame m ρ (ok m)
theorem frame_ref : Cert.quiescent_StepInRefIdeal := fun m ρ _ =>
  (θ_run Cert.StepInRefIdeal.defs _ _).mono (fun r h => ⟨fun c => (h c).2.2.2.2, sem_eq_zero_of_no_sems (by decide) r.2⟩)
    (Cert.StepInRefIdeal.Step.result m ρ)
theorem algebraic : Cert.algebraic_StepInIdeal_StepInRefIdeal := by
  intro m g m' g' _ hagree
  refine ⟨_, _, _, _, run_array m g, ?_⟩
  refine (θ_run Cert.StepInRefIdeal.defs _ _).mono (fun r h c => ⟨(h c).1.trans ?_, (h c).2.1.trans ?_, (h c).2.2.1.trans ?_, (h c).2.2.2.1.trans ?_, (h c).2.2.2.2⟩)
    (Cert.StepInRefIdeal.Step.result m' g')
  · rw [(hagree c).2.1, (hagree c).2.2.1, (hagree c).2.2.2.2.2]
  · rw [(hagree c).1, (hagree c).2.1, (hagree c).2.2.1, (hagree c).2.2.2.1, (hagree c).2.2.2.2.1, (hagree c).2.2.2.2.2]
  · rw [(hagree c).2.1, (hagree c).2.2.1, (hagree c).2.2.2.1, (hagree c).2.2.2.2.2]
  · rw [(hagree c).2.1, (hagree c).2.2.1, (hagree c).2.2.2.2.1, (hagree c).2.2.2.2.2]

end Cert.StepInIdeal.Step

end
-- ==== Proof.StepOut.lean ====
/- The optimiser's step on a matrix's shard, whose gradient comes in two halves of the rows: the gradient
   put together, the weights' change and the two moments are the reference's, at every element. -/
module

public import proofs.«01_k».proof.Defs
public import proofs.«01_k».proof.Proof.Gen.StepOut.Frame
public import proofs.«01_k».proof.Proof.Gen.StepOutIdeal.Frame
public import proofs.«01_k».proof.Proof.Gen.StepOutRefIdeal.Run
public import proofs.«01_k».proof.Proof.Products
public import proofs.«01_k».proof.Proof.Optimiser

@[expose] public section

noncomputable section

namespace Cert.StepOutIdeal.Step

open Idealize.ShloMosaic Idealize.ShloMosaic.TcCoe Idealize.ShloMosaic.Tactic
open Cert.StepOutIdeal.Gen Cert.Products Cert.Optimiser

section Body

variable {F : FTy → Type} [FloatOps F] (c : Dev nD) (i : grid0.Coords)
    (a2 : Memref sig .tc .vmem S1x256x2048 .f32) (h2 : a2.IsWhole) (a3 : Memref sig .tc .vmem S256x2048 .f32) (h3 : a3.IsWhole)
    (a4 : Memref sig .tc .vmem S256x2048 .f32) (h4 : a4.IsWhole) (a5 : Memref sig .tc .vmem S1x256x2048 .f32) (h5 : a5.IsWhole)
    (a6 : Memref sig .tc .vmem S1x256x2048 .f32) (h6 : a6.IsWhole) (a7 : Memref sig .tc .vmem S1x256x2048 .f32) (h7 : a7.IsWhole)
    (a8 : Memref sig .tc .vmem S1x256x2048 .f32) (h8 : a8.IsWhole) (a9 : Memref sig .tc .vmem S1x256x2048 .f32) (h9 : a9.IsWhole)
    (a10 : Memref sig .tc .vmem S1x256x2048 .f32) (h10 : a10.IsWhole)
    (x0 : Vec F S1x256x2048 .f32) (x1 x2 : Vec F S256x2048 .f32) (x3 x4 : Vec F S1x256x2048 .f32) (xt : TbBuf0 (F := F) c tbM0_0)

/-- The word of the table that the body reads. -/
abbrev wordOf : BitVec 32 := View.ld (View.read (Elt F) (View.whole main_arg5) xt) (Rect.unit (s := S2) ![1] S1.size inb_S2_S1_1) (Shape.Idx.first (by decide))

/-- What the body stores of the gradient. -/
theorem out5 : out0_A_5 c i a2 h2 a3 h3 a4 h4 a5 h5 a6 h6 a7 h7 a8 h8 a9 h9 a10 h10 x0 x1 x2 x3 x4 xt
    = k0_pay2 (k0_pay6 i (wordOf c xt) x1 x2) := by
  unfold out0_A_5
  rw [View.read_writes_junk_eq_canon]
  unfold kernelRun0_A
  dsimp only
  sl_unfold_words
  rw [View.canon_unit_zero zeros3]
  simp only [View.readAt_eq_ld, h2.read_unread, h3.read_unread, h4.read_unread, h5.read_unread, h6.read_unread, View.ld_unit_zero (S := S256x2048) zeros2,
    View.ld_unit_zero (S := S1x256x2048) zeros3]

/-- What the body stores of the weights' change. -/
theorem out6 : out0_A_6 c i a2 h2 a3 h3 a4 h4 a5 h5 a6 h6 a7 h7 a8 h8 a9 h9 a10 h10 x0 x1 x2 x3 x4 xt
    = k0_pay3 (k0_pay6 i (wordOf c xt) x1 x2) (k0_pay7 x0) (k0_pay8 i (wordOf c xt) x1 x2 x3) (k0_pay9 x4) := by
  unfold out0_A_6
  rw [View.read_writes_junk_eq_canon]
  unfold kernelRun0_A
  dsimp only
  sl_unfold_words
  rw [View.canon_unit_zero zeros3]
  simp only [View.readAt_eq_ld, h2.read_unread, h3.read_unread, h4.read_unread, h5.read_unread, h6.read_unread, View.ld_unit_zero (S := S256x2048) zeros2,
    View.ld_unit_zero (S := S1x256x2048) zeros3]

/-- What the body stores of the first moment. -/
theorem out7 : out0_A_7 c i a2 h2 a3 h3 a4 h4 a5 h5 a6 h6 a7 h7 a8 h8 a9 h9 a10 h10 x0 x1 x2 x3 x4 xt
    = k0_pay4 (k0_pay8 i (wordOf c xt) x1 x2 x3) := by
  unfold out0_A_7
  rw [View.read_writes_junk_eq_canon]
  unfold kernelRun0_A
  dsimp only
  sl_unfold_words
  rw [View.canon_unit_zero zeros3]
  simp only [View.readAt_eq_ld, h2.read_unread, h3.read_unread, h4.read_unread, h5.read_unread, h6.read_unread, View.ld_unit_zero (S := S256x2048) zeros2,
    View.ld_unit_zero (S := S1x256x2048) zeros3]

/-- What the body stores of the second moment. -/
theorem out8 : out0_A_8 c i a2 h2 a3 h3 a4 h4 a5 h5 a6 h6 a7 h7 a8 h8 a9 h9 a10 h10 x0 x1 x2 x3 x4 xt
    = k0_pay5 (k0_pay6 i (wordOf c xt) x1 x2) (k0_pay9 x4) := by
  unfold out0_A_8
  rw [View.read_writes_junk_eq_canon]
  unfold kernelRun0_A
  dsimp only
  sl_unfold_words
  rw [View.canon_unit_zero zeros3]
  simp only [View.readAt_eq_ld, h2.read_unread, h3.read_unread, h4.read_unread, h5.read_unread, h6.read_unread, View.ld_unit_zero (S := S256x2048) zeros2,
    View.ld_unit_zero (S := S1x256x2048) zeros3]

end Body

section Values

/-- The gradient's block: the device's own half's where the point's rows lie in it, else the other's. -/
theorem chosen {F : FTy → Type} [FloatOps F] (i : grid0.Coords) (w : BitVec 32) (x1 x2 : Vec F S256x2048 .f32) :
    k0_pay6 i w x1 x2 = if BitVec.ofNat 32 ((i 0).val) = w then x1 else x2 := by
  unfold k0_pay6 Scalar.cmpi
  dsimp only
  obtain ⟨k, hk⟩ : ∃ k : Fin 2, (i 0).val = k.val := ⟨i 0, rfl⟩
  rw [hk, choice (b := w)]
  clear hk
  fin_cases k <;> split_ifs with h h' h' <;>
    first | rfl | exact (h' ((show _ = _ by decide).trans h)).elim | exact (h ((show _ = _ by decide).trans h')).elim

variable (i : grid0.Coords) (w : BitVec 32) (x0 : Vec Ideal S1x256x2048 .f32) (x1 x2 : Vec Ideal S256x2048 .f32) (x3 x4 : Vec Ideal S1x256x2048 .f32)
    (p : Fin 256) (q : Fin 2048)

theorem pay5_at : (k0_pay2 (k0_pay6 i w x1 x2) (ix3 0 p q) : EReal)
    = (k0_pay6 i w x1 x2 (ix2 p q)) := by
  pointwise [k0_pay2]

theorem pay6_at : (k0_pay3 (k0_pay6 i w x1 x2) (k0_pay7 x0) (k0_pay8 i w x1 x2 x3) (k0_pay9 x4) (ix3 0 p q) : EReal)
    = change (x0 (ix3 0 p q)) (moment (k0_pay6 i w x1 x2 (ix2 p q)) (x3 (ix3 0 p q))) (second (k0_pay6 i w x1 x2 (ix2 p q)) (x4 (ix3 0 p q))) := by
  unfold change moment second
  pointwise [k0_pay3, k0_pay7, k0_pay8, k0_pay9, k0_pay1]

theorem pay7_at : (k0_pay4 (k0_pay8 i w x1 x2 x3) (ix3 0 p q) : EReal)
    = moment (k0_pay6 i w x1 x2 (ix2 p q)) (x3 (ix3 0 p q)) := by
  unfold moment
  pointwise [k0_pay4, k0_pay8]

theorem pay8_at : (k0_pay5 (k0_pay6 i w x1 x2) (k0_pay9 x4) (ix3 0 p q) : EReal)
    = second (k0_pay6 i w x1 x2 (ix2 p q)) (x4 (ix3 0 p q)) := by
  unfold second
  pointwise [k0_pay5, k0_pay1, k0_pay9]

end Values

theorem coord (t : Fin grid0.N) : ((grid0.coords t) 0).val = t.val := by
  revert t
  decide +kernel
theorem map0 : ∀ t : Fin grid0.N, cc0_transform_0 (grid0.coords t) = ![0, t.val, 0] := by decide +kernel
theorem map1 : ∀ t : Fin grid0.N, cc0_transform_1 (grid0.coords t) = ![0, 0] := by decide +kernel

/-- No block's place depends on the table. -/
theorem ok {F : FTy → Type} [FloatOps F] (m : (ℓ : Loc nD τ sig) → Buf (Elt F) ℓ) : Ok m := trivial

/-- The word of the table that tells which half is the device's own. -/
abbrev word {F : FTy → Type} [FloatOps F] (pf : pre0.Contents (Elt F)) : BitVec 32 := pf.at 0 (Rect.unit (s := S2) ![1] S1.size inb_S2_S1_1) numel1_S1

variable (m : (ℓ : Loc nD τ sig) → Buf (Elt Ideal) ℓ) (c : Dev nD) (t : Fin (cfgM m (ok m)).N)

theorem lt_points : t.val < 2 := t.isLt

/-- The word is the second of the table's two. -/
theorem word_eq : word (tbl m) = (V m c main_arg5 : IVec S2 32) (ix1 1) := by
  obtain rfl : c = 0 := Subsingleton.elim _ _
  show m _ _ = m _ _
  congr 1
  funext a
  fin_cases a
  rfl

/-- The row of the whole arrays, at a point's block. -/
def row (p : Fin 256) : Fin 512 := ⟨256 * t.val + p, by have := lt_points m t; omega⟩

theorem index0 : ((cfgM m (ok m)).win 0).index t = ![0, t.val, 0] := map0 t
theorem index3 : ((cfgM m (ok m)).win 3).index t = ![0, t.val, 0] := map0 t
theorem index4 : ((cfgM m (ok m)).win 4).index t = ![0, t.val, 0] := map0 t
theorem index5 : ((cfgM m (ok m)).win 5).index t = ![0, t.val, 0] := map0 t
theorem index6 : ((cfgM m (ok m)).win 6).index t = ![0, t.val, 0] := map0 t
theorem index7 : ((cfgM m (ok m)).win 7).index t = ![0, t.val, 0] := map0 t
theorem index8 : ((cfgM m (ok m)).win 8).index t = ![0, t.val, 0] := map0 t
theorem index1 : ((cfgM m (ok m)).win 1).index t = ![0, 0] := map1 t
theorem index2 : ((cfgM m (ok m)).win 2).index t = ![0, 0] := map1 t

theorem block0 (p : Fin 256) (q : Fin 2048) : (iblk m (ok m) c 0 t : Vec Ideal S1x256x2048 .f32) (ix3 0 p q)
    = (V m c main_arg0 : FVec Ideal S1x512x2048 .f32) (ix3 0 (row m t p) q) := by
  unfold row
  blk_ext [iblk, index0 m t]
theorem block3 (p : Fin 256) (q : Fin 2048) : (iblk m (ok m) c 3 t : Vec Ideal S1x256x2048 .f32) (ix3 0 p q)
    = (V m c main_arg3 : FVec Ideal S1x512x2048 .f32) (ix3 0 (row m t p) q) := by
  unfold row
  blk_ext [iblk, index3 m t]
theorem block4 (p : Fin 256) (q : Fin 2048) : (iblk m (ok m) c 4 t : Vec Ideal S1x256x2048 .f32) (ix3 0 p q)
    = (V m c main_arg4 : FVec Ideal S1x512x2048 .f32) (ix3 0 (row m t p) q) := by
  unfold row
  blk_ext [iblk, index4 m t]
theorem block1 (p : Fin 256) (q : Fin 2048) : (iblk m (ok m) c 1 t : Vec Ideal S256x2048 .f32) (ix2 p q)
    = (V m c main_arg1 : FVec Ideal S256x2048 .f32) (ix2 p q) := by
  blk_ext [iblk, index1 m t]
theorem block2 (p : Fin 256) (q : Fin 2048) : (iblk m (ok m) c 2 t : Vec Ideal S256x2048 .f32) (ix2 p q)
    = (V m c main_arg2 : FVec Ideal S256x2048 .f32) (ix2 p q) := by
  blk_ext [iblk, index2 m t]

/-- The gradient at an element, from its two halves. -/
def grad (A B : FVec Ideal S256x2048 .f32) (T : IVec S2 32) (p : Fin 512) (q : Fin 2048) : EReal :=
  if BitVec.ofNat 32 (p.val / 256) = T (ix1 1) then (A (ix2 ⟨p.val % 256, by omega⟩ q) : EReal) else B (ix2 ⟨p.val % 256, by omega⟩ q)

/-- The four results, as functions of the arguments. -/
def G5 (A B : FVec Ideal S256x2048 .f32) (T : IVec S2 32) : FVec Ideal S1x512x2048 .f32 := fun y => (grad A B T (y 1) (y 2) : EReal)
def G7 (A B : FVec Ideal S256x2048 .f32) (M : FVec Ideal S1x512x2048 .f32) (T : IVec S2 32) : FVec Ideal S1x512x2048 .f32 :=
  fun y => (moment (grad A B T (y 1) (y 2)) (M y) : EReal)
def G8 (A B : FVec Ideal S256x2048 .f32) (D : FVec Ideal S1x512x2048 .f32) (T : IVec S2 32) : FVec Ideal S1x512x2048 .f32 :=
  fun y => (second (grad A B T (y 1) (y 2)) (D y) : EReal)
def G6 (W : FVec Ideal S1x512x2048 .f32) (A B : FVec Ideal S256x2048 .f32) (M D : FVec Ideal S1x512x2048 .f32) (T : IVec S2 32) : FVec Ideal S1x512x2048 .f32 :=
  fun y => (change (W y) (moment (grad A B T (y 1) (y 2)) (M y)) (second (grad A B T (y 1) (y 2)) (D y)) : EReal)

/-- A point's gradient. -/
theorem point (p : Fin 256) (q : Fin 2048) : (k0_pay6 (grid0.coords t) (wordOf c (tbl m 0)) (iblk m (ok m) c 1 t) (iblk m (ok m) c 2 t) (ix2 p q) : EReal)
    = grad (V m c main_arg1) (V m c main_arg2) (V m c main_arg5) (row m t p) q := by
  have e : (row m t p).val / 256 = t.val := by unfold row; dsimp only; omega
  have r : (row m t p).val % 256 = p.val := by unfold row; dsimp only; omega
  refine (congrFun (chosen (grid0.coords t) (wordOf c (tbl m 0)) (iblk m (ok m) c 1 t) (iblk m (ok m) c 2 t)) (ix2 p q)).trans ?_
  unfold grad
  simp only [r]
  by_cases h : BitVec.ofNat 32 (t.val) = word (tbl m)
  · exact (congrFun (if_pos (by rw [coord]; exact h)) (ix2 p q)).trans
      ((block1 m c t p q).trans (if_pos (by rw [e, ← word_eq m c]; exact h)).symm)
  · exact (congrFun (if_neg (by rw [coord]; exact h)) (ix2 p q)).trans
      ((block2 m c t p q).trans (if_neg (by rw [e, ← word_eq m c]; exact h)).symm)

/-- Every element lies in a point's block. -/
theorem place (P : Fin 512) (Q : Fin 2048) : ∃ (t : Fin (cfgM m (ok m)).N) (p : Fin 256) (q : Fin 2048), P = row m t p ∧ Q = q :=
  ⟨⟨P.val / 256, by show _ < 2; omega⟩, ⟨P.val % 256, by omega⟩, Q,
    Fin.ext (by unfold row; dsimp only; omega), rfl⟩

/-- The gradient in the array that holds it after the call. -/
theorem emb5 (p : Fin 256) (q : Fin 2048) : (((cfgM m (ok m)).win 5).blk t).view.emb (ix3 0 p q) = ix3 0 (row m t p) q := by
  unfold row
  blk_ext [index5 m t]
theorem after5 (p : Fin 256) (q : Fin 2048) : ((outsAt0 m (ok m) c t).1 (ix3 0 p q) : EReal)
    = G5 (V m c main_arg1) (V m c main_arg2) (V m c main_arg5) (ix3 0 (row m t p) q) := by
  unfold outsAt0
  dsimp only
  refine (congrFun (out5 c (grid0.coords t) _ _ _ _ _ _ _ _ _ _ _ _ _ _ _ _ _ _ _ _ _ _ _ _) (ix3 0 p q)).trans ?_
  refine (pay5_at (grid0.coords t) (wordOf c (tbl m 0)) _ _ p q).trans ?_
  exact point m c t p q
theorem written5 : (dats m (ok m) 0 c).flushed 5 t = (((cfgM m (ok m)).win 5).blk t).view.read (Elt Ideal) (G5 (V m c main_arg1) (V m c main_arg2) (V m c main_arg5)) := by
  have e : (dats m (ok m) 0 c).flushed 5 t = ((cfgM m (ok m)).win 5).cut (grid0.coords t) ((outsAt0 m (ok m) c t).1) := by
    show ((cfgM m (ok m)).win 5).cut (grid0.coords t) ((dats m (ok m) 0 c).after 5 t) = _
    rw [after0_5]
  rw [e]
  refine funext fun (y : S1x256x2048.Idx) => ?_
  obtain ⟨z, p, q, rfl⟩ : ∃ (z : Fin 1) (p : Fin 256) (q : Fin 2048), y = ix3 z p q := ⟨y 0, y 1, y 2, (ix3_eta y).symm⟩
  obtain rfl : z = 0 := Subsingleton.elim _ _
  exact (after5 m c t p q).trans ((congrArg (G5 (V m c main_arg1) (V m c main_arg2) (V m c main_arg5)) (emb5 m t p q)).symm.trans (cast_eq rfl _).symm)
theorem array5 : (dats m (ok m) 0 c).arrAt 5 (cfgM m (ok m)).N = G5 (V m c main_arg1) (V m c main_arg2) (V m c main_arg5) := by
  refine funext fun (y : S1x512x2048.Idx) => ?_
  obtain ⟨z, p, q, rfl⟩ : ∃ (z : Fin 1) (p : Fin 512) (q : Fin 2048), y = ix3 z p q := ⟨y 0, y 1, y 2, (ix3_eta y).symm⟩
  obtain rfl : z = 0 := Subsingleton.elim _ _
  obtain ⟨t, p, q, rfl, rfl⟩ := place m p q
  refine (dats m (ok m) 0 c).arrAt_apply_of_mem 5 _ (fun s _ => written5 m c s) (cfgM m (ok m)).N t _ t.isLt (flush0_5 _ t) ?_
  rw [← emb5]
  exact (((cfgM m (ok m)).win 5).blk t).view.emb_mem_set _

/-- The weights' change in the array that holds it after the call. -/
theorem emb6 (p : Fin 256) (q : Fin 2048) : (((cfgM m (ok m)).win 6).blk t).view.emb (ix3 0 p q) = ix3 0 (row m t p) q := by
  unfold row
  blk_ext [index6 m t]
theorem after6 (p : Fin 256) (q : Fin 2048) : ((outsAt0 m (ok m) c t).2.1 (ix3 0 p q) : EReal)
    = G6 (V m c main_arg0) (V m c main_arg1) (V m c main_arg2) (V m c main_arg3) (V m c main_arg4) (V m c main_arg5) (ix3 0 (row m t p) q) := by
  unfold outsAt0
  dsimp only
  refine (congrFun (out6 c (grid0.coords t) _ _ _ _ _ _ _ _ _ _ _ _ _ _ _ _ _ _ _ _ _ _ _ _) (ix3 0 p q)).trans ?_
  refine (pay6_at (grid0.coords t) (wordOf c (tbl m 0)) _ _ _ _ _ p q).trans ?_
  exact change_congr (block0 m c t p q) (congrArg₂ moment (point m c t p q) (block3 m c t p q)) (congrArg₂ second (point m c t p q) (block4 m c t p q))
theorem written6 : (dats m (ok m) 0 c).flushed 6 t = (((cfgM m (ok m)).win 6).blk t).view.read (Elt Ideal) (G6 (V m c main_arg0) (V m c main_arg1) (V m c main_arg2) (V m c main_arg3) (V m c main_arg4) (V m c main_arg5)) := by
  have e : (dats m (ok m) 0 c).flushed 6 t = ((cfgM m (ok m)).win 6).cut (grid0.coords t) ((outsAt0 m (ok m) c t).2.1) := by
    show ((cfgM m (ok m)).win 6).cut (grid0.coords t) ((dats m (ok m) 0 c).after 6 t) = _
    rw [after0_6]
  rw [e]
  refine funext fun (y : S1x256x2048.Idx) => ?_
  obtain ⟨z, p, q, rfl⟩ : ∃ (z : Fin 1) (p : Fin 256) (q : Fin 2048), y = ix3 z p q := ⟨y 0, y 1, y 2, (ix3_eta y).symm⟩
  obtain rfl : z = 0 := Subsingleton.elim _ _
  exact (after6 m c t p q).trans ((congrArg (G6 (V m c main_arg0) (V m c main_arg1) (V m c main_arg2) (V m c main_arg3) (V m c main_arg4) (V m c main_arg5)) (emb6 m t p q)).symm.trans (cast_eq rfl _).symm)
theorem array6 : (dats m (ok m) 0 c).arrAt 6 (cfgM m (ok m)).N = G6 (V m c main_arg0) (V m c main_arg1) (V m c main_arg2) (V m c main_arg3) (V m c main_arg4) (V m c main_arg5) := by
  refine funext fun (y : S1x512x2048.Idx) => ?_
  obtain ⟨z, p, q, rfl⟩ : ∃ (z : Fin 1) (p : Fin 512) (q : Fin 2048), y = ix3 z p q := ⟨y 0, y 1, y 2, (ix3_eta y).symm⟩
  obtain rfl : z = 0 := Subsingleton.elim _ _
  obtain ⟨t, p, q, rfl, rfl⟩ := place m p q
  refine (dats m (ok m) 0 c).arrAt_apply_of_mem 6 _ (fun s _ => written6 m c s) (cfgM m (ok m)).N t _ t.isLt (flush0_6 _ t) ?_
  rw [← emb6]
  exact (((cfgM m (ok m)).win 6).blk t).view.emb_mem_set _

/-- The first moment in the array that holds it after the call. -/
theorem emb7 (p : Fin 256) (q : Fin 2048) : (((cfgM m (ok m)).win 7).blk t).view.emb (ix3 0 p q) = ix3 0 (row m t p) q := by
  unfold row
  blk_ext [index7 m t]
theorem after7 (p : Fin 256) (q : Fin 2048) : ((outsAt0 m (ok m) c t).2.2.1 (ix3 0 p q) : EReal)
    = G7 (V m c main_arg1) (V m c main_arg2) (V m c main_arg3) (V m c main_arg5) (ix3 0 (row m t p) q) := by
  unfold outsAt0
  dsimp only
  refine (congrFun (out7 c (grid0.coords t) _ _ _ _ _ _ _ _ _ _ _ _ _ _ _ _ _ _ _ _ _ _ _ _) (ix3 0 p q)).trans ?_
  refine (pay7_at (grid0.coords t) (wordOf c (tbl m 0)) _ _ _ p q).trans ?_
  exact congrArg₂ moment (point m c t p q) (block3 m c t p q)
theorem written7 : (dats m (ok m) 0 c).flushed 7 t = (((cfgM m (ok m)).win 7).blk t).view.read (Elt Ideal) (G7 (V m c main_arg1) (V m c main_arg2) (V m c main_arg3) (V m c main_arg5)) := by
  have e : (dats m (ok m) 0 c).flushed 7 t = ((cfgM m (ok m)).win 7).cut (grid0.coords t) ((outsAt0 m (ok m) c t).2.2.1) := by
    show ((cfgM m (ok m)).win 7).cut (grid0.coords t) ((dats m (ok m) 0 c).after 7 t) = _
    rw [after0_7]
  rw [e]
  refine funext fun (y : S1x256x2048.Idx) => ?_
  obtain ⟨z, p, q, rfl⟩ : ∃ (z : Fin 1) (p : Fin 256) (q : Fin 2048), y = ix3 z p q := ⟨y 0, y 1, y 2, (ix3_eta y).symm⟩
  obtain rfl : z = 0 := Subsingleton.elim _ _
  exact (after7 m c t p q).trans ((congrArg (G7 (V m c main_arg1) (V m c main_arg2) (V m c main_arg3) (V m c main_arg5)) (emb7 m t p q)).symm.trans (cast_eq rfl _).symm)
theorem array7 : (dats m (ok m) 0 c).arrAt 7 (cfgM m (ok m)).N = G7 (V m c main_arg1) (V m c main_arg2) (V m c main_arg3) (V m c main_arg5) := by
  refine funext fun (y : S1x512x2048.Idx) => ?_
  obtain ⟨z, p, q, rfl⟩ : ∃ (z : Fin 1) (p : Fin 512) (q : Fin 2048), y = ix3 z p q := ⟨y 0, y 1, y 2, (ix3_eta y).symm⟩
  obtain rfl : z = 0 := Subsingleton.elim _ _
  obtain ⟨t, p, q, rfl, rfl⟩ := place m p q
  refine (dats m (ok m) 0 c).arrAt_apply_of_mem 7 _ (fun s _ => written7 m c s) (cfgM m (ok m)).N t _ t.isLt (flush0_7 _ t) ?_
  rw [← emb7]
  exact (((cfgM m (ok m)).win 7).blk t).view.emb_mem_set _

/-- The second moment in the array that holds it after the call. -/
theorem emb8 (p : Fin 256) (q : Fin 2048) : (((cfgM m (ok m)).win 8).blk t).view.emb (ix3 0 p q) = ix3 0 (row m t p) q := by
  unfold row
  blk_ext [index8 m t]
theorem after8 (p : Fin 256) (q : Fin 2048) : ((outsAt0 m (ok m) c t).2.2.2 (ix3 0 p q) : EReal)
    = G8 (V m c main_arg1) (V m c main_arg2) (V m c main_arg4) (V m c main_arg5) (ix3 0 (row m t p) q) := by
  unfold outsAt0
  dsimp only
  refine (congrFun (out8 c (grid0.coords t) _ _ _ _ _ _ _ _ _ _ _ _ _ _ _ _ _ _ _ _ _ _ _ _) (ix3 0 p q)).trans ?_
  refine (pay8_at (grid0.coords t) (wordOf c (tbl m 0)) _ _ _ p q).trans ?_
  exact congrArg₂ second (point m c t p q) (block4 m c t p q)
theorem written8 : (dats m (ok m) 0 c).flushed 8 t = (((cfgM m (ok m)).win 8).blk t).view.read (Elt Ideal) (G8 (V m c main_arg1) (V m c main_arg2) (V m c main_arg4) (V m c main_arg5)) := by
  have e : (dats m (ok m) 0 c).flushed 8 t = ((cfgM m (ok m)).win 8).cut (grid0.coords t) ((outsAt0 m (ok m) c t).2.2.2) := by
    show ((cfgM m (ok m)).win 8).cut (grid0.coords t) ((dats m (ok m) 0 c).after 8 t) = _
    rw [after0_8]
  rw [e]
  refine funext fun (y : S1x256x2048.Idx) => ?_
  obtain ⟨z, p, q, rfl⟩ : ∃ (z : Fin 1) (p : Fin 256) (q : Fin 2048), y = ix3 z p q := ⟨y 0, y 1, y 2, (ix3_eta y).symm⟩
  obtain rfl : z = 0 := Subsingleton.elim _ _
  exact (after8 m c t p q).trans ((congrArg (G8 (V m c main_arg1) (V m c main_arg2) (V m c main_arg4) (V m c main_arg5)) (emb8 m t p q)).symm.trans (cast_eq rfl _).symm)
theorem array8 : (dats m (ok m) 0 c).arrAt 8 (cfgM m (ok m)).N = G8 (V m c main_arg1) (V m c main_arg2) (V m c main_arg4) (V m c main_arg5) := by
  refine funext fun (y : S1x512x2048.Idx) => ?_
  obtain ⟨z, p, q, rfl⟩ : ∃ (z : Fin 1) (p : Fin 512) (q : Fin 2048), y = ix3 z p q := ⟨y 0, y 1, y 2, (ix3_eta y).symm⟩
  obtain rfl : z = 0 := Subsingleton.elim _ _
  obtain ⟨t, p, q, rfl, rfl⟩ := place m p q
  refine (dats m (ok m) 0 c).arrAt_apply_of_mem 8 _ (fun s _ => written8 m c s) (cfgM m (ok m)).N t _ t.isLt (flush0_8 _ t) ?_
  rw [← emb8]
  exact (((cfgM m (ok m)).win 8).blk t).view.emb_mem_set _

/-- The run: the results and the arguments. -/
theorem run_array (ρ : Dev nD → PrngReg) :
    θ_run defs (onTc (τ := τ) (main (F := Ideal))) ⟨m, fun _ => 0, ρ⟩ fun r => ∀ c : Dev nD,
      r.2.mem ((c : Thread nD τ).loc main_v0_0) = G5 (m ((c : Thread nD τ).loc main_arg1)) (m ((c : Thread nD τ).loc main_arg2)) (m ((c : Thread nD τ).loc main_arg5))
      ∧ r.2.mem ((c : Thread nD τ).loc main_v0_1) = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = G7 (m ((c : Thread nD τ).loc main_arg1)) (m ((c : Thread nD τ).loc main_arg2)) (m ((c : Thread nD τ).loc main_arg3)) (m ((c : Thread nD τ).loc main_arg5))
      ∧ r.2.mem ((c : Thread nD τ).loc main_v0_3) = G8 (m ((c : Thread nD τ).loc main_arg1)) (m ((c : Thread nD τ).loc main_arg2)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨
      ((h c).1 5).trans (array5 m c),
      ((h c).1 6).trans (array6 m c),
      ((h c).1 7).trans (array7 m c),
      ((h c).1 8).trans (array8 m c),
      ((h c).1 0).trans (((dats m (ok m) 0 c).arrAt_in 0 rfl _).trans (A_eq m (ok m) c 0)),
      ((h c).1 1).trans (((dats m (ok m) 0 c).arrAt_in 1 rfl _).trans (A_eq m (ok m) c 1)),
      ((h c).1 2).trans (((dats m (ok m) 0 c).arrAt_in 2 rfl _).trans (A_eq m (ok m) c 2)),
      ((h c).1 3).trans (((dats m (ok m) 0 c).arrAt_in 3 rfl _).trans (A_eq m (ok m) c 3)),
      ((h c).1 4).trans (((dats m (ok m) 0 c).arrAt_in 4 rfl _).trans (A_eq m (ok m) c 4)),
      (h c).2 main_arg5 (by decide : main_arg5 ∈ Pipeline.restRefs sig spec0)⟩)
    (run_main m ρ (ok m))

end Cert.StepOutIdeal.Step

namespace Cert.StepOutRefIdeal.Step

open Idealize.ShloMosaic Idealize.ShloMosaic.TcCoe Idealize.ShloMosaic.Tactic
open Cert.StepOutRefIdeal.Gen Cert.Products Cert.Optimiser

/-- The gradient put together by the reference. -/
def joined (A B : FVec Ideal S256x2048 .f32) (T : IVec S2 32) : FVec Ideal S1x512x2048 .f32 :=
  broadcastInDim S1x512x2048 ![1, 2] bcast_S512x2048_S1x512x2048_1_2 (concatenate S512x2048 0
    [⟨S256x2048, (select (broadcastInDim S256x2048 ![] bcast_S_S256x2048 (cmpi .eq (shapeCast S_ (extractStridedSlice S1 ![1] T slices_S2_S1_1) shapeCasts_S1_S_) (constantI S_ 32 0#32))) A B : FVec Ideal S256x2048 .f32)⟩,
     ⟨S256x2048, (select (broadcastInDim S256x2048 ![] bcast_S_S256x2048 (cmpi .eq (shapeCast S_ (extractStridedSlice S1 ![1] T slices_S2_S1_1) shapeCasts_S1_S_) (constantI S_ 32 1#32))) A B : FVec Ideal S256x2048 .f32)⟩]
    concatenates_S256x2048_S256x2048_S512x2048_d0)

/-- It is the same gradient. -/
theorem joined_at (A B : FVec Ideal S256x2048 .f32) (T : IVec S2 32) (z : Fin 1) (p : Fin 512) (q : Fin 2048) :
    (joined A B T (ix3 z p q) : EReal) = Cert.StepOutIdeal.Step.grad A B T p q := by
  obtain rfl : z = 0 := Subsingleton.elim _ _
  unfold Cert.StepOutIdeal.Step.grad
  pointwise [joined]
  by_cases h : p.val < 256
  · have e : p.val / 256 = 0 := by omega
    have r : p.val % 256 = p.val := by omega
    simp only [e, r]
    refine (dif_pos h).trans (choice_comm _ _ _ _)
  · have e : p.val / 256 = 1 := by omega
    have r : p.val % 256 = p.val - 256 := by omega
    simp only [e, r]
    refine (dif_neg h).trans (choice_comm _ _ _ _)

/-- The reference's results are the same functions of the arguments. -/
theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = Cert.StepOutIdeal.Step.G5 (m ((c.tc : Thread nD τ).loc main_arg1)) (m ((c.tc : Thread nD τ).loc main_arg2)) (m ((c.tc : Thread nD τ).loc main_arg5))
      ∧ r.2.mem ((c.tc : Thread nD τ).loc main_v33) = Cert.StepOutIdeal.Step.G6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v14) = Cert.StepOutIdeal.Step.G7 (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v20) = Cert.StepOutIdeal.Step.G8 (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2.1.trans ?_, (h c).2.2.1.trans ?_, (h c).2.2.2.1.trans ?_, (h c).2.2.2.2⟩)
    (Cert.StepOutRefIdeal.Value.run (F := Ideal) m ρ)

  · funext y
    obtain ⟨z, p, q, rfl⟩ : ∃ (z : Fin 1) (p : Fin 512) (q : Fin 2048), y = ix3 z p q := ⟨y 0, y 1, y 2, (ix3_eta y).symm⟩
    have j := joined_at (m ((c.tc : Thread nD τ).loc main_arg1)) (m ((c.tc : Thread nD τ).loc main_arg2)) (m ((c.tc : Thread nD τ).loc main_arg5)) z p q
    unfold Cert.StepOutIdeal.Step.G5
    exact j
  · funext y
    obtain ⟨z, p, q, rfl⟩ : ∃ (z : Fin 1) (p : Fin 512) (q : Fin 2048), y = ix3 z p q := ⟨y 0, y 1, y 2, (ix3_eta y).symm⟩
    have j := joined_at (m ((c.tc : Thread nD τ).loc main_arg1)) (m ((c.tc : Thread nD τ).loc main_arg2)) (m ((c.tc : Thread nD τ).loc main_arg5)) z p q
    unfold Cert.StepOutIdeal.Step.G6
    unfold change moment second
    simp only [ix3_0, ix3_1, ix3_2, ← j]
    rfl
  · funext y
    obtain ⟨z, p, q, rfl⟩ : ∃ (z : Fin 1) (p : Fin 512) (q : Fin 2048), y = ix3 z p q := ⟨y 0, y 1, y 2, (ix3_eta y).symm⟩
    have j := joined_at (m ((c.tc : Thread nD τ).loc main_arg1)) (m ((c.tc : Thread nD τ).loc main_arg2)) (m ((c.tc : Thread nD τ).loc main_arg5)) z p q
    unfold Cert.StepOutIdeal.Step.G7
    unfold moment
    simp only [ix3_0, ix3_1, ix3_2, ← j]
    rfl
  · funext y
    obtain ⟨z, p, q, rfl⟩ : ∃ (z : Fin 1) (p : Fin 512) (q : Fin 2048), y = ix3 z p q := ⟨y 0, y 1, y 2, (ix3_eta y).symm⟩
    have j := joined_at (m ((c.tc : Thread nD τ).loc main_arg1)) (m ((c.tc : Thread nD τ).loc main_arg2)) (m ((c.tc : Thread nD τ).loc main_arg5)) z p q
    unfold Cert.StepOutIdeal.Step.G8
    unfold second
    simp only [ix3_0, ix3_1, ix3_2, ← j]
    rfl

end Cert.StepOutRefIdeal.Step

namespace Cert.StepOutIdeal.Step

open Idealize.ShloMosaic Idealize.ShloMosaic.TcCoe

theorem frame : Cert.quiescent_StepOutIdeal := fun m ρ _ => Gen.frame m ρ (ok m)
theorem frame_ref : Cert.quiescent_StepOutRefIdeal := fun m ρ _ =>
  (θ_run Cert.StepOutRefIdeal.defs _ _).mono (fun r h => ⟨fun c => (h c).2.2.2.2, sem_eq_zero_of_no_sems (by decide) r.2⟩)
    (Cert.StepOutRefIdeal.Step.result m ρ)
theorem algebraic : Cert.algebraic_StepOutIdeal_StepOutRefIdeal := by
  intro m g m' g' _ hagree
  refine ⟨_, _, _, _, run_array m g, ?_⟩
  refine (θ_run Cert.StepOutRefIdeal.defs _ _).mono (fun r h c => ⟨(h c).1.trans ?_, (h c).2.1.trans ?_, (h c).2.2.1.trans ?_, (h c).2.2.2.1.trans ?_, (h c).2.2.2.2⟩)
    (Cert.StepOutRefIdeal.Step.result m' g')
  · rw [(hagree c).2.1, (hagree c).2.2.1, (hagree c).2.2.2.2.2]
  · rw [(hagree c).1, (hagree c).2.1, (hagree c).2.2.1, (hagree c).2.2.2.1, (hagree c).2.2.2.2.1, (hagree c).2.2.2.2.2]
  · rw [(hagree c).2.1, (hagree c).2.2.1, (hagree c).2.2.2.1, (hagree c).2.2.2.2.2]
  · rw [(hagree c).2.1, (hagree c).2.2.1, (hagree c).2.2.2.2.1, (hagree c).2.2.2.2.2]

end Cert.StepOutIdeal.Step

end
-- ==== Proof.lean ====
/- The claims about the attention's backward call, the products and the optimiser (proofs.«01_k».proof.Defs): the frames of each kernel,
   of its idealization and of its reference, the named constants, and the equality of the two over the reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Printed.Frame
public import proofs.«01_k».proof.Proof.Frame
public import proofs.«01_k».proof.Proof.Equal
public import proofs.«01_k».proof.Proof.Gen.DownBwd
public import proofs.«01_k».proof.Proof.Gen.DownBwd.Frame
public import proofs.«01_k».proof.Proof.Gen.DownBwdIdeal.Value
public import proofs.«01_k».proof.Proof.Gen.DownBwdRefIdeal
public import proofs.«01_k».proof.Proof.Gen.DownBwdRefIdeal.Run
public import proofs.«01_k».proof.Proof.DownBwd
public import proofs.«01_k».proof.Proof.Gen.DownGrad
public import proofs.«01_k».proof.Proof.Gen.DownGrad.Frame
public import proofs.«01_k».proof.Proof.Gen.DownGradIdeal.Value
public import proofs.«01_k».proof.Proof.Gen.DownGradRefIdeal
public import proofs.«01_k».proof.Proof.Gen.DownGradRefIdeal.Run
public import proofs.«01_k».proof.Proof.DownGrad
public import proofs.«01_k».proof.Proof.Gen.UpGrad
public import proofs.«01_k».proof.Proof.Gen.UpGrad.Frame
public import proofs.«01_k».proof.Proof.Gen.UpGradIdeal.Value
public import proofs.«01_k».proof.Proof.Gen.UpGradRefIdeal
public import proofs.«01_k».proof.Proof.Gen.UpGradRefIdeal.Run
public import proofs.«01_k».proof.Proof.UpGrad
public import proofs.«01_k».proof.Proof.Gen.UpBwd
public import proofs.«01_k».proof.Proof.Gen.UpBwd.Frame
public import proofs.«01_k».proof.Proof.Gen.UpBwdIdeal.Value
public import proofs.«01_k».proof.Proof.Gen.UpBwdRefIdeal
public import proofs.«01_k».proof.Proof.Gen.UpBwdRefIdeal.Run
public import proofs.«01_k».proof.Proof.UpBwd
public import proofs.«01_k».proof.Proof.Gen.OutGrad
public import proofs.«01_k».proof.Proof.Gen.OutGrad.Frame
public import proofs.«01_k».proof.Proof.Gen.OutGradIdeal.Value
public import proofs.«01_k».proof.Proof.Gen.OutGradRefIdeal
public import proofs.«01_k».proof.Proof.Gen.OutGradRefIdeal.Run
public import proofs.«01_k».proof.Proof.OutGrad
public import proofs.«01_k».proof.Proof.Gen.OutBwd
public import proofs.«01_k».proof.Proof.Gen.OutBwd.Frame
public import proofs.«01_k».proof.Proof.Gen.OutBwdIdeal.Value
public import proofs.«01_k».proof.Proof.Gen.OutBwdRefIdeal
public import proofs.«01_k».proof.Proof.Gen.OutBwdRefIdeal.Run
public import proofs.«01_k».proof.Proof.OutBwd
public import proofs.«01_k».proof.Proof.Gen.InGrad0
public import proofs.«01_k».proof.Proof.Gen.InGrad0.Frame
public import proofs.«01_k».proof.Proof.Gen.InGrad0Ideal.Value
public import proofs.«01_k».proof.Proof.Gen.InGrad0RefIdeal
public import proofs.«01_k».proof.Proof.Gen.InGrad0RefIdeal.Run
public import proofs.«01_k».proof.Proof.InGrad0
public import proofs.«01_k».proof.Proof.Gen.InGrad1
public import proofs.«01_k».proof.Proof.Gen.InGrad1.Frame
public import proofs.«01_k».proof.Proof.Gen.InGrad1Ideal.Value
public import proofs.«01_k».proof.Proof.Gen.InGrad1RefIdeal
public import proofs.«01_k».proof.Proof.Gen.InGrad1RefIdeal.Run
public import proofs.«01_k».proof.Proof.InGrad1
public import proofs.«01_k».proof.Proof.Gen.InBwd0
public import proofs.«01_k».proof.Proof.Gen.InBwd0.Frame
public import proofs.«01_k».proof.Proof.Gen.InBwd0Ideal.Frame
public import proofs.«01_k».proof.Proof.Gen.InBwd0RefIdeal
public import proofs.«01_k».proof.Proof.Gen.InBwd0RefIdeal.Run
public import proofs.«01_k».proof.Proof.InBwd0
public import proofs.«01_k».proof.Proof.Gen.InBwd1
public import proofs.«01_k».proof.Proof.Gen.InBwd1.Frame
public import proofs.«01_k».proof.Proof.Gen.InBwd1Ideal.Value
public import proofs.«01_k».proof.Proof.Gen.InBwd1RefIdeal
public import proofs.«01_k».proof.Proof.Gen.InBwd1RefIdeal.Run
public import proofs.«01_k».proof.Proof.InBwd1
public import proofs.«01_k».proof.Proof.Gen.InFwd
public import proofs.«01_k».proof.Proof.Gen.InFwd.Frame
public import proofs.«01_k».proof.Proof.Gen.InFwdIdeal.Value
public import proofs.«01_k».proof.Proof.Gen.InFwdRefIdeal
public import proofs.«01_k».proof.Proof.Gen.InFwdRefIdeal.Run
public import proofs.«01_k».proof.Proof.InFwd
public import proofs.«01_k».proof.Proof.Gen.OutFwd
public import proofs.«01_k».proof.Proof.Gen.OutFwd.Frame
public import proofs.«01_k».proof.Proof.Gen.OutFwdIdeal.Value
public import proofs.«01_k».proof.Proof.Gen.OutFwdRefIdeal
public import proofs.«01_k».proof.Proof.Gen.OutFwdRefIdeal.Run
public import proofs.«01_k».proof.Proof.OutFwd
public import proofs.«01_k».proof.Proof.Gen.UpFwd
public import proofs.«01_k».proof.Proof.Gen.UpFwd.Frame
public import proofs.«01_k».proof.Proof.Gen.UpFwdIdeal.Value
public import proofs.«01_k».proof.Proof.Gen.UpFwdRefIdeal
public import proofs.«01_k».proof.Proof.Gen.UpFwdRefIdeal.Run
public import proofs.«01_k».proof.Proof.UpFwd
public import proofs.«01_k».proof.Proof.Gen.DownFwd
public import proofs.«01_k».proof.Proof.Gen.DownFwd.Frame
public import proofs.«01_k».proof.Proof.Gen.DownFwdIdeal.Value
public import proofs.«01_k».proof.Proof.Gen.DownFwdRefIdeal
public import proofs.«01_k».proof.Proof.Gen.DownFwdRefIdeal.Run
public import proofs.«01_k».proof.Proof.DownFwd
public import proofs.«01_k».proof.Proof.Gen.StepUp
public import proofs.«01_k».proof.Proof.Gen.StepUp.Frame
public import proofs.«01_k».proof.Proof.Gen.StepUpIdeal.Frame
public import proofs.«01_k».proof.Proof.Gen.StepUpRefIdeal
public import proofs.«01_k».proof.Proof.Gen.StepUpRefIdeal.Run
public import proofs.«01_k».proof.Proof.StepUp
public import proofs.«01_k».proof.Proof.Gen.StepIn
public import proofs.«01_k».proof.Proof.Gen.StepIn.Frame
public import proofs.«01_k».proof.Proof.Gen.StepInIdeal.Frame
public import proofs.«01_k».proof.Proof.Gen.StepInRefIdeal
public import proofs.«01_k».proof.Proof.Gen.StepInRefIdeal.Run
public import proofs.«01_k».proof.Proof.StepIn
public import Idealize.ShloMosaic.Adequacy
public import Idealize.ShloMosaic.Init
public import proofs.«01_k».proof.Proof.Gen.StepOut
public import proofs.«01_k».proof.Proof.Gen.StepOut.Frame
public import proofs.«01_k».proof.Proof.Gen.StepOutIdeal.Frame
public import proofs.«01_k».proof.Proof.Gen.StepOutRefIdeal
public import proofs.«01_k».proof.Proof.Gen.StepOutRefIdeal.Run
public import proofs.«01_k».proof.Proof.StepOut

@[expose] public section

noncomputable section

namespace Cert.Proof

open Idealize.ShloMosaic Idealize.SL.Sem

theorem frame_p : Cert.quiescent_Kernel := fun m ρ _ => Cert.Kernel.Swa.swa_frame m ρ
theorem frame_pi : Cert.quiescent_KernelIdeal := fun m ρ _ => Cert.KernelIdeal.Swa.swa_frame m ρ
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The same frames, from memories where the precondition holds. -/
theorem frame_pi_pre : Cert.quiescent_KernelIdeal_pre_finite := fun m ρ _ => Cert.KernelIdeal.Swa.swa_frame m ρ
theorem frame_ri_pre : Cert.quiescent_ReferenceIdeal_pre_finite := fun m ρ _ => frame_ri m ρ trivial

/-- The slopes of the even-numbered heads are `(√2^(h+1))⁻¹`, and the mask's value is `-∞`. -/
theorem preserves : Cert.preserves_Kernel_KernelIdeal :=
  ⟨IdealRules.named_const.statement Cert.KernelIdeal.κ "slope0" .f32 0x3F3504F3#32 (((Real.sqrt 2)⁻¹ : ℝ) : EReal) rfl,
   IdealRules.named_const.statement Cert.KernelIdeal.κ "mask" .f32 0xF149F2CA#32 ⊥ rfl,
   IdealRules.named_const.statement Cert.KernelIdeal.κ "slope2" .f32 0x3EB504F3#32 (((Real.sqrt 8)⁻¹ : ℝ) : EReal) rfl,
   IdealRules.named_const.statement Cert.KernelIdeal.κ "slope4" .f32 0x3E3504F3#32 (((Real.sqrt 32)⁻¹ : ℝ) : EReal) rfl,
   IdealRules.named_const.statement Cert.KernelIdeal.κ "slope6" .f32 0x3DB504F3#32 (((Real.sqrt 128)⁻¹ : ℝ) : EReal) rfl,
   IdealRules.named_const.statement Cert.KernelIdeal.κ "slope8" .f32 0x3D3504F3#32 (((Real.sqrt 512)⁻¹ : ℝ) : EReal) rfl,
   IdealRules.named_const.statement Cert.KernelIdeal.κ "slope10" .f32 0x3CB504F3#32 (((Real.sqrt 2048)⁻¹ : ℝ) : EReal) rfl,
   IdealRules.named_const.statement Cert.KernelIdeal.κ "slope12" .f32 0x3C3504F3#32 (((Real.sqrt 8192)⁻¹ : ℝ) : EReal) rfl,
   IdealRules.named_const.statement Cert.KernelIdeal.κ "slope14" .f32 0x3BB504F3#32 (((Real.sqrt 32768)⁻¹ : ℝ) : EReal) rfl⟩

theorem claim : Cert.Claim :=
  ⟨Cert.Kernel.Gen.facts, Cert.KernelIdeal.Gen.facts, Cert.ReferenceIdeal.Gen.facts,
    Cert.DownBwd.Gen.facts, Cert.DownBwdIdeal.Gen.facts, Cert.DownBwdRefIdeal.Gen.facts,
    Cert.DownGrad.Gen.facts, Cert.DownGradIdeal.Gen.facts, Cert.DownGradRefIdeal.Gen.facts,
    Cert.UpGrad.Gen.facts, Cert.UpGradIdeal.Gen.facts, Cert.UpGradRefIdeal.Gen.facts,
    Cert.UpBwd.Gen.facts, Cert.UpBwdIdeal.Gen.facts, Cert.UpBwdRefIdeal.Gen.facts,
    Cert.OutGrad.Gen.facts, Cert.OutGradIdeal.Gen.facts, Cert.OutGradRefIdeal.Gen.facts,
    Cert.OutBwd.Gen.facts, Cert.OutBwdIdeal.Gen.facts, Cert.OutBwdRefIdeal.Gen.facts,
    Cert.InGrad0.Gen.facts, Cert.InGrad0Ideal.Gen.facts, Cert.InGrad0RefIdeal.Gen.facts,
    Cert.InGrad1.Gen.facts, Cert.InGrad1Ideal.Gen.facts, Cert.InGrad1RefIdeal.Gen.facts,
    Cert.InBwd0.Gen.facts, Cert.InBwd0Ideal.Gen.facts, Cert.InBwd0RefIdeal.Gen.facts,
    Cert.InBwd1.Gen.facts, Cert.InBwd1Ideal.Gen.facts, Cert.InBwd1RefIdeal.Gen.facts,
    Cert.InFwd.Gen.facts, Cert.InFwdIdeal.Gen.facts, Cert.InFwdRefIdeal.Gen.facts,
    Cert.OutFwd.Gen.facts, Cert.OutFwdIdeal.Gen.facts, Cert.OutFwdRefIdeal.Gen.facts,
    Cert.UpFwd.Gen.facts, Cert.UpFwdIdeal.Gen.facts, Cert.UpFwdRefIdeal.Gen.facts,
    Cert.DownFwd.Gen.facts, Cert.DownFwdIdeal.Gen.facts, Cert.DownFwdRefIdeal.Gen.facts,
    Cert.StepUp.Gen.facts, Cert.StepUpIdeal.Gen.facts, Cert.StepUpRefIdeal.Gen.facts,
    Cert.StepIn.Gen.facts, Cert.StepInIdeal.Gen.facts, Cert.StepInRefIdeal.Gen.facts,
    Cert.StepOut.Gen.facts, Cert.StepOutIdeal.Gen.facts, Cert.StepOutRefIdeal.Gen.facts,
    Cert.Pre_finite.facts,
    frame_p, frame_pi, frame_pi_pre, frame_ri, frame_ri_pre,
    fun m ρ _ => Cert.DownBwd.Gen.frame m ρ, Cert.DownBwdIdeal.Product.frame, Cert.DownBwdIdeal.Product.frame_ref,
    fun m ρ _ => Cert.DownGrad.Gen.frame m ρ, Cert.DownGradIdeal.Product.frame, Cert.DownGradIdeal.Product.frame_ref,
    fun m ρ _ => Cert.UpGrad.Gen.frame m ρ, Cert.UpGradIdeal.Product.frame, Cert.UpGradIdeal.Product.frame_ref,
    fun m ρ _ => Cert.UpBwd.Gen.frame m ρ, Cert.UpBwdIdeal.Product.frame, Cert.UpBwdIdeal.Product.frame_ref,
    fun m ρ _ => Cert.OutGrad.Gen.frame m ρ, Cert.OutGradIdeal.Product.frame, Cert.OutGradIdeal.Product.frame_ref,
    fun m ρ _ => Cert.OutBwd.Gen.frame m ρ, Cert.OutBwdIdeal.Product.frame, Cert.OutBwdIdeal.Product.frame_ref,
    fun m ρ _ => Cert.InGrad0.Gen.frame m ρ, Cert.InGrad0Ideal.Product.frame, Cert.InGrad0Ideal.Product.frame_ref,
    fun m ρ _ => Cert.InGrad1.Gen.frame m ρ, Cert.InGrad1Ideal.Product.frame, Cert.InGrad1Ideal.Product.frame_ref,
    fun m ρ _ => Cert.InBwd0.Gen.frame m ρ, Cert.InBwd0Ideal.Product.frame, Cert.InBwd0Ideal.Product.frame_ref,
    fun m ρ _ => Cert.InBwd1.Gen.frame m ρ, Cert.InBwd1Ideal.Product.frame, Cert.InBwd1Ideal.Product.frame_ref,
    fun m ρ _ => Cert.InFwd.Gen.frame m ρ, Cert.InFwdIdeal.Product.frame, Cert.InFwdIdeal.Product.frame_ref,
    fun m ρ _ => Cert.OutFwd.Gen.frame m ρ, Cert.OutFwdIdeal.Product.frame, Cert.OutFwdIdeal.Product.frame_ref,
    fun m ρ _ => Cert.UpFwd.Gen.frame m ρ, Cert.UpFwdIdeal.Product.frame, Cert.UpFwdIdeal.Product.frame_ref,
    fun m ρ _ => Cert.DownFwd.Gen.frame m ρ, Cert.DownFwdIdeal.Product.frame, Cert.DownFwdIdeal.Product.frame_ref,
    fun m ρ _ => Cert.StepUp.Gen.frame m ρ (Cert.StepUp.Step.ok m), Cert.StepUpIdeal.Step.frame, Cert.StepUpIdeal.Step.frame_ref,
    fun m ρ _ => Cert.StepIn.Gen.frame m ρ trivial, Cert.StepInIdeal.Step.frame, Cert.StepInIdeal.Step.frame_ref,
    fun m ρ _ => Cert.StepOut.Gen.frame m ρ trivial, Cert.StepOutIdeal.Step.frame, Cert.StepOutIdeal.Step.frame_ref,
    preserves, Cert.Equal.algebraic,
    trivial, Cert.DownBwdIdeal.Product.algebraic,
    trivial, Cert.DownGradIdeal.Product.algebraic,
    trivial, Cert.UpGradIdeal.Product.algebraic,
    trivial, Cert.UpBwdIdeal.Product.algebraic,
    trivial, Cert.OutGradIdeal.Product.algebraic,
    trivial, Cert.OutBwdIdeal.Product.algebraic,
    trivial, Cert.InGrad0Ideal.Product.algebraic,
    trivial, Cert.InGrad1Ideal.Product.algebraic,
    trivial, Cert.InBwd0Ideal.Product.algebraic,
    trivial, Cert.InBwd1Ideal.Product.algebraic,
    trivial, Cert.InFwdIdeal.Product.algebraic,
    trivial, Cert.OutFwdIdeal.Product.algebraic,
    trivial, Cert.UpFwdIdeal.Product.algebraic,
    trivial, Cert.DownFwdIdeal.Product.algebraic,
    trivial, Cert.StepUpIdeal.Step.algebraic,
    trivial, Cert.StepInIdeal.Step.algebraic,
    trivial, Cert.StepOutIdeal.Step.algebraic⟩

end Cert.Proof

end
